-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_BrLru (m : (ℓ : Loc Cert.BrLru.nD Cert.BrLru.τ Cert.BrLru.sig) → Buf (Elt Bits) ℓ) : Prop :=
  True

def Pre_BrLruIdeal (m : (ℓ : Loc Cert.BrLruIdeal.nD Cert.BrLruIdeal.τ Cert.BrLruIdeal.sig) → Buf (Elt Ideal) ℓ) : Prop :=
  True

def Pre_BrLruReferenceIdeal (m : (ℓ : Loc Cert.BrLruReferenceIdeal.nD Cert.BrLruReferenceIdeal.τ Cert.BrLruReferenceIdeal.sig) → Buf (Elt Ideal) ℓ) : Prop :=
  True

def Pre_DYlru (m : (ℓ : Loc Cert.DYlru.nD Cert.DYlru.τ Cert.DYlru.sig) → Buf (Elt Bits) ℓ) : Prop :=
  True

def Pre_DYlruIdeal (m : (ℓ : Loc Cert.DYlruIdeal.nD Cert.DYlruIdeal.τ Cert.DYlruIdeal.sig) → Buf (Elt Ideal) ℓ) : Prop :=
  True

def Pre_DYlruReferenceIdeal (m : (ℓ : Loc Cert.DYlruReferenceIdeal.nD Cert.DYlruReferenceIdeal.τ Cert.DYlruReferenceIdeal.sig) → Buf (Elt Ideal) ℓ) : Prop :=
  True

def Pre_BrSsd (m : (ℓ : Loc Cert.BrSsd.nD Cert.BrSsd.τ Cert.BrSsd.sig) → Buf (Elt Bits) ℓ) : Prop :=
  True

def Pre_BrSsdIdeal (m : (ℓ : Loc Cert.BrSsdIdeal.nD Cert.BrSsdIdeal.τ Cert.BrSsdIdeal.sig) → Buf (Elt Ideal) ℓ) : Prop :=
  True

def Pre_BrSsdReferenceIdeal (m : (ℓ : Loc Cert.BrSsdReferenceIdeal.nD Cert.BrSsdReferenceIdeal.τ Cert.BrSsdReferenceIdeal.sig) → Buf (Elt Ideal) ℓ) : Prop :=
  True

def Pre_DYssd (m : (ℓ : Loc Cert.DYssd.nD Cert.DYssd.τ Cert.DYssd.sig) → Buf (Elt Bits) ℓ) : Prop :=
  True

def Pre_DYssdIdeal (m : (ℓ : Loc Cert.DYssdIdeal.nD Cert.DYssdIdeal.τ Cert.DYssdIdeal.sig) → Buf (Elt Ideal) ℓ) : Prop :=
  True

def Pre_DYssdReferenceIdeal (m : (ℓ : Loc Cert.DYssdReferenceIdeal.nD Cert.DYssdReferenceIdeal.τ Cert.DYssdReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_DX1 (m : (ℓ : Loc Cert.DX1.nD Cert.DX1.τ Cert.DX1.sig) → Buf (Elt Bits) ℓ) : Prop :=
  True

def Pre_DX1Ideal (m : (ℓ : Loc Cert.DX1Ideal.nD Cert.DX1Ideal.τ Cert.DX1Ideal.sig) → Buf (Elt Ideal) ℓ) : Prop :=
  True

def Pre_DX1ReferenceIdeal (m : (ℓ : Loc Cert.DX1ReferenceIdeal.nD Cert.DX1ReferenceIdeal.τ Cert.DX1ReferenceIdeal.sig) → Buf (Elt Ideal) ℓ) : Prop :=
  True

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInReferenceIdeal (m : (ℓ : Loc Cert.DwFfnInReferenceIdeal.nD Cert.DwFfnInReferenceIdeal.τ Cert.DwFfnInReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_DHmid (m : (ℓ : Loc Cert.DHmid.nD Cert.DHmid.τ Cert.DHmid.sig) → Buf (Elt Bits) ℓ) : Prop :=
  True

def Pre_DHmidIdeal (m : (ℓ : Loc Cert.DHmidIdeal.nD Cert.DHmidIdeal.τ Cert.DHmidIdeal.sig) → Buf (Elt Ideal) ℓ) : Prop :=
  True

def Pre_DHmidReferenceIdeal (m : (ℓ : Loc Cert.DHmidReferenceIdeal.nD Cert.DHmidReferenceIdeal.τ Cert.DHmidReferenceIdeal.sig) → Buf (Elt Ideal) ℓ) : Prop :=
  True

def Pre_DwFfnDown (m : (ℓ : Loc Cert.DwFfnDown.nD Cert.DwFfnDown.τ Cert.DwFfnDown.sig) → Buf (Elt Bits) ℓ) : Prop :=
  True

def Pre_DwFfnDownIdeal (m : (ℓ : Loc Cert.DwFfnDownIdeal.nD Cert.DwFfnDownIdeal.τ Cert.DwFfnDownIdeal.sig) → Buf (Elt Ideal) ℓ) : Prop :=
  True

def Pre_DwFfnDownReferenceIdeal (m : (ℓ : Loc Cert.DwFfnDownReferenceIdeal.nD Cert.DwFfnDownReferenceIdeal.τ Cert.DwFfnDownReferenceIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_up [hPre_finite_up : Cert.Pre_finite_up.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_up.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))) = (fun _ => 1#1)

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_SwigluBwdReferenceIdeal_finite_up [hPre_finite_up : Cert.Pre_finite_up.Facts] (m : (ℓ : Loc Cert.SwigluBwdReferenceIdeal.nD Cert.SwigluBwdReferenceIdeal.τ Cert.SwigluBwdReferenceIdeal.sig) → Buf (Elt Ideal) ℓ) : Prop :=
  ∀ c : Dev Cert.SwigluBwdReferenceIdeal.nD,
    (Cert.Pre_finite_up.fn (F := Ideal) (m ((c.tc : Thread Cert.SwigluBwdReferenceIdeal.nD Cert.SwigluBwdReferenceIdeal.τ).loc Cert.SwigluBwdReferenceIdeal.main_arg0)) (m ((c.tc : Thread Cert.SwigluBwdReferenceIdeal.nD Cert.SwigluBwdReferenceIdeal.τ).loc Cert.SwigluBwdReferenceIdeal.main_arg1))) = (fun _ => 1#1)

def Pre_DwBrLru (m : (ℓ : Loc Cert.DwBrLru.nD Cert.DwBrLru.τ Cert.DwBrLru.sig) → Buf (Elt Bits) ℓ) : Prop :=
  True

def Pre_DwBrLruIdeal (m : (ℓ : Loc Cert.DwBrLruIdeal.nD Cert.DwBrLruIdeal.τ Cert.DwBrLruIdeal.sig) → Buf (Elt Ideal) ℓ) : Prop :=
  True

def Pre_DwBrLruReferenceIdeal (m : (ℓ : Loc Cert.DwBrLruReferenceIdeal.nD Cert.DwBrLruReferenceIdeal.τ Cert.DwBrLruReferenceIdeal.sig) → Buf (Elt Ideal) ℓ) : Prop :=
  True

def Pre_DwBrSsd (m : (ℓ : Loc Cert.DwBrSsd.nD Cert.DwBrSsd.τ Cert.DwBrSsd.sig) → Buf (Elt Bits) ℓ) : Prop :=
  True

def Pre_DwBrSsdIdeal (m : (ℓ : Loc Cert.DwBrSsdIdeal.nD Cert.DwBrSsdIdeal.τ Cert.DwBrSsdIdeal.sig) → Buf (Elt Ideal) ℓ) : Prop :=
  True

def Pre_DwBrSsdReferenceIdeal (m : (ℓ : Loc Cert.DwBrSsdReferenceIdeal.nD Cert.DwBrSsdReferenceIdeal.τ Cert.DwBrSsdReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedReferenceIdeal (m : (ℓ : Loc Cert.DMergedReferenceIdeal.nD Cert.DMergedReferenceIdeal.τ Cert.DMergedReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInReferenceIdeal (m : (ℓ : Loc Cert.AdamWInReferenceIdeal.nD Cert.AdamWInReferenceIdeal.τ Cert.AdamWInReferenceIdeal.sig) → Buf (Elt Ideal) ℓ) : Prop :=
  True

def Pre_AdamFfnWIn (m : (ℓ : Loc Cert.AdamFfnWIn.nD Cert.AdamFfnWIn.τ Cert.AdamFfnWIn.sig) → Buf (Elt Bits) ℓ) : Prop :=
  True

def Pre_AdamFfnWInIdeal (m : (ℓ : Loc Cert.AdamFfnWInIdeal.nD Cert.AdamFfnWInIdeal.τ Cert.AdamFfnWInIdeal.sig) → Buf (Elt Ideal) ℓ) : Prop :=
  True

def Pre_AdamFfnWInReferenceIdeal (m : (ℓ : Loc Cert.AdamFfnWInReferenceIdeal.nD Cert.AdamFfnWInReferenceIdeal.τ Cert.AdamFfnWInReferenceIdeal.sig) → Buf (Elt Ideal) ℓ) : Prop :=
  True

def Pre_AdamMemWKv (m : (ℓ : Loc Cert.AdamMemWKv.nD Cert.AdamMemWKv.τ Cert.AdamMemWKv.sig) → Buf (Elt Bits) ℓ) : Prop :=
  True

def Pre_AdamMemWKvIdeal (m : (ℓ : Loc Cert.AdamMemWKvIdeal.nD Cert.AdamMemWKvIdeal.τ Cert.AdamMemWKvIdeal.sig) → Buf (Elt Ideal) ℓ) : Prop :=
  True

def Pre_AdamMemWKvReferenceIdeal (m : (ℓ : Loc Cert.AdamMemWKvReferenceIdeal.nD Cert.AdamMemWKvReferenceIdeal.τ Cert.AdamMemWKvReferenceIdeal.sig) → Buf (Elt Ideal) ℓ) : Prop :=
  True

def Pre_AdamWBr (m : (ℓ : Loc Cert.AdamWBr.nD Cert.AdamWBr.τ Cert.AdamWBr.sig) → Buf (Elt Bits) ℓ) : Prop :=
  True

def Pre_AdamWBrIdeal (m : (ℓ : Loc Cert.AdamWBrIdeal.nD Cert.AdamWBrIdeal.τ Cert.AdamWBrIdeal.sig) → Buf (Elt Ideal) ℓ) : Prop :=
  True

def Pre_AdamWBrReferenceIdeal (m : (ℓ : Loc Cert.AdamWBrReferenceIdeal.nD Cert.AdamWBrReferenceIdeal.τ Cert.AdamWBrReferenceIdeal.sig) → Buf (Elt Ideal) ℓ) : Prop :=
  True

def Pre_AdamWBrSsd (m : (ℓ : Loc Cert.AdamWBrSsd.nD Cert.AdamWBrSsd.τ Cert.AdamWBrSsd.sig) → Buf (Elt Bits) ℓ) : Prop :=
  True

def Pre_AdamWBrSsdIdeal (m : (ℓ : Loc Cert.AdamWBrSsdIdeal.nD Cert.AdamWBrSsdIdeal.τ Cert.AdamWBrSsdIdeal.sig) → Buf (Elt Ideal) ℓ) : Prop :=
  True

def Pre_AdamWBrSsdReferenceIdeal (m : (ℓ : Loc Cert.AdamWBrSsdReferenceIdeal.nD Cert.AdamWBrSsdReferenceIdeal.τ Cert.AdamWBrSsdReferenceIdeal.sig) → Buf (Elt Ideal) ℓ) : Prop :=
  True

def Pre_AdamFfnWDown (m : (ℓ : Loc Cert.AdamFfnWDown.nD Cert.AdamFfnWDown.τ Cert.AdamFfnWDown.sig) → Buf (Elt Bits) ℓ) : Prop :=
  True

def Pre_AdamFfnWDownIdeal (m : (ℓ : Loc Cert.AdamFfnWDownIdeal.nD Cert.AdamFfnWDownIdeal.τ Cert.AdamFfnWDownIdeal.sig) → Buf (Elt Ideal) ℓ) : Prop :=
  True

def Pre_AdamFfnWDownReferenceIdeal (m : (ℓ : Loc Cert.AdamFfnWDownReferenceIdeal.nD Cert.AdamFfnWDownReferenceIdeal.τ Cert.AdamFfnWDownReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradReferenceIdeal (m : (ℓ : Loc Cert.LossGradReferenceIdeal.nD Cert.LossGradReferenceIdeal.τ Cert.LossGradReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_NormBwdReferenceIdeal_finite_norm [hPre_finite_norm : Cert.Pre_finite_norm.Facts] (m : (ℓ : Loc Cert.NormBwdReferenceIdeal.nD Cert.NormBwdReferenceIdeal.τ Cert.NormBwdReferenceIdeal.sig) → Buf (Elt Ideal) ℓ) : Prop :=
  ∀ c : Dev Cert.NormBwdReferenceIdeal.nD,
    (Cert.Pre_finite_norm.fn (F := Ideal) (m ((c.tc : Thread Cert.NormBwdReferenceIdeal.nD Cert.NormBwdReferenceIdeal.τ).loc Cert.NormBwdReferenceIdeal.main_arg0)) (m ((c.tc : Thread Cert.NormBwdReferenceIdeal.nD Cert.NormBwdReferenceIdeal.τ).loc Cert.NormBwdReferenceIdeal.main_arg1)) (m ((c.tc : Thread Cert.NormBwdReferenceIdeal.nD Cert.NormBwdReferenceIdeal.τ).loc Cert.NormBwdReferenceIdeal.main_arg2)) (m ((c.tc : Thread Cert.NormBwdReferenceIdeal.nD Cert.NormBwdReferenceIdeal.τ).loc Cert.NormBwdReferenceIdeal.main_arg3)) (m ((c.tc : Thread Cert.NormBwdReferenceIdeal.nD Cert.NormBwdReferenceIdeal.τ).loc Cert.NormBwdReferenceIdeal.main_arg4))) = (fun _ => 1#1)

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdReferenceIdeal (m : (ℓ : Loc Cert.SwigluFwdReferenceIdeal.nD Cert.SwigluFwdReferenceIdeal.τ Cert.SwigluFwdReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdReferenceIdeal (m : (ℓ : Loc Cert.LnFwdReferenceIdeal.nD Cert.LnFwdReferenceIdeal.τ Cert.LnFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_BrLru [hBrLru : Cert.BrLru.Facts] : Prop :=
  ∀ (m : (ℓ : Loc Cert.BrLru.nD Cert.BrLru.τ Cert.BrLru.sig) → Buf (Elt Bits) ℓ) (g : Dev Cert.BrLru.nD → PrngReg), Pre_BrLru m →
    θ_run (Cert.BrLru.defs (F := Bits)) (onTc (τ := Cert.BrLru.τ) (Cert.BrLru.main (F := Bits))) ⟨m, fun _ => 0, g⟩ (fun r => (∀ c : Dev Cert.BrLru.nD,
      r.2.mem ((c.tc : Thread Cert.BrLru.nD Cert.BrLru.τ).loc Cert.BrLru.main_arg0) = m ((c.tc : Thread Cert.BrLru.nD Cert.BrLru.τ).loc Cert.BrLru.main_arg0)
      ∧ r.2.mem ((c.tc : Thread Cert.BrLru.nD Cert.BrLru.τ).loc Cert.BrLru.main_arg1) = m ((c.tc : Thread Cert.BrLru.nD Cert.BrLru.τ).loc Cert.BrLru.main_arg1))
      ∧ r.2.sem = fun _ => 0)

def quiescent_BrLruIdeal [hBrLruIdeal : Cert.BrLruIdeal.Facts] : Prop :=
  ∀ (m : (ℓ : Loc Cert.BrLruIdeal.nD Cert.BrLruIdeal.τ Cert.BrLruIdeal.sig) → Buf (Elt Ideal) ℓ) (g : Dev Cert.BrLruIdeal.nD → PrngReg), Pre_BrLruIdeal m →
    θ_run (Cert.BrLruIdeal.defs (F := Ideal)) (onTc (τ := Cert.BrLruIdeal.τ) (Cert.BrLruIdeal.main (F := Ideal))) ⟨m, fun _ => 0, g⟩ (fun r => (∀ c : Dev Cert.BrLruIdeal.nD,
      r.2.mem ((c.tc : Thread Cert.BrLruIdeal.nD Cert.BrLruIdeal.τ).loc Cert.BrLruIdeal.main_arg0) = m ((c.tc : Thread Cert.BrLruIdeal.nD Cert.BrLruIdeal.τ).loc Cert.BrLruIdeal.main_arg0)
      ∧ r.2.mem ((c.tc : Thread Cert.BrLruIdeal.nD Cert.BrLruIdeal.τ).loc Cert.BrLruIdeal.main_arg1) = m ((c.tc : Thread Cert.BrLruIdeal.nD Cert.BrLruIdeal.τ).loc Cert.BrLruIdeal.main_arg1))
      ∧ r.2.sem = fun _ => 0)

def quiescent_BrLruReferenceIdeal [hBrLruReferenceIdeal : Cert.BrLruReferenceIdeal.Facts] : Prop :=
  ∀ (m : (ℓ : Loc Cert.BrLruReferenceIdeal.nD Cert.BrLruReferenceIdeal.τ Cert.BrLruReferenceIdeal.sig) → Buf (Elt Ideal) ℓ) (g : Dev Cert.BrLruReferenceIdeal.nD → PrngReg), Pre_BrLruReferenceIdeal m →
    θ_run (Cert.BrLruReferenceIdeal.defs (F := Ideal)) (onTc (τ := Cert.BrLruReferenceIdeal.τ) (Cert.BrLruReferenceIdeal.main (F := Ideal))) ⟨m, fun _ => 0, g⟩ (fun r => (∀ c : Dev Cert.BrLruReferenceIdeal.nD,
      r.2.mem ((c.tc : Thread Cert.BrLruReferenceIdeal.nD Cert.BrLruReferenceIdeal.τ).loc Cert.BrLruReferenceIdeal.main_arg0) = m ((c.tc : Thread Cert.BrLruReferenceIdeal.nD Cert.BrLruReferenceIdeal.τ).loc Cert.BrLruReferenceIdeal.main_arg0)
      ∧ r.2.mem ((c.tc : Thread Cert.BrLruReferenceIdeal.nD Cert.BrLruReferenceIdeal.τ).loc Cert.BrLruReferenceIdeal.main_arg1) = m ((c.tc : Thread Cert.BrLruReferenceIdeal.nD Cert.BrLruReferenceIdeal.τ).loc Cert.BrLruReferenceIdeal.main_arg1))
      ∧ r.2.sem = fun _ => 0)

def quiescent_DYlru [hDYlru : Cert.DYlru.Facts] : Prop :=
  ∀ (m : (ℓ : Loc Cert.DYlru.nD Cert.DYlru.τ Cert.DYlru.sig) → Buf (Elt Bits) ℓ) (g : Dev Cert.DYlru.nD → PrngReg), Pre_DYlru m →
    θ_run (Cert.DYlru.defs (F := Bits)) (onTc (τ := Cert.DYlru.τ) (Cert.DYlru.main (F := Bits))) ⟨m, fun _ => 0, g⟩ (fun r => (∀ c : Dev Cert.DYlru.nD,
      r.2.mem ((c.tc : Thread Cert.DYlru.nD Cert.DYlru.τ).loc Cert.DYlru.main_arg0) = m ((c.tc : Thread Cert.DYlru.nD Cert.DYlru.τ).loc Cert.DYlru.main_arg0)
      ∧ r.2.mem ((c.tc : Thread Cert.DYlru.nD Cert.DYlru.τ).loc Cert.DYlru.main_arg1) = m ((c.tc : Thread Cert.DYlru.nD Cert.DYlru.τ).loc Cert.DYlru.main_arg1))
      ∧ r.2.sem = fun _ => 0)

def quiescent_DYlruIdeal [hDYlruIdeal : Cert.DYlruIdeal.Facts] : Prop :=
  ∀ (m : (ℓ : Loc Cert.DYlruIdeal.nD Cert.DYlruIdeal.τ Cert.DYlruIdeal.sig) → Buf (Elt Ideal) ℓ) (g : Dev Cert.DYlruIdeal.nD → PrngReg), Pre_DYlruIdeal m →
    θ_run (Cert.DYlruIdeal.defs (F := Ideal)) (onTc (τ := Cert.DYlruIdeal.τ) (Cert.DYlruIdeal.main (F := Ideal))) ⟨m, fun _ => 0, g⟩ (fun r => (∀ c : Dev Cert.DYlruIdeal.nD,
      r.2.mem ((c.tc : Thread Cert.DYlruIdeal.nD Cert.DYlruIdeal.τ).loc Cert.DYlruIdeal.main_arg0) = m ((c.tc : Thread Cert.DYlruIdeal.nD Cert.DYlruIdeal.τ).loc Cert.DYlruIdeal.main_arg0)
      ∧ r.2.mem ((c.tc : Thread Cert.DYlruIdeal.nD Cert.DYlruIdeal.τ).loc Cert.DYlruIdeal.main_arg1) = m ((c.tc : Thread Cert.DYlruIdeal.nD Cert.DYlruIdeal.τ).loc Cert.DYlruIdeal.main_arg1))
      ∧ r.2.sem = fun _ => 0)

def quiescent_DYlruReferenceIdeal [hDYlruReferenceIdeal : Cert.DYlruReferenceIdeal.Facts] : Prop :=
  ∀ (m : (ℓ : Loc Cert.DYlruReferenceIdeal.nD Cert.DYlruReferenceIdeal.τ Cert.DYlruReferenceIdeal.sig) → Buf (Elt Ideal) ℓ) (g : Dev Cert.DYlruReferenceIdeal.nD → PrngReg), Pre_DYlruReferenceIdeal m →
    θ_run (Cert.DYlruReferenceIdeal.defs (F := Ideal)) (onTc (τ := Cert.DYlruReferenceIdeal.τ) (Cert.DYlruReferenceIdeal.main (F := Ideal))) ⟨m, fun _ => 0, g⟩ (fun r => (∀ c : Dev Cert.DYlruReferenceIdeal.nD,
      r.2.mem ((c.tc : Thread Cert.DYlruReferenceIdeal.nD Cert.DYlruReferenceIdeal.τ).loc Cert.DYlruReferenceIdeal.main_arg0) = m ((c.tc : Thread Cert.DYlruReferenceIdeal.nD Cert.DYlruReferenceIdeal.τ).loc Cert.DYlruReferenceIdeal.main_arg0)
      ∧ r.2.mem ((c.tc : Thread Cert.DYlruReferenceIdeal.nD Cert.DYlruReferenceIdeal.τ).loc Cert.DYlruReferenceIdeal.main_arg1) = m ((c.tc : Thread Cert.DYlruReferenceIdeal.nD Cert.DYlruReferenceIdeal.τ).loc Cert.DYlruReferenceIdeal.main_arg1))
      ∧ r.2.sem = fun _ => 0)

def quiescent_BrSsd [hBrSsd : Cert.BrSsd.Facts] : Prop :=
  ∀ (m : (ℓ : Loc Cert.BrSsd.nD Cert.BrSsd.τ Cert.BrSsd.sig) → Buf (Elt Bits) ℓ) (g : Dev Cert.BrSsd.nD → PrngReg), Pre_BrSsd m →
    θ_run (Cert.BrSsd.defs (F := Bits)) (onTc (τ := Cert.BrSsd.τ) (Cert.BrSsd.main (F := Bits))) ⟨m, fun _ => 0, g⟩ (fun r => (∀ c : Dev Cert.BrSsd.nD,
      r.2.mem ((c.tc : Thread Cert.BrSsd.nD Cert.BrSsd.τ).loc Cert.BrSsd.main_arg0) = m ((c.tc : Thread Cert.BrSsd.nD Cert.BrSsd.τ).loc Cert.BrSsd.main_arg0)
      ∧ r.2.mem ((c.tc : Thread Cert.BrSsd.nD Cert.BrSsd.τ).loc Cert.BrSsd.main_arg1) = m ((c.tc : Thread Cert.BrSsd.nD Cert.BrSsd.τ).loc Cert.BrSsd.main_arg1))
      ∧ r.2.sem = fun _ => 0)

def quiescent_BrSsdIdeal [hBrSsdIdeal : Cert.BrSsdIdeal.Facts] : Prop :=
  ∀ (m : (ℓ : Loc Cert.BrSsdIdeal.nD Cert.BrSsdIdeal.τ Cert.BrSsdIdeal.sig) → Buf (Elt Ideal) ℓ) (g : Dev Cert.BrSsdIdeal.nD → PrngReg), Pre_BrSsdIdeal m →
    θ_run (Cert.BrSsdIdeal.defs (F := Ideal)) (onTc (τ := Cert.BrSsdIdeal.τ) (Cert.BrSsdIdeal.main (F := Ideal))) ⟨m, fun _ => 0, g⟩ (fun r => (∀ c : Dev Cert.BrSsdIdeal.nD,
      r.2.mem ((c.tc : Thread Cert.BrSsdIdeal.nD Cert.BrSsdIdeal.τ).loc Cert.BrSsdIdeal.main_arg0) = m ((c.tc : Thread Cert.BrSsdIdeal.nD Cert.BrSsdIdeal.τ).loc Cert.BrSsdIdeal.main_arg0)
      ∧ r.2.mem ((c.tc : Thread Cert.BrSsdIdeal.nD Cert.BrSsdIdeal.τ).loc Cert.BrSsdIdeal.main_arg1) = m ((c.tc : Thread Cert.BrSsdIdeal.nD Cert.BrSsdIdeal.τ).loc Cert.BrSsdIdeal.main_arg1))
      ∧ r.2.sem = fun _ => 0)

def quiescent_BrSsdReferenceIdeal [hBrSsdReferenceIdeal : Cert.BrSsdReferenceIdeal.Facts] : Prop :=
  ∀ (m : (ℓ : Loc Cert.BrSsdReferenceIdeal.nD Cert.BrSsdReferenceIdeal.τ Cert.BrSsdReferenceIdeal.sig) → Buf (Elt Ideal) ℓ) (g : Dev Cert.BrSsdReferenceIdeal.nD → PrngReg), Pre_BrSsdReferenceIdeal m →
    θ_run (Cert.BrSsdReferenceIdeal.defs (F := Ideal)) (onTc (τ := Cert.BrSsdReferenceIdeal.τ) (Cert.BrSsdReferenceIdeal.main (F := Ideal))) ⟨m, fun _ => 0, g⟩ (fun r => (∀ c : Dev Cert.BrSsdReferenceIdeal.nD,
      r.2.mem ((c.tc : Thread Cert.BrSsdReferenceIdeal.nD Cert.BrSsdReferenceIdeal.τ).loc Cert.BrSsdReferenceIdeal.main_arg0) = m ((c.tc : Thread Cert.BrSsdReferenceIdeal.nD Cert.BrSsdReferenceIdeal.τ).loc Cert.BrSsdReferenceIdeal.main_arg0)
      ∧ r.2.mem ((c.tc : Thread Cert.BrSsdReferenceIdeal.nD Cert.BrSsdReferenceIdeal.τ).loc Cert.BrSsdReferenceIdeal.main_arg1) = m ((c.tc : Thread Cert.BrSsdReferenceIdeal.nD Cert.BrSsdReferenceIdeal.τ).loc Cert.BrSsdReferenceIdeal.main_arg1))
      ∧ r.2.sem = fun _ => 0)

def quiescent_DYssd [hDYssd : Cert.DYssd.Facts] : Prop :=
  ∀ (m : (ℓ : Loc Cert.DYssd.nD Cert.DYssd.τ Cert.DYssd.sig) → Buf (Elt Bits) ℓ) (g : Dev Cert.DYssd.nD → PrngReg), Pre_DYssd m →
    θ_run (Cert.DYssd.defs (F := Bits)) (onTc (τ := Cert.DYssd.τ) (Cert.DYssd.main (F := Bits))) ⟨m, fun _ => 0, g⟩ (fun r => (∀ c : Dev Cert.DYssd.nD,
      r.2.mem ((c.tc : Thread Cert.DYssd.nD Cert.DYssd.τ).loc Cert.DYssd.main_arg0) = m ((c.tc : Thread Cert.DYssd.nD Cert.DYssd.τ).loc Cert.DYssd.main_arg0)
      ∧ r.2.mem ((c.tc : Thread Cert.DYssd.nD Cert.DYssd.τ).loc Cert.DYssd.main_arg1) = m ((c.tc : Thread Cert.DYssd.nD Cert.DYssd.τ).loc Cert.DYssd.main_arg1))
      ∧ r.2.sem = fun _ => 0)

def quiescent_DYssdIdeal [hDYssdIdeal : Cert.DYssdIdeal.Facts] : Prop :=
  ∀ (m : (ℓ : Loc Cert.DYssdIdeal.nD Cert.DYssdIdeal.τ Cert.DYssdIdeal.sig) → Buf (Elt Ideal) ℓ) (g : Dev Cert.DYssdIdeal.nD → PrngReg), Pre_DYssdIdeal m →
    θ_run (Cert.DYssdIdeal.defs (F := Ideal)) (onTc (τ := Cert.DYssdIdeal.τ) (Cert.DYssdIdeal.main (F := Ideal))) ⟨m, fun _ => 0, g⟩ (fun r => (∀ c : Dev Cert.DYssdIdeal.nD,
      r.2.mem ((c.tc : Thread Cert.DYssdIdeal.nD Cert.DYssdIdeal.τ).loc Cert.DYssdIdeal.main_arg0) = m ((c.tc : Thread Cert.DYssdIdeal.nD Cert.DYssdIdeal.τ).loc Cert.DYssdIdeal.main_arg0)
      ∧ r.2.mem ((c.tc : Thread Cert.DYssdIdeal.nD Cert.DYssdIdeal.τ).loc Cert.DYssdIdeal.main_arg1) = m ((c.tc : Thread Cert.DYssdIdeal.nD Cert.DYssdIdeal.τ).loc Cert.DYssdIdeal.main_arg1))
      ∧ r.2.sem = fun _ => 0)

def quiescent_DYssdReferenceIdeal [hDYssdReferenceIdeal : Cert.DYssdReferenceIdeal.Facts] : Prop :=
  ∀ (m : (ℓ : Loc Cert.DYssdReferenceIdeal.nD Cert.DYssdReferenceIdeal.τ Cert.DYssdReferenceIdeal.sig) → Buf (Elt Ideal) ℓ) (g : Dev Cert.DYssdReferenceIdeal.nD → PrngReg), Pre_DYssdReferenceIdeal m →
    θ_run (Cert.DYssdReferenceIdeal.defs (F := Ideal)) (onTc (τ := Cert.DYssdReferenceIdeal.τ) (Cert.DYssdReferenceIdeal.main (F := Ideal))) ⟨m, fun _ => 0, g⟩ (fun r => (∀ c : Dev Cert.DYssdReferenceIdeal.nD,
      r.2.mem ((c.tc : Thread Cert.DYssdReferenceIdeal.nD Cert.DYssdReferenceIdeal.τ).loc Cert.DYssdReferenceIdeal.main_arg0) = m ((c.tc : Thread Cert.DYssdReferenceIdeal.nD Cert.DYssdReferenceIdeal.τ).loc Cert.DYssdReferenceIdeal.main_arg0)
      ∧ r.2.mem ((c.tc : Thread Cert.DYssdReferenceIdeal.nD Cert.DYssdReferenceIdeal.τ).loc Cert.DYssdReferenceIdeal.main_arg1) = m ((c.tc : Thread Cert.DYssdReferenceIdeal.nD Cert.DYssdReferenceIdeal.τ).loc Cert.DYssdReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_DX1 [hDX1 : Cert.DX1.Facts] : Prop :=
  ∀ (m : (ℓ : Loc Cert.DX1.nD Cert.DX1.τ Cert.DX1.sig) → Buf (Elt Bits) ℓ) (g : Dev Cert.DX1.nD → PrngReg), Pre_DX1 m →
    θ_run (Cert.DX1.defs (F := Bits)) (onTc (τ := Cert.DX1.τ) (Cert.DX1.main (F := Bits))) ⟨m, fun _ => 0, g⟩ (fun r => (∀ c : Dev Cert.DX1.nD,
      r.2.mem ((c.tc : Thread Cert.DX1.nD Cert.DX1.τ).loc Cert.DX1.main_arg0) = m ((c.tc : Thread Cert.DX1.nD Cert.DX1.τ).loc Cert.DX1.main_arg0)
      ∧ r.2.mem ((c.tc : Thread Cert.DX1.nD Cert.DX1.τ).loc Cert.DX1.main_arg1) = m ((c.tc : Thread Cert.DX1.nD Cert.DX1.τ).loc Cert.DX1.main_arg1))
      ∧ r.2.sem = fun _ => 0)

def quiescent_DX1Ideal [hDX1Ideal : Cert.DX1Ideal.Facts] : Prop :=
  ∀ (m : (ℓ : Loc Cert.DX1Ideal.nD Cert.DX1Ideal.τ Cert.DX1Ideal.sig) → Buf (Elt Ideal) ℓ) (g : Dev Cert.DX1Ideal.nD → PrngReg), Pre_DX1Ideal m →
    θ_run (Cert.DX1Ideal.defs (F := Ideal)) (onTc (τ := Cert.DX1Ideal.τ) (Cert.DX1Ideal.main (F := Ideal))) ⟨m, fun _ => 0, g⟩ (fun r => (∀ c : Dev Cert.DX1Ideal.nD,
      r.2.mem ((c.tc : Thread Cert.DX1Ideal.nD Cert.DX1Ideal.τ).loc Cert.DX1Ideal.main_arg0) = m ((c.tc : Thread Cert.DX1Ideal.nD Cert.DX1Ideal.τ).loc Cert.DX1Ideal.main_arg0)
      ∧ r.2.mem ((c.tc : Thread Cert.DX1Ideal.nD Cert.DX1Ideal.τ).loc Cert.DX1Ideal.main_arg1) = m ((c.tc : Thread Cert.DX1Ideal.nD Cert.DX1Ideal.τ).loc Cert.DX1Ideal.main_arg1))
      ∧ r.2.sem = fun _ => 0)

def quiescent_DX1ReferenceIdeal [hDX1ReferenceIdeal : Cert.DX1ReferenceIdeal.Facts] : Prop :=
  ∀ (m : (ℓ : Loc Cert.DX1ReferenceIdeal.nD Cert.DX1ReferenceIdeal.τ Cert.DX1ReferenceIdeal.sig) → Buf (Elt Ideal) ℓ) (g : Dev Cert.DX1ReferenceIdeal.nD → PrngReg), Pre_DX1ReferenceIdeal m →
    θ_run (Cert.DX1ReferenceIdeal.defs (F := Ideal)) (onTc (τ := Cert.DX1ReferenceIdeal.τ) (Cert.DX1ReferenceIdeal.main (F := Ideal))) ⟨m, fun _ => 0, g⟩ (fun r => (∀ c : Dev Cert.DX1ReferenceIdeal.nD,
      r.2.mem ((c.tc : Thread Cert.DX1ReferenceIdeal.nD Cert.DX1ReferenceIdeal.τ).loc Cert.DX1ReferenceIdeal.main_arg0) = m ((c.tc : Thread Cert.DX1ReferenceIdeal.nD Cert.DX1ReferenceIdeal.τ).loc Cert.DX1ReferenceIdeal.main_arg0)
      ∧ r.2.mem ((c.tc : Thread Cert.DX1ReferenceIdeal.nD Cert.DX1ReferenceIdeal.τ).loc Cert.DX1ReferenceIdeal.main_arg1) = m ((c.tc : Thread Cert.DX1ReferenceIdeal.nD Cert.DX1ReferenceIdeal.τ).loc Cert.DX1ReferenceIdeal.main_arg1))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_DwFfnInReferenceIdeal [hDwFfnInReferenceIdeal : Cert.DwFfnInReferenceIdeal.Facts] : Prop :=
  ∀ (m : (ℓ : Loc Cert.DwFfnInReferenceIdeal.nD Cert.DwFfnInReferenceIdeal.τ Cert.DwFfnInReferenceIdeal.sig) → Buf (Elt Ideal) ℓ) (g : Dev Cert.DwFfnInReferenceIdeal.nD → PrngReg), Pre_DwFfnInReferenceIdeal m →
    θ_run (Cert.DwFfnInReferenceIdeal.defs (F := Ideal)) (onTc (τ := Cert.DwFfnInReferenceIdeal.τ) (Cert.DwFfnInReferenceIdeal.main (F := Ideal))) ⟨m, fun _ => 0, g⟩ (fun r => (∀ c : Dev Cert.DwFfnInReferenceIdeal.nD,
      r.2.mem ((c.tc : Thread Cert.DwFfnInReferenceIdeal.nD Cert.DwFfnInReferenceIdeal.τ).loc Cert.DwFfnInReferenceIdeal.main_arg0) = m ((c.tc : Thread Cert.DwFfnInReferenceIdeal.nD Cert.DwFfnInReferenceIdeal.τ).loc Cert.DwFfnInReferenceIdeal.main_arg0)
      ∧ r.2.mem ((c.tc : Thread Cert.DwFfnInReferenceIdeal.nD Cert.DwFfnInReferenceIdeal.τ).loc Cert.DwFfnInReferenceIdeal.main_arg1) = m ((c.tc : Thread Cert.DwFfnInReferenceIdeal.nD Cert.DwFfnInReferenceIdeal.τ).loc Cert.DwFfnInReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_DHmid [hDHmid : Cert.DHmid.Facts] : Prop :=
  ∀ (m : (ℓ : Loc Cert.DHmid.nD Cert.DHmid.τ Cert.DHmid.sig) → Buf (Elt Bits) ℓ) (g : Dev Cert.DHmid.nD → PrngReg), Pre_DHmid m →
    θ_run (Cert.DHmid.defs (F := Bits)) (onTc (τ := Cert.DHmid.τ) (Cert.DHmid.main (F := Bits))) ⟨m, fun _ => 0, g⟩ (fun r => (∀ c : Dev Cert.DHmid.nD,
      r.2.mem ((c.tc : Thread Cert.DHmid.nD Cert.DHmid.τ).loc Cert.DHmid.main_arg0) = m ((c.tc : Thread Cert.DHmid.nD Cert.DHmid.τ).loc Cert.DHmid.main_arg0)
      ∧ r.2.mem ((c.tc : Thread Cert.DHmid.nD Cert.DHmid.τ).loc Cert.DHmid.main_arg1) = m ((c.tc : Thread Cert.DHmid.nD Cert.DHmid.τ).loc Cert.DHmid.main_arg1))
      ∧ r.2.sem = fun _ => 0)

def quiescent_DHmidIdeal [hDHmidIdeal : Cert.DHmidIdeal.Facts] : Prop :=
  ∀ (m : (ℓ : Loc Cert.DHmidIdeal.nD Cert.DHmidIdeal.τ Cert.DHmidIdeal.sig) → Buf (Elt Ideal) ℓ) (g : Dev Cert.DHmidIdeal.nD → PrngReg), Pre_DHmidIdeal m →
    θ_run (Cert.DHmidIdeal.defs (F := Ideal)) (onTc (τ := Cert.DHmidIdeal.τ) (Cert.DHmidIdeal.main (F := Ideal))) ⟨m, fun _ => 0, g⟩ (fun r => (∀ c : Dev Cert.DHmidIdeal.nD,
      r.2.mem ((c.tc : Thread Cert.DHmidIdeal.nD Cert.DHmidIdeal.τ).loc Cert.DHmidIdeal.main_arg0) = m ((c.tc : Thread Cert.DHmidIdeal.nD Cert.DHmidIdeal.τ).loc Cert.DHmidIdeal.main_arg0)
      ∧ r.2.mem ((c.tc : Thread Cert.DHmidIdeal.nD Cert.DHmidIdeal.τ).loc Cert.DHmidIdeal.main_arg1) = m ((c.tc : Thread Cert.DHmidIdeal.nD Cert.DHmidIdeal.τ).loc Cert.DHmidIdeal.main_arg1))
      ∧ r.2.sem = fun _ => 0)

def quiescent_DHmidReferenceIdeal [hDHmidReferenceIdeal : Cert.DHmidReferenceIdeal.Facts] : Prop :=
  ∀ (m : (ℓ : Loc Cert.DHmidReferenceIdeal.nD Cert.DHmidReferenceIdeal.τ Cert.DHmidReferenceIdeal.sig) → Buf (Elt Ideal) ℓ) (g : Dev Cert.DHmidReferenceIdeal.nD → PrngReg), Pre_DHmidReferenceIdeal m →
    θ_run (Cert.DHmidReferenceIdeal.defs (F := Ideal)) (onTc (τ := Cert.DHmidReferenceIdeal.τ) (Cert.DHmidReferenceIdeal.main (F := Ideal))) ⟨m, fun _ => 0, g⟩ (fun r => (∀ c : Dev Cert.DHmidReferenceIdeal.nD,
      r.2.mem ((c.tc : Thread Cert.DHmidReferenceIdeal.nD Cert.DHmidReferenceIdeal.τ).loc Cert.DHmidReferenceIdeal.main_arg0) = m ((c.tc : Thread Cert.DHmidReferenceIdeal.nD Cert.DHmidReferenceIdeal.τ).loc Cert.DHmidReferenceIdeal.main_arg0)
      ∧ r.2.mem ((c.tc : Thread Cert.DHmidReferenceIdeal.nD Cert.DHmidReferenceIdeal.τ).loc Cert.DHmidReferenceIdeal.main_arg1) = m ((c.tc : Thread Cert.DHmidReferenceIdeal.nD Cert.DHmidReferenceIdeal.τ).loc Cert.DHmidReferenceIdeal.main_arg1))
      ∧ r.2.sem = fun _ => 0)

def quiescent_DwFfnDown [hDwFfnDown : Cert.DwFfnDown.Facts] : Prop :=
  ∀ (m : (ℓ : Loc Cert.DwFfnDown.nD Cert.DwFfnDown.τ Cert.DwFfnDown.sig) → Buf (Elt Bits) ℓ) (g : Dev Cert.DwFfnDown.nD → PrngReg), Pre_DwFfnDown m →
    θ_run (Cert.DwFfnDown.defs (F := Bits)) (onTc (τ := Cert.DwFfnDown.τ) (Cert.DwFfnDown.main (F := Bits))) ⟨m, fun _ => 0, g⟩ (fun r => (∀ c : Dev Cert.DwFfnDown.nD,
      r.2.mem ((c.tc : Thread Cert.DwFfnDown.nD Cert.DwFfnDown.τ).loc Cert.DwFfnDown.main_arg0) = m ((c.tc : Thread Cert.DwFfnDown.nD Cert.DwFfnDown.τ).loc Cert.DwFfnDown.main_arg0)
      ∧ r.2.mem ((c.tc : Thread Cert.DwFfnDown.nD Cert.DwFfnDown.τ).loc Cert.DwFfnDown.main_arg1) = m ((c.tc : Thread Cert.DwFfnDown.nD Cert.DwFfnDown.τ).loc Cert.DwFfnDown.main_arg1))
      ∧ r.2.sem = fun _ => 0)

def quiescent_DwFfnDownIdeal [hDwFfnDownIdeal : Cert.DwFfnDownIdeal.Facts] : Prop :=
  ∀ (m : (ℓ : Loc Cert.DwFfnDownIdeal.nD Cert.DwFfnDownIdeal.τ Cert.DwFfnDownIdeal.sig) → Buf (Elt Ideal) ℓ) (g : Dev Cert.DwFfnDownIdeal.nD → PrngReg), Pre_DwFfnDownIdeal m →
    θ_run (Cert.DwFfnDownIdeal.defs (F := Ideal)) (onTc (τ := Cert.DwFfnDownIdeal.τ) (Cert.DwFfnDownIdeal.main (F := Ideal))) ⟨m, fun _ => 0, g⟩ (fun r => (∀ c : Dev Cert.DwFfnDownIdeal.nD,
      r.2.mem ((c.tc : Thread Cert.DwFfnDownIdeal.nD Cert.DwFfnDownIdeal.τ).loc Cert.DwFfnDownIdeal.main_arg0) = m ((c.tc : Thread Cert.DwFfnDownIdeal.nD Cert.DwFfnDownIdeal.τ).loc Cert.DwFfnDownIdeal.main_arg0)
      ∧ r.2.mem ((c.tc : Thread Cert.DwFfnDownIdeal.nD Cert.DwFfnDownIdeal.τ).loc Cert.DwFfnDownIdeal.main_arg1) = m ((c.tc : Thread Cert.DwFfnDownIdeal.nD Cert.DwFfnDownIdeal.τ).loc Cert.DwFfnDownIdeal.main_arg1))
      ∧ r.2.sem = fun _ => 0)

def quiescent_DwFfnDownReferenceIdeal [hDwFfnDownReferenceIdeal : Cert.DwFfnDownReferenceIdeal.Facts] : Prop :=
  ∀ (m : (ℓ : Loc Cert.DwFfnDownReferenceIdeal.nD Cert.DwFfnDownReferenceIdeal.τ Cert.DwFfnDownReferenceIdeal.sig) → Buf (Elt Ideal) ℓ) (g : Dev Cert.DwFfnDownReferenceIdeal.nD → PrngReg), Pre_DwFfnDownReferenceIdeal m →
    θ_run (Cert.DwFfnDownReferenceIdeal.defs (F := Ideal)) (onTc (τ := Cert.DwFfnDownReferenceIdeal.τ) (Cert.DwFfnDownReferenceIdeal.main (F := Ideal))) ⟨m, fun _ => 0, g⟩ (fun r => (∀ c : Dev Cert.DwFfnDownReferenceIdeal.nD,
      r.2.mem ((c.tc : Thread Cert.DwFfnDownReferenceIdeal.nD Cert.DwFfnDownReferenceIdeal.τ).loc Cert.DwFfnDownReferenceIdeal.main_arg0) = m ((c.tc : Thread Cert.DwFfnDownReferenceIdeal.nD Cert.DwFfnDownReferenceIdeal.τ).loc Cert.DwFfnDownReferenceIdeal.main_arg0)
      ∧ r.2.mem ((c.tc : Thread Cert.DwFfnDownReferenceIdeal.nD Cert.DwFfnDownReferenceIdeal.τ).loc Cert.DwFfnDownReferenceIdeal.main_arg1) = m ((c.tc : Thread Cert.DwFfnDownReferenceIdeal.nD Cert.DwFfnDownReferenceIdeal.τ).loc Cert.DwFfnDownReferenceIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdIdeal_pre_finite_up [hSwigluBwdIdeal : Cert.SwigluBwdIdeal.Facts] [hPre_finite_up : Cert.Pre_finite_up.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_up m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_SwigluBwdReferenceIdeal_pre_finite_up [hSwigluBwdReferenceIdeal : Cert.SwigluBwdReferenceIdeal.Facts] [hPre_finite_up : Cert.Pre_finite_up.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal_finite_up m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_DwBrLru [hDwBrLru : Cert.DwBrLru.Facts] : Prop :=
  ∀ (m : (ℓ : Loc Cert.DwBrLru.nD Cert.DwBrLru.τ Cert.DwBrLru.sig) → Buf (Elt Bits) ℓ) (g : Dev Cert.DwBrLru.nD → PrngReg), Pre_DwBrLru m →
    θ_run (Cert.DwBrLru.defs (F := Bits)) (onTc (τ := Cert.DwBrLru.τ) (Cert.DwBrLru.main (F := Bits))) ⟨m, fun _ => 0, g⟩ (fun r => (∀ c : Dev Cert.DwBrLru.nD,
      r.2.mem ((c.tc : Thread Cert.DwBrLru.nD Cert.DwBrLru.τ).loc Cert.DwBrLru.main_arg0) = m ((c.tc : Thread Cert.DwBrLru.nD Cert.DwBrLru.τ).loc Cert.DwBrLru.main_arg0)
      ∧ r.2.mem ((c.tc : Thread Cert.DwBrLru.nD Cert.DwBrLru.τ).loc Cert.DwBrLru.main_arg1) = m ((c.tc : Thread Cert.DwBrLru.nD Cert.DwBrLru.τ).loc Cert.DwBrLru.main_arg1))
      ∧ r.2.sem = fun _ => 0)

def quiescent_DwBrLruIdeal [hDwBrLruIdeal : Cert.DwBrLruIdeal.Facts] : Prop :=
  ∀ (m : (ℓ : Loc Cert.DwBrLruIdeal.nD Cert.DwBrLruIdeal.τ Cert.DwBrLruIdeal.sig) → Buf (Elt Ideal) ℓ) (g : Dev Cert.DwBrLruIdeal.nD → PrngReg), Pre_DwBrLruIdeal m →
    θ_run (Cert.DwBrLruIdeal.defs (F := Ideal)) (onTc (τ := Cert.DwBrLruIdeal.τ) (Cert.DwBrLruIdeal.main (F := Ideal))) ⟨m, fun _ => 0, g⟩ (fun r => (∀ c : Dev Cert.DwBrLruIdeal.nD,
      r.2.mem ((c.tc : Thread Cert.DwBrLruIdeal.nD Cert.DwBrLruIdeal.τ).loc Cert.DwBrLruIdeal.main_arg0) = m ((c.tc : Thread Cert.DwBrLruIdeal.nD Cert.DwBrLruIdeal.τ).loc Cert.DwBrLruIdeal.main_arg0)
      ∧ r.2.mem ((c.tc : Thread Cert.DwBrLruIdeal.nD Cert.DwBrLruIdeal.τ).loc Cert.DwBrLruIdeal.main_arg1) = m ((c.tc : Thread Cert.DwBrLruIdeal.nD Cert.DwBrLruIdeal.τ).loc Cert.DwBrLruIdeal.main_arg1))
      ∧ r.2.sem = fun _ => 0)

def quiescent_DwBrLruReferenceIdeal [hDwBrLruReferenceIdeal : Cert.DwBrLruReferenceIdeal.Facts] : Prop :=
  ∀ (m : (ℓ : Loc Cert.DwBrLruReferenceIdeal.nD Cert.DwBrLruReferenceIdeal.τ Cert.DwBrLruReferenceIdeal.sig) → Buf (Elt Ideal) ℓ) (g : Dev Cert.DwBrLruReferenceIdeal.nD → PrngReg), Pre_DwBrLruReferenceIdeal m →
    θ_run (Cert.DwBrLruReferenceIdeal.defs (F := Ideal)) (onTc (τ := Cert.DwBrLruReferenceIdeal.τ) (Cert.DwBrLruReferenceIdeal.main (F := Ideal))) ⟨m, fun _ => 0, g⟩ (fun r => (∀ c : Dev Cert.DwBrLruReferenceIdeal.nD,
      r.2.mem ((c.tc : Thread Cert.DwBrLruReferenceIdeal.nD Cert.DwBrLruReferenceIdeal.τ).loc Cert.DwBrLruReferenceIdeal.main_arg0) = m ((c.tc : Thread Cert.DwBrLruReferenceIdeal.nD Cert.DwBrLruReferenceIdeal.τ).loc Cert.DwBrLruReferenceIdeal.main_arg0)
      ∧ r.2.mem ((c.tc : Thread Cert.DwBrLruReferenceIdeal.nD Cert.DwBrLruReferenceIdeal.τ).loc Cert.DwBrLruReferenceIdeal.main_arg1) = m ((c.tc : Thread Cert.DwBrLruReferenceIdeal.nD Cert.DwBrLruReferenceIdeal.τ).loc Cert.DwBrLruReferenceIdeal.main_arg1))
      ∧ r.2.sem = fun _ => 0)

def quiescent_DwBrSsd [hDwBrSsd : Cert.DwBrSsd.Facts] : Prop :=
  ∀ (m : (ℓ : Loc Cert.DwBrSsd.nD Cert.DwBrSsd.τ Cert.DwBrSsd.sig) → Buf (Elt Bits) ℓ) (g : Dev Cert.DwBrSsd.nD → PrngReg), Pre_DwBrSsd m →
    θ_run (Cert.DwBrSsd.defs (F := Bits)) (onTc (τ := Cert.DwBrSsd.τ) (Cert.DwBrSsd.main (F := Bits))) ⟨m, fun _ => 0, g⟩ (fun r => (∀ c : Dev Cert.DwBrSsd.nD,
      r.2.mem ((c.tc : Thread Cert.DwBrSsd.nD Cert.DwBrSsd.τ).loc Cert.DwBrSsd.main_arg0) = m ((c.tc : Thread Cert.DwBrSsd.nD Cert.DwBrSsd.τ).loc Cert.DwBrSsd.main_arg0)
      ∧ r.2.mem ((c.tc : Thread Cert.DwBrSsd.nD Cert.DwBrSsd.τ).loc Cert.DwBrSsd.main_arg1) = m ((c.tc : Thread Cert.DwBrSsd.nD Cert.DwBrSsd.τ).loc Cert.DwBrSsd.main_arg1))
      ∧ r.2.sem = fun _ => 0)

def quiescent_DwBrSsdIdeal [hDwBrSsdIdeal : Cert.DwBrSsdIdeal.Facts] : Prop :=
  ∀ (m : (ℓ : Loc Cert.DwBrSsdIdeal.nD Cert.DwBrSsdIdeal.τ Cert.DwBrSsdIdeal.sig) → Buf (Elt Ideal) ℓ) (g : Dev Cert.DwBrSsdIdeal.nD → PrngReg), Pre_DwBrSsdIdeal m →
    θ_run (Cert.DwBrSsdIdeal.defs (F := Ideal)) (onTc (τ := Cert.DwBrSsdIdeal.τ) (Cert.DwBrSsdIdeal.main (F := Ideal))) ⟨m, fun _ => 0, g⟩ (fun r => (∀ c : Dev Cert.DwBrSsdIdeal.nD,
      r.2.mem ((c.tc : Thread Cert.DwBrSsdIdeal.nD Cert.DwBrSsdIdeal.τ).loc Cert.DwBrSsdIdeal.main_arg0) = m ((c.tc : Thread Cert.DwBrSsdIdeal.nD Cert.DwBrSsdIdeal.τ).loc Cert.DwBrSsdIdeal.main_arg0)
      ∧ r.2.mem ((c.tc : Thread Cert.DwBrSsdIdeal.nD Cert.DwBrSsdIdeal.τ).loc Cert.DwBrSsdIdeal.main_arg1) = m ((c.tc : Thread Cert.DwBrSsdIdeal.nD Cert.DwBrSsdIdeal.τ).loc Cert.DwBrSsdIdeal.main_arg1))
      ∧ r.2.sem = fun _ => 0)

def quiescent_DwBrSsdReferenceIdeal [hDwBrSsdReferenceIdeal : Cert.DwBrSsdReferenceIdeal.Facts] : Prop :=
  ∀ (m : (ℓ : Loc Cert.DwBrSsdReferenceIdeal.nD Cert.DwBrSsdReferenceIdeal.τ Cert.DwBrSsdReferenceIdeal.sig) → Buf (Elt Ideal) ℓ) (g : Dev Cert.DwBrSsdReferenceIdeal.nD → PrngReg), Pre_DwBrSsdReferenceIdeal m →
    θ_run (Cert.DwBrSsdReferenceIdeal.defs (F := Ideal)) (onTc (τ := Cert.DwBrSsdReferenceIdeal.τ) (Cert.DwBrSsdReferenceIdeal.main (F := Ideal))) ⟨m, fun _ => 0, g⟩ (fun r => (∀ c : Dev Cert.DwBrSsdReferenceIdeal.nD,
      r.2.mem ((c.tc : Thread Cert.DwBrSsdReferenceIdeal.nD Cert.DwBrSsdReferenceIdeal.τ).loc Cert.DwBrSsdReferenceIdeal.main_arg0) = m ((c.tc : Thread Cert.DwBrSsdReferenceIdeal.nD Cert.DwBrSsdReferenceIdeal.τ).loc Cert.DwBrSsdReferenceIdeal.main_arg0)
      ∧ r.2.mem ((c.tc : Thread Cert.DwBrSsdReferenceIdeal.nD Cert.DwBrSsdReferenceIdeal.τ).loc Cert.DwBrSsdReferenceIdeal.main_arg1) = m ((c.tc : Thread Cert.DwBrSsdReferenceIdeal.nD Cert.DwBrSsdReferenceIdeal.τ).loc Cert.DwBrSsdReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedReferenceIdeal [hDMergedReferenceIdeal : Cert.DMergedReferenceIdeal.Facts] : Prop :=
  ∀ (m : (ℓ : Loc Cert.DMergedReferenceIdeal.nD Cert.DMergedReferenceIdeal.τ Cert.DMergedReferenceIdeal.sig) → Buf (Elt Ideal) ℓ) (g : Dev Cert.DMergedReferenceIdeal.nD → PrngReg), Pre_DMergedReferenceIdeal m →
    θ_run (Cert.DMergedReferenceIdeal.defs (F := Ideal)) (onTc (τ := Cert.DMergedReferenceIdeal.τ) (Cert.DMergedReferenceIdeal.main (F := Ideal))) ⟨m, fun _ => 0, g⟩ (fun r => (∀ c : Dev Cert.DMergedReferenceIdeal.nD,
      r.2.mem ((c.tc : Thread Cert.DMergedReferenceIdeal.nD Cert.DMergedReferenceIdeal.τ).loc Cert.DMergedReferenceIdeal.main_arg0) = m ((c.tc : Thread Cert.DMergedReferenceIdeal.nD Cert.DMergedReferenceIdeal.τ).loc Cert.DMergedReferenceIdeal.main_arg0)
      ∧ r.2.mem ((c.tc : Thread Cert.DMergedReferenceIdeal.nD Cert.DMergedReferenceIdeal.τ).loc Cert.DMergedReferenceIdeal.main_arg1) = m ((c.tc : Thread Cert.DMergedReferenceIdeal.nD Cert.DMergedReferenceIdeal.τ).loc Cert.DMergedReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInReferenceIdeal [hAdamWInReferenceIdeal : Cert.AdamWInReferenceIdeal.Facts] : Prop :=
  ∀ (m : (ℓ : Loc Cert.AdamWInReferenceIdeal.nD Cert.AdamWInReferenceIdeal.τ Cert.AdamWInReferenceIdeal.sig) → Buf (Elt Ideal) ℓ) (g : Dev Cert.AdamWInReferenceIdeal.nD → PrngReg), Pre_AdamWInReferenceIdeal m →
    θ_run (Cert.AdamWInReferenceIdeal.defs (F := Ideal)) (onTc (τ := Cert.AdamWInReferenceIdeal.τ) (Cert.AdamWInReferenceIdeal.main (F := Ideal))) ⟨m, fun _ => 0, g⟩ (fun r => (∀ c : Dev Cert.AdamWInReferenceIdeal.nD,
      r.2.mem ((c.tc : Thread Cert.AdamWInReferenceIdeal.nD Cert.AdamWInReferenceIdeal.τ).loc Cert.AdamWInReferenceIdeal.main_arg0) = m ((c.tc : Thread Cert.AdamWInReferenceIdeal.nD Cert.AdamWInReferenceIdeal.τ).loc Cert.AdamWInReferenceIdeal.main_arg0)
      ∧ r.2.mem ((c.tc : Thread Cert.AdamWInReferenceIdeal.nD Cert.AdamWInReferenceIdeal.τ).loc Cert.AdamWInReferenceIdeal.main_arg1) = m ((c.tc : Thread Cert.AdamWInReferenceIdeal.nD Cert.AdamWInReferenceIdeal.τ).loc Cert.AdamWInReferenceIdeal.main_arg1)
      ∧ r.2.mem ((c.tc : Thread Cert.AdamWInReferenceIdeal.nD Cert.AdamWInReferenceIdeal.τ).loc Cert.AdamWInReferenceIdeal.main_arg2) = m ((c.tc : Thread Cert.AdamWInReferenceIdeal.nD Cert.AdamWInReferenceIdeal.τ).loc Cert.AdamWInReferenceIdeal.main_arg2)
      ∧ r.2.mem ((c.tc : Thread Cert.AdamWInReferenceIdeal.nD Cert.AdamWInReferenceIdeal.τ).loc Cert.AdamWInReferenceIdeal.main_arg3) = m ((c.tc : Thread Cert.AdamWInReferenceIdeal.nD Cert.AdamWInReferenceIdeal.τ).loc Cert.AdamWInReferenceIdeal.main_arg3))
      ∧ r.2.sem = fun _ => 0)

def quiescent_AdamFfnWIn [hAdamFfnWIn : Cert.AdamFfnWIn.Facts] : Prop :=
  ∀ (m : (ℓ : Loc Cert.AdamFfnWIn.nD Cert.AdamFfnWIn.τ Cert.AdamFfnWIn.sig) → Buf (Elt Bits) ℓ) (g : Dev Cert.AdamFfnWIn.nD → PrngReg), Pre_AdamFfnWIn m →
    θ_run (Cert.AdamFfnWIn.defs (F := Bits)) (onTc (τ := Cert.AdamFfnWIn.τ) (Cert.AdamFfnWIn.main (F := Bits))) ⟨m, fun _ => 0, g⟩ (fun r => (∀ c : Dev Cert.AdamFfnWIn.nD,
      r.2.mem ((c.tc : Thread Cert.AdamFfnWIn.nD Cert.AdamFfnWIn.τ).loc Cert.AdamFfnWIn.main_arg0) = m ((c.tc : Thread Cert.AdamFfnWIn.nD Cert.AdamFfnWIn.τ).loc Cert.AdamFfnWIn.main_arg0)
      ∧ r.2.mem ((c.tc : Thread Cert.AdamFfnWIn.nD Cert.AdamFfnWIn.τ).loc Cert.AdamFfnWIn.main_arg1) = m ((c.tc : Thread Cert.AdamFfnWIn.nD Cert.AdamFfnWIn.τ).loc Cert.AdamFfnWIn.main_arg1)
      ∧ r.2.mem ((c.tc : Thread Cert.AdamFfnWIn.nD Cert.AdamFfnWIn.τ).loc Cert.AdamFfnWIn.main_arg2) = m ((c.tc : Thread Cert.AdamFfnWIn.nD Cert.AdamFfnWIn.τ).loc Cert.AdamFfnWIn.main_arg2)
      ∧ r.2.mem ((c.tc : Thread Cert.AdamFfnWIn.nD Cert.AdamFfnWIn.τ).loc Cert.AdamFfnWIn.main_arg3) = m ((c.tc : Thread Cert.AdamFfnWIn.nD Cert.AdamFfnWIn.τ).loc Cert.AdamFfnWIn.main_arg3))
      ∧ r.2.sem = fun _ => 0)

def quiescent_AdamFfnWInIdeal [hAdamFfnWInIdeal : Cert.AdamFfnWInIdeal.Facts] : Prop :=
  ∀ (m : (ℓ : Loc Cert.AdamFfnWInIdeal.nD Cert.AdamFfnWInIdeal.τ Cert.AdamFfnWInIdeal.sig) → Buf (Elt Ideal) ℓ) (g : Dev Cert.AdamFfnWInIdeal.nD → PrngReg), Pre_AdamFfnWInIdeal m →
    θ_run (Cert.AdamFfnWInIdeal.defs (F := Ideal)) (onTc (τ := Cert.AdamFfnWInIdeal.τ) (Cert.AdamFfnWInIdeal.main (F := Ideal))) ⟨m, fun _ => 0, g⟩ (fun r => (∀ c : Dev Cert.AdamFfnWInIdeal.nD,
      r.2.mem ((c.tc : Thread Cert.AdamFfnWInIdeal.nD Cert.AdamFfnWInIdeal.τ).loc Cert.AdamFfnWInIdeal.main_arg0) = m ((c.tc : Thread Cert.AdamFfnWInIdeal.nD Cert.AdamFfnWInIdeal.τ).loc Cert.AdamFfnWInIdeal.main_arg0)
      ∧ r.2.mem ((c.tc : Thread Cert.AdamFfnWInIdeal.nD Cert.AdamFfnWInIdeal.τ).loc Cert.AdamFfnWInIdeal.main_arg1) = m ((c.tc : Thread Cert.AdamFfnWInIdeal.nD Cert.AdamFfnWInIdeal.τ).loc Cert.AdamFfnWInIdeal.main_arg1)
      ∧ r.2.mem ((c.tc : Thread Cert.AdamFfnWInIdeal.nD Cert.AdamFfnWInIdeal.τ).loc Cert.AdamFfnWInIdeal.main_arg2) = m ((c.tc : Thread Cert.AdamFfnWInIdeal.nD Cert.AdamFfnWInIdeal.τ).loc Cert.AdamFfnWInIdeal.main_arg2)
      ∧ r.2.mem ((c.tc : Thread Cert.AdamFfnWInIdeal.nD Cert.AdamFfnWInIdeal.τ).loc Cert.AdamFfnWInIdeal.main_arg3) = m ((c.tc : Thread Cert.AdamFfnWInIdeal.nD Cert.AdamFfnWInIdeal.τ).loc Cert.AdamFfnWInIdeal.main_arg3))
      ∧ r.2.sem = fun _ => 0)

def quiescent_AdamFfnWInReferenceIdeal [hAdamFfnWInReferenceIdeal : Cert.AdamFfnWInReferenceIdeal.Facts] : Prop :=
  ∀ (m : (ℓ : Loc Cert.AdamFfnWInReferenceIdeal.nD Cert.AdamFfnWInReferenceIdeal.τ Cert.AdamFfnWInReferenceIdeal.sig) → Buf (Elt Ideal) ℓ) (g : Dev Cert.AdamFfnWInReferenceIdeal.nD → PrngReg), Pre_AdamFfnWInReferenceIdeal m →
    θ_run (Cert.AdamFfnWInReferenceIdeal.defs (F := Ideal)) (onTc (τ := Cert.AdamFfnWInReferenceIdeal.τ) (Cert.AdamFfnWInReferenceIdeal.main (F := Ideal))) ⟨m, fun _ => 0, g⟩ (fun r => (∀ c : Dev Cert.AdamFfnWInReferenceIdeal.nD,
      r.2.mem ((c.tc : Thread Cert.AdamFfnWInReferenceIdeal.nD Cert.AdamFfnWInReferenceIdeal.τ).loc Cert.AdamFfnWInReferenceIdeal.main_arg0) = m ((c.tc : Thread Cert.AdamFfnWInReferenceIdeal.nD Cert.AdamFfnWInReferenceIdeal.τ).loc Cert.AdamFfnWInReferenceIdeal.main_arg0)
      ∧ r.2.mem ((c.tc : Thread Cert.AdamFfnWInReferenceIdeal.nD Cert.AdamFfnWInReferenceIdeal.τ).loc Cert.AdamFfnWInReferenceIdeal.main_arg1) = m ((c.tc : Thread Cert.AdamFfnWInReferenceIdeal.nD Cert.AdamFfnWInReferenceIdeal.τ).loc Cert.AdamFfnWInReferenceIdeal.main_arg1)
      ∧ r.2.mem ((c.tc : Thread Cert.AdamFfnWInReferenceIdeal.nD Cert.AdamFfnWInReferenceIdeal.τ).loc Cert.AdamFfnWInReferenceIdeal.main_arg2) = m ((c.tc : Thread Cert.AdamFfnWInReferenceIdeal.nD Cert.AdamFfnWInReferenceIdeal.τ).loc Cert.AdamFfnWInReferenceIdeal.main_arg2)
      ∧ r.2.mem ((c.tc : Thread Cert.AdamFfnWInReferenceIdeal.nD Cert.AdamFfnWInReferenceIdeal.τ).loc Cert.AdamFfnWInReferenceIdeal.main_arg3) = m ((c.tc : Thread Cert.AdamFfnWInReferenceIdeal.nD Cert.AdamFfnWInReferenceIdeal.τ).loc Cert.AdamFfnWInReferenceIdeal.main_arg3))
      ∧ r.2.sem = fun _ => 0)

def quiescent_AdamMemWKv [hAdamMemWKv : Cert.AdamMemWKv.Facts] : Prop :=
  ∀ (m : (ℓ : Loc Cert.AdamMemWKv.nD Cert.AdamMemWKv.τ Cert.AdamMemWKv.sig) → Buf (Elt Bits) ℓ) (g : Dev Cert.AdamMemWKv.nD → PrngReg), Pre_AdamMemWKv m →
    θ_run (Cert.AdamMemWKv.defs (F := Bits)) (onTc (τ := Cert.AdamMemWKv.τ) (Cert.AdamMemWKv.main (F := Bits))) ⟨m, fun _ => 0, g⟩ (fun r => (∀ c : Dev Cert.AdamMemWKv.nD,
      r.2.mem ((c.tc : Thread Cert.AdamMemWKv.nD Cert.AdamMemWKv.τ).loc Cert.AdamMemWKv.main_arg0) = m ((c.tc : Thread Cert.AdamMemWKv.nD Cert.AdamMemWKv.τ).loc Cert.AdamMemWKv.main_arg0)
      ∧ r.2.mem ((c.tc : Thread Cert.AdamMemWKv.nD Cert.AdamMemWKv.τ).loc Cert.AdamMemWKv.main_arg1) = m ((c.tc : Thread Cert.AdamMemWKv.nD Cert.AdamMemWKv.τ).loc Cert.AdamMemWKv.main_arg1)
      ∧ r.2.mem ((c.tc : Thread Cert.AdamMemWKv.nD Cert.AdamMemWKv.τ).loc Cert.AdamMemWKv.main_arg2) = m ((c.tc : Thread Cert.AdamMemWKv.nD Cert.AdamMemWKv.τ).loc Cert.AdamMemWKv.main_arg2)
      ∧ r.2.mem ((c.tc : Thread Cert.AdamMemWKv.nD Cert.AdamMemWKv.τ).loc Cert.AdamMemWKv.main_arg3) = m ((c.tc : Thread Cert.AdamMemWKv.nD Cert.AdamMemWKv.τ).loc Cert.AdamMemWKv.main_arg3))
      ∧ r.2.sem = fun _ => 0)

def quiescent_AdamMemWKvIdeal [hAdamMemWKvIdeal : Cert.AdamMemWKvIdeal.Facts] : Prop :=
  ∀ (m : (ℓ : Loc Cert.AdamMemWKvIdeal.nD Cert.AdamMemWKvIdeal.τ Cert.AdamMemWKvIdeal.sig) → Buf (Elt Ideal) ℓ) (g : Dev Cert.AdamMemWKvIdeal.nD → PrngReg), Pre_AdamMemWKvIdeal m →
    θ_run (Cert.AdamMemWKvIdeal.defs (F := Ideal)) (onTc (τ := Cert.AdamMemWKvIdeal.τ) (Cert.AdamMemWKvIdeal.main (F := Ideal))) ⟨m, fun _ => 0, g⟩ (fun r => (∀ c : Dev Cert.AdamMemWKvIdeal.nD,
      r.2.mem ((c.tc : Thread Cert.AdamMemWKvIdeal.nD Cert.AdamMemWKvIdeal.τ).loc Cert.AdamMemWKvIdeal.main_arg0) = m ((c.tc : Thread Cert.AdamMemWKvIdeal.nD Cert.AdamMemWKvIdeal.τ).loc Cert.AdamMemWKvIdeal.main_arg0)
      ∧ r.2.mem ((c.tc : Thread Cert.AdamMemWKvIdeal.nD Cert.AdamMemWKvIdeal.τ).loc Cert.AdamMemWKvIdeal.main_arg1) = m ((c.tc : Thread Cert.AdamMemWKvIdeal.nD Cert.AdamMemWKvIdeal.τ).loc Cert.AdamMemWKvIdeal.main_arg1)
      ∧ r.2.mem ((c.tc : Thread Cert.AdamMemWKvIdeal.nD Cert.AdamMemWKvIdeal.τ).loc Cert.AdamMemWKvIdeal.main_arg2) = m ((c.tc : Thread Cert.AdamMemWKvIdeal.nD Cert.AdamMemWKvIdeal.τ).loc Cert.AdamMemWKvIdeal.main_arg2)
      ∧ r.2.mem ((c.tc : Thread Cert.AdamMemWKvIdeal.nD Cert.AdamMemWKvIdeal.τ).loc Cert.AdamMemWKvIdeal.main_arg3) = m ((c.tc : Thread Cert.AdamMemWKvIdeal.nD Cert.AdamMemWKvIdeal.τ).loc Cert.AdamMemWKvIdeal.main_arg3))
      ∧ r.2.sem = fun _ => 0)

def quiescent_AdamMemWKvReferenceIdeal [hAdamMemWKvReferenceIdeal : Cert.AdamMemWKvReferenceIdeal.Facts] : Prop :=
  ∀ (m : (ℓ : Loc Cert.AdamMemWKvReferenceIdeal.nD Cert.AdamMemWKvReferenceIdeal.τ Cert.AdamMemWKvReferenceIdeal.sig) → Buf (Elt Ideal) ℓ) (g : Dev Cert.AdamMemWKvReferenceIdeal.nD → PrngReg), Pre_AdamMemWKvReferenceIdeal m →
    θ_run (Cert.AdamMemWKvReferenceIdeal.defs (F := Ideal)) (onTc (τ := Cert.AdamMemWKvReferenceIdeal.τ) (Cert.AdamMemWKvReferenceIdeal.main (F := Ideal))) ⟨m, fun _ => 0, g⟩ (fun r => (∀ c : Dev Cert.AdamMemWKvReferenceIdeal.nD,
      r.2.mem ((c.tc : Thread Cert.AdamMemWKvReferenceIdeal.nD Cert.AdamMemWKvReferenceIdeal.τ).loc Cert.AdamMemWKvReferenceIdeal.main_arg0) = m ((c.tc : Thread Cert.AdamMemWKvReferenceIdeal.nD Cert.AdamMemWKvReferenceIdeal.τ).loc Cert.AdamMemWKvReferenceIdeal.main_arg0)
      ∧ r.2.mem ((c.tc : Thread Cert.AdamMemWKvReferenceIdeal.nD Cert.AdamMemWKvReferenceIdeal.τ).loc Cert.AdamMemWKvReferenceIdeal.main_arg1) = m ((c.tc : Thread Cert.AdamMemWKvReferenceIdeal.nD Cert.AdamMemWKvReferenceIdeal.τ).loc Cert.AdamMemWKvReferenceIdeal.main_arg1)
      ∧ r.2.mem ((c.tc : Thread Cert.AdamMemWKvReferenceIdeal.nD Cert.AdamMemWKvReferenceIdeal.τ).loc Cert.AdamMemWKvReferenceIdeal.main_arg2) = m ((c.tc : Thread Cert.AdamMemWKvReferenceIdeal.nD Cert.AdamMemWKvReferenceIdeal.τ).loc Cert.AdamMemWKvReferenceIdeal.main_arg2)
      ∧ r.2.mem ((c.tc : Thread Cert.AdamMemWKvReferenceIdeal.nD Cert.AdamMemWKvReferenceIdeal.τ).loc Cert.AdamMemWKvReferenceIdeal.main_arg3) = m ((c.tc : Thread Cert.AdamMemWKvReferenceIdeal.nD Cert.AdamMemWKvReferenceIdeal.τ).loc Cert.AdamMemWKvReferenceIdeal.main_arg3))
      ∧ r.2.sem = fun _ => 0)

def quiescent_AdamWBr [hAdamWBr : Cert.AdamWBr.Facts] : Prop :=
  ∀ (m : (ℓ : Loc Cert.AdamWBr.nD Cert.AdamWBr.τ Cert.AdamWBr.sig) → Buf (Elt Bits) ℓ) (g : Dev Cert.AdamWBr.nD → PrngReg), Pre_AdamWBr m →
    θ_run (Cert.AdamWBr.defs (F := Bits)) (onTc (τ := Cert.AdamWBr.τ) (Cert.AdamWBr.main (F := Bits))) ⟨m, fun _ => 0, g⟩ (fun r => (∀ c : Dev Cert.AdamWBr.nD,
      r.2.mem ((c.tc : Thread Cert.AdamWBr.nD Cert.AdamWBr.τ).loc Cert.AdamWBr.main_arg0) = m ((c.tc : Thread Cert.AdamWBr.nD Cert.AdamWBr.τ).loc Cert.AdamWBr.main_arg0)
      ∧ r.2.mem ((c.tc : Thread Cert.AdamWBr.nD Cert.AdamWBr.τ).loc Cert.AdamWBr.main_arg1) = m ((c.tc : Thread Cert.AdamWBr.nD Cert.AdamWBr.τ).loc Cert.AdamWBr.main_arg1)
      ∧ r.2.mem ((c.tc : Thread Cert.AdamWBr.nD Cert.AdamWBr.τ).loc Cert.AdamWBr.main_arg2) = m ((c.tc : Thread Cert.AdamWBr.nD Cert.AdamWBr.τ).loc Cert.AdamWBr.main_arg2)
      ∧ r.2.mem ((c.tc : Thread Cert.AdamWBr.nD Cert.AdamWBr.τ).loc Cert.AdamWBr.main_arg3) = m ((c.tc : Thread Cert.AdamWBr.nD Cert.AdamWBr.τ).loc Cert.AdamWBr.main_arg3))
      ∧ r.2.sem = fun _ => 0)

def quiescent_AdamWBrIdeal [hAdamWBrIdeal : Cert.AdamWBrIdeal.Facts] : Prop :=
  ∀ (m : (ℓ : Loc Cert.AdamWBrIdeal.nD Cert.AdamWBrIdeal.τ Cert.AdamWBrIdeal.sig) → Buf (Elt Ideal) ℓ) (g : Dev Cert.AdamWBrIdeal.nD → PrngReg), Pre_AdamWBrIdeal m →
    θ_run (Cert.AdamWBrIdeal.defs (F := Ideal)) (onTc (τ := Cert.AdamWBrIdeal.τ) (Cert.AdamWBrIdeal.main (F := Ideal))) ⟨m, fun _ => 0, g⟩ (fun r => (∀ c : Dev Cert.AdamWBrIdeal.nD,
      r.2.mem ((c.tc : Thread Cert.AdamWBrIdeal.nD Cert.AdamWBrIdeal.τ).loc Cert.AdamWBrIdeal.main_arg0) = m ((c.tc : Thread Cert.AdamWBrIdeal.nD Cert.AdamWBrIdeal.τ).loc Cert.AdamWBrIdeal.main_arg0)
      ∧ r.2.mem ((c.tc : Thread Cert.AdamWBrIdeal.nD Cert.AdamWBrIdeal.τ).loc Cert.AdamWBrIdeal.main_arg1) = m ((c.tc : Thread Cert.AdamWBrIdeal.nD Cert.AdamWBrIdeal.τ).loc Cert.AdamWBrIdeal.main_arg1)
      ∧ r.2.mem ((c.tc : Thread Cert.AdamWBrIdeal.nD Cert.AdamWBrIdeal.τ).loc Cert.AdamWBrIdeal.main_arg2) = m ((c.tc : Thread Cert.AdamWBrIdeal.nD Cert.AdamWBrIdeal.τ).loc Cert.AdamWBrIdeal.main_arg2)
      ∧ r.2.mem ((c.tc : Thread Cert.AdamWBrIdeal.nD Cert.AdamWBrIdeal.τ).loc Cert.AdamWBrIdeal.main_arg3) = m ((c.tc : Thread Cert.AdamWBrIdeal.nD Cert.AdamWBrIdeal.τ).loc Cert.AdamWBrIdeal.main_arg3))
      ∧ r.2.sem = fun _ => 0)

def quiescent_AdamWBrReferenceIdeal [hAdamWBrReferenceIdeal : Cert.AdamWBrReferenceIdeal.Facts] : Prop :=
  ∀ (m : (ℓ : Loc Cert.AdamWBrReferenceIdeal.nD Cert.AdamWBrReferenceIdeal.τ Cert.AdamWBrReferenceIdeal.sig) → Buf (Elt Ideal) ℓ) (g : Dev Cert.AdamWBrReferenceIdeal.nD → PrngReg), Pre_AdamWBrReferenceIdeal m →
    θ_run (Cert.AdamWBrReferenceIdeal.defs (F := Ideal)) (onTc (τ := Cert.AdamWBrReferenceIdeal.τ) (Cert.AdamWBrReferenceIdeal.main (F := Ideal))) ⟨m, fun _ => 0, g⟩ (fun r => (∀ c : Dev Cert.AdamWBrReferenceIdeal.nD,
      r.2.mem ((c.tc : Thread Cert.AdamWBrReferenceIdeal.nD Cert.AdamWBrReferenceIdeal.τ).loc Cert.AdamWBrReferenceIdeal.main_arg0) = m ((c.tc : Thread Cert.AdamWBrReferenceIdeal.nD Cert.AdamWBrReferenceIdeal.τ).loc Cert.AdamWBrReferenceIdeal.main_arg0)
      ∧ r.2.mem ((c.tc : Thread Cert.AdamWBrReferenceIdeal.nD Cert.AdamWBrReferenceIdeal.τ).loc Cert.AdamWBrReferenceIdeal.main_arg1) = m ((c.tc : Thread Cert.AdamWBrReferenceIdeal.nD Cert.AdamWBrReferenceIdeal.τ).loc Cert.AdamWBrReferenceIdeal.main_arg1)
      ∧ r.2.mem ((c.tc : Thread Cert.AdamWBrReferenceIdeal.nD Cert.AdamWBrReferenceIdeal.τ).loc Cert.AdamWBrReferenceIdeal.main_arg2) = m ((c.tc : Thread Cert.AdamWBrReferenceIdeal.nD Cert.AdamWBrReferenceIdeal.τ).loc Cert.AdamWBrReferenceIdeal.main_arg2)
      ∧ r.2.mem ((c.tc : Thread Cert.AdamWBrReferenceIdeal.nD Cert.AdamWBrReferenceIdeal.τ).loc Cert.AdamWBrReferenceIdeal.main_arg3) = m ((c.tc : Thread Cert.AdamWBrReferenceIdeal.nD Cert.AdamWBrReferenceIdeal.τ).loc Cert.AdamWBrReferenceIdeal.main_arg3))
      ∧ r.2.sem = fun _ => 0)

def quiescent_AdamWBrSsd [hAdamWBrSsd : Cert.AdamWBrSsd.Facts] : Prop :=
  ∀ (m : (ℓ : Loc Cert.AdamWBrSsd.nD Cert.AdamWBrSsd.τ Cert.AdamWBrSsd.sig) → Buf (Elt Bits) ℓ) (g : Dev Cert.AdamWBrSsd.nD → PrngReg), Pre_AdamWBrSsd m →
    θ_run (Cert.AdamWBrSsd.defs (F := Bits)) (onTc (τ := Cert.AdamWBrSsd.τ) (Cert.AdamWBrSsd.main (F := Bits))) ⟨m, fun _ => 0, g⟩ (fun r => (∀ c : Dev Cert.AdamWBrSsd.nD,
      r.2.mem ((c.tc : Thread Cert.AdamWBrSsd.nD Cert.AdamWBrSsd.τ).loc Cert.AdamWBrSsd.main_arg0) = m ((c.tc : Thread Cert.AdamWBrSsd.nD Cert.AdamWBrSsd.τ).loc Cert.AdamWBrSsd.main_arg0)
      ∧ r.2.mem ((c.tc : Thread Cert.AdamWBrSsd.nD Cert.AdamWBrSsd.τ).loc Cert.AdamWBrSsd.main_arg1) = m ((c.tc : Thread Cert.AdamWBrSsd.nD Cert.AdamWBrSsd.τ).loc Cert.AdamWBrSsd.main_arg1)
      ∧ r.2.mem ((c.tc : Thread Cert.AdamWBrSsd.nD Cert.AdamWBrSsd.τ).loc Cert.AdamWBrSsd.main_arg2) = m ((c.tc : Thread Cert.AdamWBrSsd.nD Cert.AdamWBrSsd.τ).loc Cert.AdamWBrSsd.main_arg2)
      ∧ r.2.mem ((c.tc : Thread Cert.AdamWBrSsd.nD Cert.AdamWBrSsd.τ).loc Cert.AdamWBrSsd.main_arg3) = m ((c.tc : Thread Cert.AdamWBrSsd.nD Cert.AdamWBrSsd.τ).loc Cert.AdamWBrSsd.main_arg3))
      ∧ r.2.sem = fun _ => 0)

def quiescent_AdamWBrSsdIdeal [hAdamWBrSsdIdeal : Cert.AdamWBrSsdIdeal.Facts] : Prop :=
  ∀ (m : (ℓ : Loc Cert.AdamWBrSsdIdeal.nD Cert.AdamWBrSsdIdeal.τ Cert.AdamWBrSsdIdeal.sig) → Buf (Elt Ideal) ℓ) (g : Dev Cert.AdamWBrSsdIdeal.nD → PrngReg), Pre_AdamWBrSsdIdeal m →
    θ_run (Cert.AdamWBrSsdIdeal.defs (F := Ideal)) (onTc (τ := Cert.AdamWBrSsdIdeal.τ) (Cert.AdamWBrSsdIdeal.main (F := Ideal))) ⟨m, fun _ => 0, g⟩ (fun r => (∀ c : Dev Cert.AdamWBrSsdIdeal.nD,
      r.2.mem ((c.tc : Thread Cert.AdamWBrSsdIdeal.nD Cert.AdamWBrSsdIdeal.τ).loc Cert.AdamWBrSsdIdeal.main_arg0) = m ((c.tc : Thread Cert.AdamWBrSsdIdeal.nD Cert.AdamWBrSsdIdeal.τ).loc Cert.AdamWBrSsdIdeal.main_arg0)
      ∧ r.2.mem ((c.tc : Thread Cert.AdamWBrSsdIdeal.nD Cert.AdamWBrSsdIdeal.τ).loc Cert.AdamWBrSsdIdeal.main_arg1) = m ((c.tc : Thread Cert.AdamWBrSsdIdeal.nD Cert.AdamWBrSsdIdeal.τ).loc Cert.AdamWBrSsdIdeal.main_arg1)
      ∧ r.2.mem ((c.tc : Thread Cert.AdamWBrSsdIdeal.nD Cert.AdamWBrSsdIdeal.τ).loc Cert.AdamWBrSsdIdeal.main_arg2) = m ((c.tc : Thread Cert.AdamWBrSsdIdeal.nD Cert.AdamWBrSsdIdeal.τ).loc Cert.AdamWBrSsdIdeal.main_arg2)
      ∧ r.2.mem ((c.tc : Thread Cert.AdamWBrSsdIdeal.nD Cert.AdamWBrSsdIdeal.τ).loc Cert.AdamWBrSsdIdeal.main_arg3) = m ((c.tc : Thread Cert.AdamWBrSsdIdeal.nD Cert.AdamWBrSsdIdeal.τ).loc Cert.AdamWBrSsdIdeal.main_arg3))
      ∧ r.2.sem = fun _ => 0)

def quiescent_AdamWBrSsdReferenceIdeal [hAdamWBrSsdReferenceIdeal : Cert.AdamWBrSsdReferenceIdeal.Facts] : Prop :=
  ∀ (m : (ℓ : Loc Cert.AdamWBrSsdReferenceIdeal.nD Cert.AdamWBrSsdReferenceIdeal.τ Cert.AdamWBrSsdReferenceIdeal.sig) → Buf (Elt Ideal) ℓ) (g : Dev Cert.AdamWBrSsdReferenceIdeal.nD → PrngReg), Pre_AdamWBrSsdReferenceIdeal m →
    θ_run (Cert.AdamWBrSsdReferenceIdeal.defs (F := Ideal)) (onTc (τ := Cert.AdamWBrSsdReferenceIdeal.τ) (Cert.AdamWBrSsdReferenceIdeal.main (F := Ideal))) ⟨m, fun _ => 0, g⟩ (fun r => (∀ c : Dev Cert.AdamWBrSsdReferenceIdeal.nD,
      r.2.mem ((c.tc : Thread Cert.AdamWBrSsdReferenceIdeal.nD Cert.AdamWBrSsdReferenceIdeal.τ).loc Cert.AdamWBrSsdReferenceIdeal.main_arg0) = m ((c.tc : Thread Cert.AdamWBrSsdReferenceIdeal.nD Cert.AdamWBrSsdReferenceIdeal.τ).loc Cert.AdamWBrSsdReferenceIdeal.main_arg0)
      ∧ r.2.mem ((c.tc : Thread Cert.AdamWBrSsdReferenceIdeal.nD Cert.AdamWBrSsdReferenceIdeal.τ).loc Cert.AdamWBrSsdReferenceIdeal.main_arg1) = m ((c.tc : Thread Cert.AdamWBrSsdReferenceIdeal.nD Cert.AdamWBrSsdReferenceIdeal.τ).loc Cert.AdamWBrSsdReferenceIdeal.main_arg1)
      ∧ r.2.mem ((c.tc : Thread Cert.AdamWBrSsdReferenceIdeal.nD Cert.AdamWBrSsdReferenceIdeal.τ).loc Cert.AdamWBrSsdReferenceIdeal.main_arg2) = m ((c.tc : Thread Cert.AdamWBrSsdReferenceIdeal.nD Cert.AdamWBrSsdReferenceIdeal.τ).loc Cert.AdamWBrSsdReferenceIdeal.main_arg2)
      ∧ r.2.mem ((c.tc : Thread Cert.AdamWBrSsdReferenceIdeal.nD Cert.AdamWBrSsdReferenceIdeal.τ).loc Cert.AdamWBrSsdReferenceIdeal.main_arg3) = m ((c.tc : Thread Cert.AdamWBrSsdReferenceIdeal.nD Cert.AdamWBrSsdReferenceIdeal.τ).loc Cert.AdamWBrSsdReferenceIdeal.main_arg3))
      ∧ r.2.sem = fun _ => 0)

def quiescent_AdamFfnWDown [hAdamFfnWDown : Cert.AdamFfnWDown.Facts] : Prop :=
  ∀ (m : (ℓ : Loc Cert.AdamFfnWDown.nD Cert.AdamFfnWDown.τ Cert.AdamFfnWDown.sig) → Buf (Elt Bits) ℓ) (g : Dev Cert.AdamFfnWDown.nD → PrngReg), Pre_AdamFfnWDown m →
    θ_run (Cert.AdamFfnWDown.defs (F := Bits)) (onTc (τ := Cert.AdamFfnWDown.τ) (Cert.AdamFfnWDown.main (F := Bits))) ⟨m, fun _ => 0, g⟩ (fun r => (∀ c : Dev Cert.AdamFfnWDown.nD,
      r.2.mem ((c.tc : Thread Cert.AdamFfnWDown.nD Cert.AdamFfnWDown.τ).loc Cert.AdamFfnWDown.main_arg0) = m ((c.tc : Thread Cert.AdamFfnWDown.nD Cert.AdamFfnWDown.τ).loc Cert.AdamFfnWDown.main_arg0)
      ∧ r.2.mem ((c.tc : Thread Cert.AdamFfnWDown.nD Cert.AdamFfnWDown.τ).loc Cert.AdamFfnWDown.main_arg1) = m ((c.tc : Thread Cert.AdamFfnWDown.nD Cert.AdamFfnWDown.τ).loc Cert.AdamFfnWDown.main_arg1)
      ∧ r.2.mem ((c.tc : Thread Cert.AdamFfnWDown.nD Cert.AdamFfnWDown.τ).loc Cert.AdamFfnWDown.main_arg2) = m ((c.tc : Thread Cert.AdamFfnWDown.nD Cert.AdamFfnWDown.τ).loc Cert.AdamFfnWDown.main_arg2)
      ∧ r.2.mem ((c.tc : Thread Cert.AdamFfnWDown.nD Cert.AdamFfnWDown.τ).loc Cert.AdamFfnWDown.main_arg3) = m ((c.tc : Thread Cert.AdamFfnWDown.nD Cert.AdamFfnWDown.τ).loc Cert.AdamFfnWDown.main_arg3))
      ∧ r.2.sem = fun _ => 0)

def quiescent_AdamFfnWDownIdeal [hAdamFfnWDownIdeal : Cert.AdamFfnWDownIdeal.Facts] : Prop :=
  ∀ (m : (ℓ : Loc Cert.AdamFfnWDownIdeal.nD Cert.AdamFfnWDownIdeal.τ Cert.AdamFfnWDownIdeal.sig) → Buf (Elt Ideal) ℓ) (g : Dev Cert.AdamFfnWDownIdeal.nD → PrngReg), Pre_AdamFfnWDownIdeal m →
    θ_run (Cert.AdamFfnWDownIdeal.defs (F := Ideal)) (onTc (τ := Cert.AdamFfnWDownIdeal.τ) (Cert.AdamFfnWDownIdeal.main (F := Ideal))) ⟨m, fun _ => 0, g⟩ (fun r => (∀ c : Dev Cert.AdamFfnWDownIdeal.nD,
      r.2.mem ((c.tc : Thread Cert.AdamFfnWDownIdeal.nD Cert.AdamFfnWDownIdeal.τ).loc Cert.AdamFfnWDownIdeal.main_arg0) = m ((c.tc : Thread Cert.AdamFfnWDownIdeal.nD Cert.AdamFfnWDownIdeal.τ).loc Cert.AdamFfnWDownIdeal.main_arg0)
      ∧ r.2.mem ((c.tc : Thread Cert.AdamFfnWDownIdeal.nD Cert.AdamFfnWDownIdeal.τ).loc Cert.AdamFfnWDownIdeal.main_arg1) = m ((c.tc : Thread Cert.AdamFfnWDownIdeal.nD Cert.AdamFfnWDownIdeal.τ).loc Cert.AdamFfnWDownIdeal.main_arg1)
      ∧ r.2.mem ((c.tc : Thread Cert.AdamFfnWDownIdeal.nD Cert.AdamFfnWDownIdeal.τ).loc Cert.AdamFfnWDownIdeal.main_arg2) = m ((c.tc : Thread Cert.AdamFfnWDownIdeal.nD Cert.AdamFfnWDownIdeal.τ).loc Cert.AdamFfnWDownIdeal.main_arg2)
      ∧ r.2.mem ((c.tc : Thread Cert.AdamFfnWDownIdeal.nD Cert.AdamFfnWDownIdeal.τ).loc Cert.AdamFfnWDownIdeal.main_arg3) = m ((c.tc : Thread Cert.AdamFfnWDownIdeal.nD Cert.AdamFfnWDownIdeal.τ).loc Cert.AdamFfnWDownIdeal.main_arg3))
      ∧ r.2.sem = fun _ => 0)

def quiescent_AdamFfnWDownReferenceIdeal [hAdamFfnWDownReferenceIdeal : Cert.AdamFfnWDownReferenceIdeal.Facts] : Prop :=
  ∀ (m : (ℓ : Loc Cert.AdamFfnWDownReferenceIdeal.nD Cert.AdamFfnWDownReferenceIdeal.τ Cert.AdamFfnWDownReferenceIdeal.sig) → Buf (Elt Ideal) ℓ) (g : Dev Cert.AdamFfnWDownReferenceIdeal.nD → PrngReg), Pre_AdamFfnWDownReferenceIdeal m →
    θ_run (Cert.AdamFfnWDownReferenceIdeal.defs (F := Ideal)) (onTc (τ := Cert.AdamFfnWDownReferenceIdeal.τ) (Cert.AdamFfnWDownReferenceIdeal.main (F := Ideal))) ⟨m, fun _ => 0, g⟩ (fun r => (∀ c : Dev Cert.AdamFfnWDownReferenceIdeal.nD,
      r.2.mem ((c.tc : Thread Cert.AdamFfnWDownReferenceIdeal.nD Cert.AdamFfnWDownReferenceIdeal.τ).loc Cert.AdamFfnWDownReferenceIdeal.main_arg0) = m ((c.tc : Thread Cert.AdamFfnWDownReferenceIdeal.nD Cert.AdamFfnWDownReferenceIdeal.τ).loc Cert.AdamFfnWDownReferenceIdeal.main_arg0)
      ∧ r.2.mem ((c.tc : Thread Cert.AdamFfnWDownReferenceIdeal.nD Cert.AdamFfnWDownReferenceIdeal.τ).loc Cert.AdamFfnWDownReferenceIdeal.main_arg1) = m ((c.tc : Thread Cert.AdamFfnWDownReferenceIdeal.nD Cert.AdamFfnWDownReferenceIdeal.τ).loc Cert.AdamFfnWDownReferenceIdeal.main_arg1)
      ∧ r.2.mem ((c.tc : Thread Cert.AdamFfnWDownReferenceIdeal.nD Cert.AdamFfnWDownReferenceIdeal.τ).loc Cert.AdamFfnWDownReferenceIdeal.main_arg2) = m ((c.tc : Thread Cert.AdamFfnWDownReferenceIdeal.nD Cert.AdamFfnWDownReferenceIdeal.τ).loc Cert.AdamFfnWDownReferenceIdeal.main_arg2)
      ∧ r.2.mem ((c.tc : Thread Cert.AdamFfnWDownReferenceIdeal.nD Cert.AdamFfnWDownReferenceIdeal.τ).loc Cert.AdamFfnWDownReferenceIdeal.main_arg3) = m ((c.tc : Thread Cert.AdamFfnWDownReferenceIdeal.nD Cert.AdamFfnWDownReferenceIdeal.τ).loc Cert.AdamFfnWDownReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradReferenceIdeal [hLossGradReferenceIdeal : Cert.LossGradReferenceIdeal.Facts] : Prop :=
  ∀ (m : (ℓ : Loc Cert.LossGradReferenceIdeal.nD Cert.LossGradReferenceIdeal.τ Cert.LossGradReferenceIdeal.sig) → Buf (Elt Ideal) ℓ) (g : Dev Cert.LossGradReferenceIdeal.nD → PrngReg), Pre_LossGradReferenceIdeal m →
    θ_run (Cert.LossGradReferenceIdeal.defs (F := Ideal)) (onTc (τ := Cert.LossGradReferenceIdeal.τ) (Cert.LossGradReferenceIdeal.main (F := Ideal))) ⟨m, fun _ => 0, g⟩ (fun r => (∀ c : Dev Cert.LossGradReferenceIdeal.nD,
      r.2.mem ((c.tc : Thread Cert.LossGradReferenceIdeal.nD Cert.LossGradReferenceIdeal.τ).loc Cert.LossGradReferenceIdeal.main_arg0) = m ((c.tc : Thread Cert.LossGradReferenceIdeal.nD Cert.LossGradReferenceIdeal.τ).loc Cert.LossGradReferenceIdeal.main_arg0)
      ∧ r.2.mem ((c.tc : Thread Cert.LossGradReferenceIdeal.nD Cert.LossGradReferenceIdeal.τ).loc Cert.LossGradReferenceIdeal.main_arg1) = m ((c.tc : Thread Cert.LossGradReferenceIdeal.nD Cert.LossGradReferenceIdeal.τ).loc Cert.LossGradReferenceIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4))
      ∧ r.2.sem = fun _ => 0)

def quiescent_NormBwdReferenceIdeal_pre_finite_norm [hNormBwdReferenceIdeal : Cert.NormBwdReferenceIdeal.Facts] [hPre_finite_norm : Cert.Pre_finite_norm.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal_finite_norm m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ r.2.sem = fun _ => 0)

def quiescent_SwigluFwdReferenceIdeal [hSwigluFwdReferenceIdeal : Cert.SwigluFwdReferenceIdeal.Facts] : Prop :=
  ∀ (m : (ℓ : Loc Cert.SwigluFwdReferenceIdeal.nD Cert.SwigluFwdReferenceIdeal.τ Cert.SwigluFwdReferenceIdeal.sig) → Buf (Elt Ideal) ℓ) (g : Dev Cert.SwigluFwdReferenceIdeal.nD → PrngReg), Pre_SwigluFwdReferenceIdeal m →
    θ_run (Cert.SwigluFwdReferenceIdeal.defs (F := Ideal)) (onTc (τ := Cert.SwigluFwdReferenceIdeal.τ) (Cert.SwigluFwdReferenceIdeal.main (F := Ideal))) ⟨m, fun _ => 0, g⟩ (fun r => (∀ c : Dev Cert.SwigluFwdReferenceIdeal.nD,
      r.2.mem ((c.tc : Thread Cert.SwigluFwdReferenceIdeal.nD Cert.SwigluFwdReferenceIdeal.τ).loc Cert.SwigluFwdReferenceIdeal.main_arg0) = m ((c.tc : Thread Cert.SwigluFwdReferenceIdeal.nD Cert.SwigluFwdReferenceIdeal.τ).loc Cert.SwigluFwdReferenceIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdReferenceIdeal [hLnFwdReferenceIdeal : Cert.LnFwdReferenceIdeal.Facts] : Prop :=
  ∀ (m : (ℓ : Loc Cert.LnFwdReferenceIdeal.nD Cert.LnFwdReferenceIdeal.τ Cert.LnFwdReferenceIdeal.sig) → Buf (Elt Ideal) ℓ) (g : Dev Cert.LnFwdReferenceIdeal.nD → PrngReg), Pre_LnFwdReferenceIdeal m →
    θ_run (Cert.LnFwdReferenceIdeal.defs (F := Ideal)) (onTc (τ := Cert.LnFwdReferenceIdeal.τ) (Cert.LnFwdReferenceIdeal.main (F := Ideal))) ⟨m, fun _ => 0, g⟩ (fun r => (∀ c : Dev Cert.LnFwdReferenceIdeal.nD,
      r.2.mem ((c.tc : Thread Cert.LnFwdReferenceIdeal.nD Cert.LnFwdReferenceIdeal.τ).loc Cert.LnFwdReferenceIdeal.main_arg0) = m ((c.tc : Thread Cert.LnFwdReferenceIdeal.nD Cert.LnFwdReferenceIdeal.τ).loc Cert.LnFwdReferenceIdeal.main_arg0)
      ∧ r.2.mem ((c.tc : Thread Cert.LnFwdReferenceIdeal.nD Cert.LnFwdReferenceIdeal.τ).loc Cert.LnFwdReferenceIdeal.main_arg1) = m ((c.tc : Thread Cert.LnFwdReferenceIdeal.nD Cert.LnFwdReferenceIdeal.τ).loc Cert.LnFwdReferenceIdeal.main_arg1)
      ∧ r.2.mem ((c.tc : Thread Cert.LnFwdReferenceIdeal.nD Cert.LnFwdReferenceIdeal.τ).loc Cert.LnFwdReferenceIdeal.main_arg2) = m ((c.tc : Thread Cert.LnFwdReferenceIdeal.nD Cert.LnFwdReferenceIdeal.τ).loc Cert.LnFwdReferenceIdeal.main_arg2)
      ∧ r.2.mem ((c.tc : Thread Cert.LnFwdReferenceIdeal.nD Cert.LnFwdReferenceIdeal.τ).loc Cert.LnFwdReferenceIdeal.main_arg3) = m ((c.tc : Thread Cert.LnFwdReferenceIdeal.nD Cert.LnFwdReferenceIdeal.τ).loc Cert.LnFwdReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v7) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_BrLru_BrLruIdeal : Prop :=
  True

def algebraic_BrLruIdeal_BrLruReferenceIdeal [hBrLruIdeal : Cert.BrLruIdeal.Facts] [hBrLruReferenceIdeal : Cert.BrLruReferenceIdeal.Facts] : Prop :=
  ∀ (m : (ℓ : Loc Cert.BrLruIdeal.nD Cert.BrLruIdeal.τ Cert.BrLruIdeal.sig) → Buf (Elt Ideal) ℓ) (g : Dev Cert.BrLruIdeal.nD → PrngReg)
    (m' : (ℓ : Loc Cert.BrLruReferenceIdeal.nD Cert.BrLruReferenceIdeal.τ Cert.BrLruReferenceIdeal.sig) → Buf (Elt Ideal) ℓ) (g' : Dev Cert.BrLruReferenceIdeal.nD → PrngReg), Pre_BrLruIdeal m →
    (∀ c : Dev Cert.BrLruIdeal.nD,
      m' ((c.tc : Thread Cert.BrLruReferenceIdeal.nD Cert.BrLruReferenceIdeal.τ).loc Cert.BrLruReferenceIdeal.main_arg0) = m ((c.tc : Thread Cert.BrLruIdeal.nD Cert.BrLruIdeal.τ).loc Cert.BrLruIdeal.main_arg0)
      ∧ m' ((c.tc : Thread Cert.BrLruReferenceIdeal.nD Cert.BrLruReferenceIdeal.τ).loc Cert.BrLruReferenceIdeal.main_arg1) = m ((c.tc : Thread Cert.BrLruIdeal.nD Cert.BrLruIdeal.τ).loc Cert.BrLruIdeal.main_arg1)) →
    ∃ (v0 : (c : Dev Cert.BrLruIdeal.nD) → Buf (Elt Ideal) ((c.tc : Thread Cert.BrLruIdeal.nD Cert.BrLruIdeal.τ).loc Cert.BrLruIdeal.main_v0)),
      θ_run (Cert.BrLruIdeal.defs (F := Ideal)) (onTc (τ := Cert.BrLruIdeal.τ) (Cert.BrLruIdeal.main (F := Ideal))) ⟨m, fun _ => 0, g⟩ (fun r => ∀ c : Dev Cert.BrLruIdeal.nD,
          r.2.mem ((c.tc : Thread Cert.BrLruIdeal.nD Cert.BrLruIdeal.τ).loc Cert.BrLruIdeal.main_v0) = v0 c
          ∧ r.2.mem ((c.tc : Thread Cert.BrLruIdeal.nD Cert.BrLruIdeal.τ).loc Cert.BrLruIdeal.main_arg0) = m ((c.tc : Thread Cert.BrLruIdeal.nD Cert.BrLruIdeal.τ).loc Cert.BrLruIdeal.main_arg0)
          ∧ r.2.mem ((c.tc : Thread Cert.BrLruIdeal.nD Cert.BrLruIdeal.τ).loc Cert.BrLruIdeal.main_arg1) = m ((c.tc : Thread Cert.BrLruIdeal.nD Cert.BrLruIdeal.τ).loc Cert.BrLruIdeal.main_arg1))
      ∧ θ_run (Cert.BrLruReferenceIdeal.defs (F := Ideal)) (onTc (τ := Cert.BrLruReferenceIdeal.τ) (Cert.BrLruReferenceIdeal.main (F := Ideal))) ⟨m', fun _ => 0, g'⟩ (fun r => ∀ c : Dev Cert.BrLruReferenceIdeal.nD,
          r.2.mem ((c.tc : Thread Cert.BrLruReferenceIdeal.nD Cert.BrLruReferenceIdeal.τ).loc Cert.BrLruReferenceIdeal.main_v3) = v0 c
          ∧ r.2.mem ((c.tc : Thread Cert.BrLruReferenceIdeal.nD Cert.BrLruReferenceIdeal.τ).loc Cert.BrLruReferenceIdeal.main_arg0) = m' ((c.tc : Thread Cert.BrLruReferenceIdeal.nD Cert.BrLruReferenceIdeal.τ).loc Cert.BrLruReferenceIdeal.main_arg0)
          ∧ r.2.mem ((c.tc : Thread Cert.BrLruReferenceIdeal.nD Cert.BrLruReferenceIdeal.τ).loc Cert.BrLruReferenceIdeal.main_arg1) = m' ((c.tc : Thread Cert.BrLruReferenceIdeal.nD Cert.BrLruReferenceIdeal.τ).loc Cert.BrLruReferenceIdeal.main_arg1))

def preserves_DYlru_DYlruIdeal : Prop :=
  True

def algebraic_DYlruIdeal_DYlruReferenceIdeal [hDYlruIdeal : Cert.DYlruIdeal.Facts] [hDYlruReferenceIdeal : Cert.DYlruReferenceIdeal.Facts] : Prop :=
  ∀ (m : (ℓ : Loc Cert.DYlruIdeal.nD Cert.DYlruIdeal.τ Cert.DYlruIdeal.sig) → Buf (Elt Ideal) ℓ) (g : Dev Cert.DYlruIdeal.nD → PrngReg)
    (m' : (ℓ : Loc Cert.DYlruReferenceIdeal.nD Cert.DYlruReferenceIdeal.τ Cert.DYlruReferenceIdeal.sig) → Buf (Elt Ideal) ℓ) (g' : Dev Cert.DYlruReferenceIdeal.nD → PrngReg), Pre_DYlruIdeal m →
    (∀ c : Dev Cert.DYlruIdeal.nD,
      m' ((c.tc : Thread Cert.DYlruReferenceIdeal.nD Cert.DYlruReferenceIdeal.τ).loc Cert.DYlruReferenceIdeal.main_arg0) = m ((c.tc : Thread Cert.DYlruIdeal.nD Cert.DYlruIdeal.τ).loc Cert.DYlruIdeal.main_arg0)
      ∧ m' ((c.tc : Thread Cert.DYlruReferenceIdeal.nD Cert.DYlruReferenceIdeal.τ).loc Cert.DYlruReferenceIdeal.main_arg1) = m ((c.tc : Thread Cert.DYlruIdeal.nD Cert.DYlruIdeal.τ).loc Cert.DYlruIdeal.main_arg1)) →
    ∃ (v0 : (c : Dev Cert.DYlruIdeal.nD) → Buf (Elt Ideal) ((c.tc : Thread Cert.DYlruIdeal.nD Cert.DYlruIdeal.τ).loc Cert.DYlruIdeal.main_v0)),
      θ_run (Cert.DYlruIdeal.defs (F := Ideal)) (onTc (τ := Cert.DYlruIdeal.τ) (Cert.DYlruIdeal.main (F := Ideal))) ⟨m, fun _ => 0, g⟩ (fun r => ∀ c : Dev Cert.DYlruIdeal.nD,
          r.2.mem ((c.tc : Thread Cert.DYlruIdeal.nD Cert.DYlruIdeal.τ).loc Cert.DYlruIdeal.main_v0) = v0 c
          ∧ r.2.mem ((c.tc : Thread Cert.DYlruIdeal.nD Cert.DYlruIdeal.τ).loc Cert.DYlruIdeal.main_arg0) = m ((c.tc : Thread Cert.DYlruIdeal.nD Cert.DYlruIdeal.τ).loc Cert.DYlruIdeal.main_arg0)
          ∧ r.2.mem ((c.tc : Thread Cert.DYlruIdeal.nD Cert.DYlruIdeal.τ).loc Cert.DYlruIdeal.main_arg1) = m ((c.tc : Thread Cert.DYlruIdeal.nD Cert.DYlruIdeal.τ).loc Cert.DYlruIdeal.main_arg1))
      ∧ θ_run (Cert.DYlruReferenceIdeal.defs (F := Ideal)) (onTc (τ := Cert.DYlruReferenceIdeal.τ) (Cert.DYlruReferenceIdeal.main (F := Ideal))) ⟨m', fun _ => 0, g'⟩ (fun r => ∀ c : Dev Cert.DYlruReferenceIdeal.nD,
          r.2.mem ((c.tc : Thread Cert.DYlruReferenceIdeal.nD Cert.DYlruReferenceIdeal.τ).loc Cert.DYlruReferenceIdeal.main_v5) = v0 c
          ∧ r.2.mem ((c.tc : Thread Cert.DYlruReferenceIdeal.nD Cert.DYlruReferenceIdeal.τ).loc Cert.DYlruReferenceIdeal.main_arg0) = m' ((c.tc : Thread Cert.DYlruReferenceIdeal.nD Cert.DYlruReferenceIdeal.τ).loc Cert.DYlruReferenceIdeal.main_arg0)
          ∧ r.2.mem ((c.tc : Thread Cert.DYlruReferenceIdeal.nD Cert.DYlruReferenceIdeal.τ).loc Cert.DYlruReferenceIdeal.main_arg1) = m' ((c.tc : Thread Cert.DYlruReferenceIdeal.nD Cert.DYlruReferenceIdeal.τ).loc Cert.DYlruReferenceIdeal.main_arg1))

def preserves_BrSsd_BrSsdIdeal : Prop :=
  True

def algebraic_BrSsdIdeal_BrSsdReferenceIdeal [hBrSsdIdeal : Cert.BrSsdIdeal.Facts] [hBrSsdReferenceIdeal : Cert.BrSsdReferenceIdeal.Facts] : Prop :=
  ∀ (m : (ℓ : Loc Cert.BrSsdIdeal.nD Cert.BrSsdIdeal.τ Cert.BrSsdIdeal.sig) → Buf (Elt Ideal) ℓ) (g : Dev Cert.BrSsdIdeal.nD → PrngReg)
    (m' : (ℓ : Loc Cert.BrSsdReferenceIdeal.nD Cert.BrSsdReferenceIdeal.τ Cert.BrSsdReferenceIdeal.sig) → Buf (Elt Ideal) ℓ) (g' : Dev Cert.BrSsdReferenceIdeal.nD → PrngReg), Pre_BrSsdIdeal m →
    (∀ c : Dev Cert.BrSsdIdeal.nD,
      m' ((c.tc : Thread Cert.BrSsdReferenceIdeal.nD Cert.BrSsdReferenceIdeal.τ).loc Cert.BrSsdReferenceIdeal.main_arg0) = m ((c.tc : Thread Cert.BrSsdIdeal.nD Cert.BrSsdIdeal.τ).loc Cert.BrSsdIdeal.main_arg0)
      ∧ m' ((c.tc : Thread Cert.BrSsdReferenceIdeal.nD Cert.BrSsdReferenceIdeal.τ).loc Cert.BrSsdReferenceIdeal.main_arg1) = m ((c.tc : Thread Cert.BrSsdIdeal.nD Cert.BrSsdIdeal.τ).loc Cert.BrSsdIdeal.main_arg1)) →
    ∃ (v0 : (c : Dev Cert.BrSsdIdeal.nD) → Buf (Elt Ideal) ((c.tc : Thread Cert.BrSsdIdeal.nD Cert.BrSsdIdeal.τ).loc Cert.BrSsdIdeal.main_v0)),
      θ_run (Cert.BrSsdIdeal.defs (F := Ideal)) (onTc (τ := Cert.BrSsdIdeal.τ) (Cert.BrSsdIdeal.main (F := Ideal))) ⟨m, fun _ => 0, g⟩ (fun r => ∀ c : Dev Cert.BrSsdIdeal.nD,
          r.2.mem ((c.tc : Thread Cert.BrSsdIdeal.nD Cert.BrSsdIdeal.τ).loc Cert.BrSsdIdeal.main_v0) = v0 c
          ∧ r.2.mem ((c.tc : Thread Cert.BrSsdIdeal.nD Cert.BrSsdIdeal.τ).loc Cert.BrSsdIdeal.main_arg0) = m ((c.tc : Thread Cert.BrSsdIdeal.nD Cert.BrSsdIdeal.τ).loc Cert.BrSsdIdeal.main_arg0)
          ∧ r.2.mem ((c.tc : Thread Cert.BrSsdIdeal.nD Cert.BrSsdIdeal.τ).loc Cert.BrSsdIdeal.main_arg1) = m ((c.tc : Thread Cert.BrSsdIdeal.nD Cert.BrSsdIdeal.τ).loc Cert.BrSsdIdeal.main_arg1))
      ∧ θ_run (Cert.BrSsdReferenceIdeal.defs (F := Ideal)) (onTc (τ := Cert.BrSsdReferenceIdeal.τ) (Cert.BrSsdReferenceIdeal.main (F := Ideal))) ⟨m', fun _ => 0, g'⟩ (fun r => ∀ c : Dev Cert.BrSsdReferenceIdeal.nD,
          r.2.mem ((c.tc : Thread Cert.BrSsdReferenceIdeal.nD Cert.BrSsdReferenceIdeal.τ).loc Cert.BrSsdReferenceIdeal.main_v3) = v0 c
          ∧ r.2.mem ((c.tc : Thread Cert.BrSsdReferenceIdeal.nD Cert.BrSsdReferenceIdeal.τ).loc Cert.BrSsdReferenceIdeal.main_arg0) = m' ((c.tc : Thread Cert.BrSsdReferenceIdeal.nD Cert.BrSsdReferenceIdeal.τ).loc Cert.BrSsdReferenceIdeal.main_arg0)
          ∧ r.2.mem ((c.tc : Thread Cert.BrSsdReferenceIdeal.nD Cert.BrSsdReferenceIdeal.τ).loc Cert.BrSsdReferenceIdeal.main_arg1) = m' ((c.tc : Thread Cert.BrSsdReferenceIdeal.nD Cert.BrSsdReferenceIdeal.τ).loc Cert.BrSsdReferenceIdeal.main_arg1))

def preserves_DYssd_DYssdIdeal : Prop :=
  True

def algebraic_DYssdIdeal_DYssdReferenceIdeal [hDYssdIdeal : Cert.DYssdIdeal.Facts] [hDYssdReferenceIdeal : Cert.DYssdReferenceIdeal.Facts] : Prop :=
  ∀ (m : (ℓ : Loc Cert.DYssdIdeal.nD Cert.DYssdIdeal.τ Cert.DYssdIdeal.sig) → Buf (Elt Ideal) ℓ) (g : Dev Cert.DYssdIdeal.nD → PrngReg)
    (m' : (ℓ : Loc Cert.DYssdReferenceIdeal.nD Cert.DYssdReferenceIdeal.τ Cert.DYssdReferenceIdeal.sig) → Buf (Elt Ideal) ℓ) (g' : Dev Cert.DYssdReferenceIdeal.nD → PrngReg), Pre_DYssdIdeal m →
    (∀ c : Dev Cert.DYssdIdeal.nD,
      m' ((c.tc : Thread Cert.DYssdReferenceIdeal.nD Cert.DYssdReferenceIdeal.τ).loc Cert.DYssdReferenceIdeal.main_arg0) = m ((c.tc : Thread Cert.DYssdIdeal.nD Cert.DYssdIdeal.τ).loc Cert.DYssdIdeal.main_arg0)
      ∧ m' ((c.tc : Thread Cert.DYssdReferenceIdeal.nD Cert.DYssdReferenceIdeal.τ).loc Cert.DYssdReferenceIdeal.main_arg1) = m ((c.tc : Thread Cert.DYssdIdeal.nD Cert.DYssdIdeal.τ).loc Cert.DYssdIdeal.main_arg1)) →
    ∃ (v0 : (c : Dev Cert.DYssdIdeal.nD) → Buf (Elt Ideal) ((c.tc : Thread Cert.DYssdIdeal.nD Cert.DYssdIdeal.τ).loc Cert.DYssdIdeal.main_v0)),
      θ_run (Cert.DYssdIdeal.defs (F := Ideal)) (onTc (τ := Cert.DYssdIdeal.τ) (Cert.DYssdIdeal.main (F := Ideal))) ⟨m, fun _ => 0, g⟩ (fun r => ∀ c : Dev Cert.DYssdIdeal.nD,
          r.2.mem ((c.tc : Thread Cert.DYssdIdeal.nD Cert.DYssdIdeal.τ).loc Cert.DYssdIdeal.main_v0) = v0 c
          ∧ r.2.mem ((c.tc : Thread Cert.DYssdIdeal.nD Cert.DYssdIdeal.τ).loc Cert.DYssdIdeal.main_arg0) = m ((c.tc : Thread Cert.DYssdIdeal.nD Cert.DYssdIdeal.τ).loc Cert.DYssdIdeal.main_arg0)
          ∧ r.2.mem ((c.tc : Thread Cert.DYssdIdeal.nD Cert.DYssdIdeal.τ).loc Cert.DYssdIdeal.main_arg1) = m ((c.tc : Thread Cert.DYssdIdeal.nD Cert.DYssdIdeal.τ).loc Cert.DYssdIdeal.main_arg1))
      ∧ θ_run (Cert.DYssdReferenceIdeal.defs (F := Ideal)) (onTc (τ := Cert.DYssdReferenceIdeal.τ) (Cert.DYssdReferenceIdeal.main (F := Ideal))) ⟨m', fun _ => 0, g'⟩ (fun r => ∀ c : Dev Cert.DYssdReferenceIdeal.nD,
          r.2.mem ((c.tc : Thread Cert.DYssdReferenceIdeal.nD Cert.DYssdReferenceIdeal.τ).loc Cert.DYssdReferenceIdeal.main_v5) = v0 c
          ∧ r.2.mem ((c.tc : Thread Cert.DYssdReferenceIdeal.nD Cert.DYssdReferenceIdeal.τ).loc Cert.DYssdReferenceIdeal.main_arg0) = m' ((c.tc : Thread Cert.DYssdReferenceIdeal.nD Cert.DYssdReferenceIdeal.τ).loc Cert.DYssdReferenceIdeal.main_arg0)
          ∧ r.2.mem ((c.tc : Thread Cert.DYssdReferenceIdeal.nD Cert.DYssdReferenceIdeal.τ).loc Cert.DYssdReferenceIdeal.main_arg1) = m' ((c.tc : Thread Cert.DYssdReferenceIdeal.nD Cert.DYssdReferenceIdeal.τ).loc Cert.DYssdReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v3) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_DX1_DX1Ideal : Prop :=
  True

def algebraic_DX1Ideal_DX1ReferenceIdeal [hDX1Ideal : Cert.DX1Ideal.Facts] [hDX1ReferenceIdeal : Cert.DX1ReferenceIdeal.Facts] : Prop :=
  ∀ (m : (ℓ : Loc Cert.DX1Ideal.nD Cert.DX1Ideal.τ Cert.DX1Ideal.sig) → Buf (Elt Ideal) ℓ) (g : Dev Cert.DX1Ideal.nD → PrngReg)
    (m' : (ℓ : Loc Cert.DX1ReferenceIdeal.nD Cert.DX1ReferenceIdeal.τ Cert.DX1ReferenceIdeal.sig) → Buf (Elt Ideal) ℓ) (g' : Dev Cert.DX1ReferenceIdeal.nD → PrngReg), Pre_DX1Ideal m →
    (∀ c : Dev Cert.DX1Ideal.nD,
      m' ((c.tc : Thread Cert.DX1ReferenceIdeal.nD Cert.DX1ReferenceIdeal.τ).loc Cert.DX1ReferenceIdeal.main_arg0) = m ((c.tc : Thread Cert.DX1Ideal.nD Cert.DX1Ideal.τ).loc Cert.DX1Ideal.main_arg0)
      ∧ m' ((c.tc : Thread Cert.DX1ReferenceIdeal.nD Cert.DX1ReferenceIdeal.τ).loc Cert.DX1ReferenceIdeal.main_arg1) = m ((c.tc : Thread Cert.DX1Ideal.nD Cert.DX1Ideal.τ).loc Cert.DX1Ideal.main_arg1)) →
    ∃ (v0 : (c : Dev Cert.DX1Ideal.nD) → Buf (Elt Ideal) ((c.tc : Thread Cert.DX1Ideal.nD Cert.DX1Ideal.τ).loc Cert.DX1Ideal.main_v0)),
      θ_run (Cert.DX1Ideal.defs (F := Ideal)) (onTc (τ := Cert.DX1Ideal.τ) (Cert.DX1Ideal.main (F := Ideal))) ⟨m, fun _ => 0, g⟩ (fun r => ∀ c : Dev Cert.DX1Ideal.nD,
          r.2.mem ((c.tc : Thread Cert.DX1Ideal.nD Cert.DX1Ideal.τ).loc Cert.DX1Ideal.main_v0) = v0 c
          ∧ r.2.mem ((c.tc : Thread Cert.DX1Ideal.nD Cert.DX1Ideal.τ).loc Cert.DX1Ideal.main_arg0) = m ((c.tc : Thread Cert.DX1Ideal.nD Cert.DX1Ideal.τ).loc Cert.DX1Ideal.main_arg0)
          ∧ r.2.mem ((c.tc : Thread Cert.DX1Ideal.nD Cert.DX1Ideal.τ).loc Cert.DX1Ideal.main_arg1) = m ((c.tc : Thread Cert.DX1Ideal.nD Cert.DX1Ideal.τ).loc Cert.DX1Ideal.main_arg1))
      ∧ θ_run (Cert.DX1ReferenceIdeal.defs (F := Ideal)) (onTc (τ := Cert.DX1ReferenceIdeal.τ) (Cert.DX1ReferenceIdeal.main (F := Ideal))) ⟨m', fun _ => 0, g'⟩ (fun r => ∀ c : Dev Cert.DX1ReferenceIdeal.nD,
          r.2.mem ((c.tc : Thread Cert.DX1ReferenceIdeal.nD Cert.DX1ReferenceIdeal.τ).loc Cert.DX1ReferenceIdeal.main_v4) = v0 c
          ∧ r.2.mem ((c.tc : Thread Cert.DX1ReferenceIdeal.nD Cert.DX1ReferenceIdeal.τ).loc Cert.DX1ReferenceIdeal.main_arg0) = m' ((c.tc : Thread Cert.DX1ReferenceIdeal.nD Cert.DX1ReferenceIdeal.τ).loc Cert.DX1ReferenceIdeal.main_arg0)
          ∧ r.2.mem ((c.tc : Thread Cert.DX1ReferenceIdeal.nD Cert.DX1ReferenceIdeal.τ).loc Cert.DX1ReferenceIdeal.main_arg1) = m' ((c.tc : Thread Cert.DX1ReferenceIdeal.nD Cert.DX1ReferenceIdeal.τ).loc Cert.DX1ReferenceIdeal.main_arg1))

def preserves_DwFfnIn_DwFfnInIdeal : Prop :=
  True

def algebraic_DwFfnInIdeal_DwFfnInReferenceIdeal [hDwFfnInIdeal : Cert.DwFfnInIdeal.Facts] [hDwFfnInReferenceIdeal : Cert.DwFfnInReferenceIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInReferenceIdeal.nD Cert.DwFfnInReferenceIdeal.τ Cert.DwFfnInReferenceIdeal.sig) → Buf (Elt Ideal) ℓ) (g' : Dev Cert.DwFfnInReferenceIdeal.nD → PrngReg), Pre_DwFfnInIdeal m →
    (∀ c : Dev Cert.DwFfnInIdeal.nD,
      m' ((c.tc : Thread Cert.DwFfnInReferenceIdeal.nD Cert.DwFfnInReferenceIdeal.τ).loc Cert.DwFfnInReferenceIdeal.main_arg0) = m ((c.tc : Thread Cert.DwFfnInIdeal.nD Cert.DwFfnInIdeal.τ).loc Cert.DwFfnInIdeal.main_arg0)
      ∧ m' ((c.tc : Thread Cert.DwFfnInReferenceIdeal.nD Cert.DwFfnInReferenceIdeal.τ).loc Cert.DwFfnInReferenceIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v0)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v0) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.DwFfnInReferenceIdeal.defs (F := Ideal)) (onTc (τ := Cert.DwFfnInReferenceIdeal.τ) (Cert.DwFfnInReferenceIdeal.main (F := Ideal))) ⟨m', fun _ => 0, g'⟩ (fun r => ∀ c : Dev Cert.DwFfnInReferenceIdeal.nD,
          r.2.mem ((c.tc : Thread Cert.DwFfnInReferenceIdeal.nD Cert.DwFfnInReferenceIdeal.τ).loc Cert.DwFfnInReferenceIdeal.main_v5) = v0 c
          ∧ r.2.mem ((c.tc : Thread Cert.DwFfnInReferenceIdeal.nD Cert.DwFfnInReferenceIdeal.τ).loc Cert.DwFfnInReferenceIdeal.main_arg0) = m' ((c.tc : Thread Cert.DwFfnInReferenceIdeal.nD Cert.DwFfnInReferenceIdeal.τ).loc Cert.DwFfnInReferenceIdeal.main_arg0)
          ∧ r.2.mem ((c.tc : Thread Cert.DwFfnInReferenceIdeal.nD Cert.DwFfnInReferenceIdeal.τ).loc Cert.DwFfnInReferenceIdeal.main_arg1) = m' ((c.tc : Thread Cert.DwFfnInReferenceIdeal.nD Cert.DwFfnInReferenceIdeal.τ).loc Cert.DwFfnInReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_DHmid_DHmidIdeal : Prop :=
  True

def algebraic_DHmidIdeal_DHmidReferenceIdeal [hDHmidIdeal : Cert.DHmidIdeal.Facts] [hDHmidReferenceIdeal : Cert.DHmidReferenceIdeal.Facts] : Prop :=
  ∀ (m : (ℓ : Loc Cert.DHmidIdeal.nD Cert.DHmidIdeal.τ Cert.DHmidIdeal.sig) → Buf (Elt Ideal) ℓ) (g : Dev Cert.DHmidIdeal.nD → PrngReg)
    (m' : (ℓ : Loc Cert.DHmidReferenceIdeal.nD Cert.DHmidReferenceIdeal.τ Cert.DHmidReferenceIdeal.sig) → Buf (Elt Ideal) ℓ) (g' : Dev Cert.DHmidReferenceIdeal.nD → PrngReg), Pre_DHmidIdeal m →
    (∀ c : Dev Cert.DHmidIdeal.nD,
      m' ((c.tc : Thread Cert.DHmidReferenceIdeal.nD Cert.DHmidReferenceIdeal.τ).loc Cert.DHmidReferenceIdeal.main_arg0) = m ((c.tc : Thread Cert.DHmidIdeal.nD Cert.DHmidIdeal.τ).loc Cert.DHmidIdeal.main_arg0)
      ∧ m' ((c.tc : Thread Cert.DHmidReferenceIdeal.nD Cert.DHmidReferenceIdeal.τ).loc Cert.DHmidReferenceIdeal.main_arg1) = m ((c.tc : Thread Cert.DHmidIdeal.nD Cert.DHmidIdeal.τ).loc Cert.DHmidIdeal.main_arg1)) →
    ∃ (v0 : (c : Dev Cert.DHmidIdeal.nD) → Buf (Elt Ideal) ((c.tc : Thread Cert.DHmidIdeal.nD Cert.DHmidIdeal.τ).loc Cert.DHmidIdeal.main_v0)),
      θ_run (Cert.DHmidIdeal.defs (F := Ideal)) (onTc (τ := Cert.DHmidIdeal.τ) (Cert.DHmidIdeal.main (F := Ideal))) ⟨m, fun _ => 0, g⟩ (fun r => ∀ c : Dev Cert.DHmidIdeal.nD,
          r.2.mem ((c.tc : Thread Cert.DHmidIdeal.nD Cert.DHmidIdeal.τ).loc Cert.DHmidIdeal.main_v0) = v0 c
          ∧ r.2.mem ((c.tc : Thread Cert.DHmidIdeal.nD Cert.DHmidIdeal.τ).loc Cert.DHmidIdeal.main_arg0) = m ((c.tc : Thread Cert.DHmidIdeal.nD Cert.DHmidIdeal.τ).loc Cert.DHmidIdeal.main_arg0)
          ∧ r.2.mem ((c.tc : Thread Cert.DHmidIdeal.nD Cert.DHmidIdeal.τ).loc Cert.DHmidIdeal.main_arg1) = m ((c.tc : Thread Cert.DHmidIdeal.nD Cert.DHmidIdeal.τ).loc Cert.DHmidIdeal.main_arg1))
      ∧ θ_run (Cert.DHmidReferenceIdeal.defs (F := Ideal)) (onTc (τ := Cert.DHmidReferenceIdeal.τ) (Cert.DHmidReferenceIdeal.main (F := Ideal))) ⟨m', fun _ => 0, g'⟩ (fun r => ∀ c : Dev Cert.DHmidReferenceIdeal.nD,
          r.2.mem ((c.tc : Thread Cert.DHmidReferenceIdeal.nD Cert.DHmidReferenceIdeal.τ).loc Cert.DHmidReferenceIdeal.main_v4) = v0 c
          ∧ r.2.mem ((c.tc : Thread Cert.DHmidReferenceIdeal.nD Cert.DHmidReferenceIdeal.τ).loc Cert.DHmidReferenceIdeal.main_arg0) = m' ((c.tc : Thread Cert.DHmidReferenceIdeal.nD Cert.DHmidReferenceIdeal.τ).loc Cert.DHmidReferenceIdeal.main_arg0)
          ∧ r.2.mem ((c.tc : Thread Cert.DHmidReferenceIdeal.nD Cert.DHmidReferenceIdeal.τ).loc Cert.DHmidReferenceIdeal.main_arg1) = m' ((c.tc : Thread Cert.DHmidReferenceIdeal.nD Cert.DHmidReferenceIdeal.τ).loc Cert.DHmidReferenceIdeal.main_arg1))

def preserves_DwFfnDown_DwFfnDownIdeal : Prop :=
  True

def algebraic_DwFfnDownIdeal_DwFfnDownReferenceIdeal [hDwFfnDownIdeal : Cert.DwFfnDownIdeal.Facts] [hDwFfnDownReferenceIdeal : Cert.DwFfnDownReferenceIdeal.Facts] : Prop :=
  ∀ (m : (ℓ : Loc Cert.DwFfnDownIdeal.nD Cert.DwFfnDownIdeal.τ Cert.DwFfnDownIdeal.sig) → Buf (Elt Ideal) ℓ) (g : Dev Cert.DwFfnDownIdeal.nD → PrngReg)
    (m' : (ℓ : Loc Cert.DwFfnDownReferenceIdeal.nD Cert.DwFfnDownReferenceIdeal.τ Cert.DwFfnDownReferenceIdeal.sig) → Buf (Elt Ideal) ℓ) (g' : Dev Cert.DwFfnDownReferenceIdeal.nD → PrngReg), Pre_DwFfnDownIdeal m →
    (∀ c : Dev Cert.DwFfnDownIdeal.nD,
      m' ((c.tc : Thread Cert.DwFfnDownReferenceIdeal.nD Cert.DwFfnDownReferenceIdeal.τ).loc Cert.DwFfnDownReferenceIdeal.main_arg0) = m ((c.tc : Thread Cert.DwFfnDownIdeal.nD Cert.DwFfnDownIdeal.τ).loc Cert.DwFfnDownIdeal.main_arg0)
      ∧ m' ((c.tc : Thread Cert.DwFfnDownReferenceIdeal.nD Cert.DwFfnDownReferenceIdeal.τ).loc Cert.DwFfnDownReferenceIdeal.main_arg1) = m ((c.tc : Thread Cert.DwFfnDownIdeal.nD Cert.DwFfnDownIdeal.τ).loc Cert.DwFfnDownIdeal.main_arg1)) →
    ∃ (v0 : (c : Dev Cert.DwFfnDownIdeal.nD) → Buf (Elt Ideal) ((c.tc : Thread Cert.DwFfnDownIdeal.nD Cert.DwFfnDownIdeal.τ).loc Cert.DwFfnDownIdeal.main_v0)),
      θ_run (Cert.DwFfnDownIdeal.defs (F := Ideal)) (onTc (τ := Cert.DwFfnDownIdeal.τ) (Cert.DwFfnDownIdeal.main (F := Ideal))) ⟨m, fun _ => 0, g⟩ (fun r => ∀ c : Dev Cert.DwFfnDownIdeal.nD,
          r.2.mem ((c.tc : Thread Cert.DwFfnDownIdeal.nD Cert.DwFfnDownIdeal.τ).loc Cert.DwFfnDownIdeal.main_v0) = v0 c
          ∧ r.2.mem ((c.tc : Thread Cert.DwFfnDownIdeal.nD Cert.DwFfnDownIdeal.τ).loc Cert.DwFfnDownIdeal.main_arg0) = m ((c.tc : Thread Cert.DwFfnDownIdeal.nD Cert.DwFfnDownIdeal.τ).loc Cert.DwFfnDownIdeal.main_arg0)
          ∧ r.2.mem ((c.tc : Thread Cert.DwFfnDownIdeal.nD Cert.DwFfnDownIdeal.τ).loc Cert.DwFfnDownIdeal.main_arg1) = m ((c.tc : Thread Cert.DwFfnDownIdeal.nD Cert.DwFfnDownIdeal.τ).loc Cert.DwFfnDownIdeal.main_arg1))
      ∧ θ_run (Cert.DwFfnDownReferenceIdeal.defs (F := Ideal)) (onTc (τ := Cert.DwFfnDownReferenceIdeal.τ) (Cert.DwFfnDownReferenceIdeal.main (F := Ideal))) ⟨m', fun _ => 0, g'⟩ (fun r => ∀ c : Dev Cert.DwFfnDownReferenceIdeal.nD,
          r.2.mem ((c.tc : Thread Cert.DwFfnDownReferenceIdeal.nD Cert.DwFfnDownReferenceIdeal.τ).loc Cert.DwFfnDownReferenceIdeal.main_v4) = v0 c
          ∧ r.2.mem ((c.tc : Thread Cert.DwFfnDownReferenceIdeal.nD Cert.DwFfnDownReferenceIdeal.τ).loc Cert.DwFfnDownReferenceIdeal.main_arg0) = m' ((c.tc : Thread Cert.DwFfnDownReferenceIdeal.nD Cert.DwFfnDownReferenceIdeal.τ).loc Cert.DwFfnDownReferenceIdeal.main_arg0)
          ∧ r.2.mem ((c.tc : Thread Cert.DwFfnDownReferenceIdeal.nD Cert.DwFfnDownReferenceIdeal.τ).loc Cert.DwFfnDownReferenceIdeal.main_arg1) = m' ((c.tc : Thread Cert.DwFfnDownReferenceIdeal.nD Cert.DwFfnDownReferenceIdeal.τ).loc Cert.DwFfnDownReferenceIdeal.main_arg1))

def preserves_SwigluBwd_SwigluBwdIdeal : Prop :=
  True

def algebraic_SwigluBwdIdeal_SwigluBwdReferenceIdeal_pre_finite_up [hSwigluBwdIdeal : Cert.SwigluBwdIdeal.Facts] [hSwigluBwdReferenceIdeal : Cert.SwigluBwdReferenceIdeal.Facts] [hPre_finite_up : Cert.Pre_finite_up.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdIdeal_finite_up m →
    (∀ c : Dev Cert.SwigluBwdIdeal.nD,
      m' ((c.tc : Thread Cert.SwigluBwdReferenceIdeal.nD Cert.SwigluBwdReferenceIdeal.τ).loc Cert.SwigluBwdReferenceIdeal.main_arg0) = m ((c.tc : Thread Cert.SwigluBwdIdeal.nD Cert.SwigluBwdIdeal.τ).loc Cert.SwigluBwdIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v10) = v0 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1))

def preserves_DwBrLru_DwBrLruIdeal : Prop :=
  True

def algebraic_DwBrLruIdeal_DwBrLruReferenceIdeal [hDwBrLruIdeal : Cert.DwBrLruIdeal.Facts] [hDwBrLruReferenceIdeal : Cert.DwBrLruReferenceIdeal.Facts] : Prop :=
  ∀ (m : (ℓ : Loc Cert.DwBrLruIdeal.nD Cert.DwBrLruIdeal.τ Cert.DwBrLruIdeal.sig) → Buf (Elt Ideal) ℓ) (g : Dev Cert.DwBrLruIdeal.nD → PrngReg)
    (m' : (ℓ : Loc Cert.DwBrLruReferenceIdeal.nD Cert.DwBrLruReferenceIdeal.τ Cert.DwBrLruReferenceIdeal.sig) → Buf (Elt Ideal) ℓ) (g' : Dev Cert.DwBrLruReferenceIdeal.nD → PrngReg), Pre_DwBrLruIdeal m →
    (∀ c : Dev Cert.DwBrLruIdeal.nD,
      m' ((c.tc : Thread Cert.DwBrLruReferenceIdeal.nD Cert.DwBrLruReferenceIdeal.τ).loc Cert.DwBrLruReferenceIdeal.main_arg0) = m ((c.tc : Thread Cert.DwBrLruIdeal.nD Cert.DwBrLruIdeal.τ).loc Cert.DwBrLruIdeal.main_arg0)
      ∧ m' ((c.tc : Thread Cert.DwBrLruReferenceIdeal.nD Cert.DwBrLruReferenceIdeal.τ).loc Cert.DwBrLruReferenceIdeal.main_arg1) = m ((c.tc : Thread Cert.DwBrLruIdeal.nD Cert.DwBrLruIdeal.τ).loc Cert.DwBrLruIdeal.main_arg1)) →
    ∃ (v0 : (c : Dev Cert.DwBrLruIdeal.nD) → Buf (Elt Ideal) ((c.tc : Thread Cert.DwBrLruIdeal.nD Cert.DwBrLruIdeal.τ).loc Cert.DwBrLruIdeal.main_v0)),
      θ_run (Cert.DwBrLruIdeal.defs (F := Ideal)) (onTc (τ := Cert.DwBrLruIdeal.τ) (Cert.DwBrLruIdeal.main (F := Ideal))) ⟨m, fun _ => 0, g⟩ (fun r => ∀ c : Dev Cert.DwBrLruIdeal.nD,
          r.2.mem ((c.tc : Thread Cert.DwBrLruIdeal.nD Cert.DwBrLruIdeal.τ).loc Cert.DwBrLruIdeal.main_v0) = v0 c
          ∧ r.2.mem ((c.tc : Thread Cert.DwBrLruIdeal.nD Cert.DwBrLruIdeal.τ).loc Cert.DwBrLruIdeal.main_arg0) = m ((c.tc : Thread Cert.DwBrLruIdeal.nD Cert.DwBrLruIdeal.τ).loc Cert.DwBrLruIdeal.main_arg0)
          ∧ r.2.mem ((c.tc : Thread Cert.DwBrLruIdeal.nD Cert.DwBrLruIdeal.τ).loc Cert.DwBrLruIdeal.main_arg1) = m ((c.tc : Thread Cert.DwBrLruIdeal.nD Cert.DwBrLruIdeal.τ).loc Cert.DwBrLruIdeal.main_arg1))
      ∧ θ_run (Cert.DwBrLruReferenceIdeal.defs (F := Ideal)) (onTc (τ := Cert.DwBrLruReferenceIdeal.τ) (Cert.DwBrLruReferenceIdeal.main (F := Ideal))) ⟨m', fun _ => 0, g'⟩ (fun r => ∀ c : Dev Cert.DwBrLruReferenceIdeal.nD,
          r.2.mem ((c.tc : Thread Cert.DwBrLruReferenceIdeal.nD Cert.DwBrLruReferenceIdeal.τ).loc Cert.DwBrLruReferenceIdeal.main_v5) = v0 c
          ∧ r.2.mem ((c.tc : Thread Cert.DwBrLruReferenceIdeal.nD Cert.DwBrLruReferenceIdeal.τ).loc Cert.DwBrLruReferenceIdeal.main_arg0) = m' ((c.tc : Thread Cert.DwBrLruReferenceIdeal.nD Cert.DwBrLruReferenceIdeal.τ).loc Cert.DwBrLruReferenceIdeal.main_arg0)
          ∧ r.2.mem ((c.tc : Thread Cert.DwBrLruReferenceIdeal.nD Cert.DwBrLruReferenceIdeal.τ).loc Cert.DwBrLruReferenceIdeal.main_arg1) = m' ((c.tc : Thread Cert.DwBrLruReferenceIdeal.nD Cert.DwBrLruReferenceIdeal.τ).loc Cert.DwBrLruReferenceIdeal.main_arg1))

def preserves_DwBrSsd_DwBrSsdIdeal : Prop :=
  True

def algebraic_DwBrSsdIdeal_DwBrSsdReferenceIdeal [hDwBrSsdIdeal : Cert.DwBrSsdIdeal.Facts] [hDwBrSsdReferenceIdeal : Cert.DwBrSsdReferenceIdeal.Facts] : Prop :=
  ∀ (m : (ℓ : Loc Cert.DwBrSsdIdeal.nD Cert.DwBrSsdIdeal.τ Cert.DwBrSsdIdeal.sig) → Buf (Elt Ideal) ℓ) (g : Dev Cert.DwBrSsdIdeal.nD → PrngReg)
    (m' : (ℓ : Loc Cert.DwBrSsdReferenceIdeal.nD Cert.DwBrSsdReferenceIdeal.τ Cert.DwBrSsdReferenceIdeal.sig) → Buf (Elt Ideal) ℓ) (g' : Dev Cert.DwBrSsdReferenceIdeal.nD → PrngReg), Pre_DwBrSsdIdeal m →
    (∀ c : Dev Cert.DwBrSsdIdeal.nD,
      m' ((c.tc : Thread Cert.DwBrSsdReferenceIdeal.nD Cert.DwBrSsdReferenceIdeal.τ).loc Cert.DwBrSsdReferenceIdeal.main_arg0) = m ((c.tc : Thread Cert.DwBrSsdIdeal.nD Cert.DwBrSsdIdeal.τ).loc Cert.DwBrSsdIdeal.main_arg0)
      ∧ m' ((c.tc : Thread Cert.DwBrSsdReferenceIdeal.nD Cert.DwBrSsdReferenceIdeal.τ).loc Cert.DwBrSsdReferenceIdeal.main_arg1) = m ((c.tc : Thread Cert.DwBrSsdIdeal.nD Cert.DwBrSsdIdeal.τ).loc Cert.DwBrSsdIdeal.main_arg1)) →
    ∃ (v0 : (c : Dev Cert.DwBrSsdIdeal.nD) → Buf (Elt Ideal) ((c.tc : Thread Cert.DwBrSsdIdeal.nD Cert.DwBrSsdIdeal.τ).loc Cert.DwBrSsdIdeal.main_v0)),
      θ_run (Cert.DwBrSsdIdeal.defs (F := Ideal)) (onTc (τ := Cert.DwBrSsdIdeal.τ) (Cert.DwBrSsdIdeal.main (F := Ideal))) ⟨m, fun _ => 0, g⟩ (fun r => ∀ c : Dev Cert.DwBrSsdIdeal.nD,
          r.2.mem ((c.tc : Thread Cert.DwBrSsdIdeal.nD Cert.DwBrSsdIdeal.τ).loc Cert.DwBrSsdIdeal.main_v0) = v0 c
          ∧ r.2.mem ((c.tc : Thread Cert.DwBrSsdIdeal.nD Cert.DwBrSsdIdeal.τ).loc Cert.DwBrSsdIdeal.main_arg0) = m ((c.tc : Thread Cert.DwBrSsdIdeal.nD Cert.DwBrSsdIdeal.τ).loc Cert.DwBrSsdIdeal.main_arg0)
          ∧ r.2.mem ((c.tc : Thread Cert.DwBrSsdIdeal.nD Cert.DwBrSsdIdeal.τ).loc Cert.DwBrSsdIdeal.main_arg1) = m ((c.tc : Thread Cert.DwBrSsdIdeal.nD Cert.DwBrSsdIdeal.τ).loc Cert.DwBrSsdIdeal.main_arg1))
      ∧ θ_run (Cert.DwBrSsdReferenceIdeal.defs (F := Ideal)) (onTc (τ := Cert.DwBrSsdReferenceIdeal.τ) (Cert.DwBrSsdReferenceIdeal.main (F := Ideal))) ⟨m', fun _ => 0, g'⟩ (fun r => ∀ c : Dev Cert.DwBrSsdReferenceIdeal.nD,
          r.2.mem ((c.tc : Thread Cert.DwBrSsdReferenceIdeal.nD Cert.DwBrSsdReferenceIdeal.τ).loc Cert.DwBrSsdReferenceIdeal.main_v5) = v0 c
          ∧ r.2.mem ((c.tc : Thread Cert.DwBrSsdReferenceIdeal.nD Cert.DwBrSsdReferenceIdeal.τ).loc Cert.DwBrSsdReferenceIdeal.main_arg0) = m' ((c.tc : Thread Cert.DwBrSsdReferenceIdeal.nD Cert.DwBrSsdReferenceIdeal.τ).loc Cert.DwBrSsdReferenceIdeal.main_arg0)
          ∧ r.2.mem ((c.tc : Thread Cert.DwBrSsdReferenceIdeal.nD Cert.DwBrSsdReferenceIdeal.τ).loc Cert.DwBrSsdReferenceIdeal.main_arg1) = m' ((c.tc : Thread Cert.DwBrSsdReferenceIdeal.nD Cert.DwBrSsdReferenceIdeal.τ).loc Cert.DwBrSsdReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_DMerged_DMergedIdeal : Prop :=
  True

def algebraic_DMergedIdeal_DMergedReferenceIdeal [hDMergedIdeal : Cert.DMergedIdeal.Facts] [hDMergedReferenceIdeal : Cert.DMergedReferenceIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedReferenceIdeal.nD Cert.DMergedReferenceIdeal.τ Cert.DMergedReferenceIdeal.sig) → Buf (Elt Ideal) ℓ) (g' : Dev Cert.DMergedReferenceIdeal.nD → PrngReg), Pre_DMergedIdeal m →
    (∀ c : Dev Cert.DMergedIdeal.nD,
      m' ((c.tc : Thread Cert.DMergedReferenceIdeal.nD Cert.DMergedReferenceIdeal.τ).loc Cert.DMergedReferenceIdeal.main_arg0) = m ((c.tc : Thread Cert.DMergedIdeal.nD Cert.DMergedIdeal.τ).loc Cert.DMergedIdeal.main_arg0)
      ∧ m' ((c.tc : Thread Cert.DMergedReferenceIdeal.nD Cert.DMergedReferenceIdeal.τ).loc Cert.DMergedReferenceIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedReferenceIdeal.defs (F := Ideal)) (onTc (τ := Cert.DMergedReferenceIdeal.τ) (Cert.DMergedReferenceIdeal.main (F := Ideal))) ⟨m', fun _ => 0, g'⟩ (fun r => ∀ c : Dev Cert.DMergedReferenceIdeal.nD,
          r.2.mem ((c.tc : Thread Cert.DMergedReferenceIdeal.nD Cert.DMergedReferenceIdeal.τ).loc Cert.DMergedReferenceIdeal.main_v4) = v0 c
          ∧ r.2.mem ((c.tc : Thread Cert.DMergedReferenceIdeal.nD Cert.DMergedReferenceIdeal.τ).loc Cert.DMergedReferenceIdeal.main_arg0) = m' ((c.tc : Thread Cert.DMergedReferenceIdeal.nD Cert.DMergedReferenceIdeal.τ).loc Cert.DMergedReferenceIdeal.main_arg0)
          ∧ r.2.mem ((c.tc : Thread Cert.DMergedReferenceIdeal.nD Cert.DMergedReferenceIdeal.τ).loc Cert.DMergedReferenceIdeal.main_arg1) = m' ((c.tc : Thread Cert.DMergedReferenceIdeal.nD Cert.DMergedReferenceIdeal.τ).loc Cert.DMergedReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_AdamWIn_AdamWInIdeal : Prop :=
  True

def algebraic_AdamWInIdeal_AdamWInReferenceIdeal [hAdamWInIdeal : Cert.AdamWInIdeal.Facts] [hAdamWInReferenceIdeal : Cert.AdamWInReferenceIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInReferenceIdeal.nD Cert.AdamWInReferenceIdeal.τ Cert.AdamWInReferenceIdeal.sig) → Buf (Elt Ideal) ℓ) (g' : Dev Cert.AdamWInReferenceIdeal.nD → PrngReg), Pre_AdamWInIdeal m →
    (∀ c : Dev Cert.AdamWInIdeal.nD,
      m' ((c.tc : Thread Cert.AdamWInReferenceIdeal.nD Cert.AdamWInReferenceIdeal.τ).loc Cert.AdamWInReferenceIdeal.main_arg0) = m ((c.tc : Thread Cert.AdamWInIdeal.nD Cert.AdamWInIdeal.τ).loc Cert.AdamWInIdeal.main_arg0)
      ∧ m' ((c.tc : Thread Cert.AdamWInReferenceIdeal.nD Cert.AdamWInReferenceIdeal.τ).loc Cert.AdamWInReferenceIdeal.main_arg1) = m ((c.tc : Thread Cert.AdamWInIdeal.nD Cert.AdamWInIdeal.τ).loc Cert.AdamWInIdeal.main_arg1)
      ∧ m' ((c.tc : Thread Cert.AdamWInReferenceIdeal.nD Cert.AdamWInReferenceIdeal.τ).loc Cert.AdamWInReferenceIdeal.main_arg2) = m ((c.tc : Thread Cert.AdamWInIdeal.nD Cert.AdamWInIdeal.τ).loc Cert.AdamWInIdeal.main_arg2)
      ∧ m' ((c.tc : Thread Cert.AdamWInReferenceIdeal.nD Cert.AdamWInReferenceIdeal.τ).loc Cert.AdamWInReferenceIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInReferenceIdeal.defs (F := Ideal)) (onTc (τ := Cert.AdamWInReferenceIdeal.τ) (Cert.AdamWInReferenceIdeal.main (F := Ideal))) ⟨m', fun _ => 0, g'⟩ (fun r => ∀ c : Dev Cert.AdamWInReferenceIdeal.nD,
          r.2.mem ((c.tc : Thread Cert.AdamWInReferenceIdeal.nD Cert.AdamWInReferenceIdeal.τ).loc Cert.AdamWInReferenceIdeal.main_v23) = v0 c
          ∧ r.2.mem ((c.tc : Thread Cert.AdamWInReferenceIdeal.nD Cert.AdamWInReferenceIdeal.τ).loc Cert.AdamWInReferenceIdeal.main_v4) = v1 c
          ∧ r.2.mem ((c.tc : Thread Cert.AdamWInReferenceIdeal.nD Cert.AdamWInReferenceIdeal.τ).loc Cert.AdamWInReferenceIdeal.main_v10) = v2 c
          ∧ r.2.mem ((c.tc : Thread Cert.AdamWInReferenceIdeal.nD Cert.AdamWInReferenceIdeal.τ).loc Cert.AdamWInReferenceIdeal.main_arg0) = m' ((c.tc : Thread Cert.AdamWInReferenceIdeal.nD Cert.AdamWInReferenceIdeal.τ).loc Cert.AdamWInReferenceIdeal.main_arg0)
          ∧ r.2.mem ((c.tc : Thread Cert.AdamWInReferenceIdeal.nD Cert.AdamWInReferenceIdeal.τ).loc Cert.AdamWInReferenceIdeal.main_arg1) = m' ((c.tc : Thread Cert.AdamWInReferenceIdeal.nD Cert.AdamWInReferenceIdeal.τ).loc Cert.AdamWInReferenceIdeal.main_arg1)
          ∧ r.2.mem ((c.tc : Thread Cert.AdamWInReferenceIdeal.nD Cert.AdamWInReferenceIdeal.τ).loc Cert.AdamWInReferenceIdeal.main_arg2) = m' ((c.tc : Thread Cert.AdamWInReferenceIdeal.nD Cert.AdamWInReferenceIdeal.τ).loc Cert.AdamWInReferenceIdeal.main_arg2)
          ∧ r.2.mem ((c.tc : Thread Cert.AdamWInReferenceIdeal.nD Cert.AdamWInReferenceIdeal.τ).loc Cert.AdamWInReferenceIdeal.main_arg3) = m' ((c.tc : Thread Cert.AdamWInReferenceIdeal.nD Cert.AdamWInReferenceIdeal.τ).loc Cert.AdamWInReferenceIdeal.main_arg3))

def preserves_AdamFfnWIn_AdamFfnWInIdeal : Prop :=
  True

def algebraic_AdamFfnWInIdeal_AdamFfnWInReferenceIdeal [hAdamFfnWInIdeal : Cert.AdamFfnWInIdeal.Facts] [hAdamFfnWInReferenceIdeal : Cert.AdamFfnWInReferenceIdeal.Facts] : Prop :=
  ∀ (m : (ℓ : Loc Cert.AdamFfnWInIdeal.nD Cert.AdamFfnWInIdeal.τ Cert.AdamFfnWInIdeal.sig) → Buf (Elt Ideal) ℓ) (g : Dev Cert.AdamFfnWInIdeal.nD → PrngReg)
    (m' : (ℓ : Loc Cert.AdamFfnWInReferenceIdeal.nD Cert.AdamFfnWInReferenceIdeal.τ Cert.AdamFfnWInReferenceIdeal.sig) → Buf (Elt Ideal) ℓ) (g' : Dev Cert.AdamFfnWInReferenceIdeal.nD → PrngReg), Pre_AdamFfnWInIdeal m →
    (∀ c : Dev Cert.AdamFfnWInIdeal.nD,
      m' ((c.tc : Thread Cert.AdamFfnWInReferenceIdeal.nD Cert.AdamFfnWInReferenceIdeal.τ).loc Cert.AdamFfnWInReferenceIdeal.main_arg0) = m ((c.tc : Thread Cert.AdamFfnWInIdeal.nD Cert.AdamFfnWInIdeal.τ).loc Cert.AdamFfnWInIdeal.main_arg0)
      ∧ m' ((c.tc : Thread Cert.AdamFfnWInReferenceIdeal.nD Cert.AdamFfnWInReferenceIdeal.τ).loc Cert.AdamFfnWInReferenceIdeal.main_arg1) = m ((c.tc : Thread Cert.AdamFfnWInIdeal.nD Cert.AdamFfnWInIdeal.τ).loc Cert.AdamFfnWInIdeal.main_arg1)
      ∧ m' ((c.tc : Thread Cert.AdamFfnWInReferenceIdeal.nD Cert.AdamFfnWInReferenceIdeal.τ).loc Cert.AdamFfnWInReferenceIdeal.main_arg2) = m ((c.tc : Thread Cert.AdamFfnWInIdeal.nD Cert.AdamFfnWInIdeal.τ).loc Cert.AdamFfnWInIdeal.main_arg2)
      ∧ m' ((c.tc : Thread Cert.AdamFfnWInReferenceIdeal.nD Cert.AdamFfnWInReferenceIdeal.τ).loc Cert.AdamFfnWInReferenceIdeal.main_arg3) = m ((c.tc : Thread Cert.AdamFfnWInIdeal.nD Cert.AdamFfnWInIdeal.τ).loc Cert.AdamFfnWInIdeal.main_arg3)) →
    ∃ (v0 : (c : Dev Cert.AdamFfnWInIdeal.nD) → Buf (Elt Ideal) ((c.tc : Thread Cert.AdamFfnWInIdeal.nD Cert.AdamFfnWInIdeal.τ).loc Cert.AdamFfnWInIdeal.main_v0_0)) (v1 : (c : Dev Cert.AdamFfnWInIdeal.nD) → Buf (Elt Ideal) ((c.tc : Thread Cert.AdamFfnWInIdeal.nD Cert.AdamFfnWInIdeal.τ).loc Cert.AdamFfnWInIdeal.main_v0_1)) (v2 : (c : Dev Cert.AdamFfnWInIdeal.nD) → Buf (Elt Ideal) ((c.tc : Thread Cert.AdamFfnWInIdeal.nD Cert.AdamFfnWInIdeal.τ).loc Cert.AdamFfnWInIdeal.main_v0_2)),
      θ_run (Cert.AdamFfnWInIdeal.defs (F := Ideal)) (onTc (τ := Cert.AdamFfnWInIdeal.τ) (Cert.AdamFfnWInIdeal.main (F := Ideal))) ⟨m, fun _ => 0, g⟩ (fun r => ∀ c : Dev Cert.AdamFfnWInIdeal.nD,
          r.2.mem ((c.tc : Thread Cert.AdamFfnWInIdeal.nD Cert.AdamFfnWInIdeal.τ).loc Cert.AdamFfnWInIdeal.main_v0_0) = v0 c
          ∧ r.2.mem ((c.tc : Thread Cert.AdamFfnWInIdeal.nD Cert.AdamFfnWInIdeal.τ).loc Cert.AdamFfnWInIdeal.main_v0_1) = v1 c
          ∧ r.2.mem ((c.tc : Thread Cert.AdamFfnWInIdeal.nD Cert.AdamFfnWInIdeal.τ).loc Cert.AdamFfnWInIdeal.main_v0_2) = v2 c
          ∧ r.2.mem ((c.tc : Thread Cert.AdamFfnWInIdeal.nD Cert.AdamFfnWInIdeal.τ).loc Cert.AdamFfnWInIdeal.main_arg0) = m ((c.tc : Thread Cert.AdamFfnWInIdeal.nD Cert.AdamFfnWInIdeal.τ).loc Cert.AdamFfnWInIdeal.main_arg0)
          ∧ r.2.mem ((c.tc : Thread Cert.AdamFfnWInIdeal.nD Cert.AdamFfnWInIdeal.τ).loc Cert.AdamFfnWInIdeal.main_arg1) = m ((c.tc : Thread Cert.AdamFfnWInIdeal.nD Cert.AdamFfnWInIdeal.τ).loc Cert.AdamFfnWInIdeal.main_arg1)
          ∧ r.2.mem ((c.tc : Thread Cert.AdamFfnWInIdeal.nD Cert.AdamFfnWInIdeal.τ).loc Cert.AdamFfnWInIdeal.main_arg2) = m ((c.tc : Thread Cert.AdamFfnWInIdeal.nD Cert.AdamFfnWInIdeal.τ).loc Cert.AdamFfnWInIdeal.main_arg2)
          ∧ r.2.mem ((c.tc : Thread Cert.AdamFfnWInIdeal.nD Cert.AdamFfnWInIdeal.τ).loc Cert.AdamFfnWInIdeal.main_arg3) = m ((c.tc : Thread Cert.AdamFfnWInIdeal.nD Cert.AdamFfnWInIdeal.τ).loc Cert.AdamFfnWInIdeal.main_arg3))
      ∧ θ_run (Cert.AdamFfnWInReferenceIdeal.defs (F := Ideal)) (onTc (τ := Cert.AdamFfnWInReferenceIdeal.τ) (Cert.AdamFfnWInReferenceIdeal.main (F := Ideal))) ⟨m', fun _ => 0, g'⟩ (fun r => ∀ c : Dev Cert.AdamFfnWInReferenceIdeal.nD,
          r.2.mem ((c.tc : Thread Cert.AdamFfnWInReferenceIdeal.nD Cert.AdamFfnWInReferenceIdeal.τ).loc Cert.AdamFfnWInReferenceIdeal.main_v23) = v0 c
          ∧ r.2.mem ((c.tc : Thread Cert.AdamFfnWInReferenceIdeal.nD Cert.AdamFfnWInReferenceIdeal.τ).loc Cert.AdamFfnWInReferenceIdeal.main_v4) = v1 c
          ∧ r.2.mem ((c.tc : Thread Cert.AdamFfnWInReferenceIdeal.nD Cert.AdamFfnWInReferenceIdeal.τ).loc Cert.AdamFfnWInReferenceIdeal.main_v10) = v2 c
          ∧ r.2.mem ((c.tc : Thread Cert.AdamFfnWInReferenceIdeal.nD Cert.AdamFfnWInReferenceIdeal.τ).loc Cert.AdamFfnWInReferenceIdeal.main_arg0) = m' ((c.tc : Thread Cert.AdamFfnWInReferenceIdeal.nD Cert.AdamFfnWInReferenceIdeal.τ).loc Cert.AdamFfnWInReferenceIdeal.main_arg0)
          ∧ r.2.mem ((c.tc : Thread Cert.AdamFfnWInReferenceIdeal.nD Cert.AdamFfnWInReferenceIdeal.τ).loc Cert.AdamFfnWInReferenceIdeal.main_arg1) = m' ((c.tc : Thread Cert.AdamFfnWInReferenceIdeal.nD Cert.AdamFfnWInReferenceIdeal.τ).loc Cert.AdamFfnWInReferenceIdeal.main_arg1)
          ∧ r.2.mem ((c.tc : Thread Cert.AdamFfnWInReferenceIdeal.nD Cert.AdamFfnWInReferenceIdeal.τ).loc Cert.AdamFfnWInReferenceIdeal.main_arg2) = m' ((c.tc : Thread Cert.AdamFfnWInReferenceIdeal.nD Cert.AdamFfnWInReferenceIdeal.τ).loc Cert.AdamFfnWInReferenceIdeal.main_arg2)
          ∧ r.2.mem ((c.tc : Thread Cert.AdamFfnWInReferenceIdeal.nD Cert.AdamFfnWInReferenceIdeal.τ).loc Cert.AdamFfnWInReferenceIdeal.main_arg3) = m' ((c.tc : Thread Cert.AdamFfnWInReferenceIdeal.nD Cert.AdamFfnWInReferenceIdeal.τ).loc Cert.AdamFfnWInReferenceIdeal.main_arg3))

def preserves_AdamMemWKv_AdamMemWKvIdeal : Prop :=
  True

def algebraic_AdamMemWKvIdeal_AdamMemWKvReferenceIdeal [hAdamMemWKvIdeal : Cert.AdamMemWKvIdeal.Facts] [hAdamMemWKvReferenceIdeal : Cert.AdamMemWKvReferenceIdeal.Facts] : Prop :=
  ∀ (m : (ℓ : Loc Cert.AdamMemWKvIdeal.nD Cert.AdamMemWKvIdeal.τ Cert.AdamMemWKvIdeal.sig) → Buf (Elt Ideal) ℓ) (g : Dev Cert.AdamMemWKvIdeal.nD → PrngReg)
    (m' : (ℓ : Loc Cert.AdamMemWKvReferenceIdeal.nD Cert.AdamMemWKvReferenceIdeal.τ Cert.AdamMemWKvReferenceIdeal.sig) → Buf (Elt Ideal) ℓ) (g' : Dev Cert.AdamMemWKvReferenceIdeal.nD → PrngReg), Pre_AdamMemWKvIdeal m →
    (∀ c : Dev Cert.AdamMemWKvIdeal.nD,
      m' ((c.tc : Thread Cert.AdamMemWKvReferenceIdeal.nD Cert.AdamMemWKvReferenceIdeal.τ).loc Cert.AdamMemWKvReferenceIdeal.main_arg0) = m ((c.tc : Thread Cert.AdamMemWKvIdeal.nD Cert.AdamMemWKvIdeal.τ).loc Cert.AdamMemWKvIdeal.main_arg0)
      ∧ m' ((c.tc : Thread Cert.AdamMemWKvReferenceIdeal.nD Cert.AdamMemWKvReferenceIdeal.τ).loc Cert.AdamMemWKvReferenceIdeal.main_arg1) = m ((c.tc : Thread Cert.AdamMemWKvIdeal.nD Cert.AdamMemWKvIdeal.τ).loc Cert.AdamMemWKvIdeal.main_arg1)
      ∧ m' ((c.tc : Thread Cert.AdamMemWKvReferenceIdeal.nD Cert.AdamMemWKvReferenceIdeal.τ).loc Cert.AdamMemWKvReferenceIdeal.main_arg2) = m ((c.tc : Thread Cert.AdamMemWKvIdeal.nD Cert.AdamMemWKvIdeal.τ).loc Cert.AdamMemWKvIdeal.main_arg2)
      ∧ m' ((c.tc : Thread Cert.AdamMemWKvReferenceIdeal.nD Cert.AdamMemWKvReferenceIdeal.τ).loc Cert.AdamMemWKvReferenceIdeal.main_arg3) = m ((c.tc : Thread Cert.AdamMemWKvIdeal.nD Cert.AdamMemWKvIdeal.τ).loc Cert.AdamMemWKvIdeal.main_arg3)) →
    ∃ (v0 : (c : Dev Cert.AdamMemWKvIdeal.nD) → Buf (Elt Ideal) ((c.tc : Thread Cert.AdamMemWKvIdeal.nD Cert.AdamMemWKvIdeal.τ).loc Cert.AdamMemWKvIdeal.main_v0_0)) (v1 : (c : Dev Cert.AdamMemWKvIdeal.nD) → Buf (Elt Ideal) ((c.tc : Thread Cert.AdamMemWKvIdeal.nD Cert.AdamMemWKvIdeal.τ).loc Cert.AdamMemWKvIdeal.main_v0_1)) (v2 : (c : Dev Cert.AdamMemWKvIdeal.nD) → Buf (Elt Ideal) ((c.tc : Thread Cert.AdamMemWKvIdeal.nD Cert.AdamMemWKvIdeal.τ).loc Cert.AdamMemWKvIdeal.main_v0_2)),
      θ_run (Cert.AdamMemWKvIdeal.defs (F := Ideal)) (onTc (τ := Cert.AdamMemWKvIdeal.τ) (Cert.AdamMemWKvIdeal.main (F := Ideal))) ⟨m, fun _ => 0, g⟩ (fun r => ∀ c : Dev Cert.AdamMemWKvIdeal.nD,
          r.2.mem ((c.tc : Thread Cert.AdamMemWKvIdeal.nD Cert.AdamMemWKvIdeal.τ).loc Cert.AdamMemWKvIdeal.main_v0_0) = v0 c
          ∧ r.2.mem ((c.tc : Thread Cert.AdamMemWKvIdeal.nD Cert.AdamMemWKvIdeal.τ).loc Cert.AdamMemWKvIdeal.main_v0_1) = v1 c
          ∧ r.2.mem ((c.tc : Thread Cert.AdamMemWKvIdeal.nD Cert.AdamMemWKvIdeal.τ).loc Cert.AdamMemWKvIdeal.main_v0_2) = v2 c
          ∧ r.2.mem ((c.tc : Thread Cert.AdamMemWKvIdeal.nD Cert.AdamMemWKvIdeal.τ).loc Cert.AdamMemWKvIdeal.main_arg0) = m ((c.tc : Thread Cert.AdamMemWKvIdeal.nD Cert.AdamMemWKvIdeal.τ).loc Cert.AdamMemWKvIdeal.main_arg0)
          ∧ r.2.mem ((c.tc : Thread Cert.AdamMemWKvIdeal.nD Cert.AdamMemWKvIdeal.τ).loc Cert.AdamMemWKvIdeal.main_arg1) = m ((c.tc : Thread Cert.AdamMemWKvIdeal.nD Cert.AdamMemWKvIdeal.τ).loc Cert.AdamMemWKvIdeal.main_arg1)
          ∧ r.2.mem ((c.tc : Thread Cert.AdamMemWKvIdeal.nD Cert.AdamMemWKvIdeal.τ).loc Cert.AdamMemWKvIdeal.main_arg2) = m ((c.tc : Thread Cert.AdamMemWKvIdeal.nD Cert.AdamMemWKvIdeal.τ).loc Cert.AdamMemWKvIdeal.main_arg2)
          ∧ r.2.mem ((c.tc : Thread Cert.AdamMemWKvIdeal.nD Cert.AdamMemWKvIdeal.τ).loc Cert.AdamMemWKvIdeal.main_arg3) = m ((c.tc : Thread Cert.AdamMemWKvIdeal.nD Cert.AdamMemWKvIdeal.τ).loc Cert.AdamMemWKvIdeal.main_arg3))
      ∧ θ_run (Cert.AdamMemWKvReferenceIdeal.defs (F := Ideal)) (onTc (τ := Cert.AdamMemWKvReferenceIdeal.τ) (Cert.AdamMemWKvReferenceIdeal.main (F := Ideal))) ⟨m', fun _ => 0, g'⟩ (fun r => ∀ c : Dev Cert.AdamMemWKvReferenceIdeal.nD,
          r.2.mem ((c.tc : Thread Cert.AdamMemWKvReferenceIdeal.nD Cert.AdamMemWKvReferenceIdeal.τ).loc Cert.AdamMemWKvReferenceIdeal.main_v23) = v0 c
          ∧ r.2.mem ((c.tc : Thread Cert.AdamMemWKvReferenceIdeal.nD Cert.AdamMemWKvReferenceIdeal.τ).loc Cert.AdamMemWKvReferenceIdeal.main_v4) = v1 c
          ∧ r.2.mem ((c.tc : Thread Cert.AdamMemWKvReferenceIdeal.nD Cert.AdamMemWKvReferenceIdeal.τ).loc Cert.AdamMemWKvReferenceIdeal.main_v10) = v2 c
          ∧ r.2.mem ((c.tc : Thread Cert.AdamMemWKvReferenceIdeal.nD Cert.AdamMemWKvReferenceIdeal.τ).loc Cert.AdamMemWKvReferenceIdeal.main_arg0) = m' ((c.tc : Thread Cert.AdamMemWKvReferenceIdeal.nD Cert.AdamMemWKvReferenceIdeal.τ).loc Cert.AdamMemWKvReferenceIdeal.main_arg0)
          ∧ r.2.mem ((c.tc : Thread Cert.AdamMemWKvReferenceIdeal.nD Cert.AdamMemWKvReferenceIdeal.τ).loc Cert.AdamMemWKvReferenceIdeal.main_arg1) = m' ((c.tc : Thread Cert.AdamMemWKvReferenceIdeal.nD Cert.AdamMemWKvReferenceIdeal.τ).loc Cert.AdamMemWKvReferenceIdeal.main_arg1)
          ∧ r.2.mem ((c.tc : Thread Cert.AdamMemWKvReferenceIdeal.nD Cert.AdamMemWKvReferenceIdeal.τ).loc Cert.AdamMemWKvReferenceIdeal.main_arg2) = m' ((c.tc : Thread Cert.AdamMemWKvReferenceIdeal.nD Cert.AdamMemWKvReferenceIdeal.τ).loc Cert.AdamMemWKvReferenceIdeal.main_arg2)
          ∧ r.2.mem ((c.tc : Thread Cert.AdamMemWKvReferenceIdeal.nD Cert.AdamMemWKvReferenceIdeal.τ).loc Cert.AdamMemWKvReferenceIdeal.main_arg3) = m' ((c.tc : Thread Cert.AdamMemWKvReferenceIdeal.nD Cert.AdamMemWKvReferenceIdeal.τ).loc Cert.AdamMemWKvReferenceIdeal.main_arg3))

def preserves_AdamWBr_AdamWBrIdeal : Prop :=
  True

def algebraic_AdamWBrIdeal_AdamWBrReferenceIdeal [hAdamWBrIdeal : Cert.AdamWBrIdeal.Facts] [hAdamWBrReferenceIdeal : Cert.AdamWBrReferenceIdeal.Facts] : Prop :=
  ∀ (m : (ℓ : Loc Cert.AdamWBrIdeal.nD Cert.AdamWBrIdeal.τ Cert.AdamWBrIdeal.sig) → Buf (Elt Ideal) ℓ) (g : Dev Cert.AdamWBrIdeal.nD → PrngReg)
    (m' : (ℓ : Loc Cert.AdamWBrReferenceIdeal.nD Cert.AdamWBrReferenceIdeal.τ Cert.AdamWBrReferenceIdeal.sig) → Buf (Elt Ideal) ℓ) (g' : Dev Cert.AdamWBrReferenceIdeal.nD → PrngReg), Pre_AdamWBrIdeal m →
    (∀ c : Dev Cert.AdamWBrIdeal.nD,
      m' ((c.tc : Thread Cert.AdamWBrReferenceIdeal.nD Cert.AdamWBrReferenceIdeal.τ).loc Cert.AdamWBrReferenceIdeal.main_arg0) = m ((c.tc : Thread Cert.AdamWBrIdeal.nD Cert.AdamWBrIdeal.τ).loc Cert.AdamWBrIdeal.main_arg0)
      ∧ m' ((c.tc : Thread Cert.AdamWBrReferenceIdeal.nD Cert.AdamWBrReferenceIdeal.τ).loc Cert.AdamWBrReferenceIdeal.main_arg1) = m ((c.tc : Thread Cert.AdamWBrIdeal.nD Cert.AdamWBrIdeal.τ).loc Cert.AdamWBrIdeal.main_arg1)
      ∧ m' ((c.tc : Thread Cert.AdamWBrReferenceIdeal.nD Cert.AdamWBrReferenceIdeal.τ).loc Cert.AdamWBrReferenceIdeal.main_arg2) = m ((c.tc : Thread Cert.AdamWBrIdeal.nD Cert.AdamWBrIdeal.τ).loc Cert.AdamWBrIdeal.main_arg2)
      ∧ m' ((c.tc : Thread Cert.AdamWBrReferenceIdeal.nD Cert.AdamWBrReferenceIdeal.τ).loc Cert.AdamWBrReferenceIdeal.main_arg3) = m ((c.tc : Thread Cert.AdamWBrIdeal.nD Cert.AdamWBrIdeal.τ).loc Cert.AdamWBrIdeal.main_arg3)) →
    ∃ (v0 : (c : Dev Cert.AdamWBrIdeal.nD) → Buf (Elt Ideal) ((c.tc : Thread Cert.AdamWBrIdeal.nD Cert.AdamWBrIdeal.τ).loc Cert.AdamWBrIdeal.main_v0_0)) (v1 : (c : Dev Cert.AdamWBrIdeal.nD) → Buf (Elt Ideal) ((c.tc : Thread Cert.AdamWBrIdeal.nD Cert.AdamWBrIdeal.τ).loc Cert.AdamWBrIdeal.main_v0_1)) (v2 : (c : Dev Cert.AdamWBrIdeal.nD) → Buf (Elt Ideal) ((c.tc : Thread Cert.AdamWBrIdeal.nD Cert.AdamWBrIdeal.τ).loc Cert.AdamWBrIdeal.main_v0_2)),
      θ_run (Cert.AdamWBrIdeal.defs (F := Ideal)) (onTc (τ := Cert.AdamWBrIdeal.τ) (Cert.AdamWBrIdeal.main (F := Ideal))) ⟨m, fun _ => 0, g⟩ (fun r => ∀ c : Dev Cert.AdamWBrIdeal.nD,
          r.2.mem ((c.tc : Thread Cert.AdamWBrIdeal.nD Cert.AdamWBrIdeal.τ).loc Cert.AdamWBrIdeal.main_v0_0) = v0 c
          ∧ r.2.mem ((c.tc : Thread Cert.AdamWBrIdeal.nD Cert.AdamWBrIdeal.τ).loc Cert.AdamWBrIdeal.main_v0_1) = v1 c
          ∧ r.2.mem ((c.tc : Thread Cert.AdamWBrIdeal.nD Cert.AdamWBrIdeal.τ).loc Cert.AdamWBrIdeal.main_v0_2) = v2 c
          ∧ r.2.mem ((c.tc : Thread Cert.AdamWBrIdeal.nD Cert.AdamWBrIdeal.τ).loc Cert.AdamWBrIdeal.main_arg0) = m ((c.tc : Thread Cert.AdamWBrIdeal.nD Cert.AdamWBrIdeal.τ).loc Cert.AdamWBrIdeal.main_arg0)
          ∧ r.2.mem ((c.tc : Thread Cert.AdamWBrIdeal.nD Cert.AdamWBrIdeal.τ).loc Cert.AdamWBrIdeal.main_arg1) = m ((c.tc : Thread Cert.AdamWBrIdeal.nD Cert.AdamWBrIdeal.τ).loc Cert.AdamWBrIdeal.main_arg1)
          ∧ r.2.mem ((c.tc : Thread Cert.AdamWBrIdeal.nD Cert.AdamWBrIdeal.τ).loc Cert.AdamWBrIdeal.main_arg2) = m ((c.tc : Thread Cert.AdamWBrIdeal.nD Cert.AdamWBrIdeal.τ).loc Cert.AdamWBrIdeal.main_arg2)
          ∧ r.2.mem ((c.tc : Thread Cert.AdamWBrIdeal.nD Cert.AdamWBrIdeal.τ).loc Cert.AdamWBrIdeal.main_arg3) = m ((c.tc : Thread Cert.AdamWBrIdeal.nD Cert.AdamWBrIdeal.τ).loc Cert.AdamWBrIdeal.main_arg3))
      ∧ θ_run (Cert.AdamWBrReferenceIdeal.defs (F := Ideal)) (onTc (τ := Cert.AdamWBrReferenceIdeal.τ) (Cert.AdamWBrReferenceIdeal.main (F := Ideal))) ⟨m', fun _ => 0, g'⟩ (fun r => ∀ c : Dev Cert.AdamWBrReferenceIdeal.nD,
          r.2.mem ((c.tc : Thread Cert.AdamWBrReferenceIdeal.nD Cert.AdamWBrReferenceIdeal.τ).loc Cert.AdamWBrReferenceIdeal.main_v23) = v0 c
          ∧ r.2.mem ((c.tc : Thread Cert.AdamWBrReferenceIdeal.nD Cert.AdamWBrReferenceIdeal.τ).loc Cert.AdamWBrReferenceIdeal.main_v4) = v1 c
          ∧ r.2.mem ((c.tc : Thread Cert.AdamWBrReferenceIdeal.nD Cert.AdamWBrReferenceIdeal.τ).loc Cert.AdamWBrReferenceIdeal.main_v10) = v2 c
          ∧ r.2.mem ((c.tc : Thread Cert.AdamWBrReferenceIdeal.nD Cert.AdamWBrReferenceIdeal.τ).loc Cert.AdamWBrReferenceIdeal.main_arg0) = m' ((c.tc : Thread Cert.AdamWBrReferenceIdeal.nD Cert.AdamWBrReferenceIdeal.τ).loc Cert.AdamWBrReferenceIdeal.main_arg0)
          ∧ r.2.mem ((c.tc : Thread Cert.AdamWBrReferenceIdeal.nD Cert.AdamWBrReferenceIdeal.τ).loc Cert.AdamWBrReferenceIdeal.main_arg1) = m' ((c.tc : Thread Cert.AdamWBrReferenceIdeal.nD Cert.AdamWBrReferenceIdeal.τ).loc Cert.AdamWBrReferenceIdeal.main_arg1)
          ∧ r.2.mem ((c.tc : Thread Cert.AdamWBrReferenceIdeal.nD Cert.AdamWBrReferenceIdeal.τ).loc Cert.AdamWBrReferenceIdeal.main_arg2) = m' ((c.tc : Thread Cert.AdamWBrReferenceIdeal.nD Cert.AdamWBrReferenceIdeal.τ).loc Cert.AdamWBrReferenceIdeal.main_arg2)
          ∧ r.2.mem ((c.tc : Thread Cert.AdamWBrReferenceIdeal.nD Cert.AdamWBrReferenceIdeal.τ).loc Cert.AdamWBrReferenceIdeal.main_arg3) = m' ((c.tc : Thread Cert.AdamWBrReferenceIdeal.nD Cert.AdamWBrReferenceIdeal.τ).loc Cert.AdamWBrReferenceIdeal.main_arg3))

def preserves_AdamWBrSsd_AdamWBrSsdIdeal : Prop :=
  True

def algebraic_AdamWBrSsdIdeal_AdamWBrSsdReferenceIdeal [hAdamWBrSsdIdeal : Cert.AdamWBrSsdIdeal.Facts] [hAdamWBrSsdReferenceIdeal : Cert.AdamWBrSsdReferenceIdeal.Facts] : Prop :=
  ∀ (m : (ℓ : Loc Cert.AdamWBrSsdIdeal.nD Cert.AdamWBrSsdIdeal.τ Cert.AdamWBrSsdIdeal.sig) → Buf (Elt Ideal) ℓ) (g : Dev Cert.AdamWBrSsdIdeal.nD → PrngReg)
    (m' : (ℓ : Loc Cert.AdamWBrSsdReferenceIdeal.nD Cert.AdamWBrSsdReferenceIdeal.τ Cert.AdamWBrSsdReferenceIdeal.sig) → Buf (Elt Ideal) ℓ) (g' : Dev Cert.AdamWBrSsdReferenceIdeal.nD → PrngReg), Pre_AdamWBrSsdIdeal m →
    (∀ c : Dev Cert.AdamWBrSsdIdeal.nD,
      m' ((c.tc : Thread Cert.AdamWBrSsdReferenceIdeal.nD Cert.AdamWBrSsdReferenceIdeal.τ).loc Cert.AdamWBrSsdReferenceIdeal.main_arg0) = m ((c.tc : Thread Cert.AdamWBrSsdIdeal.nD Cert.AdamWBrSsdIdeal.τ).loc Cert.AdamWBrSsdIdeal.main_arg0)
      ∧ m' ((c.tc : Thread Cert.AdamWBrSsdReferenceIdeal.nD Cert.AdamWBrSsdReferenceIdeal.τ).loc Cert.AdamWBrSsdReferenceIdeal.main_arg1) = m ((c.tc : Thread Cert.AdamWBrSsdIdeal.nD Cert.AdamWBrSsdIdeal.τ).loc Cert.AdamWBrSsdIdeal.main_arg1)
      ∧ m' ((c.tc : Thread Cert.AdamWBrSsdReferenceIdeal.nD Cert.AdamWBrSsdReferenceIdeal.τ).loc Cert.AdamWBrSsdReferenceIdeal.main_arg2) = m ((c.tc : Thread Cert.AdamWBrSsdIdeal.nD Cert.AdamWBrSsdIdeal.τ).loc Cert.AdamWBrSsdIdeal.main_arg2)
      ∧ m' ((c.tc : Thread Cert.AdamWBrSsdReferenceIdeal.nD Cert.AdamWBrSsdReferenceIdeal.τ).loc Cert.AdamWBrSsdReferenceIdeal.main_arg3) = m ((c.tc : Thread Cert.AdamWBrSsdIdeal.nD Cert.AdamWBrSsdIdeal.τ).loc Cert.AdamWBrSsdIdeal.main_arg3)) →
    ∃ (v0 : (c : Dev Cert.AdamWBrSsdIdeal.nD) → Buf (Elt Ideal) ((c.tc : Thread Cert.AdamWBrSsdIdeal.nD Cert.AdamWBrSsdIdeal.τ).loc Cert.AdamWBrSsdIdeal.main_v0_0)) (v1 : (c : Dev Cert.AdamWBrSsdIdeal.nD) → Buf (Elt Ideal) ((c.tc : Thread Cert.AdamWBrSsdIdeal.nD Cert.AdamWBrSsdIdeal.τ).loc Cert.AdamWBrSsdIdeal.main_v0_1)) (v2 : (c : Dev Cert.AdamWBrSsdIdeal.nD) → Buf (Elt Ideal) ((c.tc : Thread Cert.AdamWBrSsdIdeal.nD Cert.AdamWBrSsdIdeal.τ).loc Cert.AdamWBrSsdIdeal.main_v0_2)),
      θ_run (Cert.AdamWBrSsdIdeal.defs (F := Ideal)) (onTc (τ := Cert.AdamWBrSsdIdeal.τ) (Cert.AdamWBrSsdIdeal.main (F := Ideal))) ⟨m, fun _ => 0, g⟩ (fun r => ∀ c : Dev Cert.AdamWBrSsdIdeal.nD,
          r.2.mem ((c.tc : Thread Cert.AdamWBrSsdIdeal.nD Cert.AdamWBrSsdIdeal.τ).loc Cert.AdamWBrSsdIdeal.main_v0_0) = v0 c
          ∧ r.2.mem ((c.tc : Thread Cert.AdamWBrSsdIdeal.nD Cert.AdamWBrSsdIdeal.τ).loc Cert.AdamWBrSsdIdeal.main_v0_1) = v1 c
          ∧ r.2.mem ((c.tc : Thread Cert.AdamWBrSsdIdeal.nD Cert.AdamWBrSsdIdeal.τ).loc Cert.AdamWBrSsdIdeal.main_v0_2) = v2 c
          ∧ r.2.mem ((c.tc : Thread Cert.AdamWBrSsdIdeal.nD Cert.AdamWBrSsdIdeal.τ).loc Cert.AdamWBrSsdIdeal.main_arg0) = m ((c.tc : Thread Cert.AdamWBrSsdIdeal.nD Cert.AdamWBrSsdIdeal.τ).loc Cert.AdamWBrSsdIdeal.main_arg0)
          ∧ r.2.mem ((c.tc : Thread Cert.AdamWBrSsdIdeal.nD Cert.AdamWBrSsdIdeal.τ).loc Cert.AdamWBrSsdIdeal.main_arg1) = m ((c.tc : Thread Cert.AdamWBrSsdIdeal.nD Cert.AdamWBrSsdIdeal.τ).loc Cert.AdamWBrSsdIdeal.main_arg1)
          ∧ r.2.mem ((c.tc : Thread Cert.AdamWBrSsdIdeal.nD Cert.AdamWBrSsdIdeal.τ).loc Cert.AdamWBrSsdIdeal.main_arg2) = m ((c.tc : Thread Cert.AdamWBrSsdIdeal.nD Cert.AdamWBrSsdIdeal.τ).loc Cert.AdamWBrSsdIdeal.main_arg2)
          ∧ r.2.mem ((c.tc : Thread Cert.AdamWBrSsdIdeal.nD Cert.AdamWBrSsdIdeal.τ).loc Cert.AdamWBrSsdIdeal.main_arg3) = m ((c.tc : Thread Cert.AdamWBrSsdIdeal.nD Cert.AdamWBrSsdIdeal.τ).loc Cert.AdamWBrSsdIdeal.main_arg3))
      ∧ θ_run (Cert.AdamWBrSsdReferenceIdeal.defs (F := Ideal)) (onTc (τ := Cert.AdamWBrSsdReferenceIdeal.τ) (Cert.AdamWBrSsdReferenceIdeal.main (F := Ideal))) ⟨m', fun _ => 0, g'⟩ (fun r => ∀ c : Dev Cert.AdamWBrSsdReferenceIdeal.nD,
          r.2.mem ((c.tc : Thread Cert.AdamWBrSsdReferenceIdeal.nD Cert.AdamWBrSsdReferenceIdeal.τ).loc Cert.AdamWBrSsdReferenceIdeal.main_v23) = v0 c
          ∧ r.2.mem ((c.tc : Thread Cert.AdamWBrSsdReferenceIdeal.nD Cert.AdamWBrSsdReferenceIdeal.τ).loc Cert.AdamWBrSsdReferenceIdeal.main_v4) = v1 c
          ∧ r.2.mem ((c.tc : Thread Cert.AdamWBrSsdReferenceIdeal.nD Cert.AdamWBrSsdReferenceIdeal.τ).loc Cert.AdamWBrSsdReferenceIdeal.main_v10) = v2 c
          ∧ r.2.mem ((c.tc : Thread Cert.AdamWBrSsdReferenceIdeal.nD Cert.AdamWBrSsdReferenceIdeal.τ).loc Cert.AdamWBrSsdReferenceIdeal.main_arg0) = m' ((c.tc : Thread Cert.AdamWBrSsdReferenceIdeal.nD Cert.AdamWBrSsdReferenceIdeal.τ).loc Cert.AdamWBrSsdReferenceIdeal.main_arg0)
          ∧ r.2.mem ((c.tc : Thread Cert.AdamWBrSsdReferenceIdeal.nD Cert.AdamWBrSsdReferenceIdeal.τ).loc Cert.AdamWBrSsdReferenceIdeal.main_arg1) = m' ((c.tc : Thread Cert.AdamWBrSsdReferenceIdeal.nD Cert.AdamWBrSsdReferenceIdeal.τ).loc Cert.AdamWBrSsdReferenceIdeal.main_arg1)
          ∧ r.2.mem ((c.tc : Thread Cert.AdamWBrSsdReferenceIdeal.nD Cert.AdamWBrSsdReferenceIdeal.τ).loc Cert.AdamWBrSsdReferenceIdeal.main_arg2) = m' ((c.tc : Thread Cert.AdamWBrSsdReferenceIdeal.nD Cert.AdamWBrSsdReferenceIdeal.τ).loc Cert.AdamWBrSsdReferenceIdeal.main_arg2)
          ∧ r.2.mem ((c.tc : Thread Cert.AdamWBrSsdReferenceIdeal.nD Cert.AdamWBrSsdReferenceIdeal.τ).loc Cert.AdamWBrSsdReferenceIdeal.main_arg3) = m' ((c.tc : Thread Cert.AdamWBrSsdReferenceIdeal.nD Cert.AdamWBrSsdReferenceIdeal.τ).loc Cert.AdamWBrSsdReferenceIdeal.main_arg3))

def preserves_AdamFfnWDown_AdamFfnWDownIdeal : Prop :=
  True

def algebraic_AdamFfnWDownIdeal_AdamFfnWDownReferenceIdeal [hAdamFfnWDownIdeal : Cert.AdamFfnWDownIdeal.Facts] [hAdamFfnWDownReferenceIdeal : Cert.AdamFfnWDownReferenceIdeal.Facts] : Prop :=
  ∀ (m : (ℓ : Loc Cert.AdamFfnWDownIdeal.nD Cert.AdamFfnWDownIdeal.τ Cert.AdamFfnWDownIdeal.sig) → Buf (Elt Ideal) ℓ) (g : Dev Cert.AdamFfnWDownIdeal.nD → PrngReg)
    (m' : (ℓ : Loc Cert.AdamFfnWDownReferenceIdeal.nD Cert.AdamFfnWDownReferenceIdeal.τ Cert.AdamFfnWDownReferenceIdeal.sig) → Buf (Elt Ideal) ℓ) (g' : Dev Cert.AdamFfnWDownReferenceIdeal.nD → PrngReg), Pre_AdamFfnWDownIdeal m →
    (∀ c : Dev Cert.AdamFfnWDownIdeal.nD,
      m' ((c.tc : Thread Cert.AdamFfnWDownReferenceIdeal.nD Cert.AdamFfnWDownReferenceIdeal.τ).loc Cert.AdamFfnWDownReferenceIdeal.main_arg0) = m ((c.tc : Thread Cert.AdamFfnWDownIdeal.nD Cert.AdamFfnWDownIdeal.τ).loc Cert.AdamFfnWDownIdeal.main_arg0)
      ∧ m' ((c.tc : Thread Cert.AdamFfnWDownReferenceIdeal.nD Cert.AdamFfnWDownReferenceIdeal.τ).loc Cert.AdamFfnWDownReferenceIdeal.main_arg1) = m ((c.tc : Thread Cert.AdamFfnWDownIdeal.nD Cert.AdamFfnWDownIdeal.τ).loc Cert.AdamFfnWDownIdeal.main_arg1)
      ∧ m' ((c.tc : Thread Cert.AdamFfnWDownReferenceIdeal.nD Cert.AdamFfnWDownReferenceIdeal.τ).loc Cert.AdamFfnWDownReferenceIdeal.main_arg2) = m ((c.tc : Thread Cert.AdamFfnWDownIdeal.nD Cert.AdamFfnWDownIdeal.τ).loc Cert.AdamFfnWDownIdeal.main_arg2)
      ∧ m' ((c.tc : Thread Cert.AdamFfnWDownReferenceIdeal.nD Cert.AdamFfnWDownReferenceIdeal.τ).loc Cert.AdamFfnWDownReferenceIdeal.main_arg3) = m ((c.tc : Thread Cert.AdamFfnWDownIdeal.nD Cert.AdamFfnWDownIdeal.τ).loc Cert.AdamFfnWDownIdeal.main_arg3)) →
    ∃ (v0 : (c : Dev Cert.AdamFfnWDownIdeal.nD) → Buf (Elt Ideal) ((c.tc : Thread Cert.AdamFfnWDownIdeal.nD Cert.AdamFfnWDownIdeal.τ).loc Cert.AdamFfnWDownIdeal.main_v0_0)) (v1 : (c : Dev Cert.AdamFfnWDownIdeal.nD) → Buf (Elt Ideal) ((c.tc : Thread Cert.AdamFfnWDownIdeal.nD Cert.AdamFfnWDownIdeal.τ).loc Cert.AdamFfnWDownIdeal.main_v0_1)) (v2 : (c : Dev Cert.AdamFfnWDownIdeal.nD) → Buf (Elt Ideal) ((c.tc : Thread Cert.AdamFfnWDownIdeal.nD Cert.AdamFfnWDownIdeal.τ).loc Cert.AdamFfnWDownIdeal.main_v0_2)),
      θ_run (Cert.AdamFfnWDownIdeal.defs (F := Ideal)) (onTc (τ := Cert.AdamFfnWDownIdeal.τ) (Cert.AdamFfnWDownIdeal.main (F := Ideal))) ⟨m, fun _ => 0, g⟩ (fun r => ∀ c : Dev Cert.AdamFfnWDownIdeal.nD,
          r.2.mem ((c.tc : Thread Cert.AdamFfnWDownIdeal.nD Cert.AdamFfnWDownIdeal.τ).loc Cert.AdamFfnWDownIdeal.main_v0_0) = v0 c
          ∧ r.2.mem ((c.tc : Thread Cert.AdamFfnWDownIdeal.nD Cert.AdamFfnWDownIdeal.τ).loc Cert.AdamFfnWDownIdeal.main_v0_1) = v1 c
          ∧ r.2.mem ((c.tc : Thread Cert.AdamFfnWDownIdeal.nD Cert.AdamFfnWDownIdeal.τ).loc Cert.AdamFfnWDownIdeal.main_v0_2) = v2 c
          ∧ r.2.mem ((c.tc : Thread Cert.AdamFfnWDownIdeal.nD Cert.AdamFfnWDownIdeal.τ).loc Cert.AdamFfnWDownIdeal.main_arg0) = m ((c.tc : Thread Cert.AdamFfnWDownIdeal.nD Cert.AdamFfnWDownIdeal.τ).loc Cert.AdamFfnWDownIdeal.main_arg0)
          ∧ r.2.mem ((c.tc : Thread Cert.AdamFfnWDownIdeal.nD Cert.AdamFfnWDownIdeal.τ).loc Cert.AdamFfnWDownIdeal.main_arg1) = m ((c.tc : Thread Cert.AdamFfnWDownIdeal.nD Cert.AdamFfnWDownIdeal.τ).loc Cert.AdamFfnWDownIdeal.main_arg1)
          ∧ r.2.mem ((c.tc : Thread Cert.AdamFfnWDownIdeal.nD Cert.AdamFfnWDownIdeal.τ).loc Cert.AdamFfnWDownIdeal.main_arg2) = m ((c.tc : Thread Cert.AdamFfnWDownIdeal.nD Cert.AdamFfnWDownIdeal.τ).loc Cert.AdamFfnWDownIdeal.main_arg2)
          ∧ r.2.mem ((c.tc : Thread Cert.AdamFfnWDownIdeal.nD Cert.AdamFfnWDownIdeal.τ).loc Cert.AdamFfnWDownIdeal.main_arg3) = m ((c.tc : Thread Cert.AdamFfnWDownIdeal.nD Cert.AdamFfnWDownIdeal.τ).loc Cert.AdamFfnWDownIdeal.main_arg3))
      ∧ θ_run (Cert.AdamFfnWDownReferenceIdeal.defs (F := Ideal)) (onTc (τ := Cert.AdamFfnWDownReferenceIdeal.τ) (Cert.AdamFfnWDownReferenceIdeal.main (F := Ideal))) ⟨m', fun _ => 0, g'⟩ (fun r => ∀ c : Dev Cert.AdamFfnWDownReferenceIdeal.nD,
          r.2.mem ((c.tc : Thread Cert.AdamFfnWDownReferenceIdeal.nD Cert.AdamFfnWDownReferenceIdeal.τ).loc Cert.AdamFfnWDownReferenceIdeal.main_v23) = v0 c
          ∧ r.2.mem ((c.tc : Thread Cert.AdamFfnWDownReferenceIdeal.nD Cert.AdamFfnWDownReferenceIdeal.τ).loc Cert.AdamFfnWDownReferenceIdeal.main_v4) = v1 c
          ∧ r.2.mem ((c.tc : Thread Cert.AdamFfnWDownReferenceIdeal.nD Cert.AdamFfnWDownReferenceIdeal.τ).loc Cert.AdamFfnWDownReferenceIdeal.main_v10) = v2 c
          ∧ r.2.mem ((c.tc : Thread Cert.AdamFfnWDownReferenceIdeal.nD Cert.AdamFfnWDownReferenceIdeal.τ).loc Cert.AdamFfnWDownReferenceIdeal.main_arg0) = m' ((c.tc : Thread Cert.AdamFfnWDownReferenceIdeal.nD Cert.AdamFfnWDownReferenceIdeal.τ).loc Cert.AdamFfnWDownReferenceIdeal.main_arg0)
          ∧ r.2.mem ((c.tc : Thread Cert.AdamFfnWDownReferenceIdeal.nD Cert.AdamFfnWDownReferenceIdeal.τ).loc Cert.AdamFfnWDownReferenceIdeal.main_arg1) = m' ((c.tc : Thread Cert.AdamFfnWDownReferenceIdeal.nD Cert.AdamFfnWDownReferenceIdeal.τ).loc Cert.AdamFfnWDownReferenceIdeal.main_arg1)
          ∧ r.2.mem ((c.tc : Thread Cert.AdamFfnWDownReferenceIdeal.nD Cert.AdamFfnWDownReferenceIdeal.τ).loc Cert.AdamFfnWDownReferenceIdeal.main_arg2) = m' ((c.tc : Thread Cert.AdamFfnWDownReferenceIdeal.nD Cert.AdamFfnWDownReferenceIdeal.τ).loc Cert.AdamFfnWDownReferenceIdeal.main_arg2)
          ∧ r.2.mem ((c.tc : Thread Cert.AdamFfnWDownReferenceIdeal.nD Cert.AdamFfnWDownReferenceIdeal.τ).loc Cert.AdamFfnWDownReferenceIdeal.main_arg3) = m' ((c.tc : Thread Cert.AdamFfnWDownReferenceIdeal.nD Cert.AdamFfnWDownReferenceIdeal.τ).loc Cert.AdamFfnWDownReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v5) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1))

def preserves_LossGrad_LossGradIdeal : Prop :=
  True

def algebraic_LossGradIdeal_LossGradReferenceIdeal [hLossGradIdeal : Cert.LossGradIdeal.Facts] [hLossGradReferenceIdeal : Cert.LossGradReferenceIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradReferenceIdeal.nD Cert.LossGradReferenceIdeal.τ Cert.LossGradReferenceIdeal.sig) → Buf (Elt Ideal) ℓ) (g' : Dev Cert.LossGradReferenceIdeal.nD → PrngReg), Pre_LossGradIdeal m →
    (∀ c : Dev Cert.LossGradIdeal.nD,
      m' ((c.tc : Thread Cert.LossGradReferenceIdeal.nD Cert.LossGradReferenceIdeal.τ).loc Cert.LossGradReferenceIdeal.main_arg0) = m ((c.tc : Thread Cert.LossGradIdeal.nD Cert.LossGradIdeal.τ).loc Cert.LossGradIdeal.main_arg0)
      ∧ m' ((c.tc : Thread Cert.LossGradReferenceIdeal.nD Cert.LossGradReferenceIdeal.τ).loc Cert.LossGradReferenceIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradReferenceIdeal.defs (F := Ideal)) (onTc (τ := Cert.LossGradReferenceIdeal.τ) (Cert.LossGradReferenceIdeal.main (F := Ideal))) ⟨m', fun _ => 0, g'⟩ (fun r => ∀ c : Dev Cert.LossGradReferenceIdeal.nD,
          r.2.mem ((c.tc : Thread Cert.LossGradReferenceIdeal.nD Cert.LossGradReferenceIdeal.τ).loc Cert.LossGradReferenceIdeal.main_v14) = v0 c
          ∧ r.2.mem ((c.tc : Thread Cert.LossGradReferenceIdeal.nD Cert.LossGradReferenceIdeal.τ).loc Cert.LossGradReferenceIdeal.main_v15) = v1 c
          ∧ r.2.mem ((c.tc : Thread Cert.LossGradReferenceIdeal.nD Cert.LossGradReferenceIdeal.τ).loc Cert.LossGradReferenceIdeal.main_arg0) = m' ((c.tc : Thread Cert.LossGradReferenceIdeal.nD Cert.LossGradReferenceIdeal.τ).loc Cert.LossGradReferenceIdeal.main_arg0)
          ∧ r.2.mem ((c.tc : Thread Cert.LossGradReferenceIdeal.nD Cert.LossGradReferenceIdeal.τ).loc Cert.LossGradReferenceIdeal.main_arg1) = m' ((c.tc : Thread Cert.LossGradReferenceIdeal.nD Cert.LossGradReferenceIdeal.τ).loc Cert.LossGradReferenceIdeal.main_arg1))

def preserves_NormBwd_NormBwdIdeal : Prop :=
  True

def algebraic_NormBwdIdeal_NormBwdReferenceIdeal_pre_finite_norm [hNormBwdIdeal : Cert.NormBwdIdeal.Facts] [hNormBwdReferenceIdeal : Cert.NormBwdReferenceIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal_finite_norm m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v49) = v0 c
          ∧ r.2.mem ((c.tc : Thread Cert.NormBwdReferenceIdeal.nD Cert.NormBwdReferenceIdeal.τ).loc Cert.NormBwdReferenceIdeal.main_v44) = v1 c
          ∧ r.2.mem ((c.tc : Thread Cert.NormBwdReferenceIdeal.nD Cert.NormBwdReferenceIdeal.τ).loc Cert.NormBwdReferenceIdeal.main_v26) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4))

def preserves_SwigluFwd_SwigluFwdIdeal : Prop :=
  True

def algebraic_SwigluFwdIdeal_SwigluFwdReferenceIdeal [hSwigluFwdIdeal : Cert.SwigluFwdIdeal.Facts] [hSwigluFwdReferenceIdeal : Cert.SwigluFwdReferenceIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdReferenceIdeal.nD Cert.SwigluFwdReferenceIdeal.τ Cert.SwigluFwdReferenceIdeal.sig) → Buf (Elt Ideal) ℓ) (g' : Dev Cert.SwigluFwdReferenceIdeal.nD → PrngReg), Pre_SwigluFwdIdeal m →
    (∀ c : Dev Cert.SwigluFwdIdeal.nD,
      m' ((c.tc : Thread Cert.SwigluFwdReferenceIdeal.nD Cert.SwigluFwdReferenceIdeal.τ).loc Cert.SwigluFwdReferenceIdeal.main_arg0) = m ((c.tc : Thread Cert.SwigluFwdIdeal.nD Cert.SwigluFwdIdeal.τ).loc Cert.SwigluFwdIdeal.main_arg0)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ θ_run (Cert.SwigluFwdReferenceIdeal.defs (F := Ideal)) (onTc (τ := Cert.SwigluFwdReferenceIdeal.τ) (Cert.SwigluFwdReferenceIdeal.main (F := Ideal))) ⟨m', fun _ => 0, g'⟩ (fun r => ∀ c : Dev Cert.SwigluFwdReferenceIdeal.nD,
          r.2.mem ((c.tc : Thread Cert.SwigluFwdReferenceIdeal.nD Cert.SwigluFwdReferenceIdeal.τ).loc Cert.SwigluFwdReferenceIdeal.main_v5) = v0 c
          ∧ r.2.mem ((c.tc : Thread Cert.SwigluFwdReferenceIdeal.nD Cert.SwigluFwdReferenceIdeal.τ).loc Cert.SwigluFwdReferenceIdeal.main_arg0) = m' ((c.tc : Thread Cert.SwigluFwdReferenceIdeal.nD Cert.SwigluFwdReferenceIdeal.τ).loc Cert.SwigluFwdReferenceIdeal.main_arg0))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)
      ∧ m' ((c.tc : Thread Cert.NormFwdReferenceIdeal.nD Cert.NormFwdReferenceIdeal.τ).loc Cert.NormFwdReferenceIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v18) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2))

def preserves_LnFwd_LnFwdIdeal : Prop :=
  True

def algebraic_LnFwdIdeal_LnFwdReferenceIdeal [hLnFwdIdeal : Cert.LnFwdIdeal.Facts] [hLnFwdReferenceIdeal : Cert.LnFwdReferenceIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdReferenceIdeal.nD Cert.LnFwdReferenceIdeal.τ Cert.LnFwdReferenceIdeal.sig) → Buf (Elt Ideal) ℓ) (g' : Dev Cert.LnFwdReferenceIdeal.nD → PrngReg), Pre_LnFwdIdeal m →
    (∀ c : Dev Cert.LnFwdIdeal.nD,
      m' ((c.tc : Thread Cert.LnFwdReferenceIdeal.nD Cert.LnFwdReferenceIdeal.τ).loc Cert.LnFwdReferenceIdeal.main_arg0) = m ((c.tc : Thread Cert.LnFwdIdeal.nD Cert.LnFwdIdeal.τ).loc Cert.LnFwdIdeal.main_arg0)
      ∧ m' ((c.tc : Thread Cert.LnFwdReferenceIdeal.nD Cert.LnFwdReferenceIdeal.τ).loc Cert.LnFwdReferenceIdeal.main_arg1) = m ((c.tc : Thread Cert.LnFwdIdeal.nD Cert.LnFwdIdeal.τ).loc Cert.LnFwdIdeal.main_arg1)
      ∧ m' ((c.tc : Thread Cert.LnFwdReferenceIdeal.nD Cert.LnFwdReferenceIdeal.τ).loc Cert.LnFwdReferenceIdeal.main_arg2) = m ((c.tc : Thread Cert.LnFwdIdeal.nD Cert.LnFwdIdeal.τ).loc Cert.LnFwdIdeal.main_arg2)
      ∧ m' ((c.tc : Thread Cert.LnFwdReferenceIdeal.nD Cert.LnFwdReferenceIdeal.τ).loc Cert.LnFwdReferenceIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)) (v2 : (c : Dev Cert.LnFwdIdeal.nD) → Buf (Elt Ideal) ((c.tc : Thread Cert.LnFwdIdeal.nD Cert.LnFwdIdeal.τ).loc Cert.LnFwdIdeal.main_v0_2)) (v3 : (c : Dev Cert.LnFwdIdeal.nD) → Buf (Elt Ideal) ((c.tc : Thread Cert.LnFwdIdeal.nD Cert.LnFwdIdeal.τ).loc Cert.LnFwdIdeal.main_v0_3)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_v0_2) = v2 c
          ∧ r.2.mem ((c.tc : Thread Cert.LnFwdIdeal.nD Cert.LnFwdIdeal.τ).loc Cert.LnFwdIdeal.main_v0_3) = v3 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdReferenceIdeal.defs (F := Ideal)) (onTc (τ := Cert.LnFwdReferenceIdeal.τ) (Cert.LnFwdReferenceIdeal.main (F := Ideal))) ⟨m', fun _ => 0, g'⟩ (fun r => ∀ c : Dev Cert.LnFwdReferenceIdeal.nD,
          r.2.mem ((c.tc : Thread Cert.LnFwdReferenceIdeal.nD Cert.LnFwdReferenceIdeal.τ).loc Cert.LnFwdReferenceIdeal.main_v24) = v0 c
          ∧ r.2.mem ((c.tc : Thread Cert.LnFwdReferenceIdeal.nD Cert.LnFwdReferenceIdeal.τ).loc Cert.LnFwdReferenceIdeal.main_v25) = v1 c
          ∧ r.2.mem ((c.tc : Thread Cert.LnFwdReferenceIdeal.nD Cert.LnFwdReferenceIdeal.τ).loc Cert.LnFwdReferenceIdeal.main_v20) = v2 c
          ∧ r.2.mem ((c.tc : Thread Cert.LnFwdReferenceIdeal.nD Cert.LnFwdReferenceIdeal.τ).loc Cert.LnFwdReferenceIdeal.main_v16) = v3 c
          ∧ r.2.mem ((c.tc : Thread Cert.LnFwdReferenceIdeal.nD Cert.LnFwdReferenceIdeal.τ).loc Cert.LnFwdReferenceIdeal.main_arg0) = m' ((c.tc : Thread Cert.LnFwdReferenceIdeal.nD Cert.LnFwdReferenceIdeal.τ).loc Cert.LnFwdReferenceIdeal.main_arg0)
          ∧ r.2.mem ((c.tc : Thread Cert.LnFwdReferenceIdeal.nD Cert.LnFwdReferenceIdeal.τ).loc Cert.LnFwdReferenceIdeal.main_arg1) = m' ((c.tc : Thread Cert.LnFwdReferenceIdeal.nD Cert.LnFwdReferenceIdeal.τ).loc Cert.LnFwdReferenceIdeal.main_arg1)
          ∧ r.2.mem ((c.tc : Thread Cert.LnFwdReferenceIdeal.nD Cert.LnFwdReferenceIdeal.τ).loc Cert.LnFwdReferenceIdeal.main_arg2) = m' ((c.tc : Thread Cert.LnFwdReferenceIdeal.nD Cert.LnFwdReferenceIdeal.τ).loc Cert.LnFwdReferenceIdeal.main_arg2)
          ∧ r.2.mem ((c.tc : Thread Cert.LnFwdReferenceIdeal.nD Cert.LnFwdReferenceIdeal.τ).loc Cert.LnFwdReferenceIdeal.main_arg3) = m' ((c.tc : Thread Cert.LnFwdReferenceIdeal.nD Cert.LnFwdReferenceIdeal.τ).loc Cert.LnFwdReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hDwIn : Cert.DwIn.Facts) (hDwInIdeal : Cert.DwInIdeal.Facts) (hDwInReferenceIdeal : Cert.DwInReferenceIdeal.Facts) (hBrLru : Cert.BrLru.Facts) (hBrLruIdeal : Cert.BrLruIdeal.Facts) (hBrLruReferenceIdeal : Cert.BrLruReferenceIdeal.Facts) (hDYlru : Cert.DYlru.Facts) (hDYlruIdeal : Cert.DYlruIdeal.Facts) (hDYlruReferenceIdeal : Cert.DYlruReferenceIdeal.Facts) (hBrSsd : Cert.BrSsd.Facts) (hBrSsdIdeal : Cert.BrSsdIdeal.Facts) (hBrSsdReferenceIdeal : Cert.BrSsdReferenceIdeal.Facts) (hDYssd : Cert.DYssd.Facts) (hDYssdIdeal : Cert.DYssdIdeal.Facts) (hDYssdReferenceIdeal : Cert.DYssdReferenceIdeal.Facts) (hFfnIn : Cert.FfnIn.Facts) (hFfnInIdeal : Cert.FfnInIdeal.Facts) (hFfnInReferenceIdeal : Cert.FfnInReferenceIdeal.Facts) (hDX1 : Cert.DX1.Facts) (hDX1Ideal : Cert.DX1Ideal.Facts) (hDX1ReferenceIdeal : Cert.DX1ReferenceIdeal.Facts) (hDwFfnIn : Cert.DwFfnIn.Facts) (hDwFfnInIdeal : Cert.DwFfnInIdeal.Facts) (hDwFfnInReferenceIdeal : Cert.DwFfnInReferenceIdeal.Facts) (hFfnDown : Cert.FfnDown.Facts) (hFfnDownIdeal : Cert.FfnDownIdeal.Facts) (hFfnDownReferenceIdeal : Cert.FfnDownReferenceIdeal.Facts) (hDHmid : Cert.DHmid.Facts) (hDHmidIdeal : Cert.DHmidIdeal.Facts) (hDHmidReferenceIdeal : Cert.DHmidReferenceIdeal.Facts) (hDwFfnDown : Cert.DwFfnDown.Facts) (hDwFfnDownIdeal : Cert.DwFfnDownIdeal.Facts) (hDwFfnDownReferenceIdeal : Cert.DwFfnDownReferenceIdeal.Facts) (hSwigluBwd : Cert.SwigluBwd.Facts) (hSwigluBwdIdeal : Cert.SwigluBwdIdeal.Facts) (hSwigluBwdReferenceIdeal : Cert.SwigluBwdReferenceIdeal.Facts) (hDwBrLru : Cert.DwBrLru.Facts) (hDwBrLruIdeal : Cert.DwBrLruIdeal.Facts) (hDwBrLruReferenceIdeal : Cert.DwBrLruReferenceIdeal.Facts) (hDwBrSsd : Cert.DwBrSsd.Facts) (hDwBrSsdIdeal : Cert.DwBrSsdIdeal.Facts) (hDwBrSsdReferenceIdeal : Cert.DwBrSsdReferenceIdeal.Facts) (hMixOut : Cert.MixOut.Facts) (hMixOutIdeal : Cert.MixOutIdeal.Facts) (hMixOutReferenceIdeal : Cert.MixOutReferenceIdeal.Facts) (hDMerged : Cert.DMerged.Facts) (hDMergedIdeal : Cert.DMergedIdeal.Facts) (hDMergedReferenceIdeal : Cert.DMergedReferenceIdeal.Facts) (hDwOut : Cert.DwOut.Facts) (hDwOutIdeal : Cert.DwOutIdeal.Facts) (hDwOutReferenceIdeal : Cert.DwOutReferenceIdeal.Facts) (hAdamWIn : Cert.AdamWIn.Facts) (hAdamWInIdeal : Cert.AdamWInIdeal.Facts) (hAdamWInReferenceIdeal : Cert.AdamWInReferenceIdeal.Facts) (hAdamFfnWIn : Cert.AdamFfnWIn.Facts) (hAdamFfnWInIdeal : Cert.AdamFfnWInIdeal.Facts) (hAdamFfnWInReferenceIdeal : Cert.AdamFfnWInReferenceIdeal.Facts) (hAdamMemWKv : Cert.AdamMemWKv.Facts) (hAdamMemWKvIdeal : Cert.AdamMemWKvIdeal.Facts) (hAdamMemWKvReferenceIdeal : Cert.AdamMemWKvReferenceIdeal.Facts) (hAdamWBr : Cert.AdamWBr.Facts) (hAdamWBrIdeal : Cert.AdamWBrIdeal.Facts) (hAdamWBrReferenceIdeal : Cert.AdamWBrReferenceIdeal.Facts) (hAdamWBrSsd : Cert.AdamWBrSsd.Facts) (hAdamWBrSsdIdeal : Cert.AdamWBrSsdIdeal.Facts) (hAdamWBrSsdReferenceIdeal : Cert.AdamWBrSsdReferenceIdeal.Facts) (hAdamFfnWDown : Cert.AdamFfnWDown.Facts) (hAdamFfnWDownIdeal : Cert.AdamFfnWDownIdeal.Facts) (hAdamFfnWDownReferenceIdeal : Cert.AdamFfnWDownReferenceIdeal.Facts) (hAdamSmall : Cert.AdamSmall.Facts) (hAdamSmallIdeal : Cert.AdamSmallIdeal.Facts) (hAdamSmallReferenceIdeal : Cert.AdamSmallReferenceIdeal.Facts) (hGradX : Cert.GradX.Facts) (hGradXIdeal : Cert.GradXIdeal.Facts) (hGradXReferenceIdeal : Cert.GradXReferenceIdeal.Facts) (hLossGrad : Cert.LossGrad.Facts) (hLossGradIdeal : Cert.LossGradIdeal.Facts) (hLossGradReferenceIdeal : Cert.LossGradReferenceIdeal.Facts) (hNormBwd : Cert.NormBwd.Facts) (hNormBwdIdeal : Cert.NormBwdIdeal.Facts) (hNormBwdReferenceIdeal : Cert.NormBwdReferenceIdeal.Facts) (hSwigluFwd : Cert.SwigluFwd.Facts) (hSwigluFwdIdeal : Cert.SwigluFwdIdeal.Facts) (hSwigluFwdReferenceIdeal : Cert.SwigluFwdReferenceIdeal.Facts) (hMerge : Cert.Merge.Facts) (hMergeIdeal : Cert.MergeIdeal.Facts) (hMergeReferenceIdeal : Cert.MergeReferenceIdeal.Facts) (hNormFwd : Cert.NormFwd.Facts) (hNormFwdIdeal : Cert.NormFwdIdeal.Facts) (hNormFwdReferenceIdeal : Cert.NormFwdReferenceIdeal.Facts) (hLnFwd : Cert.LnFwd.Facts) (hLnFwdIdeal : Cert.LnFwdIdeal.Facts) (hLnFwdReferenceIdeal : Cert.LnFwdReferenceIdeal.Facts) (hPre_finite_scores : Cert.Pre_finite_scores.Facts) (hPre_finite_up : Cert.Pre_finite_up.Facts) (hPre_finite_norm : Cert.Pre_finite_norm.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_ProjReferenceIdeal (hProjReferenceIdeal := hProjReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_BrLru (hBrLru := hBrLru)
    ∧ quiescent_BrLruIdeal (hBrLruIdeal := hBrLruIdeal)
    ∧ quiescent_BrLruReferenceIdeal (hBrLruReferenceIdeal := hBrLruReferenceIdeal)
    ∧ quiescent_DYlru (hDYlru := hDYlru)
    ∧ quiescent_DYlruIdeal (hDYlruIdeal := hDYlruIdeal)
    ∧ quiescent_DYlruReferenceIdeal (hDYlruReferenceIdeal := hDYlruReferenceIdeal)
    ∧ quiescent_BrSsd (hBrSsd := hBrSsd)
    ∧ quiescent_BrSsdIdeal (hBrSsdIdeal := hBrSsdIdeal)
    ∧ quiescent_BrSsdReferenceIdeal (hBrSsdReferenceIdeal := hBrSsdReferenceIdeal)
    ∧ quiescent_DYssd (hDYssd := hDYssd)
    ∧ quiescent_DYssdIdeal (hDYssdIdeal := hDYssdIdeal)
    ∧ quiescent_DYssdReferenceIdeal (hDYssdReferenceIdeal := hDYssdReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_DX1 (hDX1 := hDX1)
    ∧ quiescent_DX1Ideal (hDX1Ideal := hDX1Ideal)
    ∧ quiescent_DX1ReferenceIdeal (hDX1ReferenceIdeal := hDX1ReferenceIdeal)
    ∧ quiescent_DwFfnIn (hDwFfnIn := hDwFfnIn)
    ∧ quiescent_DwFfnInIdeal (hDwFfnInIdeal := hDwFfnInIdeal)
    ∧ quiescent_DwFfnInReferenceIdeal (hDwFfnInReferenceIdeal := hDwFfnInReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_DHmid (hDHmid := hDHmid)
    ∧ quiescent_DHmidIdeal (hDHmidIdeal := hDHmidIdeal)
    ∧ quiescent_DHmidReferenceIdeal (hDHmidReferenceIdeal := hDHmidReferenceIdeal)
    ∧ quiescent_DwFfnDown (hDwFfnDown := hDwFfnDown)
    ∧ quiescent_DwFfnDownIdeal (hDwFfnDownIdeal := hDwFfnDownIdeal)
    ∧ quiescent_DwFfnDownReferenceIdeal (hDwFfnDownReferenceIdeal := hDwFfnDownReferenceIdeal)
    ∧ quiescent_SwigluBwd (hSwigluBwd := hSwigluBwd)
    ∧ quiescent_SwigluBwdIdeal (hSwigluBwdIdeal := hSwigluBwdIdeal)
    ∧ quiescent_SwigluBwdIdeal_pre_finite_up (hSwigluBwdIdeal := hSwigluBwdIdeal) (hPre_finite_up := hPre_finite_up)
    ∧ quiescent_SwigluBwdReferenceIdeal (hSwigluBwdReferenceIdeal := hSwigluBwdReferenceIdeal)
    ∧ quiescent_SwigluBwdReferenceIdeal_pre_finite_up (hSwigluBwdReferenceIdeal := hSwigluBwdReferenceIdeal) (hPre_finite_up := hPre_finite_up)
    ∧ quiescent_DwBrLru (hDwBrLru := hDwBrLru)
    ∧ quiescent_DwBrLruIdeal (hDwBrLruIdeal := hDwBrLruIdeal)
    ∧ quiescent_DwBrLruReferenceIdeal (hDwBrLruReferenceIdeal := hDwBrLruReferenceIdeal)
    ∧ quiescent_DwBrSsd (hDwBrSsd := hDwBrSsd)
    ∧ quiescent_DwBrSsdIdeal (hDwBrSsdIdeal := hDwBrSsdIdeal)
    ∧ quiescent_DwBrSsdReferenceIdeal (hDwBrSsdReferenceIdeal := hDwBrSsdReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_DMerged (hDMerged := hDMerged)
    ∧ quiescent_DMergedIdeal (hDMergedIdeal := hDMergedIdeal)
    ∧ quiescent_DMergedReferenceIdeal (hDMergedReferenceIdeal := hDMergedReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_AdamWIn (hAdamWIn := hAdamWIn)
    ∧ quiescent_AdamWInIdeal (hAdamWInIdeal := hAdamWInIdeal)
    ∧ quiescent_AdamWInReferenceIdeal (hAdamWInReferenceIdeal := hAdamWInReferenceIdeal)
    ∧ quiescent_AdamFfnWIn (hAdamFfnWIn := hAdamFfnWIn)
    ∧ quiescent_AdamFfnWInIdeal (hAdamFfnWInIdeal := hAdamFfnWInIdeal)
    ∧ quiescent_AdamFfnWInReferenceIdeal (hAdamFfnWInReferenceIdeal := hAdamFfnWInReferenceIdeal)
    ∧ quiescent_AdamMemWKv (hAdamMemWKv := hAdamMemWKv)
    ∧ quiescent_AdamMemWKvIdeal (hAdamMemWKvIdeal := hAdamMemWKvIdeal)
    ∧ quiescent_AdamMemWKvReferenceIdeal (hAdamMemWKvReferenceIdeal := hAdamMemWKvReferenceIdeal)
    ∧ quiescent_AdamWBr (hAdamWBr := hAdamWBr)
    ∧ quiescent_AdamWBrIdeal (hAdamWBrIdeal := hAdamWBrIdeal)
    ∧ quiescent_AdamWBrReferenceIdeal (hAdamWBrReferenceIdeal := hAdamWBrReferenceIdeal)
    ∧ quiescent_AdamWBrSsd (hAdamWBrSsd := hAdamWBrSsd)
    ∧ quiescent_AdamWBrSsdIdeal (hAdamWBrSsdIdeal := hAdamWBrSsdIdeal)
    ∧ quiescent_AdamWBrSsdReferenceIdeal (hAdamWBrSsdReferenceIdeal := hAdamWBrSsdReferenceIdeal)
    ∧ quiescent_AdamFfnWDown (hAdamFfnWDown := hAdamFfnWDown)
    ∧ quiescent_AdamFfnWDownIdeal (hAdamFfnWDownIdeal := hAdamFfnWDownIdeal)
    ∧ quiescent_AdamFfnWDownReferenceIdeal (hAdamFfnWDownReferenceIdeal := hAdamFfnWDownReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_LossGrad (hLossGrad := hLossGrad)
    ∧ quiescent_LossGradIdeal (hLossGradIdeal := hLossGradIdeal)
    ∧ quiescent_LossGradReferenceIdeal (hLossGradReferenceIdeal := hLossGradReferenceIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdReferenceIdeal (hNormBwdReferenceIdeal := hNormBwdReferenceIdeal)
    ∧ quiescent_NormBwdReferenceIdeal_pre_finite_norm (hNormBwdReferenceIdeal := hNormBwdReferenceIdeal) (hPre_finite_norm := hPre_finite_norm)
    ∧ quiescent_SwigluFwd (hSwigluFwd := hSwigluFwd)
    ∧ quiescent_SwigluFwdIdeal (hSwigluFwdIdeal := hSwigluFwdIdeal)
    ∧ quiescent_SwigluFwdReferenceIdeal (hSwigluFwdReferenceIdeal := hSwigluFwdReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_LnFwd (hLnFwd := hLnFwd)
    ∧ quiescent_LnFwdIdeal (hLnFwdIdeal := hLnFwdIdeal)
    ∧ quiescent_LnFwdReferenceIdeal (hLnFwdReferenceIdeal := hLnFwdReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_ProjReferenceIdeal (hProjIdeal := hProjIdeal) (hProjReferenceIdeal := hProjReferenceIdeal)
    ∧ preserves_DwIn_DwInIdeal
    ∧ algebraic_DwInIdeal_DwInReferenceIdeal (hDwInIdeal := hDwInIdeal) (hDwInReferenceIdeal := hDwInReferenceIdeal)
    ∧ preserves_BrLru_BrLruIdeal
    ∧ algebraic_BrLruIdeal_BrLruReferenceIdeal (hBrLruIdeal := hBrLruIdeal) (hBrLruReferenceIdeal := hBrLruReferenceIdeal)
    ∧ preserves_DYlru_DYlruIdeal
    ∧ algebraic_DYlruIdeal_DYlruReferenceIdeal (hDYlruIdeal := hDYlruIdeal) (hDYlruReferenceIdeal := hDYlruReferenceIdeal)
    ∧ preserves_BrSsd_BrSsdIdeal
    ∧ algebraic_BrSsdIdeal_BrSsdReferenceIdeal (hBrSsdIdeal := hBrSsdIdeal) (hBrSsdReferenceIdeal := hBrSsdReferenceIdeal)
    ∧ preserves_DYssd_DYssdIdeal
    ∧ algebraic_DYssdIdeal_DYssdReferenceIdeal (hDYssdIdeal := hDYssdIdeal) (hDYssdReferenceIdeal := hDYssdReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_DX1_DX1Ideal
    ∧ algebraic_DX1Ideal_DX1ReferenceIdeal (hDX1Ideal := hDX1Ideal) (hDX1ReferenceIdeal := hDX1ReferenceIdeal)
    ∧ preserves_DwFfnIn_DwFfnInIdeal
    ∧ algebraic_DwFfnInIdeal_DwFfnInReferenceIdeal (hDwFfnInIdeal := hDwFfnInIdeal) (hDwFfnInReferenceIdeal := hDwFfnInReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_DHmid_DHmidIdeal
    ∧ algebraic_DHmidIdeal_DHmidReferenceIdeal (hDHmidIdeal := hDHmidIdeal) (hDHmidReferenceIdeal := hDHmidReferenceIdeal)
    ∧ preserves_DwFfnDown_DwFfnDownIdeal
    ∧ algebraic_DwFfnDownIdeal_DwFfnDownReferenceIdeal (hDwFfnDownIdeal := hDwFfnDownIdeal) (hDwFfnDownReferenceIdeal := hDwFfnDownReferenceIdeal)
    ∧ preserves_SwigluBwd_SwigluBwdIdeal
    ∧ algebraic_SwigluBwdIdeal_SwigluBwdReferenceIdeal_pre_finite_up (hSwigluBwdIdeal := hSwigluBwdIdeal) (hSwigluBwdReferenceIdeal := hSwigluBwdReferenceIdeal) (hPre_finite_up := hPre_finite_up)
    ∧ preserves_DwBrLru_DwBrLruIdeal
    ∧ algebraic_DwBrLruIdeal_DwBrLruReferenceIdeal (hDwBrLruIdeal := hDwBrLruIdeal) (hDwBrLruReferenceIdeal := hDwBrLruReferenceIdeal)
    ∧ preserves_DwBrSsd_DwBrSsdIdeal
    ∧ algebraic_DwBrSsdIdeal_DwBrSsdReferenceIdeal (hDwBrSsdIdeal := hDwBrSsdIdeal) (hDwBrSsdReferenceIdeal := hDwBrSsdReferenceIdeal)
    ∧ preserves_MixOut_MixOutIdeal
    ∧ algebraic_MixOutIdeal_MixOutReferenceIdeal (hMixOutIdeal := hMixOutIdeal) (hMixOutReferenceIdeal := hMixOutReferenceIdeal)
    ∧ preserves_DMerged_DMergedIdeal
    ∧ algebraic_DMergedIdeal_DMergedReferenceIdeal (hDMergedIdeal := hDMergedIdeal) (hDMergedReferenceIdeal := hDMergedReferenceIdeal)
    ∧ preserves_DwOut_DwOutIdeal
    ∧ algebraic_DwOutIdeal_DwOutReferenceIdeal (hDwOutIdeal := hDwOutIdeal) (hDwOutReferenceIdeal := hDwOutReferenceIdeal)
    ∧ preserves_AdamWIn_AdamWInIdeal
    ∧ algebraic_AdamWInIdeal_AdamWInReferenceIdeal (hAdamWInIdeal := hAdamWInIdeal) (hAdamWInReferenceIdeal := hAdamWInReferenceIdeal)
    ∧ preserves_AdamFfnWIn_AdamFfnWInIdeal
    ∧ algebraic_AdamFfnWInIdeal_AdamFfnWInReferenceIdeal (hAdamFfnWInIdeal := hAdamFfnWInIdeal) (hAdamFfnWInReferenceIdeal := hAdamFfnWInReferenceIdeal)
    ∧ preserves_AdamMemWKv_AdamMemWKvIdeal
    ∧ algebraic_AdamMemWKvIdeal_AdamMemWKvReferenceIdeal (hAdamMemWKvIdeal := hAdamMemWKvIdeal) (hAdamMemWKvReferenceIdeal := hAdamMemWKvReferenceIdeal)
    ∧ preserves_AdamWBr_AdamWBrIdeal
    ∧ algebraic_AdamWBrIdeal_AdamWBrReferenceIdeal (hAdamWBrIdeal := hAdamWBrIdeal) (hAdamWBrReferenceIdeal := hAdamWBrReferenceIdeal)
    ∧ preserves_AdamWBrSsd_AdamWBrSsdIdeal
    ∧ algebraic_AdamWBrSsdIdeal_AdamWBrSsdReferenceIdeal (hAdamWBrSsdIdeal := hAdamWBrSsdIdeal) (hAdamWBrSsdReferenceIdeal := hAdamWBrSsdReferenceIdeal)
    ∧ preserves_AdamFfnWDown_AdamFfnWDownIdeal
    ∧ algebraic_AdamFfnWDownIdeal_AdamFfnWDownReferenceIdeal (hAdamFfnWDownIdeal := hAdamFfnWDownIdeal) (hAdamFfnWDownReferenceIdeal := hAdamFfnWDownReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_GradX_GradXIdeal
    ∧ algebraic_GradXIdeal_GradXReferenceIdeal (hGradXIdeal := hGradXIdeal) (hGradXReferenceIdeal := hGradXReferenceIdeal)
    ∧ preserves_LossGrad_LossGradIdeal
    ∧ algebraic_LossGradIdeal_LossGradReferenceIdeal (hLossGradIdeal := hLossGradIdeal) (hLossGradReferenceIdeal := hLossGradReferenceIdeal)
    ∧ preserves_NormBwd_NormBwdIdeal
    ∧ algebraic_NormBwdIdeal_NormBwdReferenceIdeal_pre_finite_norm (hNormBwdIdeal := hNormBwdIdeal) (hNormBwdReferenceIdeal := hNormBwdReferenceIdeal) (hPre_finite_norm := hPre_finite_norm)
    ∧ preserves_SwigluFwd_SwigluFwdIdeal
    ∧ algebraic_SwigluFwdIdeal_SwigluFwdReferenceIdeal (hSwigluFwdIdeal := hSwigluFwdIdeal) (hSwigluFwdReferenceIdeal := hSwigluFwdReferenceIdeal)
    ∧ preserves_Merge_MergeIdeal
    ∧ algebraic_MergeIdeal_MergeReferenceIdeal (hMergeIdeal := hMergeIdeal) (hMergeReferenceIdeal := hMergeReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_LnFwd_LnFwdIdeal
    ∧ algebraic_LnFwdIdeal_LnFwdReferenceIdeal (hLnFwdIdeal := hLnFwdIdeal) (hLnFwdReferenceIdeal := hLnFwdReferenceIdeal)
-- ==== Pre_finite_norm.lean ====
abbrev S8192x2048 : Shape := ⟨2, ![8192, 2048]⟩
abbrev S8192x11264 : Shape := ⟨2, ![8192, 11264]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x2048 .bf16) (main_arg1 : FVec F S8192x2048 .f32) (main_arg2 : FVec F S8192x11264 .bf16) (main_arg3 : FVec F S1x2048 .f32) (main_arg4 : FVec F S8192x11264 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1x2048 .f32 := Host.absf main_arg3
  let main_cst_0 : FVec F S_ .f32 := constant S_ .f32 0x7F800000#32
  let main_v6 : FVec F S1x2048 .f32 := broadcastInDim S1x2048 ![] bcast_S_S1x2048 main_cst_0
  let main_v7 : IVec S1x2048 1 := cmpf .olt main_v5 main_v6
  let main_c_1 : IVec S_ 1 := constantI S_ 1 1#1
  let main_v8 : IVec S_ 1 := (fun x v => Host.reduce IntOp.andi x v reducesTo_S1x2048_S_d0_1 h_S_) main_v7 main_c_1
  let main_v9 : IVec S_ 1 := andi main_v4 main_v8
  main_v9
-- ==== Pre_finite_scores.lean ====
abbrev S8192x11264 : Shape := ⟨2, ![8192, 11264]⟩
abbrev S256x2048 : Shape := ⟨2, ![256, 2048]⟩
abbrev S8192x1024 : Shape := ⟨2, ![8192, 1024]⟩
abbrev S256x1024 : Shape := ⟨2, ![256, 1024]⟩
abbrev S_ : Shape := ⟨0, ![]⟩

class Facts : Prop where
  slices_S8192x11264_S8192x1024_0_10240 : S8192x11264.Slices ![0, 10240] S8192x1024
  bitsLt_bf16_f32 : FTy.bits .bf16 < FTy.bits .f32
  slices_S256x2048_S256x1024_0_0 : S256x2048.Slices ![0, 0] S256x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x11264 .bf16) (main_arg1 : FVec F S256x2048 .bf16) (main_arg2 : FVec F S8192x1024 .bf16) (main_arg3 : FVec F S8192x11264 .bf16) : IVec S_ 1 :=
  let main_v0 : FVec F S8192x1024 .bf16 := (extractStridedSlice S8192x1024 ![0, 10240] · slices_S8192x11264_S8192x1024_0_10240) main_arg0
  let main_v1 : FVec F S8192x1024 .f32 := (extf .f32 · bitsLt_bf16_f32) main_v0
  let main_v2 : FVec F S256x1024 .bf16 := (extractStridedSlice S256x1024 ![0, 0] · slices_S256x2048_S256x1024_0_0) main_arg1
  let main_v3 : FVec F S256x1024 .f32 := (extf .f32 · bitsLt_bf16_f32) main_v2
  let main_v4 : FVec F S8192x1024 .f32 := Host.absf main_v1
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  let main_c : IVec S_ 1 := constantI S_ 1 1#1
  let main_v7 : IVec S_ 1 := (fun x v => Host.reduce IntOp.andi x v reducesTo_S8192x1024_S_d0_1 h_S_) main_v6 main_c
  let main_v8 : FVec F S256x1024 .f32 := Host.absf main_v3
  let main_cst_0 : FVec F S_ .f32 := constant S_ .f32 0x7F800000#32
  let main_v9 : FVec F S256x1024 .f32 := broadcastInDim S256x1024 ![] bcast_S_S256x1024 main_cst_0
  let main_v10 : IVec S256x1024 1 := cmpf .olt main_v8 main_v9
  let main_c_1 : IVec S_ 1 := constantI S_ 1 1#1
  let main_v11 : IVec S_ 1 := (fun x v => Host.reduce IntOp.andi x v reducesTo_S256x1024_S_d0_1 h_S_) main_v10 main_c_1
  let main_v12 : IVec S_ 1 := andi main_v7 main_v11
  main_v12
-- ==== Pre_finite_up.lean ====
abbrev S8192x5632 : Shape := ⟨2, ![8192, 5632]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel

variable [Facts]

def fn {F : FTy → Type} [FloatOps F] (main_arg0 : FVec F S8192x5632 .bf16) (main_arg1 : FVec F S8192x2816 .bf16) : IVec S_ 1 :=
  let main_v0 : FVec F S8192x2816 .bf16 := (extractStridedSlice S8192x2816 ![0, 2816] · slices_S8192x5632_S8192x2816_0_2816) main_arg0
  let main_v1 : FVec F S8192x2816 .f32 := (extf .f32 · bitsLt_bf16_f32) main_v0
  let main_v2 : FVec F S8192x2816 .f32 := Host.absf main_v1
  let main_cst : FVec F S_ .f32 := constant S_ .f32 0x7F800000#32
  let main_v3 : FVec F S8192x2816 .f32 := broadcastInDim S8192x2816 ![] bcast_S_S8192x2816 main_cst
  let main_v4 : IVec S8192x2816 1 := cmpf .olt main_v2 main_v3
  let main_c : IVec S_ 1 := constantI S_ 1 1#1
  let main_v5 : IVec S_ 1 := (fun x v => Host.reduce IntOp.andi x v reducesTo_S8192x2816_S_d0_1 h_S_) main_v4 main_c
  let main_v6 : FVec F S8192x2816 .f32 := (extf .f32 · bitsLt_bf16_f32) main_arg1
  let main_v7 : FVec F S8192x2816 .f32 := Host.absf main_v6
  let main_cst_0 : FVec F S_ .f32 := constant S_ .f32 0x7F800000#32
  let main_v8 : FVec F S8192x2816 .f32 := broadcastInDim S8192x2816 ![] bcast_S_S8192x2816 main_cst_0
  let main_v9 : IVec S8192x2816 1 := cmpf .olt main_v7 main_v8
  let main_c_1 : IVec S_ 1 := constantI S_ 1 1#1
  let main_v10 : IVec S_ 1 := (fun x v => Host.reduce IntOp.andi x v reducesTo_S8192x2816_S_d0_1 h_S_) main_v9 main_c_1
  let main_v11 : IVec S_ 1 := andi main_v5 main_v10
  main_v11
-- ==== Kernel.lean ====
abbrev S8192x11264 : Shape := ⟨2, ![8192, 11264]⟩
abbrev S256x2048 : Shape := ⟨2, ![256, 2048]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S256x2048, .bf16⟩
  | .hbm, ⟨2, _⟩ => ⟨S8192x1024, .bf16⟩
  | .hbm, ⟨3, _⟩ => ⟨S8192x11264, .bf16⟩
  | .hbm, ⟨4, _⟩ => ⟨S8192x11264, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_17 : BitVec 32 := 0#32
  let v34 : BitVec 1 := Scalar.cmpi .ne v33 c0_i32_17
  v34

def k0_cond2 (i : grid0.Coords) : BitVec 1 :=
  let arg0 : BitVec 32 := BitVec.ofNat 32 (i 0).val
  let c0_i32_18 : BitVec 32 := 0#32
  let v35 : BitVec 1 := Scalar.cmpi .sgt arg0 c0_i32_18
  let v36 : BitVec 32 := Scalar.extui v35
  let c0_i32_19 : BitVec 32 := 0#32
  let v37 : BitVec 1 := Scalar.cmpi .ne v36 c0_i32_19
  v37

def k0_cond3 (i : grid0.Coords) : BitVec 1 :=
  let arg0 : BitVec 32 := BitVec.ofNat 32 (i 0).val
  let c0_i32_38 : BitVec 32 := 0#32
  let v70 : BitVec 1 := Scalar.cmpi .eq arg0 c0_i32_38
  let v71 : BitVec 32 := Scalar.extui v70
  let c0_i32_39 : BitVec 32 := 0#32
  let v72 : BitVec 1 := Scalar.cmpi .ne v71 c0_i32_39
  v72

def k0_cond4 (i : grid0.Coords) : BitVec 1 :=
  let arg0 : BitVec 32 := BitVec.ofNat 32 (i 0).val
  let c0_i32_40 : BitVec 32 := 0#32
  let v73 : BitVec 1 := Scalar.cmpi .sgt arg0 c0_i32_40
  let v74 : BitVec 32 := Scalar.extui v73
  let c0_i32_41 : BitVec 32 := 0#32
  let v75 : BitVec 1 := Scalar.cmpi .ne v74 c0_i32_41
  v75

def k0_cond5 (i : grid0.Coords) : BitVec 1 :=
  let arg0 : BitVec 32 := BitVec.ofNat 32 (i 0).val
  let c0_i32_60 : BitVec 32 := 0#32
  let v108 : BitVec 1 := Scalar.cmpi .eq arg0 c0_i32_60
  let v109 : BitVec 32 := Scalar.extui v108
  let c0_i32_61 : BitVec 32 := 0#32
  let v110 : BitVec 1 := Scalar.cmpi .ne v109 c0_i32_61
  v110

def k0_cond6 (i : grid0.Coords) : BitVec 1 :=
  let arg0 : BitVec 32 := BitVec.ofNat 32 (i 0).val
  let c0_i32_62 : BitVec 32 := 0#32
  let v111 : BitVec 1 := Scalar.cmpi .sgt arg0 c0_i32_62
  let v112 : BitVec 32 := Scalar.extui v111
  let c0_i32_63 : BitVec 32 := 0#32
  let v113 : BitVec 1 := Scalar.cmpi .ne v112 c0_i32_63
  v113

def k0_cond7 (i : grid0.Coords) : BitVec 1 :=
  let arg0 : BitVec 32 := BitVec.ofNat 32 (i 0).val
  let c0_i32_82 : BitVec 32 := 0#32
  let v146 : BitVec 1 := Scalar.cmpi .eq arg0 c0_i32_82
  let v147 : BitVec 32 := Scalar.extui v146
  let c0_i32_83 : BitVec 32 := 0#32
  let v148 : BitVec 1 := Scalar.cmpi .ne v147 c0_i32_83
  v148

def k0_cond8 (i : grid0.Coords) : BitVec 1 :=
  let arg0 : BitVec 32 := BitVec.ofNat 32 (i 0).val
  let c0_i32_84 : BitVec 32 := 0#32
  let v149 : BitVec 1 := Scalar.cmpi .sgt arg0 c0_i32_84
  let v150 : BitVec 32 := Scalar.extui v149
  let c0_i32_85 : BitVec 32 := 0#32
  let v151 : BitVec 1 := Scalar.cmpi .ne v150 c0_i32_85
  v151

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x11264 : Shape := ⟨2, ![8192, 11264]⟩
abbrev S256x2048 : Shape := ⟨2, ![256, 2048]⟩
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S8192x10240 : Shape := ⟨2, ![8192, 10240]⟩

abbrev nBuf : Space → Nat
  | .hbm => 91
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S256x2048, .bf16⟩
  | .hbm, ⟨2, _⟩ => ⟨S8192x1024, .bf16⟩
  | .hbm, ⟨3, _⟩ => ⟨S8192x11264, .bf16⟩
  | .hbm, ⟨4, _⟩ => ⟨S8192x1024, .bf16⟩
  | .hbm, ⟨5, _⟩ => ⟨S8192x1024, .f32⟩
  | .hbm, ⟨6, _⟩ => ⟨S256x2048, .f32⟩
  | .hbm, ⟨7, _⟩ => ⟨S256x1024, .f32⟩
  | .hbm, ⟨8, _⟩ => ⟨S256x1024, .f32⟩
  | .hbm, ⟨9, _⟩ => ⟨S8192x4x256, .f32⟩
  | .hbm, ⟨10, _⟩ => ⟨S256x4x256, .f32⟩
  | .hbm, ⟨11, _⟩ => ⟨S256x4x256, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .i1⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x256x8192, .f32⟩
  | .hbm, ⟨55, _⟩ => ⟨S8192x4x256, .f32⟩
  | .hbm, ⟨56, _⟩ => ⟨S8192x1024, .f32⟩
  | .hbm, ⟨57, _⟩ => ⟨S8192x1024, .f32⟩
  | .hbm, ⟨58, _⟩ => ⟨S8192x4x256, .f32⟩
  | .hbm, ⟨59, _⟩ => ⟨S4x256x8192, .f32⟩
  | .hbm, ⟨60, _⟩ => ⟨S4x8192x256, .f32⟩
  | .hbm, ⟨61, _⟩ => ⟨S4x256x256, .f32⟩
  | .hbm, ⟨62, _⟩ => ⟨S256x4x256, .f32⟩
  | .hbm, ⟨63, _⟩ => ⟨S4x8192x256, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S4x8192x1, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192, .f32⟩
  | .hbm, ⟨74, _⟩ => ⟨S4x8192x256, .f32⟩
  | .hbm, ⟨75, _⟩ => ⟨S4x8192x256, .f32⟩
  | .hbm, ⟨76, _⟩ => ⟨S4x8192x256, .f32⟩
  | .hbm, ⟨77, _⟩ => ⟨S_, .f32⟩
  | .hbm, ⟨78, _⟩ => ⟨S4x8192x256, .f32⟩
  | .hbm, ⟨79, _⟩ => ⟨S4x8192x256, .f32⟩
  | .hbm, ⟨80, _⟩ => ⟨S4x256x256, .f32⟩
  | .hbm, ⟨81, _⟩ => ⟨S256x4x256, .f32⟩
  | .hbm, ⟨82, _⟩ => ⟨S4x8192x256, .f32⟩
  | .hbm, ⟨83, _⟩ => ⟨S8192x4x256, .f32⟩
  | .hbm, ⟨84, _⟩ => ⟨S256x1024, .f32⟩
  | .hbm, ⟨85, _⟩ => ⟨S256x1024, .f32⟩
  | .hbm, ⟨86, _⟩ => ⟨S8192x1024, .f32⟩
  | .hbm, ⟨87, _⟩ => ⟨S256x2048, .f32⟩
  | .hbm, ⟨88, _⟩ => ⟨S8192x10240, .bf16⟩
  | .hbm, ⟨89, _⟩ => ⟨S8192x1024, .bf16⟩
  | .hbm, ⟨90, _⟩ => ⟨S8192x11264, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proj.lean ====
abbrev S8192x1024 : Shape := ⟨2, ![8192, 1024]⟩
abbrev S11264x1024 : Shape := ⟨2, ![11264, 1024]⟩
abbrev S8192x11264 : Shape := ⟨2, ![8192, 11264]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S11264x1024, .bf16⟩
  | .hbm, ⟨2, _⟩ => ⟨S8192x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x1024 : Shape := ⟨2, ![8192, 1024]⟩
abbrev S11264x1024 : Shape := ⟨2, ![11264, 1024]⟩
abbrev S1024x11264 : Shape := ⟨2, ![1024, 11264]⟩
abbrev S8192x11264 : Shape := ⟨2, ![8192, 11264]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S11264x1024, .bf16⟩
  | .hbm, ⟨2, _⟩ => ⟨S1024x11264, .bf16⟩
  | .hbm, ⟨3, _⟩ => ⟨S8192x1024, .f32⟩
  | .hbm, ⟨4, _⟩ => ⟨S1024x11264, .f32⟩
  | .hbm, ⟨5, _⟩ => ⟨S8192x11264, .f32⟩
  | .hbm, ⟨6, _⟩ => ⟨S8192x11264, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwIn.lean ====
abbrev S8192x11264 : Shape := ⟨2, ![8192, 11264]⟩
abbrev S8192x1024 : Shape := ⟨2, ![8192, 1024]⟩
abbrev S11264x1024 : Shape := ⟨2, ![11264, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S11264x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x11264 : Shape := ⟨2, ![8192, 11264]⟩
abbrev S8192x1024 : Shape := ⟨2, ![8192, 1024]⟩
abbrev S_ : Shape := ⟨0, ![]⟩
abbrev S11264x1024 : Shape := ⟨2, ![11264, 1024]⟩
abbrev S1024x11264 : Shape := ⟨2, ![1024, 11264]⟩

abbrev nBuf : Space → Nat
  | .hbm => 11
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S_, .f32⟩
  | .hbm, ⟨3, _⟩ => ⟨S11264x1024, .f32⟩
  | .hbm, ⟨4, _⟩ => ⟨S1024x11264, .f32⟩
  | .hbm, ⟨5, _⟩ => ⟨S8192x1024, .f32⟩
  | .hbm, ⟨6, _⟩ => ⟨S8192x11264, .f32⟩
  | .hbm, ⟨7, _⟩ => ⟨S8192x11264, .f32⟩
  | .hbm, ⟨8, _⟩ => ⟨S11264x1024, .f32⟩
  | .hbm, ⟨9, _⟩ => ⟨S1024x11264, .f32⟩
  | .hbm, ⟨10, _⟩ => ⟨S11264x1024, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BrLru.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrLruReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DYlru.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYlruReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrSsd.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrSsdReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DYssd.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYssdReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DX1.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DX1ReferenceIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwFfnIn.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnInReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DHmid.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHmidReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwFfnDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnDownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SwigluBwd.lean ====
abbrev S8192x5632 : Shape := ⟨2, ![8192, 5632]⟩
abbrev S8192x2816 : Shape := ⟨2, ![8192, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBwdReferenceIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== DwBrLru.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrLruReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwBrSsd.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBrSsdReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMerged.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamWIn.lean ====
abbrev S2x1024x2824 : Shape := ⟨3, ![2, 1024, 2824]⟩
abbrev S1x64x2824 : Shape := ⟨3, ![1, 64, 2824]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x2824, .f32⟩
  | .hbm, ⟨1, _⟩ => ⟨S2x1024x2824, .f32⟩
  | .hbm, ⟨2, _⟩ => ⟨S2x1024x2824, .f32⟩
  | .hbm, ⟨3, _⟩ => ⟨S2x1024x2824, .f32⟩
  | .hbm, ⟨4, _⟩ => ⟨S2x1024x2824, .f32⟩
  | .hbm, ⟨5, _⟩ => ⟨S2x1024x2824, .f32⟩
  | .hbm, ⟨6, _⟩ => ⟨S2x1024x2824, .f32⟩
  | .local _ .vmem, ⟨0, _⟩ => ⟨S1x64x2824, .f32⟩
  | .local _ .vmem, ⟨1, _⟩ => ⟨S1x64x2824, .f32⟩
  | .local _ .vmem, ⟨2, _⟩ => ⟨S1x64x2824, .f32⟩
  | .local _ .vmem, ⟨3, _⟩ => ⟨S1x64x2824, .f32⟩
  | .local _ .vmem, ⟨4, _⟩ => ⟨S1x64x2824, .f32⟩
  | .local _ .vmem, ⟨5, _⟩ => ⟨S1x64x2824, .f32⟩
  | .local _ .vmem, ⟨6, _⟩ => ⟨S1x64x2824, .f32⟩
  | .local _ .vmem, ⟨7, _⟩ => ⟨S1x64x2824, .f32⟩
  | .local _ .vmem, ⟨8, _⟩ => ⟨S1x64x2824, .f32⟩
  | .local _ .vmem, ⟨9, _⟩ => ⟨S1x64x2824, .f32⟩
  | .local _ .vmem, ⟨10, _⟩ => ⟨S1x64x2824, .f32⟩
  | .local _ .vmem, ⟨11, _⟩ => ⟨S1x64x2824, .f32⟩
  | .local _ .vmem, ⟨12, _⟩ => ⟨S1x64x2824, .f32⟩
  | .local _ .vmem, ⟨13, _⟩ => ⟨S1x64x2824, .f32⟩
  | _, _ => ⟨S2x1024x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWInIdeal.lean ====
abbrev S2x1024x2824 : Shape := ⟨3, ![2, 1024, 2824]⟩
abbrev S1x64x2824 : Shape := ⟨3, ![1, 64, 2824]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x2824, .f32⟩
  | .hbm, ⟨1, _⟩ => ⟨S2x1024x2824, .f32⟩
  | .hbm, ⟨2, _⟩ => ⟨S2x1024x2824, .f32⟩
  | .hbm, ⟨3, _⟩ => ⟨S2x1024x2824, .f32⟩
  | .hbm, ⟨4, _⟩ => ⟨S2x1024x2824, .f32⟩
  | .hbm, ⟨5, _⟩ => ⟨S2x1024x2824, .f32⟩
  | .hbm, ⟨6, _⟩ => ⟨S2x1024x2824, .f32⟩
  | .local _ .vmem, ⟨0, _⟩ => ⟨S1x64x2824, .f32⟩
  | .local _ .vmem, ⟨1, _⟩ => ⟨S1x64x2824, .f32⟩
  | .local _ .vmem, ⟨2, _⟩ => ⟨S1x64x2824, .f32⟩
  | .local _ .vmem, ⟨3, _⟩ => ⟨S1x64x2824, .f32⟩
  | .local _ .vmem, ⟨4, _⟩ => ⟨S1x64x2824, .f32⟩
  | .local _ .vmem, ⟨5, _⟩ => ⟨S1x64x2824, .f32⟩
  | .local _ .vmem, ⟨6, _⟩ => ⟨S1x64x2824, .f32⟩
  | .local _ .vmem, ⟨7, _⟩ => ⟨S1x64x2824, .f32⟩
  | .local _ .vmem, ⟨8, _⟩ => ⟨S1x64x2824, .f32⟩
  | .local _ .vmem, ⟨9, _⟩ => ⟨S1x64x2824, .f32⟩
  | .local _ .vmem, ⟨10, _⟩ => ⟨S1x64x2824, .f32⟩
  | .local _ .vmem, ⟨11, _⟩ => ⟨S1x64x2824, .f32⟩
  | .local _ .vmem, ⟨12, _⟩ => ⟨S1x64x2824, .f32⟩
  | .local _ .vmem, ⟨13, _⟩ => ⟨S1x64x2824, .f32⟩
  | _, _ => ⟨S2x1024x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWInReferenceIdeal.lean ====
abbrev S2x1024x2824 : Shape := ⟨3, ![2, 1024, 2824]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x2824, .f32⟩
  | .hbm, ⟨1, _⟩ => ⟨S2x1024x2824, .f32⟩
  | .hbm, ⟨2, _⟩ => ⟨S2x1024x2824, .f32⟩
  | .hbm, ⟨3, _⟩ => ⟨S2x1024x2824, .f32⟩
  | .hbm, ⟨4, _⟩ => ⟨S_, .f32⟩
  | .hbm, ⟨5, _⟩ => ⟨S2x1024x2824, .f32⟩
  | .hbm, ⟨6, _⟩ => ⟨S2x1024x2824, .f32⟩
  | .hbm, ⟨7, _⟩ => ⟨S_, .f32⟩
  | .hbm, ⟨8, _⟩ => ⟨S2x1024x2824, .f32⟩
  | .hbm, ⟨9, _⟩ => ⟨S2x1024x2824, .f32⟩
  | .hbm, ⟨10, _⟩ => ⟨S2x1024x2824, .f32⟩
  | .hbm, ⟨11, _⟩ => ⟨S_, .f32⟩
  | .hbm, ⟨12, _⟩ => ⟨S2x1024x2824, .f32⟩
  | .hbm, ⟨13, _⟩ => ⟨S2x1024x2824, .f32⟩
  | .hbm, ⟨14, _⟩ => ⟨S2x1024x2824, .f32⟩
  | .hbm, ⟨15, _⟩ => ⟨S_, .f32⟩
  | .hbm, ⟨16, _⟩ => ⟨S2x1024x2824, .f32⟩
  | .hbm, ⟨17, _⟩ => ⟨S2x1024x2824, .f32⟩
  | .hbm, ⟨18, _⟩ => ⟨S2x1024x2824, .f32⟩
  | .hbm, ⟨19, _⟩ => ⟨S_, .f32⟩
  | .hbm, ⟨20, _⟩ => ⟨S2x1024x2824, .f32⟩
  | .hbm, ⟨21, _⟩ => ⟨S2x1024x2824, .f32⟩
  | .hbm, ⟨22, _⟩ => ⟨S_, .f32⟩
  | .hbm, ⟨23, _⟩ => ⟨S2x1024x2824, .f32⟩
  | .hbm, ⟨24, _⟩ => ⟨S2x1024x2824, .f32⟩
  | .hbm, ⟨25, _⟩ => ⟨S2x1024x2824, .f32⟩
  | .hbm, ⟨26, _⟩ => ⟨S_, .f32⟩
  | .hbm, ⟨27, _⟩ => ⟨S2x1024x2824, .f32⟩
  | .hbm, ⟨28, _⟩ => ⟨S2x1024x2824, .f32⟩
  | .hbm, ⟨29, _⟩ => ⟨S2x1024x2824, .f32⟩
  | .hbm, ⟨30, _⟩ => ⟨S_, .f32⟩
  | .hbm, ⟨31, _⟩ => ⟨S2x1024x2824, .f32⟩
  | .hbm, ⟨32, _⟩ => ⟨S2x1024x2824, .f32⟩
  | .hbm, ⟨33, _⟩ => ⟨S2x1024x2824, .f32⟩
  | .hbm, ⟨34, _⟩ => ⟨S_, .f32⟩
  | .hbm, ⟨35, _⟩ => ⟨S2x1024x2824, .f32⟩
  | .hbm, ⟨36, _⟩ => ⟨S2x1024x2824, .f32⟩
  | _, _ => ⟨S2x1024x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnWIn.lean ====
abbrev S2x1024x1408 : Shape := ⟨3, ![2, 1024, 1408]⟩
abbrev S1x128x1408 : Shape := ⟨3, ![1, 128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFfnWInIdeal.lean ====
abbrev S2x1024x1408 : Shape := ⟨3, ![2, 1024, 1408]⟩
abbrev S1x128x1408 : Shape := ⟨3, ![1, 128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFfnWInReferenceIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMemWKv.lean ====
abbrev S2x1024x512 : Shape := ⟨3, ![2, 1024, 512]⟩
abbrev S1x256x512 : Shape := ⟨3, ![1, 256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamMemWKvIdeal.lean ====
abbrev S2x1024x512 : Shape := ⟨3, ![2, 1024, 512]⟩
abbrev S1x256x512 : Shape := ⟨3, ![1, 256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamMemWKvReferenceIdeal.lean ====
abbrev S2x1024x512 : Shape := ⟨3, ![2, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWBr.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWBrIdeal.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWBrReferenceIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWBrSsd.lean ====
abbrev S2x512x1024 : Shape := ⟨3, ![2, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWBrSsdIdeal.lean ====
abbrev S2x512x1024 : Shape := ⟨3, ![2, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWBrSsdReferenceIdeal.lean ====
abbrev S2x512x1024 : Shape := ⟨3, ![2, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnWDown.lean ====
abbrev S2x704x1024 : Shape := ⟨3, ![2, 704, 1024]⟩
abbrev S1x64x1024 : Shape := ⟨3, ![1, 64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFfnWDownIdeal.lean ====
abbrev S2x704x1024 : Shape := ⟨3, ![2, 704, 1024]⟩
abbrev S1x64x1024 : Shape := ⟨3, ![1, 64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFfnWDownReferenceIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x552x1024 : Shape := ⟨3, ![1, 552, 1024]⟩
abbrev S1x8x1024 : Shape := ⟨3, ![1, 8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x552x1024, .f32⟩
  | .hbm, ⟨1, _⟩ => ⟨S1x552x1024, .f32⟩
  | .hbm, ⟨2, _⟩ => ⟨S1x552x1024, .f32⟩
  | .hbm, ⟨3, _⟩ => ⟨S1x552x1024, .f32⟩
  | .hbm, ⟨4, _⟩ => ⟨S1x552x1024, .f32⟩
  | .hbm, ⟨5, _⟩ => ⟨S1x552x1024, .f32⟩
  | .hbm, ⟨6, _⟩ => ⟨S1x552x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | _, _ => ⟨S1x552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 69], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSmallReferenceIdeal.lean ====
abbrev S1x552x1024 : Shape := ⟨3, ![1, 552, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x552x1024, .f32⟩
  | .hbm, ⟨1, _⟩ => ⟨S1x552x1024, .f32⟩
  | .hbm, ⟨2, _⟩ => ⟨S1x552x1024, .f32⟩
  | .hbm, ⟨3, _⟩ => ⟨S1x552x1024, .f32⟩
  | .hbm, ⟨4, _⟩ => ⟨S_, .f32⟩
  | .hbm, ⟨5, _⟩ => ⟨S1x552x1024, .f32⟩
  | .hbm, ⟨6, _⟩ => ⟨S1x552x1024, .f32⟩
  | .hbm, ⟨7, _⟩ => ⟨S_, .f32⟩
  | .hbm, ⟨8, _⟩ => ⟨S1x552x1024, .f32⟩
  | .hbm, ⟨9, _⟩ => ⟨S1x552x1024, .f32⟩
  | .hbm, ⟨10, _⟩ => ⟨S1x552x1024, .f32⟩
  | .hbm, ⟨11, _⟩ => ⟨S_, .f32⟩
  | .hbm, ⟨12, _⟩ => ⟨S1x552x1024, .f32⟩
  | .hbm, ⟨13, _⟩ => ⟨S1x552x1024, .f32⟩
  | .hbm, ⟨14, _⟩ => ⟨S1x552x1024, .f32⟩
  | .hbm, ⟨15, _⟩ => ⟨S_, .f32⟩
  | .hbm, ⟨16, _⟩ => ⟨S1x552x1024, .f32⟩
  | .hbm, ⟨17, _⟩ => ⟨S1x552x1024, .f32⟩
  | .hbm, ⟨18, _⟩ => ⟨S1x552x1024, .f32⟩
  | .hbm, ⟨19, _⟩ => ⟨S_, .f32⟩
  | .hbm, ⟨20, _⟩ => ⟨S1x552x1024, .f32⟩
  | .hbm, ⟨21, _⟩ => ⟨S1x552x1024, .f32⟩
  | .hbm, ⟨22, _⟩ => ⟨S_, .f32⟩
  | .hbm, ⟨23, _⟩ => ⟨S1x552x1024, .f32⟩
  | .hbm, ⟨24, _⟩ => ⟨S1x552x1024, .f32⟩
  | .hbm, ⟨25, _⟩ => ⟨S1x552x1024, .f32⟩
  | .hbm, ⟨26, _⟩ => ⟨S_, .f32⟩
  | .hbm, ⟨27, _⟩ => ⟨S1x552x1024, .f32⟩
  | .hbm, ⟨28, _⟩ => ⟨S1x552x1024, .f32⟩
  | .hbm, ⟨29, _⟩ => ⟨S1x552x1024, .f32⟩
  | .hbm, ⟨30, _⟩ => ⟨S_, .f32⟩
  | .hbm, ⟨31, _⟩ => ⟨S1x552x1024, .f32⟩
  | .hbm, ⟨32, _⟩ => ⟨S1x552x1024, .f32⟩
  | .hbm, ⟨33, _⟩ => ⟨S1x552x1024, .f32⟩
  | .hbm, ⟨34, _⟩ => ⟨S_, .f32⟩
  | .hbm, ⟨35, _⟩ => ⟨S1x552x1024, .f32⟩
  | .hbm, ⟨36, _⟩ => ⟨S1x552x1024, .f32⟩
  | _, _ => ⟨S1x552x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S8192x1024 : Shape := ⟨2, ![8192, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradXReferenceIdeal.lean ====
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== LossGrad.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradReferenceIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== NormBwd.lean ====
abbrev S8192x2048 : Shape := ⟨2, ![8192, 2048]⟩
abbrev S8192x11264 : Shape := ⟨2, ![8192, 11264]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S512 : Shape := ⟨1, ![512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x11264, .bf16⟩
  | .hbm, ⟨3, _⟩ => ⟨S1x2048, .f32⟩
  | .hbm, ⟨4, _⟩ => ⟨S8192x11264, .bf16⟩
  | .hbm, ⟨5, _⟩ => ⟨S8192x11264, .bf16⟩
  | .hbm, ⟨6, _⟩ => ⟨S8192x2048, .f32⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v152 : BitVec 1 := Scalar.cmpi .eq arg0 c0_i32
  let v153 : BitVec 32 := Scalar.extui v152
  let c0_i32_42 : BitVec 32 := 0#32
  let v154 : BitVec 1 := Scalar.cmpi .ne v153 c0_i32_42
  v154

def k0_cond2 (i : grid0.Coords) : BitVec 1 :=
  let arg0 : BitVec 32 := BitVec.ofNat 32 (i 0).val
  let c0_i32_43 : BitVec 32 := 0#32
  let v155 : BitVec 1 := Scalar.cmpi .sgt arg0 c0_i32_43
  let v156 : BitVec 32 := Scalar.extui v155
  let c0_i32_44 : BitVec 32 := 0#32
  let v157 : BitVec 1 := Scalar.cmpi .ne v156 c0_i32_44
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdReferenceIdeal.lean ====
abbrev S8192x2048 : Shape := ⟨2, ![8192, 2048]⟩
abbrev S8192x11264 : Shape := ⟨2, ![8192, 11264]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S2048 : Shape := ⟨1, ![2048]⟩
abbrev S8192x6144 : Shape := ⟨2, ![8192, 6144]⟩
abbrev S8192x3072 : Shape := ⟨2, ![8192, 3072]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x11264, .bf16⟩
  | .hbm, ⟨3, _⟩ => ⟨S1x2048, .f32⟩
  | .hbm, ⟨4, _⟩ => ⟨S8192x11264, .bf16⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x4x512, .f32⟩
  | .hbm, ⟨22, _⟩ => ⟨S8192x4x512, .f32⟩
  | .hbm, ⟨23, _⟩ => ⟨S_, .f32⟩
  | .hbm, ⟨24, _⟩ => ⟨S8192x4x512, .f32⟩
  | .hbm, ⟨25, _⟩ => ⟨S8192x4x512, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S8192x4x512, .f32⟩
  | .hbm, ⟨41, _⟩ => ⟨S8192x4x512, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x4x512, .f32⟩
  | .hbm, ⟨53, _⟩ => ⟨S8192x4x512, .f32⟩
  | .hbm, ⟨54, _⟩ => ⟨S_, .f32⟩
  | .hbm, ⟨55, _⟩ => ⟨S8192x4, .f32⟩
  | .hbm, ⟨56, _⟩ => ⟨S8192x4x1, .f32⟩
  | .hbm, ⟨57, _⟩ => ⟨S8192x4x512, .f32⟩
  | .hbm, ⟨58, _⟩ => ⟨S8192x4x512, .f32⟩
  | .hbm, ⟨59, _⟩ => ⟨S8192x4x1, .f32⟩
  | .hbm, ⟨60, _⟩ => ⟨S_, .f32⟩
  | .hbm, ⟨61, _⟩ => ⟨S8192x4x1, .f32⟩
  | .hbm, ⟨62, _⟩ => ⟨S8192x4x1, .f32⟩
  | .hbm, ⟨63, _⟩ => ⟨S_, .f32⟩
  | .hbm, ⟨64, _⟩ => ⟨S8192x4, .f32⟩
  | .hbm, ⟨65, _⟩ => ⟨S8192x4x512, .f32⟩
  | .hbm, ⟨66, _⟩ => ⟨S8192x4x512, .f32⟩
  | .hbm, ⟨67, _⟩ => ⟨S8192x4x512, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x6144, .bf16⟩
  | .hbm, ⟨76, _⟩ => ⟨S8192x2048, .bf16⟩
  | .hbm, ⟨77, _⟩ => ⟨S8192x3072, .bf16⟩
  | .hbm, ⟨78, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== SwigluFwd.lean ====
abbrev S8192x5632 : Shape := ⟨2, ![8192, 5632]⟩
abbrev S8192x2816 : Shape := ⟨2, ![8192, 2816]⟩
abbrev S512x2816 : Shape := ⟨2, ![512, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluFwdReferenceIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Merge.lean ====
abbrev S8192x11264 : Shape := ⟨2, ![8192, 11264]⟩
abbrev S3x1024 : Shape := ⟨2, ![3, 1024]⟩
abbrev S8192x1024 : Shape := ⟨2, ![8192, 1024]⟩
abbrev S512x1024 : Shape := ⟨2, ![512, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x11264, .bf16⟩
  | .hbm, ⟨1, _⟩ => ⟨S3x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S8192x11264 : Shape := ⟨2, ![8192, 11264]⟩
abbrev S3x1024 : Shape := ⟨2, ![3, 1024]⟩
abbrev S8192x1024 : Shape := ⟨2, ![8192, 1024]⟩
abbrev S8192x3072 : Shape := ⟨2, ![8192, 3072]⟩
abbrev S8192x3x1024 : Shape := ⟨3, ![8192, 3, 1024]⟩
abbrev S1x3x1024 : Shape := ⟨3, ![1, 3, 1024]⟩
abbrev S_ : Shape := ⟨0, ![]⟩
abbrev S8192x1x1024 : Shape := ⟨3, ![8192, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x3072, .bf16⟩
  | .hbm, ⟨6, _⟩ => ⟨S8192x3072, .f32⟩
  | .hbm, ⟨7, _⟩ => ⟨S8192x3x1024, .f32⟩
  | .hbm, ⟨8, _⟩ => ⟨S1x3x1024, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S8192x1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== NormFwd.lean ====
abbrev S8192x2048 : Shape := ⟨2, ![8192, 2048]⟩
abbrev S8192x11264 : Shape := ⟨2, ![8192, 11264]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .bf16⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdReferenceIdeal.lean ====
abbrev S8192x2048 : Shape := ⟨2, ![8192, 2048]⟩
abbrev S8192x11264 : Shape := ⟨2, ![8192, 11264]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .bf16⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x4x512, .f32⟩
  | .hbm, ⟨16, _⟩ => ⟨S8192x4x512, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x1, .f32⟩
  | .hbm, ⟨27, _⟩ => ⟨S8192x4x512, .f32⟩
  | .hbm, ⟨28, _⟩ => ⟨S8192x4x512, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== LnFwd.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnFwdReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Pre.lean ====
module

public import proofs.«01_k».proof.Pre_finite_scores
public import proofs.«01_k».proof.Pre_finite_up
public import proofs.«01_k».proof.Pre_finite_norm
public import Idealize.ShloMosaic.Lib.ReduceAll
public import Idealize.ShloMosaic.Lib.Pointwise
public import Idealize.ShloMosaic.Lib.Pipeline.ValueKit

@[expose] public section
set_option maxRecDepth 16384
/-!
# What the preconditions say

The arrays they name hold real numbers.
-/
noncomputable section

namespace Cert.Pre

open Idealize.ShloMosaic Idealize.ShloMosaic.Tactic

/-- The word 0x7F800000 is +∞. -/
theorem inf_eq : Ideal.ofBits .f32 0x7F800000#32 = ⊤ := by simp [Ideal.ofBits, Ideal.ieee]

/-- An extended real whose absolute value is below +∞ is a real number. -/
theorem real_of_lt (x : Ideal .f32) (h : BitVec.ofBool (decide (FloatOps.absf x < Ideal.ofBits .f32 0x7F800000#32)) = 1#1) :
    ∃ a : ℝ, (x : EReal) = (a : EReal) := by
  have h' : (FloatOps.absf x : EReal) < ⊤ := by
    rw [inf_eq] at h
    by_contra hn
    rw [decide_eq_false hn] at h
    exact absurd h (by decide)
  induction x using EReal.rec with
  | bot => exact absurd h' (by simp [Ideal.absf_def])
  | coe a => exact ⟨a, rfl⟩
  | top => exact absurd h' (by simp [Ideal.absf_def])

end Cert.Pre

namespace Cert.Pre_finite_scores

open Idealize.ShloMosaic Idealize.ShloMosaic.Tactic Cert.Pre

/-- The side conditions of its operations. -/
theorem facts : Facts where
  slices_S8192x11264_S8192x1024_0_10240 := by decide
  bitsLt_bf16_f32 := by decide
  slices_S256x2048_S256x1024_0_0 := by decide
  bcast_S_S8192x1024 := by decide
  reducesTo_S8192x1024_S_d0_1 := by decide
  h_S_ := by decide
  bcast_S_S256x1024 := by decide
  reducesTo_S256x1024_S_d0_1 := by decide

variable [Facts]

/-- The precondition at an index. -/
theorem decode (a0 : FVec Ideal S8192x11264 .bf16) (a1 : FVec Ideal S256x2048 .bf16) (a2 : FVec Ideal S8192x1024 .bf16)
    (a3 : FVec Ideal S8192x11264 .bf16) (j) (h : fn a0 a1 a2 a3 j = 1#1) :
    (∀ (n : Fin 8192) (l : Fin 1024), ∃ a : ℝ, a0 (ix2 n (⟨10240 + l.val, by omega⟩ : Fin 11264)) = (a : EReal))
      ∧ ∀ (n : Fin 256) (l : Fin 1024), ∃ a : ℝ, a1 (ix2 n (⟨l.val, by omega⟩ : Fin 2048)) = (a : EReal) := by
  dsimp only [fn] at h
  obtain ⟨h0, h1⟩ := IntOp.andi_eq_one.mp h
  constructor
  · intro n l
    have := Host.reduce_andi_all _ _ _ _ _ h0 (ix2 n l)
    revert this
    pointwise
    exact real_of_lt _
  · intro n l
    have := Host.reduce_andi_all _ _ _ _ _ h1 (ix2 n l)
    revert this
    pointwise
    exact real_of_lt _

end Cert.Pre_finite_scores

namespace Cert.Pre_finite_up

open Idealize.ShloMosaic Idealize.ShloMosaic.Tactic Cert.Pre

/-- The side conditions of its operations. -/
theorem facts : Facts where
  slices_S8192x5632_S8192x2816_0_2816 := by decide
  bitsLt_bf16_f32 := by decide
  bcast_S_S8192x2816 := by decide
  reducesTo_S8192x2816_S_d0_1 := by decide
  h_S_ := by decide

variable [Facts]

/-- The precondition at an index. -/
theorem decode (a0 : FVec Ideal S8192x5632 .bf16) (a1 : FVec Ideal S8192x2816 .bf16) (j) (h : fn a0 a1 j = 1#1) :
    (∀ (n : Fin 8192) (l : Fin 2816), ∃ a : ℝ, a0 (ix2 n (⟨2816 + l.val, by omega⟩ : Fin 5632)) = (a : EReal))
      ∧ ∀ (n : Fin 8192) (l : Fin 2816), ∃ a : ℝ, a1 (ix2 n l) = (a : EReal) := by
  dsimp only [fn] at h
  obtain ⟨h0, h1⟩ := IntOp.andi_eq_one.mp h
  constructor
  · intro n l
    have := Host.reduce_andi_all _ _ _ _ _ h0 (ix2 n l)
    revert this
    pointwise
    exact real_of_lt _
  · intro n l
    have := Host.reduce_andi_all _ _ _ _ _ h1 (ix2 n l)
    revert this
    pointwise
    exact real_of_lt _

end Cert.Pre_finite_up

namespace Cert.Pre_finite_norm

open Idealize.ShloMosaic Idealize.ShloMosaic.Tactic Cert.Pre

/-- The side conditions of its operations. -/
theorem facts : Facts where
  bitsLt_bf16_f32 := by decide
  bcast_S_S8192x2048 := by decide
  reducesTo_S8192x2048_S_d0_1 := by decide
  h_S_ := by decide
  bcast_S_S1x2048 := by decide
  reducesTo_S1x2048_S_d0_1 := by decide

variable [Facts]

/-- The precondition at an index. -/
theorem decode (a0 : FVec Ideal S8192x2048 .bf16) (a1 : FVec Ideal S8192x2048 .f32) (a2 : FVec Ideal S8192x11264 .bf16)
    (a3 : FVec Ideal S1x2048 .f32) (a4 : FVec Ideal S8192x11264 .bf16) (j) (h : fn a0 a1 a2 a3 a4 j = 1#1) :
    (∀ (n : Fin 8192) (l : Fin 2048), ∃ a : ℝ, a0 (ix2 n l) = (a : EReal))
      ∧ ∀ l : Fin 2048, ∃ a : ℝ, a3 (ix2 (0 : Fin 1) l) = (a : EReal) := by
  dsimp only [fn] at h
  obtain ⟨h0, h1⟩ := IntOp.andi_eq_one.mp h
  constructor
  · intro n l
    have := Host.reduce_andi_all _ _ _ _ _ h0 (ix2 n l)
    revert this
    pointwise
    exact real_of_lt _
  · intro l
    have := Host.reduce_andi_all _ _ _ _ _ h1 (ix2 (0 : Fin 1) l)
    revert this
    pointwise
    exact real_of_lt _

end Cert.Pre_finite_norm
end
-- ==== Proof.Softmax.lean ====
module

public import Idealize.ShloMosaic.Lib.Pointwise

@[expose] public section

/-!
# The gradient of a softmax row, in its two forms

A row of attention has scores `s`, weights `exp (s m - max s) / Σ exp (s j - max s)` and the gradient `dp` of the
weights. The kernel forms the gradient of the scores from the weights (`gradK`); differentiating the softmax line by
line gives another arrangement, with the quotient and its derivative taken apart (`gradR`). The two are equal wherever
the scores are finite, whatever `dp` holds (`grad_eq`).
-/

noncomputable section

namespace Cert.Softmax

open Idealize.ShloMosaic

/-- The word of the scale 1/16 and of −∞, as the programs carry them. -/
abbrev scale : EReal := Ideal.ofBits .f32 0x3D800000#32
abbrev ninf : EReal := Ideal.ofBits .f32 0xFF800000#32

theorem ninf_eq : ninf = ⊥ := by simp [ninf, Ideal.ofBits, Ideal.ieee]

theorem scale_real : ∃ r : ℝ, scale = (r : EReal) := ⟨1 / 16, by
  simp [scale, Ideal.ofBits, Ideal.ieee, -EReal.coe_mul]; norm_num⟩

/-- The scaled scores of one query row against the 256 keys of one head. -/
def score (q : Fin 256 → EReal) (k : Fin 256 → Fin 256 → EReal) (m : Fin 256) : EReal := (∑ d, q d * k m d) * scale

/-- The largest score, the shifted exponentials, their sum and the weights. -/
def top (s : Fin 256 → EReal) : EReal := Finset.univ.fold max ninf s
def ex (s : Fin 256 → EReal) (m : Fin 256) : EReal := Ideal.exp (s m - top s)
def den (s : Fin 256 → EReal) : EReal := ∑ m, ex s m
def prob (s : Fin 256 → EReal) (m : Fin 256) : EReal := Ideal.div (ex s m) (den s)

/-- The gradient of the scores as the kernel forms it, and as the derivative of the quotient gives it. -/
def gradK (s dp : Fin 256 → EReal) (m : Fin 256) : EReal := prob s m * (dp m - ∑ j, dp j * prob s j) * scale
def gradR (s dp : Fin 256 → EReal) (m : Fin 256) : EReal :=
  (Ideal.div (dp m) (den s) + -(∑ j, dp j * Ideal.div 1 (den s * den s) * ex s j)) * ex s m * scale

/-- A nonnegative real factor is taken out of a sum of extended reals. -/
theorem sum_mul_real {ι : Type} (t : Finset ι) (f : ι → EReal) (r : ℝ) (hr : 0 ≤ r) :
    (∑ j ∈ t, f j * (r : EReal)) = (∑ j ∈ t, f j) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- Finite scores have a finite largest one. -/
theorem top_real (s : Fin 256 → EReal) (hs : ∀ m, ∃ r : ℝ, s m = (r : EReal)) : ∃ r : ℝ, top s = (r : EReal) := by
  have h1 : top s < ⊤ := by
    unfold top
    rw [Finset.fold_max_lt]
    exact ⟨by rw [ninf_eq]; exact bot_lt_top, fun m _ => by obtain ⟨r, hr⟩ := hs m; rw [hr]; exact EReal.coe_lt_top r⟩
  have h2 : ⊥ < top s := by
    unfold top
    rw [Finset.lt_fold_max]
    exact .inr ⟨0, Finset.mem_univ _, by obtain ⟨r, hr⟩ := hs 0; rw [hr]; exact EReal.bot_lt_coe r⟩
  exact ⟨(top s).toReal, (EReal.coe_toReal h1.ne h2.ne').symm⟩

/-- Finite scores have positive real exponentials. -/
theorem ex_real (s : Fin 256 → EReal) (hs : ∀ m, ∃ r : ℝ, s m = (r : EReal)) (m : Fin 256) :
    ∃ r : ℝ, 0 < r ∧ ex s m = (r : EReal) := by
  obtain ⟨t, ht⟩ := top_real s hs
  obtain ⟨a, ha⟩ := hs m
  refine ⟨Real.exp (a - t), Real.exp_pos _, ?_⟩
  unfold ex
  rw [ht, ha, ← EReal.coe_sub]
  rfl

/-- A sum of reals, read as extended reals, is the real sum. -/
theorem sum_coe {ι : Type} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- … and a positive real sum. -/
theorem den_real (s : Fin 256 → EReal) (hs : ∀ m, ∃ r : ℝ, s m = (r : EReal)) : ∃ r : ℝ, 0 < r ∧ den s = (r : EReal) := by
  choose e he0 he using ex_real s hs
  refine ⟨∑ m, e m, Finset.sum_pos (fun m _ => he0 m) Finset.univ_nonempty, ?_⟩
  unfold den
  rw [← sum_coe]
  exact Finset.sum_congr rfl fun m _ => he m

/-- Division by a nonzero real is multiplication by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The two arrangements of the gradient agree on finite scores. -/
theorem grad_eq (s dp : Fin 256 → EReal) (hs : ∀ m, ∃ r : ℝ, s m = (r : EReal)) (m : Fin 256) : gradK s dp m = gradR s dp m := by
  obtain ⟨l, hl, hd⟩ := den_real s hs
  obtain ⟨e, he, hm⟩ := ex_real s hs m
  have hi : 0 ≤ l⁻¹ := inv_nonneg.mpr hl.le
  have hK : (∑ j, dp j * prob s j) = (∑ j, dp j * ex s j) * ((l⁻¹ : ℝ) : EReal) := by
    rw [← sum_mul_real _ _ _ hi]
    refine Finset.sum_congr rfl fun j _ => ?_
    unfold prob
    rw [hd, div_real _ _ hl.ne', mul_assoc]
  have hR : (∑ j, dp j * Ideal.div 1 (den s * den s) * ex s j)
      = (∑ j, dp j * ex s j) * ((l⁻¹ : ℝ) : EReal) * ((l⁻¹ : ℝ) : EReal) := by
    rw [← sum_mul_real _ _ _ hi, ← sum_mul_real _ _ _ hi]
    refine Finset.sum_congr rfl fun j _ => ?_
    rw [hd, ← EReal.coe_mul, div_real _ _ (mul_pos hl hl).ne', one_mul, mul_inv, EReal.coe_mul]
    simp only [mul_assoc, mul_comm, mul_left_comm]
  unfold gradK gradR
  rw [hK, hR]
  unfold prob
  rw [hd, div_real _ _ hl.ne', div_real _ _ hl.ne', hm]
  generalize (∑ j, dp j * ex s j) * ((l⁻¹ : ℝ) : EReal) = D
  have key : ((l⁻¹ : ℝ) : EReal) * (dp m - D) = dp m * ((l⁻¹ : ℝ) : EReal) + -(D * ((l⁻¹ : ℝ) : EReal)) := by
    rw [sub_eq_add_neg, EReal.left_distrib_of_nonneg_of_ne_top (by exact_mod_cast hi) (EReal.coe_ne_top _),
      mul_comm, mul_comm ((l⁻¹ : ℝ) : EReal) (-D), EReal.neg_mul]
  rw [mul_assoc (e : EReal), key, mul_comm (e : EReal)]

end Cert.Softmax

end
-- ==== Proof.Gate.lean ====
module

public import proofs.«01_k».proof.Proof.Softmax

@[expose] public section
/-!
# The gate `g · logistic g` and its derivative

The kernel writes the derivative as `logistic g · (1 + g · (1 - logistic g))`; differentiating the product line by line
gives the sum of two terms. They agree for every extended real `g`, as long as what multiplies them is a real number.
-/
noncomputable section

namespace Cert.Gate

open Idealize.ShloMosaic

/-- The kernel subtracts from zero where the reference negates. -/
theorem sig_sub (g : EReal) : Ideal.div 1 (1 + Ideal.exp (0 - g)) = Ideal.logistic g := by
  rw [sub_eq_add_neg, zero_add]; rfl

theorem sig_real (g : ℝ) : ∃ r : ℝ, Ideal.logistic (g : EReal) = (r : EReal) := ⟨_, Ideal.logistic_coe g⟩

/-- The two forms of the derivative, multiplied by a real number. -/
theorem deriv_eq (g : EReal) (e : ℝ) :
    (e : EReal) * (Ideal.logistic g * (1 + g * (1 - Ideal.logistic g)))
      = (e : EReal) * Ideal.logistic g + g * (e : EReal) * (Ideal.logistic g * (1 - Ideal.logistic g)) := by
  induction g using EReal.rec with
  | bot => simp
  | top =>
    have h : (1 : EReal) - 1 = 0 := by rw [← EReal.coe_one, ← EReal.coe_sub, sub_self, EReal.coe_zero]
    simp [h]
  | coe g =>
    obtain ⟨s, hs⟩ := sig_real g
    rw [hs]
    norm_cast
    ring

end Cert.Gate
end
-- ==== Proof.SwigluBwd.lean ====
module

public import proofs.«01_k».proof.Defs
public import proofs.«01_k».proof.Proof.Pre
public import proofs.«01_k».proof.Proof.Gate
public import proofs.«01_k».proof.Proof.Gen.SwigluBwdIdeal
public import proofs.«01_k».proof.Proof.Gen.SwigluBwdIdeal.Value
public import proofs.«01_k».proof.Proof.Gen.SwigluBwdReferenceIdeal
public import proofs.«01_k».proof.Proof.Gen.SwigluBwdReferenceIdeal.Run

@[expose] public section
set_option maxRecDepth 16384
/-!
# The gradient of the feed-forward's gate

Columns below 2816 are the gradient of the gate, the others that of what it multiplies.
-/
noncomputable section

namespace Cert.SwigluBwdIdeal.Grad

open Idealize.ShloMosaic Idealize.ShloMosaic.TcCoe Idealize.ShloMosaic.Tactic Idealize.SL.Sem
open Cert.SwigluBwdIdeal Cert.SwigluBwdIdeal.Gen Cert.Gate

local instance : Cert.SwigluBwdIdeal.Facts := Cert.SwigluBwdIdeal.Gen.facts
local instance : Cert.SwigluBwdReferenceIdeal.Facts := Cert.SwigluBwdReferenceIdeal.Gen.facts
local instance : Cert.Pre_finite_up.Facts := Cert.Pre_finite_up.facts

/-- Every window reads or writes the rows of the grid point; the second input reads the upper half of the columns. -/
theorem index : ∀ t, win0_0.index t = ![t.val, 0] ∧ win0_1.index t = ![t.val, 1] ∧ win0_2.index t = ![t.val, 0]
    ∧ win0_3.index t = ![t.val, 0] := by
  decide +kernel

/-- The gradient of a gate `g` and of what it multiplies, `u`, from the gradient `d` of `silu g * u`. -/
def gate (g u d : EReal) : EReal := d * u * (Ideal.logistic g * (1 + g * (1 - Ideal.logistic g)))
def up (g d : EReal) : EReal := d * (g * Ideal.logistic g)

/-- What a grid point computes in either half. -/
theorem pay_gate (a b d : Vec Ideal S256x2816 .bf16) (y0 : Fin 256) (y1 : Fin 2816) :
    k0_pay1 a b d (ix2 y0 (⟨y1.val, by omega⟩ : Fin 5632))
      = gate (a (ix2 y0 y1)) (b (ix2 y0 y1)) (d (ix2 y0 y1)) := by
  rw [Value.lay3_0_eq]
  unfold gate
  pointwise
  simp only [sig_sub]

theorem pay_up (a b d : Vec Ideal S256x2816 .bf16) (y0 : Fin 256) (y1 : Fin 2816) :
    k0_pay1 a b d (ix2 y0 (⟨2816 + y1.val, by omega⟩ : Fin 5632))
      = up (a (ix2 y0 y1)) (d (ix2 y0 y1)) := by
  rw [Value.lay3_0_eq]
  unfold up
  pointwise
  simp only [sig_sub]

/-- A column is one of the gate's or one of the others. -/
theorem halves (P : Fin 5632 → Prop) (h0 : ∀ k : Fin 2816, P ⟨k.val, by omega⟩) (h1 : ∀ k : Fin 2816, P ⟨2816 + k.val, by omega⟩)
    (j : Fin 5632) : P j := by
  by_cases hj : j.val < 2816
  · exact h0 ⟨j.val, hj⟩
  · have := h1 ⟨j.val - 2816, by omega⟩
    simpa only [Nat.add_sub_cancel' (Nat.le_of_not_lt hj)] using this

/-- The gradient of the two halves of `gu`. -/
def grad (gu : S8192x5632.Idx → EReal) (dh : S8192x2816.Idx → EReal) : S8192x5632.Idx → EReal := fun j =>
  let n : Fin 8192 := ⟨(j 0).val, (j 0).isLt⟩
  let k : Fin 2816 := ⟨(j 1).val % 2816, Nat.mod_lt _ (by decide)⟩
  let g := gu (ix2 n (⟨k.val, by omega⟩ : Fin 5632))
  if (j 1).val < 2816 then gate g (gu (ix2 n (⟨2816 + k.val, by omega⟩ : Fin 5632))) (dh (ix2 n k)) else up g (dh (ix2 n k))

theorem grad_gate (gu : S8192x5632.Idx → EReal) (dh : S8192x2816.Idx → EReal) (j : S8192x5632.Idx) (n : Fin 8192) (k : Fin 2816)
    (h0 : (j 0).val = n.val) (h1 : (j 1).val = k.val) :
    grad gu dh j = gate (gu (ix2 n (⟨k.val, by omega⟩ : Fin 5632))) (gu (ix2 n (⟨2816 + k.val, by omega⟩ : Fin 5632))) (dh (ix2 n k)) := by
  have hn : (⟨(j 0).val, (j 0).isLt⟩ : Fin 8192) = n := Fin.ext h0
  have hk : (⟨(j 1).val % 2816, Nat.mod_lt _ (by decide)⟩ : Fin 2816) = k := Fin.ext (by dsimp only; omega)
  subst hn; subst hk
  unfold grad
  exact if_pos (by omega)

theorem grad_up (gu : S8192x5632.Idx → EReal) (dh : S8192x2816.Idx → EReal) (j : S8192x5632.Idx) (n : Fin 8192) (k : Fin 2816)
    (h0 : (j 0).val = n.val) (h1 : (j 1).val = 2816 + k.val) :
    grad gu dh j = up (gu (ix2 n (⟨k.val, by omega⟩ : Fin 5632))) (dh (ix2 n k)) := by
  have hn : (⟨(j 0).val, (j 0).isLt⟩ : Fin 8192) = n := Fin.ext h0
  have hk : (⟨(j 1).val % 2816, Nat.mod_lt _ (by decide)⟩ : Fin 2816) = k := Fin.ext (by dsimp only; omega)
  subst hn; subst hk
  unfold grad
  exact if_neg (by omega)

variable (m : (ℓ : Loc nD τ sig) → Buf (Elt Ideal) ℓ)

/-- The array after the run. -/
theorem arrAt (c : Dev nD) : ((dats m 0 c).arrAt 3 cfg0.N : S8192x5632.Idx → EReal)
    = grad (m ((c : Thread nD τ).loc main_arg0)) (m ((c : Thread nD τ).loc main_arg1)) := by
  refine (dats m 0 c).arrAt_eq_of_covers 3 _ (by decide +kernel) fun t hf y => ?_
  blk_simp
  rw [after0_3]
  idx_vars y
  have e0 : (((win0_3.blk t).view.emb (ix2 y0 y1)) 0).val = t.val * 256 + y0.val := by blk_simp [(index t).2.2.2]
  have e1 : (((win0_3.blk t).view.emb (ix2 y0 y1)) 1).val = y1.val := by blk_simp [(index t).2.2.2]
  have ht : t.val < 32 := lt_of_lt_of_eq t.isLt N_0
  unfold out0_3
  frame_out
  revert y1
  refine halves _ (fun k e0 e1 => ?_) (fun k e0 e1 => ?_)
  · refine Eq.trans ?_ (grad_gate _ _ _ ⟨t.val * 256 + y0.val, by omega⟩ k e0 e1).symm
    rw [pay_gate]
    congr 1
    · blk_ext [iblk, V_main_arg0, (index t).1]
    · blk_ext [iblk, V_main_arg0, (index t).2.1]
    · blk_ext [iblk, V_main_arg1, (index t).2.2.1]
  · refine Eq.trans ?_ (grad_up _ _ _ ⟨t.val * 256 + y0.val, by omega⟩ k e0 e1).symm
    rw [pay_up]
    congr 1
    · blk_ext [iblk, V_main_arg0, (index t).1]
    · blk_ext [iblk, V_main_arg1, (index t).2.2.1]

theorem algebraic : Cert.algebraic_SwigluBwdIdeal_SwigluBwdReferenceIdeal_pre_finite_up := by
  intro m g m' g' hpre hargs
  refine ⟨fun c => grad (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.SwigluBwdReferenceIdeal.Value.run m' g')
    refine ⟨(h c).1.trans ?_, (h c).2⟩
    have hfin := Cert.Pre_finite_up.decode _ _ (fun a => a.elim0) (congrFun (hpre c) _)
    rw [(hargs c).1, (hargs c).2]
    funext j
    idx_vars j
    revert j1
    refine halves _ (fun k => ?_) (fun k => ?_)
    · obtain ⟨u, hu⟩ := hfin.1 j0 k
      obtain ⟨d, hd⟩ := hfin.2 j0 k
      refine Eq.trans ?_ (grad_gate _ _ _ j0 k rfl rfl).symm
      unfold gate
      rw [hu, hd, ← EReal.coe_mul, deriv_eq, EReal.coe_mul, ← hu, ← hd]
      pointwise
      rfl
    · refine Eq.trans ?_ (grad_up _ _ _ j0 k rfl rfl).symm
      unfold up
      rw [mul_comm]
      pointwise
      rfl

theorem frame_reference : Cert.quiescent_SwigluBwdReferenceIdeal := fun m g _ =>
  (θ_run Cert.SwigluBwdReferenceIdeal.defs _ _).mono (fun r h => ⟨fun c => (h c).2, sem_eq_zero_of_no_sems (by decide) r.2⟩)
    (Cert.SwigluBwdReferenceIdeal.Value.run m g)

end Cert.SwigluBwdIdeal.Grad
end
-- ==== Proof.Products.lean ====
module

public import proofs.«01_k».proof.Defs
public import Idealize.ShloMosaic.Lib.Pipeline.ValueKit

@[expose] public section
/-!
# The three products of a training step

`x w` and its two derivatives are the products below: with both factors as they stand, with the second transposed, and with
the first transposed. A product over a long inner axis is added up over runs of the grid, `total` says to what.
-/
noncomputable section

namespace Cert.Products

open Idealize.ShloMosaic

variable {M K N : ℕ}

/-- `a b`. -/
def nn (a : (⟨2, ![M, K]⟩ : Shape).Idx → EReal) (b : (⟨2, ![K, N]⟩ : Shape).Idx → EReal) : (⟨2, ![M, N]⟩ : Shape).Idx → EReal :=
  fun j => ∑ k : Fin K, a (ix2 (j 0 : Fin M) k) * b (ix2 k (j 1 : Fin N))

/-- `a bᵀ`. -/
def nt (a : (⟨2, ![M, K]⟩ : Shape).Idx → EReal) (b : (⟨2, ![N, K]⟩ : Shape).Idx → EReal) : (⟨2, ![M, N]⟩ : Shape).Idx → EReal :=
  fun j => ∑ k : Fin K, a (ix2 (j 0 : Fin M) k) * b (ix2 (j 1 : Fin N) k)

/-- `aᵀ b`. -/
def tn (a : (⟨2, ![K, M]⟩ : Shape).Idx → EReal) (b : (⟨2, ![K, N]⟩ : Shape).Idx → EReal) : (⟨2, ![M, N]⟩ : Shape).Idx → EReal :=
  fun j => ∑ k : Fin K, a (ix2 k (j 0 : Fin M)) * b (ix2 k (j 1 : Fin N))

/-- `aᵀ b` with the factors in the other order, as the derivative of a product has them. -/
theorem tn_swap (a : (⟨2, ![K, M]⟩ : Shape).Idx → EReal) (b : (⟨2, ![K, N]⟩ : Shape).Idx → EReal) (i : Fin M) (j : Fin N) :
    tn a b (ix2 i j) = ∑ k : Fin K, b (ix2 k j) * a (ix2 k i) :=
  Finset.sum_congr rfl fun _ _ => mul_comm _ _

/-- An accumulator that starts each run of `J` grid points with that point's part and then adds the later ones': after a run
whose parts are sums of `n` consecutive terms of `f`, it holds the sum of them all. -/
theorem total {T J n L : ℕ} [NeZero J] {α : Type} (o : ∀ t, t < T → α → EReal) (part : Fin T → α → Fin n → EReal)
    (first : ∀ t : Fin T, t.val % J = 0 → ∀ y, o t.val t.isLt y = ∑ k, part t y k)
    (step : ∀ t : Fin T, ¬ t.val % J = 0 → ∀ y,
      o t.val t.isLt y = o (t.val - 1) (Nat.lt_of_le_of_lt (Nat.sub_le _ _) t.isLt) y + ∑ k, part t y k)
    (t : Fin T) (last : t.val % J = J - 1) (y : α) {f : Fin L → EReal} (hL : L = J * n)
    (h : ∀ (s : Fin J) (hs : J * (t.val / J) + s.val < T) (k : Fin n) (hl : s.val * n + k.val < L),
      part ⟨_, hs⟩ y k = f ⟨_, hl⟩) :
    o t.val t.isLt y = ∑ l, f l := by
  refine (Pipeline.eq_sum_fin_of_reset_step_apply_of_flush o J (fun _ => (0 : EReal)) (fun t y => ∑ k, part t y k)
    (fun t h y => (first t h y).trans (zero_add _).symm) step t last y).trans ?_
  rw [zero_add]
  exact Fin.sum_mul_add_congr (fun s k hl => h s (Pipeline.run_point_lt_of_flush t last s) k hl) hL

end Cert.Products
end
-- ==== Proof.DwBrLru.lean ====
module

public import proofs.«01_k».proof.Proof.Products
public import proofs.«01_k».proof.Proof.Gen.DwBrLruIdeal
public import proofs.«01_k».proof.Proof.Gen.DwBrLruIdeal.Value
public import proofs.«01_k».proof.Proof.Gen.DwBrLruReferenceIdeal
public import proofs.«01_k».proof.Proof.Gen.DwBrLruReferenceIdeal.Run

@[expose] public section
set_option maxRecDepth 16384
/-!
# The gradient of the recurrent branch's output weights

A tile of the product is added up over eight runs of 1024 tokens; after the last it holds the sum over all tokens.
-/
noncomputable section

namespace Cert.DwBrLruIdeal.Product

open Idealize.ShloMosaic Idealize.ShloMosaic.TcCoe Idealize.ShloMosaic.Tactic Idealize.SL.Sem
open Cert.DwBrLruIdeal Cert.DwBrLruIdeal.Gen Cert.Products

local instance : Cert.DwBrLruIdeal.Facts := Cert.DwBrLruIdeal.Gen.facts
local instance : Cert.DwBrLruReferenceIdeal.Facts := Cert.DwBrLruReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1024 .bf16) (b : Vec Ideal S1024x1024 .bf16) (y : Fin 1024 × Fin 1024) (k : Fin 1024) : EReal :=
  a (ix2 k y.1) * b (ix2 k y.2)

theorem pay_first (a : Vec Ideal S1024x1024 .bf16) (b : Vec Ideal S1024x1024 .bf16) (y : Fin 1024 × Fin 1024) :
    k0_pay2 a b (ix2 y.1 y.2) = ∑ k, part a b y k := by
  unfold part
  pointwise [k0_pay2, k0_pay1]

theorem pay_step (a : Vec Ideal S1024x1024 .bf16) (b : Vec Ideal S1024x1024 .bf16) (x : Vec Ideal S1024x1024 .f32)
    (y : Fin 1024 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1024 × Fin 1024) :
    (outsAt0 m c t.val t.isLt).2 (ix2 y.1 y.2) = ∑ k, part (iblk m c 0 t) (iblk m c 1 t) y k := by
  have ht : t.val < 8 := lt_of_lt_of_eq t.isLt N_0
  rw [outsAt0_A m c t h0 (by omega) (by omega)]
  frame_out
  rw [pay_first]

theorem outs_step (c : Dev nD) (t : Fin cfg0.N) (h0 : ¬ t.val % 8 = 0) (y : Fin 1024 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  have ht : t.val < 8 := lt_of_lt_of_eq t.isLt N_0
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  have ht : t.val < 8 := lt_of_lt_of_eq t.isLt N_0
  rw [outsAt0_C m c t (by omega) (by omega) h7]
  frame_out

/-- The array after the run. -/
theorem arrAt (c : Dev nD) : ((dats m 0 c).arrAt 2 cfg0.N : S1024x1024.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1024 × Fin 1024) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwBrLruIdeal_DwBrLruReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwBrLruReferenceIdeal.Value.run m' g')
    refine ⟨(h c).1.trans ?_, (h c).2⟩
    rw [(hargs c).1, (hargs c).2]
    funext j
    idx_vars j
    rw [tn_swap]
    pointwise

theorem frame_reference : Cert.quiescent_DwBrLruReferenceIdeal := fun m g _ =>
  (θ_run Cert.DwBrLruReferenceIdeal.defs _ _).mono (fun r h => ⟨fun c => (h c).2, sem_eq_zero_of_no_sems (by decide) r.2⟩)
    (Cert.DwBrLruReferenceIdeal.Value.run m g)

end Cert.DwBrLruIdeal.Product
end
-- ==== Proof.DwBrSsd.lean ====
module

public import proofs.«01_k».proof.Proof.Products
public import proofs.«01_k».proof.Proof.Gen.DwBrSsdIdeal
public import proofs.«01_k».proof.Proof.Gen.DwBrSsdIdeal.Value
public import proofs.«01_k».proof.Proof.Gen.DwBrSsdReferenceIdeal
public import proofs.«01_k».proof.Proof.Gen.DwBrSsdReferenceIdeal.Run

@[expose] public section
set_option maxRecDepth 16384
/-!
# The gradient of the state-space branch's output weights

A tile of the product is added up over eight runs of 1024 tokens; after the last it holds the sum over all tokens.
-/
noncomputable section

namespace Cert.DwBrSsdIdeal.Product

open Idealize.ShloMosaic Idealize.ShloMosaic.TcCoe Idealize.ShloMosaic.Tactic Idealize.SL.Sem
open Cert.DwBrSsdIdeal Cert.DwBrSsdIdeal.Gen Cert.Products

local instance : Cert.DwBrSsdIdeal.Facts := Cert.DwBrSsdIdeal.Gen.facts
local instance : Cert.DwBrSsdReferenceIdeal.Facts := Cert.DwBrSsdReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1024 .bf16) (b : Vec Ideal S1024x1024 .bf16) (y : Fin 1024 × Fin 1024) (k : Fin 1024) : EReal :=
  a (ix2 k y.1) * b (ix2 k y.2)

theorem pay_first (a : Vec Ideal S1024x1024 .bf16) (b : Vec Ideal S1024x1024 .bf16) (y : Fin 1024 × Fin 1024) :
    k0_pay2 a b (ix2 y.1 y.2) = ∑ k, part a b y k := by
  unfold part
  pointwise [k0_pay2, k0_pay1]

theorem pay_step (a : Vec Ideal S1024x1024 .bf16) (b : Vec Ideal S1024x1024 .bf16) (x : Vec Ideal S1024x1024 .f32)
    (y : Fin 1024 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1024 × Fin 1024) :
    (outsAt0 m c t.val t.isLt).2 (ix2 y.1 y.2) = ∑ k, part (iblk m c 0 t) (iblk m c 1 t) y k := by
  rw [outsAt0_A m c t h0 (by omega) (by omega)]
  frame_out
  rw [pay_first]

theorem outs_step (c : Dev nD) (t : Fin cfg0.N) (h0 : ¬ t.val % 8 = 0) (y : Fin 1024 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  rw [outsAt0_C m c t (by omega) (by omega) h7]
  frame_out

/-- The array after the run. -/
theorem arrAt (c : Dev nD) : ((dats m 0 c).arrAt 2 cfg0.N : S2048x1024.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1024 × Fin 1024) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwBrSsdIdeal_DwBrSsdReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwBrSsdReferenceIdeal.Value.run m' g')
    refine ⟨(h c).1.trans ?_, (h c).2⟩
    rw [(hargs c).1, (hargs c).2]
    funext j
    idx_vars j
    rw [tn_swap]
    pointwise

theorem frame_reference : Cert.quiescent_DwBrSsdReferenceIdeal := fun m g _ =>
  (θ_run Cert.DwBrSsdReferenceIdeal.defs _ _).mono (fun r h => ⟨fun c => (h c).2, sem_eq_zero_of_no_sems (by decide) r.2⟩)
    (Cert.DwBrSsdReferenceIdeal.Value.run m g)

end Cert.DwBrSsdIdeal.Product
end
-- ==== Proof.MixOut.lean ====
module

public import proofs.«01_k».proof.Proof.Products
public import proofs.«01_k».proof.Proof.Gen.MixOutIdeal
public import proofs.«01_k».proof.Proof.Gen.MixOutIdeal.Value
public import proofs.«01_k».proof.Proof.Gen.MixOutReferenceIdeal
public import proofs.«01_k».proof.Proof.Gen.MixOutReferenceIdeal.Run

@[expose] public section
set_option maxRecDepth 16384
/-!
# The product that mixes the merged branches
-/
noncomputable section

namespace Cert.MixOutIdeal.Product

open Idealize.ShloMosaic Idealize.ShloMosaic.TcCoe Idealize.ShloMosaic.Tactic Idealize.SL.Sem
open Cert.MixOutIdeal Cert.MixOutIdeal.Gen Cert.Products

local instance : Cert.MixOutIdeal.Facts := Cert.MixOutIdeal.Gen.facts
local instance : Cert.MixOutReferenceIdeal.Facts := Cert.MixOutReferenceIdeal.Gen.facts

/-- A tile reads the rows of its row of tiles and the columns of its column of tiles. -/
theorem index : ∀ t, win0_0.index t = ![win0_2.index t 0, 0] ∧ win0_1.index t = ![0, win0_2.index t 1] := by
  decide +kernel

/-- What a grid point computes. -/
theorem pay (a : Vec Ideal S1024x1024 .bf16) (b : Vec Ideal S1024x1024 .bf16) (y0 : Fin 1024) (y1 : Fin 1024) :
    k0_pay1 a b (ix2 y0 y1) = ∑ k : Fin 1024, a (ix2 y0 k) * b (ix2 k y1) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nn
  blk_point [iblk, V_main_arg0, V_main_arg1, (index t).1, (index t).2]

theorem algebraic : Cert.algebraic_MixOutIdeal_MixOutReferenceIdeal := by
  intro m g m' g' _ hargs
  refine ⟨fun c => nn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.MixOutReferenceIdeal.Value.run m' g')
    refine ⟨(h c).1.trans ?_, (h c).2⟩
    rw [(hargs c).1, (hargs c).2]
    funext j
    idx_vars j
    unfold nn
    pointwise

theorem frame_reference : Cert.quiescent_MixOutReferenceIdeal := fun m g _ =>
  (θ_run Cert.MixOutReferenceIdeal.defs _ _).mono (fun r h => ⟨fun c => (h c).2, sem_eq_zero_of_no_sems (by decide) r.2⟩)
    (Cert.MixOutReferenceIdeal.Value.run m g)

end Cert.MixOutIdeal.Product
end
-- ==== Proof.DMerged.lean ====
module

public import proofs.«01_k».proof.Proof.Products
public import proofs.«01_k».proof.Proof.Gen.DMergedIdeal
public import proofs.«01_k».proof.Proof.Gen.DMergedIdeal.Value
public import proofs.«01_k».proof.Proof.Gen.DMergedReferenceIdeal
public import proofs.«01_k».proof.Proof.Gen.DMergedReferenceIdeal.Run

@[expose] public section
set_option maxRecDepth 16384
/-!
# The gradient of the merged branches
-/
noncomputable section

namespace Cert.DMergedIdeal.Product

open Idealize.ShloMosaic Idealize.ShloMosaic.TcCoe Idealize.ShloMosaic.Tactic Idealize.SL.Sem
open Cert.DMergedIdeal Cert.DMergedIdeal.Gen Cert.Products

local instance : Cert.DMergedIdeal.Facts := Cert.DMergedIdeal.Gen.facts
local instance : Cert.DMergedReferenceIdeal.Facts := Cert.DMergedReferenceIdeal.Gen.facts

/-- A tile reads the rows of its row of tiles and the columns of its column of tiles. -/
theorem index : ∀ t, win0_0.index t = ![win0_2.index t 0, 0] ∧ win0_1.index t = ![win0_2.index t 1, 0] := by
  decide +kernel

/-- What a grid point computes. -/
theorem pay (a : Vec Ideal S1024x1024 .f32) (b : Vec Ideal S1024x1024 .bf16) (y0 : Fin 1024) (y1 : Fin 1024) :
    k0_pay1 a b (ix2 y0 y1) = ∑ k : Fin 1024, a (ix2 y0 k) * b (ix2 y1 k) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nt
  blk_point [iblk, V_main_arg0, V_main_arg1, (index t).1, (index t).2]

theorem algebraic : Cert.algebraic_DMergedIdeal_DMergedReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DMergedReferenceIdeal.Value.run m' g')
    refine ⟨(h c).1.trans ?_, (h c).2⟩
    rw [(hargs c).1, (hargs c).2]
    funext j
    idx_vars j
    unfold nt
    pointwise

theorem frame_reference : Cert.quiescent_DMergedReferenceIdeal := fun m g _ =>
  (θ_run Cert.DMergedReferenceIdeal.defs _ _).mono (fun r h => ⟨fun c => (h c).2, sem_eq_zero_of_no_sems (by decide) r.2⟩)
    (Cert.DMergedReferenceIdeal.Value.run m g)

end Cert.DMergedIdeal.Product
end
-- ==== Proof.DwOut.lean ====
module

public import proofs.«01_k».proof.Proof.Products
public import proofs.«01_k».proof.Proof.Gen.DwOutIdeal
public import proofs.«01_k».proof.Proof.Gen.DwOutIdeal.Value
public import proofs.«01_k».proof.Proof.Gen.DwOutReferenceIdeal
public import proofs.«01_k».proof.Proof.Gen.DwOutReferenceIdeal.Run

@[expose] public section
set_option maxRecDepth 16384
/-!
# The gradient of the mixing weights

A tile of the product is added up over eight runs of 1024 tokens; after the last it holds the sum over all tokens.
-/
noncomputable section

namespace Cert.DwOutIdeal.Product

open Idealize.ShloMosaic Idealize.ShloMosaic.TcCoe Idealize.ShloMosaic.Tactic Idealize.SL.Sem
open Cert.DwOutIdeal Cert.DwOutIdeal.Gen Cert.Products

local instance : Cert.DwOutIdeal.Facts := Cert.DwOutIdeal.Gen.facts
local instance : Cert.DwOutReferenceIdeal.Facts := Cert.DwOutReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1024 .bf16) (b : Vec Ideal S1024x1024 .f32) (y : Fin 1024 × Fin 1024) (k : Fin 1024) : EReal :=
  a (ix2 k y.1) * b (ix2 k y.2)

theorem pay_first (a : Vec Ideal S1024x1024 .bf16) (b : Vec Ideal S1024x1024 .f32) (y : Fin 1024 × Fin 1024) :
    k0_pay2 a b (ix2 y.1 y.2) = ∑ k, part a b y k := by
  unfold part
  pointwise [k0_pay2, k0_pay1]

theorem pay_step (a : Vec Ideal S1024x1024 .bf16) (b : Vec Ideal S1024x1024 .f32) (x : Vec Ideal S1024x1024 .f32)
    (y : Fin 1024 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1024 × Fin 1024) :
    (outsAt0 m c t.val t.isLt).2 (ix2 y.1 y.2) = ∑ k, part (iblk m c 0 t) (iblk m c 1 t) y k := by
  have ht : t.val < 8 := lt_of_lt_of_eq t.isLt N_0
  rw [outsAt0_A m c t h0 (by omega) (by omega)]
  frame_out
  rw [pay_first]

theorem outs_step (c : Dev nD) (t : Fin cfg0.N) (h0 : ¬ t.val % 8 = 0) (y : Fin 1024 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  have ht : t.val < 8 := lt_of_lt_of_eq t.isLt N_0
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  have ht : t.val < 8 := lt_of_lt_of_eq t.isLt N_0
  rw [outsAt0_C m c t (by omega) (by omega) h7]
  frame_out

/-- The array after the run. -/
theorem arrAt (c : Dev nD) : ((dats m 0 c).arrAt 2 cfg0.N : S1024x1024.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1024 × Fin 1024) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwOutIdeal_DwOutReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwOutReferenceIdeal.Value.run m' g')
    refine ⟨(h c).1.trans ?_, (h c).2⟩
    rw [(hargs c).1, (hargs c).2]
    funext j
    idx_vars j
    rw [tn_swap]
    pointwise

theorem frame_reference : Cert.quiescent_DwOutReferenceIdeal := fun m g _ =>
  (θ_run Cert.DwOutReferenceIdeal.defs _ _).mono (fun r h => ⟨fun c => (h c).2, sem_eq_zero_of_no_sems (by decide) r.2⟩)
    (Cert.DwOutReferenceIdeal.Value.run m g)

end Cert.DwOutIdeal.Product
end
-- ==== Proof.Adam.lean ====
module

public import proofs.«01_k».proof.Defs
public import Idealize.ShloMosaic.Lib.Pipeline.ValueKit

@[expose] public section
/-!
# One entry's AdamW step

The moments' new values and the weight's change, from the weight, its gradient and the moments.
-/
noncomputable section

namespace Cert.Adam

open Idealize.ShloMosaic

def newM (g m : EReal) : EReal :=
  Ideal.ofBits FTy.f32 1063675494#32 * m + Ideal.ofBits FTy.f32 1036831949#32 * g

def newV (g v : EReal) : EReal :=
  Ideal.ofBits FTy.f32 1065336439#32 * v + Ideal.ofBits FTy.f32 981668463#32 * (g * g)

def delta (w g m v : EReal) : EReal :=
  Ideal.ofBits FTy.f32 3129152111#32
    * (Ideal.div (Ideal.div (newM g m) (Ideal.ofBits FTy.f32 1059503362#32))
        (Ideal.sqrt (Ideal.div (newV g v) (Ideal.ofBits FTy.f32 1008933580#32)) + Ideal.ofBits FTy.f32 841731191#32)
      + Ideal.ofBits FTy.f32 1008981770#32 * w)

end Cert.Adam
end
-- ==== Proof.AdamWIn.lean ====
module

public import proofs.«01_k».proof.Proof.Adam
public import proofs.«01_k».proof.Proof.Gen.AdamWInIdeal
public import proofs.«01_k».proof.Proof.Gen.AdamWInIdeal.Value
public import proofs.«01_k».proof.Proof.Gen.AdamWInReferenceIdeal
public import proofs.«01_k».proof.Proof.Gen.AdamWInReferenceIdeal.Run

@[expose] public section
set_option maxRecDepth 16384
/-!
# AdamW on the input projection's weights
-/
noncomputable section

namespace Cert.AdamWInIdeal.Step

open Idealize.ShloMosaic Idealize.ShloMosaic.TcCoe Idealize.ShloMosaic.Tactic Idealize.SL.Sem
open Cert.AdamWInIdeal Cert.AdamWInIdeal.Gen Cert.Adam

local instance : Cert.AdamWInIdeal.Facts := Cert.AdamWInIdeal.Gen.facts
local instance : Cert.AdamWInReferenceIdeal.Facts := Cert.AdamWInReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x64x2824 .f32) (y0 : Fin 1) (y1 : Fin 64) (y2 : Fin 2824) :
    k0_pay2 g m (ix3 y0 y1 y2) = newM (g (ix3 y0 y1 y2)) (m (ix3 y0 y1 y2)) := by
  unfold newM
  pointwise [k0_pay2]

theorem pay_v (g v : Vec Ideal S1x64x2824 .f32) (y0 : Fin 1) (y1 : Fin 64) (y2 : Fin 2824) :
    k0_pay3 g v (ix3 y0 y1 y2) = newV (g (ix3 y0 y1 y2)) (v (ix3 y0 y1 y2)) := by
  unfold newV
  pointwise [k0_pay3]

theorem pay_delta (w g m v : Vec Ideal S1x64x2824 .f32) (y0 : Fin 1) (y1 : Fin 64) (y2 : Fin 2824) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x1024x2824.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x1024x2824.Idx → EReal := fun j =>
  newM (m ((c : Thread nD τ).loc main_arg1) j) (m ((c : Thread nD τ).loc main_arg2) j)

/-- The second moments after the run. -/
def newVs (c : Dev nD) : S2x1024x2824.Idx → EReal := fun j =>
  newV (m ((c : Thread nD τ).loc main_arg1) j) (m ((c : Thread nD τ).loc main_arg3) j)

theorem arrAt4 (c : Dev nD) : ((dats m 0 c).arrAt 4 cfg0.N : S2x1024x2824.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x1024x2824.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x1024x2824.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamWInIdeal_AdamWInReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamWInReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamWInReferenceIdeal := fun m g _ =>
  (θ_run Cert.AdamWInReferenceIdeal.defs _ _).mono (fun r h => ⟨fun c => (h c).2.2.2, sem_eq_zero_of_no_sems (by decide) r.2⟩)
    (Cert.AdamWInReferenceIdeal.Value.run m g)

end Cert.AdamWInIdeal.Step
end
-- ==== Proof.AdamFfnWIn.lean ====
module

public import proofs.«01_k».proof.Proof.Adam
public import proofs.«01_k».proof.Proof.Gen.AdamFfnWInIdeal
public import proofs.«01_k».proof.Proof.Gen.AdamFfnWInIdeal.Value
public import proofs.«01_k».proof.Proof.Gen.AdamFfnWInReferenceIdeal
public import proofs.«01_k».proof.Proof.Gen.AdamFfnWInReferenceIdeal.Run

@[expose] public section
set_option maxRecDepth 16384
/-!
# AdamW on the feed-forward block's first weights
-/
noncomputable section

namespace Cert.AdamFfnWInIdeal.Step

open Idealize.ShloMosaic Idealize.ShloMosaic.TcCoe Idealize.ShloMosaic.Tactic Idealize.SL.Sem
open Cert.AdamFfnWInIdeal Cert.AdamFfnWInIdeal.Gen Cert.Adam

local instance : Cert.AdamFfnWInIdeal.Facts := Cert.AdamFfnWInIdeal.Gen.facts
local instance : Cert.AdamFfnWInReferenceIdeal.Facts := Cert.AdamFfnWInReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x128x1408 .f32) (y0 : Fin 1) (y1 : Fin 128) (y2 : Fin 1408) :
    k0_pay2 g m (ix3 y0 y1 y2) = newM (g (ix3 y0 y1 y2)) (m (ix3 y0 y1 y2)) := by
  unfold newM
  pointwise [k0_pay2]

theorem pay_v (g v : Vec Ideal S1x128x1408 .f32) (y0 : Fin 1) (y1 : Fin 128) (y2 : Fin 1408) :
    k0_pay3 g v (ix3 y0 y1 y2) = newV (g (ix3 y0 y1 y2)) (v (ix3 y0 y1 y2)) := by
  unfold newV
  pointwise [k0_pay3]

theorem pay_delta (w g m v : Vec Ideal S1x128x1408 .f32) (y0 : Fin 1) (y1 : Fin 128) (y2 : Fin 1408) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x1024x1408.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x1024x1408.Idx → EReal := fun j =>
  newM (m ((c : Thread nD τ).loc main_arg1) j) (m ((c : Thread nD τ).loc main_arg2) j)

/-- The second moments after the run. -/
def newVs (c : Dev nD) : S2x1024x1408.Idx → EReal := fun j =>
  newV (m ((c : Thread nD τ).loc main_arg1) j) (m ((c : Thread nD τ).loc main_arg3) j)

theorem arrAt4 (c : Dev nD) : ((dats m 0 c).arrAt 4 cfg0.N : S2x1024x1408.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x1024x1408.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x1024x1408.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamFfnWInIdeal_AdamFfnWInReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamFfnWInReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamFfnWInReferenceIdeal := fun m g _ =>
  (θ_run Cert.AdamFfnWInReferenceIdeal.defs _ _).mono (fun r h => ⟨fun c => (h c).2.2.2, sem_eq_zero_of_no_sems (by decide) r.2⟩)
    (Cert.AdamFfnWInReferenceIdeal.Value.run m g)

end Cert.AdamFfnWInIdeal.Step
end
-- ==== Proof.AdamMemWKv.lean ====
module

public import proofs.«01_k».proof.Proof.Adam
public import proofs.«01_k».proof.Proof.Gen.AdamMemWKvIdeal
public import proofs.«01_k».proof.Proof.Gen.AdamMemWKvIdeal.Value
public import proofs.«01_k».proof.Proof.Gen.AdamMemWKvReferenceIdeal
public import proofs.«01_k».proof.Proof.Gen.AdamMemWKvReferenceIdeal.Run

@[expose] public section
set_option maxRecDepth 16384
/-!
# AdamW on the memory's key and value weights
-/
noncomputable section

namespace Cert.AdamMemWKvIdeal.Step

open Idealize.ShloMosaic Idealize.ShloMosaic.TcCoe Idealize.ShloMosaic.Tactic Idealize.SL.Sem
open Cert.AdamMemWKvIdeal Cert.AdamMemWKvIdeal.Gen Cert.Adam

local instance : Cert.AdamMemWKvIdeal.Facts := Cert.AdamMemWKvIdeal.Gen.facts
local instance : Cert.AdamMemWKvReferenceIdeal.Facts := Cert.AdamMemWKvReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x256x512 .f32) (y0 : Fin 1) (y1 : Fin 256) (y2 : Fin 512) :
    k0_pay2 g m (ix3 y0 y1 y2) = newM (g (ix3 y0 y1 y2)) (m (ix3 y0 y1 y2)) := by
  unfold newM
  pointwise [k0_pay2]

theorem pay_v (g v : Vec Ideal S1x256x512 .f32) (y0 : Fin 1) (y1 : Fin 256) (y2 : Fin 512) :
    k0_pay3 g v (ix3 y0 y1 y2) = newV (g (ix3 y0 y1 y2)) (v (ix3 y0 y1 y2)) := by
  unfold newV
  pointwise [k0_pay3]

theorem pay_delta (w g m v : Vec Ideal S1x256x512 .f32) (y0 : Fin 1) (y1 : Fin 256) (y2 : Fin 512) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x1024x512.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x1024x512.Idx → EReal := fun j =>
  newM (m ((c : Thread nD τ).loc main_arg1) j) (m ((c : Thread nD τ).loc main_arg2) j)

/-- The second moments after the run. -/
def newVs (c : Dev nD) : S2x1024x512.Idx → EReal := fun j =>
  newV (m ((c : Thread nD τ).loc main_arg1) j) (m ((c : Thread nD τ).loc main_arg3) j)

theorem arrAt4 (c : Dev nD) : ((dats m 0 c).arrAt 4 cfg0.N : S2x1024x512.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x1024x512.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x1024x512.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamMemWKvIdeal_AdamMemWKvReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamMemWKvReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamMemWKvReferenceIdeal := fun m g _ =>
  (θ_run Cert.AdamMemWKvReferenceIdeal.defs _ _).mono (fun r h => ⟨fun c => (h c).2.2.2, sem_eq_zero_of_no_sems (by decide) r.2⟩)
    (Cert.AdamMemWKvReferenceIdeal.Value.run m g)

end Cert.AdamMemWKvIdeal.Step
end
-- ==== Proof.AdamWBr.lean ====
module

public import proofs.«01_k».proof.Proof.Adam
public import proofs.«01_k».proof.Proof.Gen.AdamWBrIdeal
public import proofs.«01_k».proof.Proof.Gen.AdamWBrIdeal.Value
public import proofs.«01_k».proof.Proof.Gen.AdamWBrReferenceIdeal
public import proofs.«01_k».proof.Proof.Gen.AdamWBrReferenceIdeal.Run

@[expose] public section
set_option maxRecDepth 16384
/-!
# AdamW on the recurrent branch's, the attention's and the mixing weights
-/
noncomputable section

namespace Cert.AdamWBrIdeal.Step

open Idealize.ShloMosaic Idealize.ShloMosaic.TcCoe Idealize.ShloMosaic.Tactic Idealize.SL.Sem
open Cert.AdamWBrIdeal Cert.AdamWBrIdeal.Gen Cert.Adam

local instance : Cert.AdamWBrIdeal.Facts := Cert.AdamWBrIdeal.Gen.facts
local instance : Cert.AdamWBrReferenceIdeal.Facts := Cert.AdamWBrReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x256x1024 .f32) (y0 : Fin 1) (y1 : Fin 256) (y2 : Fin 1024) :
    k0_pay2 g m (ix3 y0 y1 y2) = newM (g (ix3 y0 y1 y2)) (m (ix3 y0 y1 y2)) := by
  unfold newM
  pointwise [k0_pay2]

theorem pay_v (g v : Vec Ideal S1x256x1024 .f32) (y0 : Fin 1) (y1 : Fin 256) (y2 : Fin 1024) :
    k0_pay3 g v (ix3 y0 y1 y2) = newV (g (ix3 y0 y1 y2)) (v (ix3 y0 y1 y2)) := by
  unfold newV
  pointwise [k0_pay3]

theorem pay_delta (w g m v : Vec Ideal S1x256x1024 .f32) (y0 : Fin 1) (y1 : Fin 256) (y2 : Fin 1024) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x256x1024.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x256x1024.Idx → EReal := fun j =>
  newM (m ((c : Thread nD τ).loc main_arg1) j) (m ((c : Thread nD τ).loc main_arg2) j)

/-- The second moments after the run. -/
def newVs (c : Dev nD) : S2x256x1024.Idx → EReal := fun j =>
  newV (m ((c : Thread nD τ).loc main_arg1) j) (m ((c : Thread nD τ).loc main_arg3) j)

theorem arrAt4 (c : Dev nD) : ((dats m 0 c).arrAt 4 cfg0.N : S2x256x1024.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x256x1024.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x256x1024.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamWBrIdeal_AdamWBrReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamWBrReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamWBrReferenceIdeal := fun m g _ =>
  (θ_run Cert.AdamWBrReferenceIdeal.defs _ _).mono (fun r h => ⟨fun c => (h c).2.2.2, sem_eq_zero_of_no_sems (by decide) r.2⟩)
    (Cert.AdamWBrReferenceIdeal.Value.run m g)

end Cert.AdamWBrIdeal.Step
end
-- ==== Proof.AdamWBrSsd.lean ====
module

public import proofs.«01_k».proof.Proof.Adam
public import proofs.«01_k».proof.Proof.Gen.AdamWBrSsdIdeal
public import proofs.«01_k».proof.Proof.Gen.AdamWBrSsdIdeal.Value
public import proofs.«01_k».proof.Proof.Gen.AdamWBrSsdReferenceIdeal
public import proofs.«01_k».proof.Proof.Gen.AdamWBrSsdReferenceIdeal.Run

@[expose] public section
set_option maxRecDepth 16384
/-!
# AdamW on the state-space branch's output weights
-/
noncomputable section

namespace Cert.AdamWBrSsdIdeal.Step

open Idealize.ShloMosaic Idealize.ShloMosaic.TcCoe Idealize.ShloMosaic.Tactic Idealize.SL.Sem
open Cert.AdamWBrSsdIdeal Cert.AdamWBrSsdIdeal.Gen Cert.Adam

local instance : Cert.AdamWBrSsdIdeal.Facts := Cert.AdamWBrSsdIdeal.Gen.facts
local instance : Cert.AdamWBrSsdReferenceIdeal.Facts := Cert.AdamWBrSsdReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x256x1024 .f32) (y0 : Fin 1) (y1 : Fin 256) (y2 : Fin 1024) :
    k0_pay2 g m (ix3 y0 y1 y2) = newM (g (ix3 y0 y1 y2)) (m (ix3 y0 y1 y2)) := by
  unfold newM
  pointwise [k0_pay2]

theorem pay_v (g v : Vec Ideal S1x256x1024 .f32) (y0 : Fin 1) (y1 : Fin 256) (y2 : Fin 1024) :
    k0_pay3 g v (ix3 y0 y1 y2) = newV (g (ix3 y0 y1 y2)) (v (ix3 y0 y1 y2)) := by
  unfold newV
  pointwise [k0_pay3]

theorem pay_delta (w g m v : Vec Ideal S1x256x1024 .f32) (y0 : Fin 1) (y1 : Fin 256) (y2 : Fin 1024) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x512x1024.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x512x1024.Idx → EReal := fun j =>
  newM (m ((c : Thread nD τ).loc main_arg1) j) (m ((c : Thread nD τ).loc main_arg2) j)

/-- The second moments after the run. -/
def newVs (c : Dev nD) : S2x512x1024.Idx → EReal := fun j =>
  newV (m ((c : Thread nD τ).loc main_arg1) j) (m ((c : Thread nD τ).loc main_arg3) j)

theorem arrAt4 (c : Dev nD) : ((dats m 0 c).arrAt 4 cfg0.N : S2x512x1024.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x512x1024.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x512x1024.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamWBrSsdIdeal_AdamWBrSsdReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamWBrSsdReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamWBrSsdReferenceIdeal := fun m g _ =>
  (θ_run Cert.AdamWBrSsdReferenceIdeal.defs _ _).mono (fun r h => ⟨fun c => (h c).2.2.2, sem_eq_zero_of_no_sems (by decide) r.2⟩)
    (Cert.AdamWBrSsdReferenceIdeal.Value.run m g)

end Cert.AdamWBrSsdIdeal.Step
end
-- ==== Proof.AdamFfnWDown.lean ====
module

public import proofs.«01_k».proof.Proof.Adam
public import proofs.«01_k».proof.Proof.Gen.AdamFfnWDownIdeal
public import proofs.«01_k».proof.Proof.Gen.AdamFfnWDownIdeal.Value
public import proofs.«01_k».proof.Proof.Gen.AdamFfnWDownReferenceIdeal
public import proofs.«01_k».proof.Proof.Gen.AdamFfnWDownReferenceIdeal.Run

@[expose] public section
set_option maxRecDepth 16384
/-!
# AdamW on the feed-forward block's second weights
-/
noncomputable section

namespace Cert.AdamFfnWDownIdeal.Step

open Idealize.ShloMosaic Idealize.ShloMosaic.TcCoe Idealize.ShloMosaic.Tactic Idealize.SL.Sem
open Cert.AdamFfnWDownIdeal Cert.AdamFfnWDownIdeal.Gen Cert.Adam

local instance : Cert.AdamFfnWDownIdeal.Facts := Cert.AdamFfnWDownIdeal.Gen.facts
local instance : Cert.AdamFfnWDownReferenceIdeal.Facts := Cert.AdamFfnWDownReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x64x1024 .f32) (y0 : Fin 1) (y1 : Fin 64) (y2 : Fin 1024) :
    k0_pay2 g m (ix3 y0 y1 y2) = newM (g (ix3 y0 y1 y2)) (m (ix3 y0 y1 y2)) := by
  unfold newM
  pointwise [k0_pay2]

theorem pay_v (g v : Vec Ideal S1x64x1024 .f32) (y0 : Fin 1) (y1 : Fin 64) (y2 : Fin 1024) :
    k0_pay3 g v (ix3 y0 y1 y2) = newV (g (ix3 y0 y1 y2)) (v (ix3 y0 y1 y2)) := by
  unfold newV
  pointwise [k0_pay3]

theorem pay_delta (w g m v : Vec Ideal S1x64x1024 .f32) (y0 : Fin 1) (y1 : Fin 64) (y2 : Fin 1024) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S2x704x1024.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S2x704x1024.Idx → EReal := fun j =>
  newM (m ((c : Thread nD τ).loc main_arg1) j) (m ((c : Thread nD τ).loc main_arg2) j)

/-- The second moments after the run. -/
def newVs (c : Dev nD) : S2x704x1024.Idx → EReal := fun j =>
  newV (m ((c : Thread nD τ).loc main_arg1) j) (m ((c : Thread nD τ).loc main_arg3) j)

theorem arrAt4 (c : Dev nD) : ((dats m 0 c).arrAt 4 cfg0.N : S2x704x1024.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S2x704x1024.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S2x704x1024.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamFfnWDownIdeal_AdamFfnWDownReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamFfnWDownReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamFfnWDownReferenceIdeal := fun m g _ =>
  (θ_run Cert.AdamFfnWDownReferenceIdeal.defs _ _).mono (fun r h => ⟨fun c => (h c).2.2.2, sem_eq_zero_of_no_sems (by decide) r.2⟩)
    (Cert.AdamFfnWDownReferenceIdeal.Value.run m g)

end Cert.AdamFfnWDownIdeal.Step
end
-- ==== Proof.AdamSmall.lean ====
module

public import proofs.«01_k».proof.Proof.Adam
public import proofs.«01_k».proof.Proof.Gen.AdamSmallIdeal
public import proofs.«01_k».proof.Proof.Gen.AdamSmallIdeal.Value
public import proofs.«01_k».proof.Proof.Gen.AdamSmallReferenceIdeal
public import proofs.«01_k».proof.Proof.Gen.AdamSmallReferenceIdeal.Run

@[expose] public section
set_option maxRecDepth 16384
/-!
# AdamW on the small weights, packed into one array
-/
noncomputable section

namespace Cert.AdamSmallIdeal.Step

open Idealize.ShloMosaic Idealize.ShloMosaic.TcCoe Idealize.ShloMosaic.Tactic Idealize.SL.Sem
open Cert.AdamSmallIdeal Cert.AdamSmallIdeal.Gen Cert.Adam

local instance : Cert.AdamSmallIdeal.Facts := Cert.AdamSmallIdeal.Gen.facts
local instance : Cert.AdamSmallReferenceIdeal.Facts := Cert.AdamSmallReferenceIdeal.Gen.facts

/-- At each grid point all seven windows are at one place. -/
theorem index : ∀ t, win0_0.index t = win0_4.index t ∧ win0_1.index t = win0_4.index t ∧ win0_2.index t = win0_4.index t
    ∧ win0_3.index t = win0_4.index t ∧ win0_5.index t = win0_4.index t ∧ win0_6.index t = win0_4.index t := by
  decide +kernel

theorem pay_m (g m : Vec Ideal S1x8x1024 .f32) (y0 : Fin 1) (y1 : Fin 8) (y2 : Fin 1024) :
    k0_pay2 g m (ix3 y0 y1 y2) = newM (g (ix3 y0 y1 y2)) (m (ix3 y0 y1 y2)) := by
  unfold newM
  pointwise [k0_pay2]

theorem pay_v (g v : Vec Ideal S1x8x1024 .f32) (y0 : Fin 1) (y1 : Fin 8) (y2 : Fin 1024) :
    k0_pay3 g v (ix3 y0 y1 y2) = newV (g (ix3 y0 y1 y2)) (v (ix3 y0 y1 y2)) := by
  unfold newV
  pointwise [k0_pay3]

theorem pay_delta (w g m v : Vec Ideal S1x8x1024 .f32) (y0 : Fin 1) (y1 : Fin 8) (y2 : Fin 1024) :
    k0_pay1 (k0_pay4 g m v w) (k0_pay5 (F := Ideal)) (ix3 y0 y1 y2)
      = delta (w (ix3 y0 y1 y2)) (g (ix3 y0 y1 y2)) (m (ix3 y0 y1 y2)) (v (ix3 y0 y1 y2)) := by
  unfold delta newM newV
  pointwise [k0_pay1, k0_pay2, k0_pay3, k0_pay4, k0_pay5]

variable (m : (ℓ : Loc nD τ sig) → Buf (Elt Ideal) ℓ)

/-- The weights' changes after the run. -/
def deltas (c : Dev nD) : S1x552x1024.Idx → EReal := fun j => delta (m ((c : Thread nD τ).loc main_arg0) j)
  (m ((c : Thread nD τ).loc main_arg1) j) (m ((c : Thread nD τ).loc main_arg2) j) (m ((c : Thread nD τ).loc main_arg3) j)

/-- The first moments after the run. -/
def newMs (c : Dev nD) : S1x552x1024.Idx → EReal := fun j =>
  newM (m ((c : Thread nD τ).loc main_arg1) j) (m ((c : Thread nD τ).loc main_arg2) j)

/-- The second moments after the run. -/
def newVs (c : Dev nD) : S1x552x1024.Idx → EReal := fun j =>
  newV (m ((c : Thread nD τ).loc main_arg1) j) (m ((c : Thread nD τ).loc main_arg3) j)

theorem arrAt4 (c : Dev nD) : ((dats m 0 c).arrAt 4 cfg0.N : S1x552x1024.Idx → EReal) = deltas m c := by
  refine (dats m 0 c).arrAt_eq_of_covers 4 _ (by decide +kernel) fun t hf y => ?_
  blk_simp
  rw [after0_4]
  idx_vars y
  unfold out0_4
  frame_out
  rw [pay_delta]
  unfold deltas
  blk_point [iblk, V_main_arg0, V_main_arg1, V_main_arg2, V_main_arg3, (index t).1, (index t).2.1, (index t).2.2.1, (index t).2.2.2.1]

theorem arrAt5 (c : Dev nD) : ((dats m 0 c).arrAt 5 cfg0.N : S1x552x1024.Idx → EReal) = newMs m c := by
  refine (dats m 0 c).arrAt_eq_of_covers 5 _ (by decide +kernel) fun t hf y => ?_
  blk_simp
  rw [after0_5]
  idx_vars y
  unfold out0_5
  frame_out
  rw [pay_m]
  unfold newMs
  blk_point [iblk, V_main_arg1, V_main_arg2, (index t).2.1, (index t).2.2.1, (index t).2.2.2.2.1]

theorem arrAt6 (c : Dev nD) : ((dats m 0 c).arrAt 6 cfg0.N : S1x552x1024.Idx → EReal) = newVs m c := by
  refine (dats m 0 c).arrAt_eq_of_covers 6 _ (by decide +kernel) fun t hf y => ?_
  blk_simp
  rw [after0_6]
  idx_vars y
  unfold out0_6
  frame_out
  rw [pay_v]
  unfold newVs
  blk_point [iblk, V_main_arg1, V_main_arg3, (index t).2.1, (index t).2.2.2.1, (index t).2.2.2.2.2]

theorem algebraic : Cert.algebraic_AdamSmallIdeal_AdamSmallReferenceIdeal := by
  intro m g m' g' _ hargs
  refine ⟨deltas m, newMs m, newVs m, ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.AdamSmallReferenceIdeal.Value.run m' g')
    refine ⟨(h c).1.trans ?_, (h c).2.1.trans ?_, (h c).2.2.1.trans ?_, (h c).2.2.2⟩
    · rw [(hargs c).1, (hargs c).2.1, (hargs c).2.2.1, (hargs c).2.2.2]
      funext j
      idx_vars j
      unfold deltas delta newM newV
      pointwise
    · rw [(hargs c).2.1, (hargs c).2.2.1]
      funext j
      idx_vars j
      unfold newMs newM
      pointwise
    · rw [(hargs c).2.1, (hargs c).2.2.2]
      funext j
      idx_vars j
      unfold newVs newV
      pointwise

theorem frame_reference : Cert.quiescent_AdamSmallReferenceIdeal := fun m g _ =>
  (θ_run Cert.AdamSmallReferenceIdeal.defs _ _).mono (fun r h => ⟨fun c => (h c).2.2.2, sem_eq_zero_of_no_sems (by decide) r.2⟩)
    (Cert.AdamSmallReferenceIdeal.Value.run m g)

end Cert.AdamSmallIdeal.Step
end
-- ==== Proof.GradX.lean ====
module

public import proofs.«01_k».proof.Proof.Products
public import proofs.«01_k».proof.Proof.Gen.GradXIdeal
public import proofs.«01_k».proof.Proof.Gen.GradXIdeal.Value
public import proofs.«01_k».proof.Proof.Gen.GradXReferenceIdeal
public import proofs.«01_k».proof.Proof.Gen.GradXReferenceIdeal.Run

@[expose] public section
set_option maxRecDepth 16384
/-!
# The gradient of the step's input

The input's gradient is the residual sum's, scaled, plus the one that comes back through the projection.
-/
noncomputable section

namespace Cert.GradXIdeal.Residual

open Idealize.ShloMosaic Idealize.ShloMosaic.TcCoe Idealize.ShloMosaic.Tactic Idealize.SL.Sem
open Cert.GradXIdeal Cert.GradXIdeal.Gen

local instance : Cert.GradXIdeal.Facts := Cert.GradXIdeal.Gen.facts
local instance : Cert.GradXReferenceIdeal.Facts := Cert.GradXReferenceIdeal.Gen.facts

theorem algebraic : Cert.algebraic_GradXIdeal_GradXReferenceIdeal := by
  intro m g m' g' _ hargs
  refine ⟨fun c => Value.G2 (m ((c : Thread nD τ).loc main_arg0)) (m ((c : Thread nD τ).loc main_arg1)), Value.run m g, ?_⟩
  refine (θ_run _ _ _).mono (fun r h c => ?_) (Cert.GradXReferenceIdeal.Value.run m' g')
  refine ⟨(h c).1.trans ?_, (h c).2⟩
  rw [(hargs c).1, (hargs c).2]
  funext j
  idx_vars j
  pointwise [Value.G2]
  exact add_comm _ _

theorem frame_reference : Cert.quiescent_GradXReferenceIdeal := fun m g _ =>
  (θ_run Cert.GradXReferenceIdeal.defs _ _).mono (fun r h => ⟨fun c => (h c).2, sem_eq_zero_of_no_sems (by decide) r.2⟩)
    (Cert.GradXReferenceIdeal.Value.run m g)

end Cert.GradXIdeal.Residual
end
-- ==== Proof.Loss.lean ====
module

public import proofs.«01_k».proof.Proof.Products
public import proofs.«01_k».proof.Proof.Gen.LossGradIdeal
public import proofs.«01_k».proof.Proof.Gen.LossGradIdeal.Value
public import proofs.«01_k».proof.Proof.Gen.LossGradReferenceIdeal
public import proofs.«01_k».proof.Proof.Gen.LossGradReferenceIdeal.Run

@[expose] public section
set_option maxRecDepth 16384
/-!
# The loss and its gradient

Half the squared error of a token, averaged over its channels and added up over the tokens: in the kernel over the rows of a
tile and the grid's tiles, with one factor for the half and the mean.
-/
noncomputable section

namespace Cert.LossGradIdeal.Loss

open Idealize.ShloMosaic Idealize.ShloMosaic.TcCoe Idealize.ShloMosaic.Tactic Idealize.SL.Sem
open Cert.LossGradIdeal Cert.LossGradIdeal.Gen

local instance : Cert.LossGradIdeal.Facts := Cert.LossGradIdeal.Gen.facts
local instance : Cert.LossGradReferenceIdeal.Facts := Cert.LossGradReferenceIdeal.Gen.facts

/-- The block indices of the windows. -/
theorem index : ∀ t, win0_0.index t = ![t.val, 0] ∧ win0_1.index t = ![t.val, 0] ∧ win0_2.index t = ![t.val, 0]
    ∧ win0_3.index t = ![0, 0] := by
  decide +kernel

/-- The constants: one over the channels, half of it, the channels, a half and two. -/
theorem consts : Ideal.ofBits FTy.f32 981467136#32 = ((1 / 1024 : ℝ) : EReal)
    ∧ Ideal.ofBits FTy.f32 973078528#32 = ((1 / 2048 : ℝ) : EReal)
    ∧ Ideal.ofBits FTy.f32 1149239296#32 = ((1024 : ℝ) : EReal)
    ∧ Ideal.ofBits FTy.f32 1056964608#32 = ((1 / 2 : ℝ) : EReal)
    ∧ Ideal.ofBits FTy.f32 1073741824#32 = ((2 : ℝ) : EReal) := by
  refine ⟨?_, ?_, ?_, ?_, ?_⟩ <;> (simp [Ideal.ofBits, Ideal.ieee, -EReal.coe_mul]; try norm_num)

/-- A nonnegative real factor of a sum is one of its terms. -/
theorem sum_mul {n : ℕ} (f : Fin n → EReal) (r : ℝ) (h : 0 ≤ r) : (∑ i, f i) * (r : EReal) = ∑ i, f i * (r : EReal) :=
  map_sum (⟨⟨(· * (r : EReal)), zero_mul _⟩, fun _ _ =>
    EReal.right_distrib_of_nonneg_of_ne_top (by exact_mod_cast h) (EReal.coe_ne_top _) _ _⟩ : EReal →+ EReal) f Finset.univ

/-- A token's squared error. -/
def err {N : ℕ} (a b : (⟨2, ![N, 1024]⟩ : Shape).Idx → EReal) (n : Fin N) : EReal :=
  ∑ k : Fin 1024, (a (ix2 n k) - b (ix2 n k)) * (a (ix2 n k) - b (ix2 n k))

/-- The gradient, and the loss, of all tokens. -/
def grad (a b : S8192x1024.Idx → EReal) : S8192x1024.Idx → EReal := fun j => (a j - b j) * ((1 / 1024 : ℝ) : EReal)
def loss (a b : S8192x1024.Idx → EReal) : S1x1.Idx → EReal := fun _ => ∑ n : Fin 8192, err a b n * ((1 / 2048 : ℝ) : EReal)

/-- The gradient and the loss as the reference has them. -/
theorem grad_ref (d : EReal) : Ideal.div (Ideal.ofBits FTy.f32 1056964608#32) (Ideal.ofBits FTy.f32 1149239296#32)
    * (Ideal.ofBits FTy.f32 1073741824#32 * d) = d * ((1 / 1024 : ℝ) : EReal) := by
  rw [consts.2.2.1, consts.2.2.2.1, consts.2.2.2.2, Ideal.div_coe (by norm_num), ← mul_assoc, ← EReal.coe_mul, ← EReal.coe_mul,
    mul_comm]
  norm_num

theorem loss_ref (e : Fin 8192 → EReal) : Ideal.ofBits FTy.f32 1056964608#32
    * ∑ n, Ideal.div (e n) (Ideal.ofBits FTy.f32 1149239296#32) = ∑ n, e n * ((1 / 2048 : ℝ) : EReal) := by
  rw [consts.2.2.1, consts.2.2.2.1, mul_comm, sum_mul _ _ (by norm_num)]
  refine Finset.sum_congr rfl fun n _ => ?_
  rw [Ideal.div_coe (by norm_num), mul_assoc, ← EReal.coe_mul]
  norm_num

theorem pay_grad (a b : Vec Ideal S512x1024 .f32) (y0 : Fin 512) (y1 : Fin 1024) :
    k0_pay2 a b (ix2 y0 y1) = (a (ix2 y0 y1) - b (ix2 y0 y1)) * ((1 / 1024 : ℝ) : EReal) := by
  rw [← consts.1]
  pointwise [k0_pay2, k0_pay1]

theorem pay_first (a b : Vec Ideal S512x1024 .f32) (y0 : Fin 1) (y1 : Fin 1) :
    k0_pay3 a b (ix2 y0 y1) = ∑ r : Fin 512, err (N := 512) a b r * ((1 / 2048 : ℝ) : EReal) := by
  rw [← sum_mul _ _ (by norm_num), ← consts.2.1]
  unfold err
  pointwise [k0_pay3, k0_pay1]

theorem pay_step (a b : Vec Ideal S512x1024 .f32) (x : Vec Ideal S1x1 .f32) (y0 : Fin 1) (y1 : Fin 1) :
    k0_pay4 a b x (ix2 y0 y1) = x (ix2 y0 y1) + ∑ r : Fin 512, err (N := 512) a b r * ((1 / 2048 : ℝ) : EReal) := by
  rw [← pay_first a b y0 y1]
  pointwise [k0_pay4]

variable (m : (ℓ : Loc nD τ sig) → Buf (Elt Ideal) ℓ)

theorem outs_grad (c : Dev nD) (t : Fin cfg0.N) (y0 : Fin 512) (y1 : Fin 1024) :
    (outsAt0 m c t.val t.isLt).1 (ix2 y0 y1) = k0_pay2 (iblk m c 0 t) (iblk m c 1 t) (ix2 y0 y1) := by
  have ht : t.val < 16 := lt_of_lt_of_eq t.isLt N_0
  by_cases h : t.val % 16 = 0
  · rw [outsAt0_A m c t h (by omega)]
    frame_out
  · rw [outsAt0_B m c t h (by omega)]
    frame_out

theorem outs_first (c : Dev nD) (t : Fin cfg0.N) (h : t.val % 16 = 0) (y0 y1 : Fin 1) :
    (outsAt0 m c t.val t.isLt).2 (ix2 y0 y1) = ∑ r : Fin 512, err (N := 512) (iblk m c 0 t) (iblk m c 1 t) r * ((1 / 2048 : ℝ) : EReal) := by
  have ht : t.val < 16 := lt_of_lt_of_eq t.isLt N_0
  rw [outsAt0_A m c t h (by omega)]
  frame_out
  exact pay_first _ _ y0 y1

theorem outs_step (c : Dev nD) (t : Fin cfg0.N) (h : ¬ t.val % 16 = 0) (y0 y1 : Fin 1) :
    (outsAt0 m c t.val t.isLt).2 (ix2 y0 y1) = (outsAt0 m c (t.val - 1) (Nat.lt_of_le_of_lt (Nat.sub_le _ _) t.isLt)).2 (ix2 y0 y1)
      + ∑ r : Fin 512, err (N := 512) (iblk m c 0 t) (iblk m c 1 t) r * ((1 / 2048 : ℝ) : EReal) := by
  rw [outsAt0_B m c t h (by omega)]
  frame_out
  rw [pay_step]

theorem arrAt2 (c : Dev nD) : ((dats m 0 c).arrAt 2 cfg0.N : S8192x1024.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [outs_grad m c t, pay_grad]
  unfold grad
  blk_point [iblk, V_main_arg0, V_main_arg1, (index t).1, (index t).2.1, (index t).2.2.1]

theorem arrAt3 (c : Dev nD) : ((dats m 0 c).arrAt 3 cfg0.N : S1x1.Idx → EReal)
    = loss (m ((c : Thread nD τ).loc main_arg0)) (m ((c : Thread nD τ).loc main_arg1)) := by
  refine (dats m 0 c).arrAt_eq_of_after_last 3 t0_15 (by decide +kernel) _ fun j => ?_
  blk_simp
  rw [after0_3]
  idx_vars j
  refine (Pipeline.eq_sum_fin_of_reset_step_apply_last (fun n h (i : Fin 1 × Fin 1) => (outsAt0 m c n h).2 (ix2 i.1 i.2)) 16 (fun _ => (0 : EReal))
    (fun t _ => ∑ r : Fin 512, err (N := 512) (iblk m c 0 t) (iblk m c 1 t) r * ((1 / 2048 : ℝ) : EReal)) (fun t h i => ?_)
    (fun t h i => outs_step m c t h i.1 i.2) (le_of_eq N_0) t0_15 rfl (j0, j1)).trans ?_
  · rw [zero_add]
    exact outs_first m c t h i.1 i.2
  · rw [zero_add]
    unfold loss
    refine Eq.trans (b := ∑ _ : Fin 1, ∑ n : Fin 8192, err (m ((c : Thread nD τ).loc main_arg0))
      (m ((c : Thread nD τ).loc main_arg1)) n * ((1 / 2048 : ℝ) : EReal)) ?_ (Fin.sum_univ_one _)
    refine Fin.sum_points_lanes_congr 16 (fun t k ha hl => ?_) N_0 rfl
    have ht : t.val < 16 := lt_of_lt_of_eq t.isLt N_0
    unfold err
    refine congrArg (· * _) (Finset.sum_congr rfl fun k _ => ?_)
    blk_point [iblk, V_main_arg0, V_main_arg1, (index t).1, (index t).2.1]

theorem algebraic : Cert.algebraic_LossGradIdeal_LossGradReferenceIdeal := by
  intro m g m' g' _ hargs
  refine ⟨fun c => grad (m ((c : Thread nD τ).loc main_arg0)) (m ((c : Thread nD τ).loc main_arg1)),
    fun c => loss (m ((c : Thread nD τ).loc main_arg0)) (m ((c : Thread nD τ).loc main_arg1)), ?_, ?_⟩
  · refine (θ_run _ _ _).mono (fun r h c => ?_) (Value.run_blocks m g)
    exact ⟨(h c).1.trans (arrAt2 m c), (h c).2.1.trans (arrAt3 m c), (h c).2.2⟩
  · refine (θ_run _ _ _).mono (fun r h c => ?_) (Cert.LossGradReferenceIdeal.Value.run m' g')
    refine ⟨(h c).1.trans ?_, (h c).2.1.trans ?_, (h c).2.2⟩
    · rw [(hargs c).1, (hargs c).2]
      funext j
      idx_vars j
      unfold grad
      pointwise
      exact grad_ref _
    · rw [(hargs c).1, (hargs c).2]
      funext j
      idx_vars j
      unfold loss
      pointwise
      exact loss_ref _

theorem frame_reference : Cert.quiescent_LossGradReferenceIdeal := fun m g _ =>
  (θ_run Cert.LossGradReferenceIdeal.defs _ _).mono (fun r h => ⟨fun c => (h c).2.2, sem_eq_zero_of_no_sems (by decide) r.2⟩)
    (Cert.LossGradReferenceIdeal.Value.run m g)

end Cert.LossGradIdeal.Loss
end
-- ==== Proof.Norm.lean ====
module

public import proofs.«01_k».proof.Proof.Gate
public import proofs.«01_k».proof.Proof.Loss

@[expose] public section
/-!
# The normalisation of a group of channels by its root mean square, and its gradient

A group has 512 channels. The kernel writes the gradient through the normalised values; differentiating the forward line
by line gives a sum of two terms. They agree on real numbers.
-/
noncomputable section

namespace Cert.Norm

open Idealize.ShloMosaic

/-- The number of channels of a group, and what is added to the mean square. -/
def c512 : EReal := Ideal.ofBits FTy.f32 1140850688#32
def eps : EReal := Ideal.ofBits FTy.f32 925353388#32

theorem c512_eq : c512 = ((512 : ℝ) : EReal) := by
  simp [c512, Ideal.ofBits, Ideal.ieee, -EReal.coe_mul]; norm_num

theorem eps_real : ∃ r : ℝ, 0 < r ∧ eps = (r : EReal) := by
  refine ⟨_, ?_, by simp [eps, Ideal.ofBits, Ideal.ieee, -EReal.coe_mul]; rfl⟩
  norm_num

/-- The mean square, its inverse root, the gate. -/
def ms (s : Fin 512 → EReal) : EReal := Ideal.div (∑ k, s k * s k) c512 + eps
def inv (s : Fin 512 → EReal) : EReal := Ideal.rsqrt (ms s)
def silu (z : EReal) : EReal := z * Ideal.logistic z

/-- The gradient at channel `k` of what is normalised, `s`, from the gradient `g` of the normalised values: the kernel's
    form and the reference's. -/
def gradK (s g : Fin 512 → EReal) (k : Fin 512) : EReal :=
  inv s * (g k - s k * inv s * Ideal.div (∑ i, g i * (s i * inv s)) c512)
def gradR (s g : Fin 512 → EReal) (k : Fin 512) : EReal :=
  g k * inv s + Ideal.div ((∑ i, s i * g i) * (Ideal.ofBits FTy.f32 3204448256#32 * Ideal.div (inv s) (ms s))) c512
    * (Ideal.ofBits FTy.f32 1073741824#32 * s k)

theorem consts : Ideal.ofBits FTy.f32 3204448256#32 = ((-(1 / 2) : ℝ) : EReal)
    ∧ Ideal.ofBits FTy.f32 1073741824#32 = ((2 : ℝ) : EReal) := by
  refine ⟨?_, ?_⟩ <;> (simp [Ideal.ofBits, Ideal.ieee, -EReal.coe_mul]; try norm_num)

/-- The mean square of real numbers is real and positive. -/
theorem ms_real (s : Fin 512 → ℝ) : ∃ v : ℝ, 0 < v ∧ ms (fun k => (s k : EReal)) = (v : EReal) := by
  obtain ⟨e, he, hee⟩ := eps_real
  refine ⟨(∑ k, s k * s k) * 512⁻¹ + e, ?_, ?_⟩
  · have := Finset.sum_nonneg (s := Finset.univ) fun k _ => mul_self_nonneg (s k)
    positivity
  · unfold ms
    rw [c512_eq, Ideal.div_coe (by norm_num), hee, EReal.coe_add, EReal.coe_mul, ← Softmax.sum_coe]
    norm_num

theorem rsqrt_real (v : ℝ) (h : 0 < v) : Ideal.rsqrt (v : EReal) = (((√v)⁻¹ : ℝ) : EReal) :=
  (if_neg (not_lt.mpr h.le)).trans (if_neg h.ne')

/-- The kernel's gradient of real numbers is real, and the reference's. -/
theorem grad_real (s g : Fin 512 → ℝ) (k : Fin 512) : ∃ r : ℝ, gradK (fun k => (s k : EReal)) (fun k => (g k : EReal)) k = (r : EReal)
    ∧ gradR (fun k => (s k : EReal)) (fun k => (g k : EReal)) k = (r : EReal) := by
  obtain ⟨v, hv, hvv⟩ := ms_real s
  have hi : inv (fun k => (s k : EReal)) = (((√v)⁻¹ : ℝ) : EReal) := by rw [inv, hvv, rsqrt_real v hv]
  have hq : (√v)⁻¹ * (√v)⁻¹ = v⁻¹ := by rw [← mul_inv, Real.mul_self_sqrt hv.le]
  unfold gradK gradR
  rw [hi, hvv, c512_eq, consts.1, consts.2, Ideal.div_coe hv.ne', Ideal.div_coe (by norm_num), Ideal.div_coe (by norm_num)]
  simp only [← EReal.coe_mul, ← EReal.coe_add, ← EReal.coe_sub, Softmax.sum_coe]
  refine ⟨_, rfl, ?_⟩
  congr 1
  have e : ∑ i, g i * (s i * (√v)⁻¹) = (∑ i, s i * g i) * (√v)⁻¹ := by
    rw [Finset.sum_mul]
    exact Finset.sum_congr rfl fun i _ => by ring
  rw [e, div_eq_mul_inv 1 v, ← hq]
  ring

/-- An infinite value makes the mean square infinite and its inverse root zero. -/
theorem ms_top (s : Fin 512 → EReal) (k : Fin 512) (h : s k = ⊤ ∨ s k = ⊥) : ms s = ⊤ := by
  have hk : s k * s k = ⊤ := by rcases h with h | h <;> simp [h]
  have hs : ∑ i, s i * s i = ⊤ := top_le_iff.mp <| hk ▸ Finset.single_le_sum (f := fun i => s i * s i)
    (fun i _ => by induction s i using EReal.rec <;> simp [← EReal.coe_mul, mul_self_nonneg]) (Finset.mem_univ k)
  obtain ⟨e, -, he⟩ := eps_real
  unfold ms
  rw [hs, c512_eq, Ideal.div_coe (by norm_num), he, EReal.top_mul_coe_of_pos (by norm_num), EReal.top_add_coe]

/-- An infinite value makes both gradients zero. -/
theorem grad_top (s g : Fin 512 → EReal) (i : Fin 512) (h : s i = ⊤ ∨ s i = ⊥) (k : Fin 512) :
    gradK s g k = 0 ∧ gradR s g k = 0 := by
  have hm := ms_top s i h
  have hi : inv s = 0 := by rw [inv, hm]; rfl
  have hd : Ideal.div 0 ⊤ = 0 := by simp [Ideal.div]
  unfold gradK gradR
  have h5 : Ideal.div 0 c512 = 0 := by rw [c512_eq, Ideal.div_coe (by norm_num), zero_mul]
  rw [hi, hm, hd]
  simp [h5]

/-- For real `g` the two forms agree and are real. -/
theorem grad_eq (s : Fin 512 → EReal) (g : Fin 512 → ℝ) (k : Fin 512) :
    ∃ r : ℝ, gradK s (fun k => (g k : EReal)) k = (r : EReal) ∧ gradR s (fun k => (g k : EReal)) k = (r : EReal) := by
  by_cases h : ∃ i, s i = ⊤ ∨ s i = ⊥
  · obtain ⟨i, hi⟩ := h
    exact ⟨0, grad_top s _ i hi k⟩
  · push Not at h
    have hs : s = fun k => ((s k).toReal : EReal) := funext fun k => (EReal.coe_toReal (h k).1 (h k).2).symm
    rw [hs]
    exact grad_real _ g k

/-- The channels of the four groups. -/
def col (q : Fin 4) (l : Fin 512) : Fin 2048 := ⟨q.val * 512 + l.val, by omega⟩
def grp (k : Fin 2048) : Fin 4 := ⟨k.val / 512, by omega⟩
def lane (k : Fin 2048) : Fin 512 := ⟨k.val % 512, by omega⟩

theorem col_zero : col 0 = fun l => ⟨l.val, by omega⟩ := funext fun l => Fin.ext (Nat.zero_add l.val)
theorem grp_col (q : Fin 4) (l : Fin 512) : grp (col q l) = q := Fin.ext (by dsimp only [grp, col]; omega)
theorem lane_col (q : Fin 4) (l : Fin 512) : lane (col q l) = l := Fin.ext (by dsimp only [lane, col]; omega)
theorem col_grp (k : Fin 2048) : col (grp k) (lane k) = k := Fin.ext (by dsimp only [col, grp, lane]; omega)

/-- The gated values of group `q` of token `n`, and the weighted gradient of their normalised ones. -/
def act {N : ℕ} (y z : (⟨2, ![N, 2048]⟩ : Shape).Idx → EReal) (n : Fin N) (q : Fin 4) : Fin 512 → EReal := fun l =>
  y (ix2 n (col q l)) * silu (z (ix2 n (col q l)))
def wgt {N : ℕ} (d : (⟨2, ![N, 2048]⟩ : Shape).Idx → EReal) (w : (⟨2, ![1, 2048]⟩ : Shape).Idx → EReal) (n : Fin N) (q : Fin 4) :
    Fin 512 → EReal := fun l => d (ix2 n (col q l)) * w (ix2 (0 : Fin 1) (col q l))

theorem act_lane {N : ℕ} (y z : (⟨2, ![N, 2048]⟩ : Shape).Idx → EReal) (n : Fin N) (k : Fin 2048) :
    act y z n (grp k) (lane k) = y (ix2 n k) * silu (z (ix2 n k)) := by unfold act; rw [col_grp]
theorem wgt_lane {N : ℕ} (d : (⟨2, ![N, 2048]⟩ : Shape).Idx → EReal) (w : (⟨2, ![1, 2048]⟩ : Shape).Idx → EReal) (n : Fin N)
    (k : Fin 2048) : wgt d w n (grp k) (lane k) = d (ix2 n k) * w (ix2 (0 : Fin 1) k) := by unfold wgt; rw [col_grp]

/-- The gradient of the gate: what multiplies the derivative, `e * y`, is real, or both forms are the same. -/
theorem gate_eq (y z e : EReal) (he : ∃ r : ℝ, e = (r : EReal)) (h0 : y * silu z = ⊤ ∨ y * silu z = ⊥ → e = 0) :
    e * y * (Ideal.logistic z * (1 + z * (1 - Ideal.logistic z)))
      = y * e * Ideal.logistic z + z * (y * e) * (Ideal.logistic z * (1 - Ideal.logistic z)) := by
  obtain ⟨r, rfl⟩ := he
  rw [mul_comm (r : EReal) y]
  by_cases hy : ∃ b : ℝ, y = (b : EReal)
  · obtain ⟨b, rfl⟩ := hy
    rw [← EReal.coe_mul]
    exact Gate.deriv_eq z _
  · have hy' : y = ⊤ ∨ y = ⊥ := by
      induction y using EReal.rec with
      | bot => exact .inr rfl
      | top => exact .inl rfl
      | coe b => exact absurd ⟨b, rfl⟩ hy
    have hbad : (y * silu z = ⊤ ∨ y * silu z = ⊥) → y * (r : EReal) * (Ideal.logistic z * (1 + z * (1 - Ideal.logistic z)))
        = y * r * Ideal.logistic z + z * (y * r) * (Ideal.logistic z * (1 - Ideal.logistic z)) := fun h => by
      rw [h0 h]; simp
    induction z using EReal.rec with
    | bot => simp
    | top => exact hbad (by rcases hy' with rfl | rfl <;> simp [silu])
    | coe z =>
      have hz : silu (z : EReal) = ((z * (1 + Real.exp (-z))⁻¹ : ℝ) : EReal) := by rw [silu, Ideal.logistic_coe, ← EReal.coe_mul]
      have hp : 0 < (1 + Real.exp (-z))⁻¹ := by positivity
      rcases lt_trichotomy z 0 with hn | rfl | hn
      · have hl := mul_neg_of_neg_of_pos hn hp
        refine hbad ?_
        rw [hz]
        rcases hy' with rfl | rfl
        · exact .inr (EReal.top_mul_coe_of_neg hl)
        · exact .inl (EReal.bot_mul_coe_of_neg hl)
      · simp
      · have hl := mul_pos hn hp
        refine hbad ?_
        rw [hz]
        rcases hy' with rfl | rfl
        · exact .inl (EReal.top_mul_coe_of_pos hl)
        · exact .inr (EReal.bot_mul_coe_of_pos hl)

end Cert.Norm
end
-- ==== Proof.NormBwdArrays.lean ====
module

public import proofs.«01_k».proof.Proof.Norm
public import proofs.«01_k».proof.Proof.Gen.NormBwdIdeal
public import proofs.«01_k».proof.Proof.Gen.NormBwdIdeal.Value

@[expose] public section
set_option maxRecDepth 16384
/-!
# The gradient of the gated normalisation of the state-space branch

The gate's gradient goes to its columns of the projections' gradient, the branch's own to its array, and the weights' is
summed over the tokens.
-/
noncomputable section

namespace Cert.NormBwdIdeal.Norm

open Idealize.ShloMosaic Idealize.ShloMosaic.TcCoe Idealize.ShloMosaic.Tactic Idealize.SL.Sem
open Cert.NormBwdIdeal Cert.NormBwdIdeal.Gen Cert.Norm Cert.Gate

local instance : Cert.NormBwdIdeal.Facts := Cert.NormBwdIdeal.Gen.facts

/-- The block indices of the windows. -/
theorem index : ∀ t, win0_0.index t = ![t.val, 0] ∧ win0_1.index t = ![t.val, 0] ∧ win0_2.index t = ![t.val, 3]
    ∧ win0_3.index t = ![0, 0] ∧ win0_4.index t = ![t.val, 3] ∧ win0_5.index t = ![t.val, 0] ∧ win0_6.index t = ![0, 0] := by
  decide +kernel

/-- The gradient of what is normalised, as a grid point has it. -/
def dX (y : Vec Ideal S256x2048 .f32) (z d : Vec Ideal S256x2048 .bf16) (w : Vec Ideal S1x2048 .f32) : Vec Ideal S256x2048 .f32 :=
  k0_pay28 (k0_pay6 y z) (k0_pay7 d) w (k0_pay13 (k0_pay9 y z) (k0_pay12 y z d w)) (k0_pay18 (k0_pay6 y z) (k0_pay7 d) w)
    (k0_pay20 (k0_pay6 y z)) (k0_pay21 (k0_pay6 y z)) (k0_pay23 (k0_pay7 d) w)

/-- Four groups side by side. -/
theorem cat_rows (a : Fin 4 → FVec Ideal S256x512 .f32) (y0 : Fin 256) (q : Fin 4) (l : Fin 512) :
    concatenate S256x2048 1 [⟨S256x512, a 0⟩, ⟨S256x512, a 1⟩, ⟨S256x512, a 2⟩, ⟨S256x512, a 3⟩] concatenates_S256x512_S256x512_S256x512_S256x512_S256x2048_d1 (ix2 y0 (col q l))
      = a q (ix2 y0 l) := by
  match q with
  | 0 =>
    rw [col_zero]
    pointwise
  | 1 =>
    change concatenate S256x2048 1 [⟨S256x512, a 0⟩, ⟨S256x512, a 1⟩, ⟨S256x512, a 2⟩, ⟨S256x512, a 3⟩] concatenates_S256x512_S256x512_S256x512_S256x512_S256x2048_d1 (ix2 y0 (⟨512 + l.val, by omega⟩ : Fin 2048)) = _
    pointwise
  | 2 =>
    change concatenate S256x2048 1 [⟨S256x512, a 0⟩, ⟨S256x512, a 1⟩, ⟨S256x512, a 2⟩, ⟨S256x512, a 3⟩] concatenates_S256x512_S256x512_S256x512_S256x512_S256x2048_d1 (ix2 y0 (⟨1024 + l.val, by omega⟩ : Fin 2048)) = _
    pointwise
    rw [dif_neg (by omega), dif_neg (by omega), dif_pos (by omega)]
    exact congrArg (fun i => a 2 (ix2 y0 i)) (Fin.ext (by dsimp only; omega))
  | 3 =>
    change concatenate S256x2048 1 [⟨S256x512, a 0⟩, ⟨S256x512, a 1⟩, ⟨S256x512, a 2⟩, ⟨S256x512, a 3⟩] concatenates_S256x512_S256x512_S256x512_S256x512_S256x2048_d1 (ix2 y0 (⟨1536 + l.val, by omega⟩ : Fin 2048)) = _
    pointwise
    rw [dif_neg (by omega), dif_neg (by omega), dif_neg (by omega)]
    exact congrArg (fun i => a 3 (ix2 y0 i)) (Fin.ext (by dsimp only; omega))

theorem cat_row (a : Fin 4 → FVec Ideal S1x512 .f32) (y0 : Fin 1) (q : Fin 4) (l : Fin 512) :
    concatenate S1x2048 1 [⟨S1x512, a 0⟩, ⟨S1x512, a 1⟩, ⟨S1x512, a 2⟩, ⟨S1x512, a 3⟩] concatenates_S1x512_S1x512_S1x512_S1x512_S1x2048_d1 (ix2 y0 (col q l))
      = a q (ix2 y0 l) := by
  match q with
  | 0 =>
    rw [col_zero]
    pointwise
    rw [Subsingleton.elim y0 0]
  | 1 =>
    change concatenate S1x2048 1 [⟨S1x512, a 0⟩, ⟨S1x512, a 1⟩, ⟨S1x512, a 2⟩, ⟨S1x512, a 3⟩] concatenates_S1x512_S1x512_S1x512_S1x512_S1x2048_d1 (ix2 y0 (⟨512 + l.val, by omega⟩ : Fin 2048)) = _
    pointwise
    rw [Subsingleton.elim y0 0]
  | 2 =>
    change concatenate S1x2048 1 [⟨S1x512, a 0⟩, ⟨S1x512, a 1⟩, ⟨S1x512, a 2⟩, ⟨S1x512, a 3⟩] concatenates_S1x512_S1x512_S1x512_S1x512_S1x2048_d1 (ix2 y0 (⟨1024 + l.val, by omega⟩ : Fin 2048)) = _
    pointwise
    rw [dif_neg (by omega), dif_neg (by omega), dif_pos (by omega)]
    exact congrArg (a 2) (congrArg₂ ix2 (Subsingleton.elim _ _) (Fin.ext (by dsimp only; omega)))
  | 3 =>
    change concatenate S1x2048 1 [⟨S1x512, a 0⟩, ⟨S1x512, a 1⟩, ⟨S1x512, a 2⟩, ⟨S1x512, a 3⟩] concatenates_S1x512_S1x512_S1x512_S1x512_S1x2048_d1 (ix2 y0 (⟨1536 + l.val, by omega⟩ : Fin 2048)) = _
    pointwise
    rw [dif_neg (by omega), dif_neg (by omega), dif_neg (by omega)]
    exact congrArg (a 3) (congrArg₂ ix2 (Subsingleton.elim _ _) (Fin.ext (by dsimp only; omega)))

theorem pay_dX (y : Vec Ideal S256x2048 .f32) (z d : Vec Ideal S256x2048 .bf16) (w : Vec Ideal S1x2048 .f32)
    (y0 : Fin 256) (q : Fin 4) (l : Fin 512) :
    dX y z d w (ix2 y0 (col q l)) = gradK (act (N := 256) y z y0 q) (wgt (N := 256) d w y0 q) l := by
  unfold dX k0_pay28
  refine (cat_rows ![_, _, _, _] y0 q l).trans ?_
  match q with
  | 0 =>
    unfold act wgt
    rw [col_zero]
    dsimp only [Matrix.cons_val]
    pointwise [k0_pay13, k0_pay9, k0_pay12, k0_pay10, k0_pay8, k0_pay6, k0_pay5, k0_pay4, k0_pay7]
    simp only [sig_sub]
    rfl
  | 1 =>
    dsimp only [Matrix.cons_val]
    pointwise [k0_pay18, k0_pay16, k0_pay15, k0_pay14, k0_pay6, k0_pay5, k0_pay4, k0_pay7]
    simp only [sig_sub]
    rfl
  | 2 =>
    dsimp only [Matrix.cons_val]
    pointwise [k0_pay23, k0_pay21, k0_pay20, k0_pay19, k0_pay6, k0_pay5, k0_pay4, k0_pay7]
    simp only [sig_sub]
    rfl
  | 3 =>
    dsimp only [Matrix.cons_val]
    pointwise [k0_pay26, k0_pay25, k0_pay24, k0_pay6, k0_pay5, k0_pay4, k0_pay7]
    simp only [sig_sub]
    rfl

theorem pay_dw (y : Vec Ideal S256x2048 .f32) (z d : Vec Ideal S256x2048 .bf16)
    (y0 : Fin 1) (q : Fin 4) (l : Fin 512) :
    k0_pay2 (k0_pay11 y z d) (k0_pay17 (k0_pay6 y z) (k0_pay7 d)) (k0_pay22 (k0_pay6 y z) (k0_pay7 d))
        (k0_pay27 (k0_pay6 y z) (k0_pay7 d)) (ix2 y0 (col q l))
      = ∑ n : Fin 256, d (ix2 n (col q l)) * (act (N := 256) y z n q l * inv (act (N := 256) y z n q)) := by
  refine (cat_row ![k0_pay11 y z d, k0_pay17 (k0_pay6 y z) (k0_pay7 d), k0_pay22 (k0_pay6 y z) (k0_pay7 d),
    k0_pay27 (k0_pay6 y z) (k0_pay7 d)] y0 q l).trans ?_
  match q with
  | 0 =>
    unfold act
    rw [col_zero]
    change (k0_pay11 y z d) (ix2 y0 l) = _
    pointwise [k0_pay11, k0_pay9, k0_pay10, k0_pay8, k0_pay6, k0_pay5, k0_pay4, k0_pay7]
    simp only [sig_sub]
    rfl
  | 1 =>
    change (k0_pay17 (k0_pay6 y z) (k0_pay7 d)) (ix2 y0 l) = _
    pointwise [k0_pay17, k0_pay16, k0_pay15, k0_pay14, k0_pay6, k0_pay5, k0_pay4, k0_pay7]
    simp only [sig_sub]
    rfl
  | 2 =>
    change (k0_pay22 (k0_pay6 y z) (k0_pay7 d)) (ix2 y0 l) = _
    pointwise [k0_pay22, k0_pay21, k0_pay20, k0_pay19, k0_pay6, k0_pay5, k0_pay4, k0_pay7]
    simp only [sig_sub]
    rfl
  | 3 =>
    change (k0_pay27 (k0_pay6 y z) (k0_pay7 d)) (ix2 y0 l) = _
    pointwise [k0_pay27, k0_pay26, k0_pay25, k0_pay24, k0_pay6, k0_pay5, k0_pay4, k0_pay7]
    simp only [sig_sub]
    rfl

theorem pay_dy (y : Vec Ideal S256x2048 .f32) (z d : Vec Ideal S256x2048 .bf16) (w : Vec Ideal S1x2048 .f32) (j : S256x2048.Idx) :
    k0_pay29 (k0_pay5 z) (k0_pay6 y z) (k0_pay7 d) w (k0_pay13 (k0_pay9 y z) (k0_pay12 y z d w)) (k0_pay18 (k0_pay6 y z) (k0_pay7 d) w)
      (k0_pay20 (k0_pay6 y z)) (k0_pay21 (k0_pay6 y z)) (k0_pay23 (k0_pay7 d) w) j = dX y z d w j * silu (z j) := by
  refine congrArg (dX y z d w j * ·) ?_
  idx_vars j
  pointwise [k0_pay5, k0_pay4]
  simp only [sig_sub]
  rfl

theorem pay_dz (y : Vec Ideal S256x2048 .f32) (z d : Vec Ideal S256x2048 .bf16) (w : Vec Ideal S1x2048 .f32) (y0 : Fin 256) (y1 : Fin 2048) :
    k0_pay1 (k0_pay4 z) (k0_pay30 y (k0_pay6 y z) (k0_pay7 d) w (k0_pay13 (k0_pay9 y z) (k0_pay12 y z d w))
      (k0_pay18 (k0_pay6 y z) (k0_pay7 d) w) (k0_pay20 (k0_pay6 y z)) (k0_pay21 (k0_pay6 y z)) (k0_pay23 (k0_pay7 d) w))
      (k0_pay31 (k0_pay4 z)) k0_pay32 (ix2 y0 y1)
      = dX y z d w (ix2 y0 y1) * y (ix2 y0 y1) * (Ideal.logistic (z (ix2 y0 y1)) * (1 + z (ix2 y0 y1) * (1 - Ideal.logistic (z (ix2 y0 y1))))) := by
  unfold k0_pay30
  change k0_pay1 (k0_pay4 z) (mulf (dX y z d w) y) (k0_pay31 (k0_pay4 z)) k0_pay32 (ix2 y0 y1) = _
  generalize dX y z d w = e
  pointwise [k0_pay1, k0_pay4, k0_pay31, k0_pay32]
  simp only [sig_sub]
theorem dX_at (y : Vec Ideal S256x2048 .f32) (z d : Vec Ideal S256x2048 .bf16) (w : Vec Ideal S1x2048 .f32)
    (y0 : Fin 256) (k : Fin 2048) :
    dX y z d w (ix2 y0 k) = gradK (act (N := 256) y z y0 (grp k)) (wgt (N := 256) d w y0 (grp k)) (lane k) := by
  conv_lhs => rw [← col_grp k]
  exact pay_dX y z d w y0 _ _

/-- A token's gradient of what is normalised, of the gate, and its part of the weights'. -/
def dS {N : ℕ} (d y z : (⟨2, ![N, 2048]⟩ : Shape).Idx → EReal) (w : S1x2048.Idx → EReal) (n : Fin N) (k : Fin 2048) : EReal :=
  gradK (act y z n (grp k)) (wgt d w n (grp k)) (lane k)
def dZ {N : ℕ} (d y z : (⟨2, ![N, 2048]⟩ : Shape).Idx → EReal) (w : S1x2048.Idx → EReal) (n : Fin N) (k : Fin 2048) : EReal :=
  dS d y z w n k * y (ix2 n k) * (Ideal.logistic (z (ix2 n k)) * (1 + z (ix2 n k) * (1 - Ideal.logistic (z (ix2 n k)))))
def dW {N : ℕ} (d y z : (⟨2, ![N, 2048]⟩ : Shape).Idx → EReal) (n : Fin N) (k : Fin 2048) : EReal :=
  d (ix2 n k) * (act y z n (grp k) (lane k) * inv (act y z n (grp k)))

/-- They depend on the token's row alone. -/
theorem row_congr {N M : ℕ} {d y z : (⟨2, ![N, 2048]⟩ : Shape).Idx → EReal} {d' y' z' : (⟨2, ![M, 2048]⟩ : Shape).Idx → EReal}
    {w w' : S1x2048.Idx → EReal} {n : Fin N} {n' : Fin M} (hd : ∀ k : Fin 2048, d (ix2 n k) = d' (ix2 n' k))
    (hy : ∀ k : Fin 2048, y (ix2 n k) = y' (ix2 n' k)) (hz : ∀ k : Fin 2048, z (ix2 n k) = z' (ix2 n' k))
    (hw : ∀ k : Fin 2048, w (ix2 (0 : Fin 1) k) = w' (ix2 (0 : Fin 1) k)) (k : Fin 2048) :
    dS d y z w n k = dS d' y' z' w' n' k ∧ dZ d y z w n k = dZ d' y' z' w' n' k ∧ dW d y z n k = dW d' y' z' n' k := by
  have ha : act y z n = act y' z' n' := funext fun q => funext fun l => by unfold act; rw [hy, hz]
  have hg : wgt d w n = wgt d' w' n' := funext fun q => funext fun l => by unfold wgt; rw [hd, hw]
  unfold dZ dW dS
  rw [ha, hg, hd, hy, hz]
  exact ⟨rfl, rfl, rfl⟩

/-- The arrays after the run. -/
def gateOf (p : S8192x11264.Idx → EReal) : S8192x2048.Idx → EReal := fun j =>
  p (ix2 (⟨(j 0).val, (j 0).isLt⟩ : Fin 8192) (⟨6144 + (j 1).val, Nat.lt_of_lt_of_le (Nat.add_lt_add_left (j 1).isLt 6144) (by decide)⟩ : Fin 11264))
def outY (d y : S8192x2048.Idx → EReal) (p : S8192x11264.Idx → EReal) (w : S1x2048.Idx → EReal) : S8192x2048.Idx → EReal := fun j =>
  dS (N := 8192) d y (gateOf p) w (⟨(j 0).val, (j 0).isLt⟩ : Fin 8192) (⟨(j 1).val, (j 1).isLt⟩ : Fin 2048) * silu (gateOf p j)
def outW (d y : S8192x2048.Idx → EReal) (p : S8192x11264.Idx → EReal) : S1x2048.Idx → EReal := fun j =>
  ∑ n : Fin 8192, dW (N := 8192) d y (gateOf p) n (⟨(j 1).val, (j 1).isLt⟩ : Fin 2048)
def outP (d y : S8192x2048.Idx → EReal) (p : S8192x11264.Idx → EReal) (w : S1x2048.Idx → EReal) (o : S8192x11264.Idx → EReal) :
    S8192x11264.Idx → EReal := fun j =>
  if 6144 ≤ (j 1).val ∧ (j 1).val < 8192 then
    dZ (N := 8192) d y (gateOf p) w (⟨(j 0).val, (j 0).isLt⟩ : Fin 8192) (⟨((j 1).val - 6144) % 2048, Nat.mod_lt _ (by decide)⟩ : Fin 2048)
  else o j

theorem outP_at (d y : S8192x2048.Idx → EReal) (p : S8192x11264.Idx → EReal) (w : S1x2048.Idx → EReal) (o : S8192x11264.Idx → EReal)
    (j : S8192x11264.Idx) (n : Fin 8192) (k : Fin 2048) (h0 : (j 0).val = n.val) (h1 : (j 1).val = 6144 + k.val) :
    outP d y p w o j = dZ (N := 8192) d y (gateOf p) w n k := by
  have hn : (⟨(j 0).val, (j 0).isLt⟩ : Fin 8192) = n := Fin.ext h0
  have hk : (⟨((j 1).val - 6144) % 2048, Nat.mod_lt _ (by decide)⟩ : Fin 2048) = k := Fin.ext (by dsimp only; omega)
  subst hn; subst hk
  exact if_pos (by omega)

theorem outP_out (d y : S8192x2048.Idx → EReal) (p : S8192x11264.Idx → EReal) (w : S1x2048.Idx → EReal) (o : S8192x11264.Idx → EReal)
    (j : S8192x11264.Idx) (h : ¬(6144 ≤ (j 1).val ∧ (j 1).val < 8192)) : outP d y p w o j = o j := if_neg h

/-- The last grid point. -/
def last : Fin grid0.N := ⟨31, by rw [N_0]; decide⟩

/-- No block of the projections' gradient is cut. -/
theorem xsize : ∀ t : Fin cfg0.N, (cfg0.win 4).xsize (cfg0.grid.coords t) 0 = 256 ∧ (cfg0.win 4).xsize (cfg0.grid.coords t) 1 = 2048 := by
  decide +kernel

variable (m : (ℓ : Loc nD τ sig) → Buf (Elt Ideal) ℓ)

/-- What a grid point reads. -/
theorem blk_d (c : Dev nD) (t : Fin cfg0.N) (y0 : Fin 256) (n : Fin 8192) (hn : n.val = t.val * 256 + y0.val) (k : Fin 2048) :
    (iblk m c 0 t : S256x2048.Idx → EReal) (ix2 y0 k) = (m ((c : Thread nD τ).loc main_arg0) : S8192x2048.Idx → EReal) (ix2 n k) := by
  blk_ext [iblk, V_main_arg0, (index t).1]
theorem blk_y (c : Dev nD) (t : Fin cfg0.N) (y0 : Fin 256) (n : Fin 8192) (hn : n.val = t.val * 256 + y0.val) (k : Fin 2048) :
    (iblk m c 1 t : S256x2048.Idx → EReal) (ix2 y0 k) = (m ((c : Thread nD τ).loc main_arg1) : S8192x2048.Idx → EReal) (ix2 n k) := by
  blk_ext [iblk, V_main_arg1, (index t).2.1]
theorem blk_w (c : Dev nD) (t : Fin cfg0.N) (k : Fin 2048) :
    (iblk m c 3 t : S1x2048.Idx → EReal) (ix2 (0 : Fin 1) k) = (m ((c : Thread nD τ).loc main_arg3) : S1x2048.Idx → EReal) (ix2 (0 : Fin 1) k) := by
  blk_ext [iblk, V_main_arg3, (index t).2.2.2.1]
theorem blk_z (c : Dev nD) (t : Fin cfg0.N) (y0 : Fin 256) (n : Fin 8192) (hn : n.val = t.val * 256 + y0.val) (k : Fin 2048) :
    (X0_2 m c t : S256x2048.Idx → EReal) (ix2 y0 k) = gateOf (m ((c : Thread nD τ).loc main_arg2)) (ix2 n k) := by
  unfold X0_2 Pipeline.Window.fill gateOf
  rw [dif_pos (moved0_2 t _)]
  blk_ext [iblk, V_main_arg2, (index t).2.2.1]

/-- A point's block of the gradients is the arrays'. -/
theorem blk_rows (c : Dev nD) (t : Fin cfg0.N) (y0 : Fin 256) (n : Fin 8192) (hn : n.val = t.val * 256 + y0.val) (k : Fin 2048) :
    dS (N := 256) (iblk m c 0 t) (iblk m c 1 t) (X0_2 m c t) (iblk m c 3 t) y0 k
        = dS (N := 8192) (m ((c : Thread nD τ).loc main_arg0)) (m ((c : Thread nD τ).loc main_arg1))
          (gateOf (m ((c : Thread nD τ).loc main_arg2))) (m ((c : Thread nD τ).loc main_arg3)) n k
      ∧ dZ (N := 256) (iblk m c 0 t) (iblk m c 1 t) (X0_2 m c t) (iblk m c 3 t) y0 k
        = dZ (N := 8192) (m ((c : Thread nD τ).loc main_arg0)) (m ((c : Thread nD τ).loc main_arg1))
          (gateOf (m ((c : Thread nD τ).loc main_arg2))) (m ((c : Thread nD τ).loc main_arg3)) n k
      ∧ dW (N := 256) (iblk m c 0 t) (iblk m c 1 t) (X0_2 m c t) y0 k
        = dW (N := 8192) (m ((c : Thread nD τ).loc main_arg0)) (m ((c : Thread nD τ).loc main_arg1))
          (gateOf (m ((c : Thread nD τ).loc main_arg2))) n k :=
  row_congr (N := 256) (M := 8192) (blk_d m c t y0 n hn) (blk_y m c t y0 n hn) (blk_z m c t y0 n hn) (blk_w m c t) k

theorem outs_dz (c : Dev nD) (t : Fin cfg0.N) (y0 : Fin 256) (y1 : Fin 2048) :
    (outsAt0 m c t.val t.isLt).1 (ix2 y0 y1) = dZ (N := 256) (iblk m c 0 t) (iblk m c 1 t) (X0_2 m c t) (iblk m c 3 t) y0 y1 := by
  have ht : t.val < 32 := lt_of_lt_of_eq t.isLt N_0
  unfold dZ dS
  rw [← dX_at]
  by_cases h : t.val % 32 = 0
  · rw [outsAt0_A m c t h (by omega)]
    frame_out
    exact pay_dz _ _ _ _ _ _
  · rw [outsAt0_B m c t h (by omega)]
    frame_out
    exact pay_dz _ _ _ _ _ _

theorem outs_dy (c : Dev nD) (t : Fin cfg0.N) (y0 : Fin 256) (y1 : Fin 2048) :
    (outsAt0 m c t.val t.isLt).2.1 (ix2 y0 y1) = dS (N := 256) (iblk m c 0 t) (iblk m c 1 t) (X0_2 m c t) (iblk m c 3 t) y0 y1
      * silu (X0_2 m c t (ix2 y0 y1)) := by
  have ht : t.val < 32 := lt_of_lt_of_eq t.isLt N_0
  unfold dS
  rw [← dX_at]
  by_cases h : t.val % 32 = 0
  · rw [outsAt0_A m c t h (by omega)]
    frame_out
    exact pay_dy _ _ _ _ _
  · rw [outsAt0_B m c t h (by omega)]
    frame_out
    exact pay_dy _ _ _ _ _

theorem pay_dw_at (y : Vec Ideal S256x2048 .f32) (z d : Vec Ideal S256x2048 .bf16) (y0 : Fin 1) (k : Fin 2048) :
    k0_pay2 (k0_pay11 y z d) (k0_pay17 (k0_pay6 y z) (k0_pay7 d)) (k0_pay22 (k0_pay6 y z) (k0_pay7 d))
      (k0_pay27 (k0_pay6 y z) (k0_pay7 d)) (ix2 y0 k) = ∑ n : Fin 256, dW (N := 256) d y z n k := by
  unfold dW
  conv => rw [← col_grp k]
  refine (pay_dw y z d y0 _ _).trans ?_
  rw [grp_col, lane_col]

theorem pay_step (a b e f : FVec Ideal S1x512 .f32) (x : Vec Ideal S1x2048 .f32) (y0 : Fin 1) (k : Fin 2048) :
    k0_pay3 a b e f x (ix2 y0 k) = x (ix2 y0 k) + k0_pay2 a b e f (ix2 y0 k) := by
  unfold k0_pay3
  generalize k0_pay2 a b e f = v
  pointwise

theorem outs_first (c : Dev nD) (t : Fin cfg0.N) (h : t.val % 32 = 0) (y0 : Fin 1) (y1 : Fin 2048) :
    (outsAt0 m c t.val t.isLt).2.2 (ix2 y0 y1) = ∑ n : Fin 256, dW (N := 256) (iblk m c 0 t) (iblk m c 1 t) (X0_2 m c t) n y1 := by
  have ht : t.val < 32 := lt_of_lt_of_eq t.isLt N_0
  rw [outsAt0_A m c t h (by omega)]
  frame_out
  exact pay_dw_at _ _ _ _ _

theorem outs_step (c : Dev nD) (t : Fin cfg0.N) (h : ¬ t.val % 32 = 0) (y0 : Fin 1) (y1 : Fin 2048) :
    (outsAt0 m c t.val t.isLt).2.2 (ix2 y0 y1) = (outsAt0 m c (t.val - 1) (Nat.lt_of_le_of_lt (Nat.sub_le _ _) t.isLt)).2.2 (ix2 y0 y1)
      + ∑ n : Fin 256, dW (N := 256) (iblk m c 0 t) (iblk m c 1 t) (X0_2 m c t) n y1 := by
  rw [outsAt0_B m c t h (by omega)]
  frame_out
  rw [pay_step, pay_dw_at]

theorem arrAt5 (c : Dev nD) : ((dats m 0 c).arrAt 5 cfg0.N : S8192x2048.Idx → EReal)
    = outY (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  idx_vars y
  have ht : t.val < 32 := lt_of_lt_of_eq t.isLt N_0
  have e0 : (((win0_5.blk t).view.emb (ix2 y0 y1))) = ix2 (⟨t.val * 256 + y0.val, by omega⟩ : Fin 8192) y1 := by
    blk_ext [(index t).2.2.2.2.2.1]
  rw [outs_dy, (blk_rows m c t y0 ⟨t.val * 256 + y0.val, by omega⟩ rfl y1).1, blk_z m c t y0 ⟨t.val * 256 + y0.val, by omega⟩ rfl]
  exact (congrArg (outY _ _ _ _) e0).symm

theorem arrAt4 (c : Dev nD) : ((dats m 0 c).arrAt 4 cfg0.N : S8192x11264.Idx → EReal)
    = outP (m ((c : Thread nD τ).loc main_arg0)) (m ((c : Thread nD τ).loc main_arg1)) (m ((c : Thread nD τ).loc main_arg2))
      (m ((c : Thread nD τ).loc main_arg3)) (m ((c : Thread nD τ).loc main_arg4)) := by
  refine ((dats m 0 c).arrAt_eq_of_coversWhere 4 (P := fun j : S8192x11264.Idx => 6144 ≤ (j 1).val ∧ (j 1).val < 8192)
    (outP (m ((c : Thread nD τ).loc main_arg0)) (m ((c : Thread nD τ).loc main_arg1)) (m ((c : Thread nD τ).loc main_arg2))
      (m ((c : Thread nD τ).loc main_arg3)) (m ((c : Thread nD τ).loc main_arg4)))
    (fun β => β 1 = 3) (by decide +kernel) (fun t hf y => ?_) (fun j => by blk_simp [Pipeline.Window.cell_apply]; omega)).trans ?_
  · blk_simp
    rw [after0_4]
    have ht : t.val < 32 := lt_of_lt_of_eq t.isLt N_0
    obtain ⟨y0, h0⟩ : ∃ y0 : Fin 256, (y 0).val = y0.val := ⟨⟨(y 0).val, lt_of_lt_of_eq (y 0).isLt (xsize t).1⟩, rfl⟩
    obtain ⟨y1, h1⟩ : ∃ y1 : Fin 2048, (y 1).val = y1.val := ⟨⟨(y 1).val, lt_of_lt_of_eq (y 1).isLt (xsize t).2⟩, rfl⟩
    have e : (cfg0.win 4).xinj (cfg0.grid.coords t) y = (ix2 y0 y1 : S256x2048.Idx) := funext fun a => by
      match a with
      | 0 => exact Fin.ext h0
      | 1 => exact Fin.ext h1
    have e0 : ((win0_4.blk t).view.emb y 0).val = t.val * 256 + y0.val := by
      refine (Pipeline.Window.rect_emb_val win0_4 t y 0).trans ?_
      rw [(index t).2.2.2.2.1, h0]
      rfl
    have e1 : ((win0_4.blk t).view.emb y 1).val = 6144 + y1.val := by
      refine (Pipeline.Window.rect_emb_val win0_4 t y 1).trans ?_
      rw [(index t).2.2.2.2.1, h1]
      rfl
    rw [e]
    refine Eq.trans ?_ (outP_at _ _ _ _ _ _ ⟨t.val * 256 + y0.val, by omega⟩ y1 e0 e1).symm
    refine Eq.trans ?_ (blk_rows m c t y0 ⟨t.val * 256 + y0.val, by omega⟩ rfl y1).2.1
    exact outs_dz m c t y0 y1
  · funext j
    by_cases h : 6144 ≤ (j 1).val ∧ (j 1).val < 8192
    · rw [if_pos h]
    · rw [if_neg h, outP_out _ _ _ _ _ _ h, A_eq]
      entry_read
      rfl

theorem arrAt6 (c : Dev nD) : ((dats m 0 c).arrAt 6 cfg0.N : S1x2048.Idx → EReal)
    = outW (m ((c : Thread nD τ).loc main_arg0)) (m ((c : Thread nD τ).loc main_arg1)) (m ((c : Thread nD τ).loc main_arg2)) := by
  refine (dats m 0 c).arrAt_eq_of_after_last 6 last (by decide +kernel) _ fun j => ?_
  blk_simp
  rw [after0_6]
  idx_vars j
  refine (Pipeline.eq_sum_fin_of_reset_step_apply_last (fun n h (i : Fin 1 × Fin 2048) => (outsAt0 m c n h).2.2 (ix2 i.1 i.2)) 32 (fun _ => (0 : EReal))
    (fun t i => ∑ n : Fin 256, dW (N := 256) (iblk m c 0 t) (iblk m c 1 t) (X0_2 m c t) n i.2) (fun t h i => ?_)
    (fun t h i => outs_step m c t h i.1 i.2) (le_of_eq N_0) last rfl (j0, j1)).trans ?_
  · rw [zero_add]
    exact outs_first m c t h i.1 i.2
  · rw [zero_add]
    unfold outW
    refine Eq.trans (b := ∑ _ : Fin 1, ∑ n : Fin 8192, dW (N := 8192) (m ((c : Thread nD τ).loc main_arg0))
      (m ((c : Thread nD τ).loc main_arg1)) (gateOf (m ((c : Thread nD τ).loc main_arg2))) n j1) ?_ (Fin.sum_univ_one _)
    refine Fin.sum_points_lanes_congr 32 (fun t k ha hl => ?_) N_0 rfl
    have ht : t.val < 32 := lt_of_lt_of_eq t.isLt N_0
    exact (blk_rows m c t k _ (congrArg (· * 256 + k.val) (Nat.mod_eq_of_lt ht)) j1).2.2

end Cert.NormBwdIdeal.Norm
end
-- ==== Proof.NormBwd.lean ====
module

public import proofs.«01_k».proof.Defs
public import proofs.«01_k».proof.Proof.Pre
public import proofs.«01_k».proof.Proof.NormBwdArrays
public import proofs.«01_k».proof.Proof.Gen.NormBwdReferenceIdeal
public import proofs.«01_k».proof.Proof.Gen.NormBwdReferenceIdeal.Run

@[expose] public section
set_option maxRecDepth 16384
/-!
# The gradient of the gated normalisation: the reference, and the claim
-/
noncomputable section

namespace Cert.NormBwdReferenceIdeal.Norm

open Idealize.ShloMosaic Idealize.ShloMosaic.TcCoe Idealize.ShloMosaic.Tactic Idealize.SL.Sem
open Cert.NormBwdReferenceIdeal Cert.NormBwdReferenceIdeal.Gen Cert.Norm Cert.Gate
open Cert.NormBwdIdeal.Norm (dS dZ dW gateOf outY outP outW outP_at outP_out)

local instance : Cert.NormBwdReferenceIdeal.Facts := Cert.NormBwdReferenceIdeal.Gen.facts

variable (m : (ℓ : Loc nD τ sig) → Buf (Elt Ideal) ℓ) (c : Dev nD)

/-- The arguments, as tables of extended reals. -/
def D : S8192x2048.Idx → EReal := m ((c : Thread nD τ).loc main_arg0)
def Y : S8192x2048.Idx → EReal := m ((c : Thread nD τ).loc main_arg1)
def P : S8192x11264.Idx → EReal := m ((c : Thread nD τ).loc main_arg2)
def W : S1x2048.Idx → EReal := m ((c : Thread nD τ).loc main_arg3)
def O : S8192x11264.Idx → EReal := m ((c : Thread nD τ).loc main_arg4)

/-- The reference's gradient of what is normalised. -/
def dR (n : Fin 8192) (k : Fin 2048) : EReal :=
  gradR (act (N := 8192) (Y m c) (gateOf (P m c)) n (grp k)) (wgt (N := 8192) (D m c) (W m c) n (grp k)) (lane k)

theorem res_y (n : Fin 8192) (k : Fin 2048) : (Value.res_main_v44 m c : S8192x2048.Idx → EReal) (ix2 n k)
    = dR m c n k * silu (gateOf (P m c) (ix2 n k)) := by
  unfold dR gradR
  rw [act_lane, wgt_lane]
  unfold Value.res_main_v44
  pointwise
  simp only [Fin.sum_univ_one]
  rfl

theorem res_z (n : Fin 8192) (k : Fin 2048) : (Value.res_main_v49 m c : S8192x11264.Idx → EReal) (ix2 n (⟨6144 + k.val, by omega⟩ : Fin 11264))
    = Y m c (ix2 n k) * dR m c n k * Ideal.logistic (gateOf (P m c) (ix2 n k))
      + gateOf (P m c) (ix2 n k) * (Y m c (ix2 n k) * dR m c n k)
        * (Ideal.logistic (gateOf (P m c) (ix2 n k)) * (1 - Ideal.logistic (gateOf (P m c) (ix2 n k)))) := by
  unfold dR gradR
  rw [act_lane, wgt_lane]
  unfold Value.res_main_v49
  pointwise
  simp only [Fin.sum_univ_one]
  rfl

theorem res_low (n : Fin 8192) (k : Fin 6144) : (Value.res_main_v49 m c : S8192x11264.Idx → EReal) (ix2 n (⟨k.val, by omega⟩ : Fin 11264))
    = O m c (ix2 n (⟨k.val, by omega⟩ : Fin 11264)) := by
  unfold Value.res_main_v49 O
  generalize (truncf .bf16 _ _ : FVec Ideal S8192x2048 .bf16) = v
  pointwise

theorem res_high (n : Fin 8192) (k : Fin 3072) : (Value.res_main_v49 m c : S8192x11264.Idx → EReal) (ix2 n (⟨8192 + k.val, by omega⟩ : Fin 11264))
    = O m c (ix2 n (⟨8192 + k.val, by omega⟩ : Fin 11264)) := by
  unfold Value.res_main_v49 O
  generalize (truncf .bf16 _ _ : FVec Ideal S8192x2048 .bf16) = v
  pointwise
  rw [dif_neg (by omega), dif_neg (by omega)]
  exact congrArg (fun i => O m c (ix2 n i)) (Fin.ext (by dsimp only; omega))

/-- For real gradients and weights the reference's gradient is the kernel's, and real. -/
theorem dR_eq (hd : ∀ (n : Fin 8192) (l : Fin 2048), ∃ a : ℝ, D m c (ix2 n l) = (a : EReal))
    (hw : ∀ l : Fin 2048, ∃ a : ℝ, W m c (ix2 (0 : Fin 1) l) = (a : EReal)) (n : Fin 8192) (k : Fin 2048) :
    (∃ r : ℝ, dS (N := 8192) (D m c) (Y m c) (gateOf (P m c)) (W m c) n k = (r : EReal))
      ∧ dR m c n k = dS (N := 8192) (D m c) (Y m c) (gateOf (P m c)) (W m c) n k := by
  choose d hd using hd
  choose w hw using hw
  have hg : wgt (N := 8192) (D m c) (W m c) n (grp k) = fun l => ((d n (col (grp k) l) * w (col (grp k) l) : ℝ) : EReal) :=
    funext fun l => by unfold wgt; rw [hd, hw, EReal.coe_mul]
  unfold dR dS
  rw [hg]
  obtain ⟨r, h1, h2⟩ := grad_eq (act (N := 8192) (Y m c) (gateOf (P m c)) n (grp k)) (fun l => d n (col (grp k) l) * w (col (grp k) l)) (lane k)
  exact ⟨⟨r, h1⟩, h2.trans h1.symm⟩

/-- The results are the arrays the kernel leaves. -/
theorem res_outY (hd : ∀ (n : Fin 8192) (l : Fin 2048), ∃ a : ℝ, D m c (ix2 n l) = (a : EReal))
    (hw : ∀ l : Fin 2048, ∃ a : ℝ, W m c (ix2 (0 : Fin 1) l) = (a : EReal)) :
    (Value.res_main_v44 m c : S8192x2048.Idx → EReal) = outY (D m c) (Y m c) (P m c) (W m c) := by
  funext j
  idx_vars j
  rw [res_y, (dR_eq m c hd hw j0 j1).2]
  rfl

/-- A column is one of the gate's or one of the others. -/
theorem thirds (Q : Fin 11264 → Prop) (h0 : ∀ k : Fin 6144, Q ⟨k.val, by omega⟩) (h1 : ∀ k : Fin 2048, Q ⟨6144 + k.val, by omega⟩)
    (h2 : ∀ k : Fin 3072, Q ⟨8192 + k.val, by omega⟩) (j : Fin 11264) : Q j := by
  by_cases ha : j.val < 6144
  · exact h0 ⟨j.val, ha⟩
  · by_cases hb : j.val < 8192
    · have := h1 ⟨j.val - 6144, by omega⟩
      simpa only [Nat.add_sub_cancel' (Nat.le_of_not_lt ha)] using this
    · have := h2 ⟨j.val - 8192, by omega⟩
      simpa only [Nat.add_sub_cancel' (Nat.le_of_not_lt hb)] using this

theorem res_outP (hd : ∀ (n : Fin 8192) (l : Fin 2048), ∃ a : ℝ, D m c (ix2 n l) = (a : EReal))
    (hw : ∀ l : Fin 2048, ∃ a : ℝ, W m c (ix2 (0 : Fin 1) l) = (a : EReal)) :
    (Value.res_main_v49 m c : S8192x11264.Idx → EReal) = outP (D m c) (Y m c) (P m c) (W m c) (O m c) := by
  funext j
  idx_vars j
  revert j1
  refine thirds _ (fun k => ?_) (fun k => ?_) (fun k => ?_)
  · rw [res_low, outP_out]
    rintro ⟨h, -⟩
    exact absurd (show 6144 ≤ k.val from h) (by omega)
  · rw [res_z, outP_at _ _ _ _ _ _ j0 k rfl rfl, (dR_eq m c hd hw j0 k).2]
    unfold dZ
    refine (gate_eq _ _ _ (dR_eq m c hd hw j0 k).1 fun h => ?_).symm
    exact (grad_top _ _ (lane k) (by rwa [act_lane]) (lane k)).1
  · rw [res_high, outP_out]
    rintro ⟨-, h⟩
    exact absurd (show 8192 + k.val < 8192 from h) (by omega)

end Cert.NormBwdReferenceIdeal.Norm

namespace Cert.NormBwdIdeal.Norm

open Idealize.ShloMosaic Idealize.ShloMosaic.TcCoe Idealize.ShloMosaic.Tactic Idealize.SL.Sem
open Cert.NormBwdIdeal Cert.NormBwdIdeal.Gen Cert.Norm Cert.Gate

local instance : Cert.NormBwdIdeal.Facts := Cert.NormBwdIdeal.Gen.facts
local instance : Cert.NormBwdReferenceIdeal.Facts := Cert.NormBwdReferenceIdeal.Gen.facts
local instance : Cert.Pre_finite_norm.Facts := Cert.Pre_finite_norm.facts

theorem algebraic : Cert.algebraic_NormBwdIdeal_NormBwdReferenceIdeal_pre_finite_norm := by
  intro m g m' g' hpre hargs
  refine ⟨fun c => outP (m ((c : Thread nD τ).loc main_arg0)) (m ((c : Thread nD τ).loc main_arg1)) (m ((c : Thread nD τ).loc main_arg2))
      (m ((c : Thread nD τ).loc main_arg3)) (m ((c : Thread nD τ).loc main_arg4)),
    fun c => outY (m ((c : Thread nD τ).loc main_arg0)) (m ((c : Thread nD τ).loc main_arg1)) (m ((c : Thread nD τ).loc main_arg2))
      (m ((c : Thread nD τ).loc main_arg3)),
    fun c => outW (m ((c : Thread nD τ).loc main_arg0)) (m ((c : Thread nD τ).loc main_arg1)) (m ((c : Thread nD τ).loc main_arg2)), ?_, ?_⟩
  · refine (θ_run _ _ _).mono (fun r h c => ?_) (Value.run_blocks m g)
    exact ⟨(h c).1.trans (arrAt4 m c), (h c).2.1.trans (arrAt5 m c), (h c).2.2.1.trans (arrAt6 m c), (h c).2.2.2⟩
  · refine (θ_run _ _ _).mono (fun r h c => ?_) (Cert.NormBwdReferenceIdeal.Value.run m' g')
    have hfin := Cert.Pre_finite_norm.decode _ _ _ _ _ (fun a => a.elim0) (congrFun (hpre c) _)
    have hd : ∀ (n : Fin 8192) (l : Fin 2048), ∃ a : ℝ, Cert.NormBwdReferenceIdeal.Norm.D m' c (ix2 n l) = (a : EReal) := by
      unfold Cert.NormBwdReferenceIdeal.Norm.D
      rw [(hargs c).1]
      exact hfin.1
    have hw : ∀ l : Fin 2048, ∃ a : ℝ, Cert.NormBwdReferenceIdeal.Norm.W m' c (ix2 (0 : Fin 1) l) = (a : EReal) := by
      unfold Cert.NormBwdReferenceIdeal.Norm.W
      rw [(hargs c).2.2.2.1]
      exact hfin.2
    refine ⟨(h c).1.trans ?_, (h c).2.1.trans ?_, (h c).2.2.1.trans ?_, (h c).2.2.2⟩
    · have e := Cert.NormBwdReferenceIdeal.Norm.res_outP m' c hd hw
      unfold Cert.NormBwdReferenceIdeal.Norm.D Cert.NormBwdReferenceIdeal.Norm.Y Cert.NormBwdReferenceIdeal.Norm.P
        Cert.NormBwdReferenceIdeal.Norm.W Cert.NormBwdReferenceIdeal.Norm.O at e
      rw [(hargs c).1, (hargs c).2.1, (hargs c).2.2.1, (hargs c).2.2.2.1, (hargs c).2.2.2.2] at e
      exact e
    · have e := Cert.NormBwdReferenceIdeal.Norm.res_outY m' c hd hw
      unfold Cert.NormBwdReferenceIdeal.Norm.D Cert.NormBwdReferenceIdeal.Norm.Y Cert.NormBwdReferenceIdeal.Norm.P
        Cert.NormBwdReferenceIdeal.Norm.W at e
      rw [(hargs c).1, (hargs c).2.1, (hargs c).2.2.1, (hargs c).2.2.2.1] at e
      exact e
    · clear h hd hw
      rw [(hargs c).1, (hargs c).2.1, (hargs c).2.2.1]
      funext j
      idx_vars j
      unfold outW dW
      pointwise
      refine Finset.sum_congr rfl fun n _ => ?_
      rw [act_lane, mul_comm]
      rfl

theorem frame_reference : Cert.quiescent_NormBwdReferenceIdeal := fun m g _ =>
  (θ_run Cert.NormBwdReferenceIdeal.defs _ _).mono (fun r h => ⟨fun c => (h c).2.2.2, sem_eq_zero_of_no_sems (by decide) r.2⟩)
    (Cert.NormBwdReferenceIdeal.Value.run m g)

end Cert.NormBwdIdeal.Norm
end
-- ==== Proof.SwigluFwd.lean ====
module

public import proofs.«01_k».proof.Defs
public import proofs.«01_k».proof.Proof.Gate
public import proofs.«01_k».proof.Proof.Products
public import proofs.«01_k».proof.Proof.Gen.SwigluFwdIdeal
public import proofs.«01_k».proof.Proof.Gen.SwigluFwdIdeal.Value
public import proofs.«01_k».proof.Proof.Gen.SwigluFwdReferenceIdeal
public import proofs.«01_k».proof.Proof.Gen.SwigluFwdReferenceIdeal.Run

@[expose] public section
set_option maxRecDepth 16384
/-!
# The feed-forward's gate

The kernel reads the two halves of the columns through two windows of the same array.
-/
noncomputable section

namespace Cert.SwigluFwdIdeal.Fwd

open Idealize.ShloMosaic Idealize.ShloMosaic.TcCoe Idealize.ShloMosaic.Tactic Idealize.SL.Sem
open Cert.SwigluFwdIdeal Cert.SwigluFwdIdeal.Gen Cert.Gate

local instance : Cert.SwigluFwdIdeal.Facts := Cert.SwigluFwdIdeal.Gen.facts
local instance : Cert.SwigluFwdReferenceIdeal.Facts := Cert.SwigluFwdReferenceIdeal.Gen.facts

/-- The block indices of the windows. -/
theorem index : ∀ t, win0_0.index t = ![t.val, 0] ∧ win0_1.index t = ![t.val, 1] ∧ win0_2.index t = ![t.val, 0] := by
  decide +kernel

theorem pay (a b : Vec Ideal S512x2816 .bf16) (y0 : Fin 512) (y1 : Fin 2816) :
    k0_pay1 a b (ix2 y0 y1) = a (ix2 y0 y1) * Ideal.logistic (a (ix2 y0 y1)) * b (ix2 y0 y1) := by
  pointwise [k0_pay1]
  simp only [sig_sub]

/-- The gated half, of all tokens. -/
def out (gu : S8192x5632.Idx → EReal) : S8192x2816.Idx → EReal := fun j =>
  let n : Fin 8192 := ⟨(j 0).val, (j 0).isLt⟩
  let k : Fin 2816 := ⟨(j 1).val, (j 1).isLt⟩
  let g := gu (ix2 n (⟨k.val, by omega⟩ : Fin 5632))
  g * Ideal.logistic g * gu (ix2 n (⟨2816 + k.val, by omega⟩ : Fin 5632))

variable (m : (ℓ : Loc nD τ sig) → Buf (Elt Ideal) ℓ)

theorem blk_g (c : Dev nD) (t : Fin cfg0.N) (y0 : Fin 512) (n : Fin 8192) (hn : n.val = t.val * 512 + y0.val) (k : Fin 2816) :
    (iblk m c 0 t : S512x2816.Idx → EReal) (ix2 y0 k)
      = (m ((c : Thread nD τ).loc main_arg0) : S8192x5632.Idx → EReal) (ix2 n (⟨k.val, by omega⟩ : Fin 5632)) := by
  blk_ext [iblk, V_main_arg0, (index t).1]
theorem blk_u (c : Dev nD) (t : Fin cfg0.N) (y0 : Fin 512) (n : Fin 8192) (hn : n.val = t.val * 512 + y0.val) (k : Fin 2816) :
    (iblk m c 1 t : S512x2816.Idx → EReal) (ix2 y0 k)
      = (m ((c : Thread nD τ).loc main_arg0) : S8192x5632.Idx → EReal) (ix2 n (⟨2816 + k.val, by omega⟩ : Fin 5632)) := by
  blk_ext [iblk, V_main_arg0, (index t).2.1]

/-- The array after the run. -/
theorem arrAt (c : Dev nD) : ((dats m 0 c).arrAt 2 cfg0.N : S8192x2816.Idx → EReal) = out (m ((c : Thread nD τ).loc main_arg0)) := by
  refine (dats m 0 c).arrAt_eq_of_covers 2 _ (by decide +kernel) fun t hf y => ?_
  blk_simp
  rw [after0_2]
  idx_vars y
  have ht : t.val < 16 := lt_of_lt_of_eq t.isLt N_0
  have e : (((win0_2.blk t).view.emb (ix2 y0 y1))) = ix2 (⟨t.val * 512 + y0.val, by omega⟩ : Fin 8192) y1 := by
    blk_ext [(index t).2.2]
  unfold out0_2
  frame_out
  rw [pay, blk_g m c t y0 ⟨t.val * 512 + y0.val, by omega⟩ rfl, blk_u m c t y0 ⟨t.val * 512 + y0.val, by omega⟩ rfl]
  exact (congrArg (out _) e).symm

theorem algebraic : Cert.algebraic_SwigluFwdIdeal_SwigluFwdReferenceIdeal := by
  intro m g m' g' _ hargs
  refine ⟨fun c => out (m ((c : Thread nD τ).loc main_arg0)), ?_, ?_⟩
  · refine (θ_run _ _ _).mono (fun r h c => ?_) (Value.run_blocks m g)
    exact ⟨(h c).1.trans (arrAt m c), (h c).2⟩
  · refine (θ_run _ _ _).mono (fun r h c => ?_) (Cert.SwigluFwdReferenceIdeal.Value.run m' g')
    refine ⟨(h c).1.trans ?_, (h c).2⟩
    rw [hargs c]
    funext j
    idx_vars j
    pointwise
    rfl

theorem frame_reference : Cert.quiescent_SwigluFwdReferenceIdeal := fun m g _ =>
  (θ_run Cert.SwigluFwdReferenceIdeal.defs _ _).mono (fun r h => ⟨fun c => (h c).2, sem_eq_zero_of_no_sems (by decide) r.2⟩)
    (Cert.SwigluFwdReferenceIdeal.Value.run m g)

end Cert.SwigluFwdIdeal.Fwd
end
-- ==== Proof.Merge.lean ====
module

public import proofs.«01_k».proof.Defs
public import proofs.«01_k».proof.Proof.Gate
public import proofs.«01_k».proof.Proof.Products
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run

@[expose] public section
set_option maxRecDepth 16384
/-!
# The merge of the three branches

Every channel of a branch has its gate, whose logits are columns of the projections.
-/
noncomputable section

namespace Cert.MergeIdeal.Fwd

open Idealize.ShloMosaic Idealize.ShloMosaic.TcCoe Idealize.ShloMosaic.Tactic Idealize.SL.Sem
open Cert.MergeIdeal Cert.MergeIdeal.Gen Cert.Gate

local instance : Cert.MergeIdeal.Facts := Cert.MergeIdeal.Gen.facts
local instance : Cert.MergeReferenceIdeal.Facts := Cert.MergeReferenceIdeal.Gen.facts

/-- The block indices of the windows. -/
theorem index : ∀ t, (win0_0.index t = ![t.val, 3] ∧ win0_1.index t = ![t.val, 4] ∧ win0_2.index t = ![t.val, 5]
    ∧ win0_3.index t = ![0, 0]) ∧ win0_4.index t = ![t.val, 0] ∧ win0_5.index t = ![t.val, 0] ∧ win0_6.index t = ![t.val, 0]
    ∧ win0_7.index t = ![t.val, 0] := by
  decide +kernel

/-- A channel of the merge, from the three logits, biases and branches. -/
def mix (l b p : Fin 3 → EReal) : EReal :=
  Ideal.logistic (l 0 + b 0) * p 0 + Ideal.logistic (l 1 + b 1) * p 1 + Ideal.logistic (l 2 + b 2) * p 2

theorem pay (b : Vec Ideal S3x1024 .f32) (l0 p0 l1 p1 l2 p2 : Vec Ideal S512x1024 .bf16) (y0 : Fin 512) (y1 : Fin 1024) :
    k0_pay1 (k0_pay2 b l0 p0 l1 p1) (k0_pay3 b l2) p2 (ix2 y0 y1)
      = mix ![l0 (ix2 y0 y1), l1 (ix2 y0 y1), l2 (ix2 y0 y1)] (fun k => b (ix2 k y1)) ![p0 (ix2 y0 y1), p1 (ix2 y0 y1), p2 (ix2 y0 y1)] := by
  pointwise [k0_pay1, k0_pay2, k0_pay3]
  simp only [sig_sub]
  rfl

/-- The merge, of all tokens. -/
def out (q : S8192x11264.Idx → EReal) (b : S3x1024.Idx → EReal) (p0 p1 p2 : S8192x1024.Idx → EReal) : S8192x1024.Idx → EReal := fun j =>
  let n : Fin 8192 := ⟨(j 0).val, (j 0).isLt⟩
  let k : Fin 1024 := ⟨(j 1).val, (j 1).isLt⟩
  mix ![q (ix2 n (⟨3072 + k.val, by omega⟩ : Fin 11264)), q (ix2 n (⟨3072 + (1024 + k.val), by omega⟩ : Fin 11264)),
    q (ix2 n (⟨3072 + (2048 + k.val), by omega⟩ : Fin 11264))] (fun i => b (ix2 i k)) ![p0 (ix2 n k), p1 (ix2 n k), p2 (ix2 n k)]

variable (m : (ℓ : Loc nD τ sig) → Buf (Elt Ideal) ℓ)

/-- What a grid point reads: the logits, the biases, the branches. -/
theorem blk_l (c : Dev nD) (t : Fin cfg0.N) (y0 : Fin 512) (n : Fin 8192) (hn : n.val = t.val * 512 + y0.val) (k : Fin 1024) :
    (iblk m c 0 t : S512x1024.Idx → EReal) (ix2 y0 k)
        = (m ((c : Thread nD τ).loc main_arg0) : S8192x11264.Idx → EReal) (ix2 n (⟨3072 + k.val, by omega⟩ : Fin 11264))
      ∧ (iblk m c 1 t : S512x1024.Idx → EReal) (ix2 y0 k)
        = (m ((c : Thread nD τ).loc main_arg0) : S8192x11264.Idx → EReal) (ix2 n (⟨3072 + (1024 + k.val), by omega⟩ : Fin 11264))
      ∧ (iblk m c 2 t : S512x1024.Idx → EReal) (ix2 y0 k)
        = (m ((c : Thread nD τ).loc main_arg0) : S8192x11264.Idx → EReal) (ix2 n (⟨3072 + (2048 + k.val), by omega⟩ : Fin 11264)) := by
  refine ⟨?_, ?_, ?_⟩
  · blk_ext [iblk, V_main_arg0, (index t).1.1]
  · blk_ext [iblk, V_main_arg0, (index t).1.2.1]
  · blk_ext [iblk, V_main_arg0, (index t).1.2.2.1]
theorem blk_b (c : Dev nD) (t : Fin cfg0.N) (i : Fin 3) (k : Fin 1024) :
    (iblk m c 3 t : S3x1024.Idx → EReal) (ix2 i k) = (m ((c : Thread nD τ).loc main_arg1) : S3x1024.Idx → EReal) (ix2 i k) := by
  blk_ext [iblk, V_main_arg1, (index t).1.2.2.2]
theorem blk_p (c : Dev nD) (t : Fin cfg0.N) (y0 : Fin 512) (n : Fin 8192) (hn : n.val = t.val * 512 + y0.val) (k : Fin 1024) :
    (iblk m c 4 t : S512x1024.Idx → EReal) (ix2 y0 k) = (m ((c : Thread nD τ).loc main_arg2) : S8192x1024.Idx → EReal) (ix2 n k)
      ∧ (iblk m c 5 t : S512x1024.Idx → EReal) (ix2 y0 k) = (m ((c : Thread nD τ).loc main_arg3) : S8192x1024.Idx → EReal) (ix2 n k)
      ∧ (iblk m c 6 t : S512x1024.Idx → EReal) (ix2 y0 k) = (m ((c : Thread nD τ).loc main_arg4) : S8192x1024.Idx → EReal) (ix2 n k) := by
  refine ⟨?_, ?_, ?_⟩
  · blk_ext [iblk, V_main_arg2, (index t).2.1]
  · blk_ext [iblk, V_main_arg3, (index t).2.2.1]
  · blk_ext [iblk, V_main_arg4, (index t).2.2.2.1]

/-- The array after the run. -/
theorem arrAt (c : Dev nD) : ((dats m 0 c).arrAt 7 cfg0.N : S8192x1024.Idx → EReal)
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  idx_vars y
  have ht : t.val < 16 := lt_of_lt_of_eq t.isLt N_0
  have e : (((win0_7.blk t).view.emb (ix2 y0 y1))) = ix2 (⟨t.val * 512 + y0.val, by omega⟩ : Fin 8192) y1 := by
    blk_ext [(index t).2.2.2.2]
  refine Eq.trans ?_ (congrArg (out _ _ _ _ _) e).symm
  unfold out0_7
  frame_out
  have hl := blk_l m c t y0 ⟨t.val * 512 + y0.val, by omega⟩ rfl y1
  have hp := blk_p m c t y0 ⟨t.val * 512 + y0.val, by omega⟩ rfl y1
  rw [pay, hl.1, hl.2.1, hl.2.2, hp.1, hp.2.1, hp.2.2, funext fun i => blk_b m c t i y1]
  rfl

theorem algebraic : Cert.algebraic_MergeIdeal_MergeReferenceIdeal := by
  intro m g m' g' _ hargs
  refine ⟨fun c => out (m ((c : Thread nD τ).loc main_arg0)) (m ((c : Thread nD τ).loc main_arg1)) (m ((c : Thread nD τ).loc main_arg2))
      (m ((c : Thread nD τ).loc main_arg3)) (m ((c : Thread nD τ).loc main_arg4)), ?_, ?_⟩
  · refine (θ_run _ _ _).mono (fun r h c => ?_) (Value.run_blocks m g)
    exact ⟨(h c).1.trans (arrAt m c), (h c).2⟩
  · refine (θ_run _ _ _).mono (fun r h c => ?_) (Cert.MergeReferenceIdeal.Value.run m' g')
    refine ⟨(h c).1.trans ?_, (h c).2⟩
    rw [(hargs c).1, (hargs c).2.1, (hargs c).2.2.1, (hargs c).2.2.2.1, (hargs c).2.2.2.2]
    funext j
    idx_vars j
    pointwise
    rfl

theorem frame_reference : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run m g)

end Cert.MergeIdeal.Fwd
end
-- ==== Proof.NormFwd.lean ====
module

public import proofs.«01_k».proof.Defs
public import proofs.«01_k».proof.Proof.Products
public import proofs.«01_k».proof.Proof.Norm
public import proofs.«01_k».proof.Proof.Gen.NormFwdIdeal
public import proofs.«01_k».proof.Proof.Gen.NormFwdIdeal.Value
public import proofs.«01_k».proof.Proof.Gen.NormFwdReferenceIdeal
public import proofs.«01_k».proof.Proof.Gen.NormFwdReferenceIdeal.Run

@[expose] public section
set_option maxRecDepth 16384
/-!
# The gated normalisation of the state-space branch

The kernel stores the four groups of channels one by one.
-/
noncomputable section

namespace Cert.NormFwdIdeal.Fwd

open Idealize.ShloMosaic Idealize.ShloMosaic.TcCoe Idealize.ShloMosaic.Tactic Idealize.SL.Sem
open Cert.NormFwdIdeal Cert.NormFwdIdeal.Gen Cert.Gate Cert.Norm

local instance : Cert.NormFwdIdeal.Facts := Cert.NormFwdIdeal.Gen.facts
local instance : Cert.NormFwdReferenceIdeal.Facts := Cert.NormFwdReferenceIdeal.Gen.facts

/-- The block indices of the windows. -/
theorem index : ∀ t, win0_0.index t = ![t.val, 0] ∧ win0_1.index t = ![t.val, 3] ∧ win0_2.index t = ![0, 0]
    ∧ win0_3.index t = ![t.val, 0] := by
  decide +kernel

/-- A channel of a token: the gated value over the group's root mean square, weighted. -/
def norm {N : ℕ} (y z : (⟨2, ![N, 2048]⟩ : Shape).Idx → EReal) (w : (⟨2, ![1, 2048]⟩ : Shape).Idx → EReal) (n : Fin N)
    (q : Fin 4) (l : Fin 512) : EReal :=
  act y z n q l * inv (act y z n q) * w (ix2 (0 : Fin 1) (col q l))

/-- What a grid point stores of each group. -/
theorem pay_0 (y : Vec Ideal S512x2048 .f32) (z : Vec Ideal S512x2048 .bf16) (w : Vec Ideal S1x2048 .f32) (y0 l : Fin 512) :
    k0_pay5 y z w (ix2 y0 l) = norm (N := 512) y z w y0 0 l := by
  unfold norm act
  rw [col_zero]
  pointwise [k0_pay5, k0_pay4]
  simp only [sig_sub]
  rfl

theorem pay_1 (y : Vec Ideal S512x2048 .f32) (z : Vec Ideal S512x2048 .bf16) (w : Vec Ideal S1x2048 .f32) (y0 l : Fin 512) :
    k0_pay1 (k0_pay6 y z) (k0_pay7 w) (ix2 y0 l) = norm (N := 512) y z w y0 1 l := by
  pointwise [k0_pay1, k0_pay6, k0_pay7, k0_pay4]
  simp only [sig_sub]
  rfl

theorem pay_2 (y : Vec Ideal S512x2048 .f32) (z : Vec Ideal S512x2048 .bf16) (w : Vec Ideal S1x2048 .f32) (y0 l : Fin 512) :
    k0_pay2 (k0_pay4 y z) w (ix2 y0 l) = norm (N := 512) y z w y0 2 l := by
  pointwise [k0_pay2, k0_pay4]
  simp only [sig_sub]
  rfl

theorem pay_3 (y : Vec Ideal S512x2048 .f32) (z : Vec Ideal S512x2048 .bf16) (w : Vec Ideal S1x2048 .f32) (y0 l : Fin 512) :
    k0_pay3 (k0_pay4 y z) w (ix2 y0 l) = norm (N := 512) y z w y0 3 l := by
  pointwise [k0_pay3, k0_pay4]
  simp only [sig_sub]
  rfl

/-- The gate's columns of the projections, and the array. -/
def gateOf (p : S8192x11264.Idx → EReal) : S8192x2048.Idx → EReal := fun j =>
  p (ix2 (⟨(j 0).val, (j 0).isLt⟩ : Fin 8192) (⟨6144 + (j 1).val, Nat.lt_of_lt_of_le (Nat.add_lt_add_left (j 1).isLt 6144) (by decide)⟩ : Fin 11264))
def out (y : S8192x2048.Idx → EReal) (p : S8192x11264.Idx → EReal) (w : S1x2048.Idx → EReal) : S8192x2048.Idx → EReal := fun j =>
  let k : Fin 2048 := ⟨(j 1).val, (j 1).isLt⟩
  norm (N := 8192) y (gateOf p) w ⟨(j 0).val, (j 0).isLt⟩ (grp k) (lane k)

variable (m : (ℓ : Loc nD τ sig) → Buf (Elt Ideal) ℓ)

/-- What a grid point reads. -/
theorem blk_norm (c : Dev nD) (t : Fin cfg0.N) (y0 : Fin 512) (n : Fin 8192) (hn : n.val = t.val * 512 + y0.val) (q : Fin 4) (l : Fin 512) :
    norm (N := 512) (iblk m c 0 t) (X0_1 m c t) (iblk m c 2 t) y0 q l
      = norm (N := 8192) (m ((c : Thread nD τ).loc main_arg0)) (gateOf (m ((c : Thread nD τ).loc main_arg1)))
        (m ((c : Thread nD τ).loc main_arg2)) n q l := by
  have hy : ∀ k : Fin 2048, (iblk m c 0 t : S512x2048.Idx → EReal) (ix2 y0 k)
      = (m ((c : Thread nD τ).loc main_arg0) : S8192x2048.Idx → EReal) (ix2 n k) := fun k => by
    blk_ext [iblk, V_main_arg0, (index t).1]
  have hz : ∀ k : Fin 2048, (X0_1 m c t : S512x2048.Idx → EReal) (ix2 y0 k)
      = gateOf (m ((c : Thread nD τ).loc main_arg1)) (ix2 n k) := fun k => by
    unfold X0_1 Pipeline.Window.fill gateOf
    rw [dif_pos (moved0_1 t _)]
    blk_ext [iblk, V_main_arg1, (index t).2.1]
  have hw : ∀ k : Fin 2048, (iblk m c 2 t : S1x2048.Idx → EReal) (ix2 (0 : Fin 1) k)
      = (m ((c : Thread nD τ).loc main_arg2) : S1x2048.Idx → EReal) (ix2 (0 : Fin 1) k) := fun k => by
    blk_ext [iblk, V_main_arg2, (index t).2.2.1]
  have ha : act (N := 512) (iblk m c 0 t) (X0_1 m c t) y0 q
      = act (N := 8192) (m ((c : Thread nD τ).loc main_arg0)) (gateOf (m ((c : Thread nD τ).loc main_arg1))) n q := by
    funext l
    unfold act
    rw [hy, hz]
  unfold norm
  rw [ha, hw]

theorem norm_at {N : ℕ} (y z : (⟨2, ![N, 2048]⟩ : Shape).Idx → EReal) (w : (⟨2, ![1, 2048]⟩ : Shape).Idx → EReal) (n : Fin N)
    (q : Fin 4) (l : Fin 512) (k : Fin 2048) (h : k.val = q.val * 512 + l.val) :
    norm y z w n (grp k) (lane k) = norm y z w n q l := by
  obtain rfl : k = col q l := Fin.ext h
  rw [grp_col, lane_col]

/-- The four stores of a grid point. -/
theorem stores (y : Vec Ideal S512x2048 .f32) (z : Vec Ideal S512x2048 .bf16) (w : Vec Ideal S1x2048 .f32) (r : Fin 512) (k : Fin 2048) :
    View.canon (Val := Elt Ideal) (s := S512x2048) (e := .bf16)
      [⟨Rect.unit ![0, 1536] ![512, 512] inb_S512x2048_S512x512_0_1536, k0_pay3 (k0_pay4 y z) w⟩,
        ⟨Rect.unit ![0, 1024] ![512, 512] inb_S512x2048_S512x512_0_1024, k0_pay2 (k0_pay4 y z) w⟩,
        ⟨Rect.unit ![0, 512] ![512, 512] inb_S512x2048_S512x512_0_512, k0_pay1 (k0_pay6 y z) (k0_pay7 w)⟩,
        ⟨Rect.unit ![0, 0] ![512, 512] inb_S512x2048_S512x512_0_0, k0_pay5 y z w⟩] (ix2 r k)
      = norm (N := 512) y z w r (grp k) (lane k) := by
  canon_tiles j h
  · idx_vars j
    obtain rfl : r = j0 := Fin.ext h0
    have h1 : k.val = 3 * 512 + j1.val := h1
    exact (pay_3 y z w r j1).trans (norm_at y z w r 3 j1 k h1).symm
  · idx_vars j
    obtain rfl : r = j0 := Fin.ext h0
    have h1 : k.val = 2 * 512 + j1.val := h1
    exact (pay_2 y z w r j1).trans (norm_at y z w r 2 j1 k h1).symm
  · idx_vars j
    obtain rfl : r = j0 := Fin.ext h0
    have h1 : k.val = 1 * 512 + j1.val := h1
    exact (pay_1 y z w r j1).trans (norm_at y z w r 1 j1 k h1).symm
  · idx_vars j
    obtain rfl : r = j0 := Fin.ext h0
    have h1 : k.val = 0 * 512 + j1.val := h1.trans (by rw [Nat.zero_mul, Nat.zero_add])
    exact (pay_0 y z w r j1).trans (norm_at y z w r 0 j1 k h1).symm

theorem outs (c : Dev nD) (t : Fin cfg0.N) (y0 : Fin 512) (y1 : Fin 2048) :
    outsAt0 m c t (ix2 y0 y1) = norm (N := 512) (iblk m c 0 t) (X0_1 m c t) (iblk m c 2 t) y0 (grp y1) (lane y1) := by
  unfold outsAt0
  frame_out
  exact stores _ _ _ y0 y1

/-- The array after the run. -/
theorem arrAt (c : Dev nD) : ((dats m 0 c).arrAt 3 cfg0.N : S8192x2048.Idx → EReal)
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 16 := lt_of_lt_of_eq t.isLt N_0
  have e : (((win0_3.blk t).view.emb (ix2 y0 y1))) = ix2 (⟨t.val * 512 + y0.val, by omega⟩ : Fin 8192) y1 := by
    blk_ext [(index t).2.2.2]
  refine Eq.trans ?_ (congrArg (out _ _ _) e).symm
  rw [outs, blk_norm m c t y0 ⟨t.val * 512 + y0.val, by omega⟩ rfl]
  rfl

theorem out_at (y : S8192x2048.Idx → EReal) (p : S8192x11264.Idx → EReal) (w : S1x2048.Idx → EReal) (n : Fin 8192) (k : Fin 2048) :
    out y p w (ix2 n k) = y (ix2 n k) * silu (gateOf p (ix2 n k)) * inv (act (N := 8192) y (gateOf p) n (grp k)) * w (ix2 (0 : Fin 1) k) := by
  rw [← act_lane]
  conv_rhs => rw [← col_grp k, grp_col, lane_col]
  rfl

theorem algebraic : Cert.algebraic_NormFwdIdeal_NormFwdReferenceIdeal := by
  intro m g m' g' _ hargs
  refine ⟨fun c => out (m ((c : Thread nD τ).loc main_arg0)) (m ((c : Thread nD τ).loc main_arg1)) (m ((c : Thread nD τ).loc main_arg2)), ?_, ?_⟩
  · refine (θ_run _ _ _).mono (fun r h c => ?_) (Value.run_blocks m g)
    exact ⟨(h c).1.trans (arrAt m c), (h c).2⟩
  · refine (θ_run _ _ _).mono (fun r h c => ?_) (Cert.NormFwdReferenceIdeal.Value.run m' g')
    refine ⟨(h c).1.trans ?_, (h c).2⟩
    refine Eq.trans ?_ (congr (congr (congrArg out (hargs c).1) (hargs c).2.1) (hargs c).2.2)
    funext j
    idx_vars j
    refine Eq.trans ?_ (out_at _ _ _ j0 j1).symm
    pointwise
    rfl

theorem frame_reference : Cert.quiescent_NormFwdReferenceIdeal := fun m g _ =>
  (θ_run Cert.NormFwdReferenceIdeal.defs _ _).mono (fun r h => ⟨fun c => (h c).2, sem_eq_zero_of_no_sems (by decide) r.2⟩)
    (Cert.NormFwdReferenceIdeal.Value.run m g)

end Cert.NormFwdIdeal.Fwd
end
-- ==== Proof.LnFwd.lean ====
module

public import proofs.«01_k».proof.Defs
public import proofs.«01_k».proof.Proof.Gate
public import proofs.«01_k».proof.Proof.Products
public import proofs.«01_k».proof.Proof.Gen.LnFwdIdeal
public import proofs.«01_k».proof.Proof.Gen.LnFwdIdeal.Value
public import proofs.«01_k».proof.Proof.Gen.LnFwdReferenceIdeal
public import proofs.«01_k».proof.Proof.Gen.LnFwdReferenceIdeal.Run

@[expose] public section
set_option maxRecDepth 16384
/-!
# The layer norm of the residual sum

The kernel also leaves the normalised values and the inverse deviation, which the backward pass reads.
-/
noncomputable section

namespace Cert.LnFwdIdeal.Fwd

open Idealize.ShloMosaic Idealize.ShloMosaic.TcCoe Idealize.ShloMosaic.Tactic Idealize.SL.Sem
open Cert.LnFwdIdeal Cert.LnFwdIdeal.Gen

local instance : Cert.LnFwdIdeal.Facts := Cert.LnFwdIdeal.Gen.facts
local instance : Cert.LnFwdReferenceIdeal.Facts := Cert.LnFwdReferenceIdeal.Gen.facts

/-- The block indices of the windows. -/
theorem index : ∀ t, (win0_0.index t = ![t.val, 0] ∧ win0_1.index t = ![t.val, 0] ∧ win0_2.index t = ![0, 0]
    ∧ win0_3.index t = ![0, 0]) ∧ win0_4.index t = ![t.val, 0] ∧ win0_5.index t = ![t.val, 0] ∧ win0_6.index t = ![t.val, 0]
    ∧ win0_7.index t = ![t.val, 0] := by
  decide +kernel

/-- The number of channels. -/
def c1024 : EReal := Ideal.ofBits FTy.f32 1149239296#32

/-- A token's residual sum, its deviations from the mean, the inverse deviation and the normalised values. -/
def z {N : ℕ} (a b : (⟨2, ![N, 1024]⟩ : Shape).Idx → EReal) (n : Fin N) (k : Fin 1024) : EReal :=
  Ideal.ofBits FTy.f32 0x3FB504F3#32 * a (ix2 n k) + b (ix2 n k)
def dev (z : Fin 1024 → EReal) (k : Fin 1024) : EReal := z k - Ideal.div (∑ i, z i) c1024
def rstd (z : Fin 1024 → EReal) : EReal :=
  Ideal.rsqrt (Ideal.div (∑ i, dev z i * dev z i) c1024 + Ideal.ofBits FTy.f32 925353388#32)
def xhat (z : Fin 1024 → EReal) (k : Fin 1024) : EReal := dev z k * rstd z

theorem pay_x (a b : Vec Ideal S512x1024 .f32) (y0 : Fin 512) (y1 : Fin 1024) :
    k0_pay3 a b (ix2 y0 y1) = xhat (z (N := 512) a b y0) y1 := by
  pointwise [k0_pay3, k0_pay1, k0_pay2]
  rfl

theorem pay_r (a b : Vec Ideal S512x1024 .f32) (y0 : Fin 512) (y1 : Fin 1) :
    k0_pay2 a b (ix2 y0 y1) = rstd (z (N := 512) a b y0) := by
  pointwise [k0_pay1, k0_pay2]
  rfl

theorem pay_y (a b : Vec Ideal S512x1024 .f32) (w s : Vec Ideal S1x1024 .f32) (y0 : Fin 512) (y1 : Fin 1024) :
    k0_pay4 a b w s (ix2 y0 y1) = xhat (z (N := 512) a b y0) y1 * w (ix2 (0 : Fin 1) y1) + s (ix2 (0 : Fin 1) y1) := by
  rw [← pay_x]
  unfold k0_pay4
  generalize k0_pay3 a b = x
  pointwise

/-- The arrays. -/
def outX (a b : S8192x1024.Idx → EReal) : S8192x1024.Idx → EReal := fun j =>
  xhat (z (N := 8192) a b ⟨(j 0).val, (j 0).isLt⟩) ⟨(j 1).val, (j 1).isLt⟩
def outR (a b : S8192x1024.Idx → EReal) : S8192x1.Idx → EReal := fun j => rstd (z (N := 8192) a b ⟨(j 0).val, (j 0).isLt⟩)
def outY (a b : S8192x1024.Idx → EReal) (w s : S1x1024.Idx → EReal) : S8192x1024.Idx → EReal := fun j =>
  outX a b j * w (ix2 (0 : Fin 1) (⟨(j 1).val, (j 1).isLt⟩ : Fin 1024)) + s (ix2 (0 : Fin 1) (⟨(j 1).val, (j 1).isLt⟩ : Fin 1024))

variable (m : (ℓ : Loc nD τ sig) → Buf (Elt Ideal) ℓ)

theorem blk_z (c : Dev nD) (t : Fin cfg0.N) (y0 : Fin 512) (n : Fin 8192) (hn : n.val = t.val * 512 + y0.val) :
    z (N := 512) (iblk m c 0 t) (iblk m c 1 t) y0
      = z (N := 8192) (m ((c : Thread nD τ).loc main_arg0)) (m ((c : Thread nD τ).loc main_arg1)) n := by
  have ha : ∀ k : Fin 1024, (iblk m c 0 t : S512x1024.Idx → EReal) (ix2 y0 k)
      = (m ((c : Thread nD τ).loc main_arg0) : S8192x1024.Idx → EReal) (ix2 n k) := fun k => by
    blk_ext [iblk, V_main_arg0, (index t).1.1]
  have hb : ∀ k : Fin 1024, (iblk m c 1 t : S512x1024.Idx → EReal) (ix2 y0 k)
      = (m ((c : Thread nD τ).loc main_arg1) : S8192x1024.Idx → EReal) (ix2 n k) := fun k => by
    blk_ext [iblk, V_main_arg1, (index t).1.2.1]
  funext k
  unfold z
  rw [ha, hb]

theorem blk_w (c : Dev nD) (t : Fin cfg0.N) (k : Fin 1024) :
    (iblk m c 2 t : S1x1024.Idx → EReal) (ix2 (0 : Fin 1) k) = (m ((c : Thread nD τ).loc main_arg2) : S1x1024.Idx → EReal) (ix2 (0 : Fin 1) k) := by
  blk_ext [iblk, V_main_arg2, (index t).1.2.2.1]
theorem blk_s (c : Dev nD) (t : Fin cfg0.N) (k : Fin 1024) :
    (iblk m c 3 t : S1x1024.Idx → EReal) (ix2 (0 : Fin 1) k) = (m ((c : Thread nD τ).loc main_arg3) : S1x1024.Idx → EReal) (ix2 (0 : Fin 1) k) := by
  blk_ext [iblk, V_main_arg3, (index t).1.2.2.2]

/-- A point's normalised values, and its output. -/
theorem blk_y (c : Dev nD) (t : Fin cfg0.N) (y0 : Fin 512) (n : Fin 8192) (hn : n.val = t.val * 512 + y0.val) (y1 : Fin 1024) :
    k0_pay4 (iblk m c 0 t) (iblk m c 1 t) (iblk m c 2 t) (iblk m c 3 t) (ix2 y0 y1)
      = outY (m ((c : Thread nD τ).loc main_arg0)) (m ((c : Thread nD τ).loc main_arg1)) (m ((c : Thread nD τ).loc main_arg2))
        (m ((c : Thread nD τ).loc main_arg3)) (ix2 n y1) := by
  rw [pay_y, blk_z m c t y0 n hn, blk_w, blk_s]
  rfl

theorem arrAt4 (c : Dev nD) : ((dats m 0 c).arrAt 4 cfg0.N : S8192x1024.Idx → EReal)
    = outY (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  idx_vars y
  have ht : t.val < 16 := lt_of_lt_of_eq t.isLt N_0
  have e : (((win0_4.blk t).view.emb (ix2 y0 y1))) = ix2 (⟨t.val * 512 + y0.val, by omega⟩ : Fin 8192) y1 := by
    blk_ext [(index t).2.1]
  refine Eq.trans ?_ (congrArg (outY _ _ _ _) e).symm
  unfold out0_4
  frame_out
  exact blk_y m c t y0 _ rfl y1

theorem arrAt5 (c : Dev nD) : ((dats m 0 c).arrAt 5 cfg0.N : S8192x1024.Idx → EReal)
    = outY (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  idx_vars y
  have ht : t.val < 16 := lt_of_lt_of_eq t.isLt N_0
  have e : (((win0_5.blk t).view.emb (ix2 y0 y1))) = ix2 (⟨t.val * 512 + y0.val, by omega⟩ : Fin 8192) y1 := by
    blk_ext [(index t).2.2.1]
  refine Eq.trans ?_ (congrArg (outY _ _ _ _) e).symm
  unfold out0_5
  frame_out
  exact blk_y m c t y0 _ rfl y1

theorem arrAt6 (c : Dev nD) : ((dats m 0 c).arrAt 6 cfg0.N : S8192x1024.Idx → EReal)
    = outX (m ((c : Thread nD τ).loc main_arg0)) (m ((c : Thread nD τ).loc main_arg1)) := by
  refine (dats m 0 c).arrAt_eq_of_covers 6 _ (by decide +kernel) fun t hf y => ?_
  blk_simp
  rw [after0_6]
  idx_vars y
  have ht : t.val < 16 := lt_of_lt_of_eq t.isLt N_0
  have e : (((win0_6.blk t).view.emb (ix2 y0 y1))) = ix2 (⟨t.val * 512 + y0.val, by omega⟩ : Fin 8192) y1 := by
    blk_ext [(index t).2.2.2.1]
  refine Eq.trans ?_ (congrArg (outX _ _) e).symm
  unfold out0_6
  frame_out
  rw [pay_x, blk_z m c t y0 ⟨t.val * 512 + y0.val, by omega⟩ rfl]
  rfl

theorem arrAt7 (c : Dev nD) : ((dats m 0 c).arrAt 7 cfg0.N : S8192x1.Idx → EReal)
    = outR (m ((c : Thread nD τ).loc main_arg0)) (m ((c : Thread nD τ).loc main_arg1)) := by
  refine (dats m 0 c).arrAt_eq_of_covers 7 _ (by decide +kernel) fun t hf y => ?_
  blk_simp
  rw [after0_7]
  idx_vars y
  have ht : t.val < 16 := lt_of_lt_of_eq t.isLt N_0
  have e : (((win0_7.blk t).view.emb (ix2 y0 y1))) = ix2 (⟨t.val * 512 + y0.val, by omega⟩ : Fin 8192) y1 := by
    blk_ext [(index t).2.2.2.2]
  refine Eq.trans ?_ (congrArg (outR _ _) e).symm
  unfold out0_7
  frame_out
  rw [pay_r, blk_z m c t y0 ⟨t.val * 512 + y0.val, by omega⟩ rfl]
  rfl

theorem algebraic : Cert.algebraic_LnFwdIdeal_LnFwdReferenceIdeal := by
  intro m g m' g' _ hargs
  refine ⟨fun c => outY (m ((c : Thread nD τ).loc main_arg0)) (m ((c : Thread nD τ).loc main_arg1))
      (m ((c : Thread nD τ).loc main_arg2)) (m ((c : Thread nD τ).loc main_arg3)),
    fun c => outY (m ((c : Thread nD τ).loc main_arg0)) (m ((c : Thread nD τ).loc main_arg1))
      (m ((c : Thread nD τ).loc main_arg2)) (m ((c : Thread nD τ).loc main_arg3)),
    fun c => outX (m ((c : Thread nD τ).loc main_arg0)) (m ((c : Thread nD τ).loc main_arg1)),
    fun c => outR (m ((c : Thread nD τ).loc main_arg0)) (m ((c : Thread nD τ).loc main_arg1)), ?_, ?_⟩
  · refine (θ_run _ _ _).mono (fun r h c => ?_) (Value.run_blocks m g)
    exact ⟨(h c).1.trans (arrAt4 m c), (h c).2.1.trans (arrAt5 m c), (h c).2.2.1.trans (arrAt6 m c),
      (h c).2.2.2.1.trans (arrAt7 m c), (h c).2.2.2.2⟩
  · refine (θ_run _ _ _).mono (fun r h c => ?_) (Cert.LnFwdReferenceIdeal.Value.run m' g')
    refine ⟨(h c).1.trans ?_, (h c).2.1.trans ?_, (h c).2.2.1.trans ?_, (h c).2.2.2.1.trans ?_, (h c).2.2.2.2⟩
    all_goals
      simp only [(hargs c).1, (hargs c).2.1, (hargs c).2.2.1, (hargs c).2.2.2]
      funext j
      idx_vars j
      pointwise
      rfl

theorem frame_reference : Cert.quiescent_LnFwdReferenceIdeal := fun m g _ =>
  (θ_run Cert.LnFwdReferenceIdeal.defs _ _).mono (fun r h => ⟨fun c => (h c).2.2.2.2, sem_eq_zero_of_no_sems (by decide) r.2⟩)
    (Cert.LnFwdReferenceIdeal.Value.run m g)

end Cert.LnFwdIdeal.Fwd
end
-- ==== Proof.Proj.lean ====
module

public import proofs.«01_k».proof.Proof.Products
public import proofs.«01_k».proof.Proof.Gen.ProjIdeal
public import proofs.«01_k».proof.Proof.Gen.ProjIdeal.Value
public import proofs.«01_k».proof.Proof.Gen.ProjReferenceIdeal
public import proofs.«01_k».proof.Proof.Gen.ProjReferenceIdeal.Run

@[expose] public section
set_option maxRecDepth 16384
/-!
# The projection of the layer's input
-/
noncomputable section

namespace Cert.ProjIdeal.Product

open Idealize.ShloMosaic Idealize.ShloMosaic.TcCoe Idealize.ShloMosaic.Tactic Idealize.SL.Sem
open Cert.ProjIdeal Cert.ProjIdeal.Gen Cert.Products

local instance : Cert.ProjIdeal.Facts := Cert.ProjIdeal.Gen.facts
local instance : Cert.ProjReferenceIdeal.Facts := Cert.ProjReferenceIdeal.Gen.facts

/-- A tile reads the rows of its row of tiles and the columns of its column of tiles. -/
theorem index : ∀ t, win0_0.index t = ![win0_2.index t 0, 0] ∧ win0_1.index t = ![win0_2.index t 1, 0] := by
  decide +kernel

/-- What a grid point computes. -/
theorem pay (a : Vec Ideal S1024x1024 .bf16) (b : Vec Ideal S1024x1024 .bf16) (y0 : Fin 1024) (y1 : Fin 1024) :
    k0_pay1 a b (ix2 y0 y1) = ∑ k : Fin 1024, a (ix2 y0 k) * b (ix2 y1 k) := by
  pointwise [k0_pay1]

variable (m : (ℓ : Loc nD τ sig) → Buf (Elt Ideal) ℓ)

/-- The array after the run. -/
theorem arrAt (c : Dev nD) : ((dats m 0 c).arrAt 2 cfg0.N : S8192x11264.Idx → EReal)
    = nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nt
  blk_point [iblk, V_main_arg0, V_main_arg1, (index t).1, (index t).2]

theorem algebraic : Cert.algebraic_ProjIdeal_ProjReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.ProjReferenceIdeal.Value.run m' g')
    refine ⟨(h c).1.trans ?_, (h c).2⟩
    rw [(hargs c).1, (hargs c).2]
    funext j
    idx_vars j
    unfold nt
    pointwise

theorem frame_reference : Cert.quiescent_ProjReferenceIdeal := fun m g _ =>
  (θ_run Cert.ProjReferenceIdeal.defs _ _).mono (fun r h => ⟨fun c => (h c).2, sem_eq_zero_of_no_sems (by decide) r.2⟩)
    (Cert.ProjReferenceIdeal.Value.run m g)

end Cert.ProjIdeal.Product
end
-- ==== Proof.DwIn.lean ====
module

public import proofs.«01_k».proof.Proof.Products
public import proofs.«01_k».proof.Proof.Gen.DwInIdeal
public import proofs.«01_k».proof.Proof.Gen.DwInIdeal.Value
public import proofs.«01_k».proof.Proof.Gen.DwInReferenceIdeal
public import proofs.«01_k».proof.Proof.Gen.DwInReferenceIdeal.Run

@[expose] public section
set_option maxRecDepth 16384
/-!
# The gradient of the projection's weights

A tile of the product is added up over eight runs of 1024 tokens; after the last it holds the sum over all tokens.
-/
noncomputable section

namespace Cert.DwInIdeal.Product

open Idealize.ShloMosaic Idealize.ShloMosaic.TcCoe Idealize.ShloMosaic.Tactic Idealize.SL.Sem
open Cert.DwInIdeal Cert.DwInIdeal.Gen Cert.Products

local instance : Cert.DwInIdeal.Facts := Cert.DwInIdeal.Gen.facts
local instance : Cert.DwInReferenceIdeal.Facts := Cert.DwInReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1024 .bf16) (b : Vec Ideal S1024x1024 .bf16) (y : Fin 1024 × Fin 1024) (k : Fin 1024) : EReal :=
  a (ix2 k y.1) * b (ix2 k y.2)

theorem pay_first (a : Vec Ideal S1024x1024 .bf16) (b : Vec Ideal S1024x1024 .bf16) (y : Fin 1024 × Fin 1024) :
    k0_pay2 a b (ix2 y.1 y.2) = ∑ k, part a b y k := by
  unfold part
  pointwise [k0_pay2, k0_pay1]

theorem pay_step (a : Vec Ideal S1024x1024 .bf16) (b : Vec Ideal S1024x1024 .bf16) (x : Vec Ideal S1024x1024 .f32)
    (y : Fin 1024 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1024 × Fin 1024) :
    (outsAt0 m c t.val t.isLt).2 (ix2 y.1 y.2) = ∑ k, part (iblk m c 0 t) (iblk m c 1 t) y k := by
  rw [outsAt0_A m c t h0 (by omega) (by omega)]
  frame_out
  rw [pay_first]

theorem outs_step (c : Dev nD) (t : Fin cfg0.N) (h0 : ¬ t.val % 8 = 0) (y : Fin 1024 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  rw [outsAt0_C m c t (by omega) (by omega) h7]
  frame_out

/-- The array after the run. -/
theorem arrAt (c : Dev nD) : ((dats m 0 c).arrAt 2 cfg0.N : S11264x1024.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1024 × Fin 1024) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwInIdeal_DwInReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwInReferenceIdeal.Value.run m' g')
    refine ⟨(h c).1.trans ?_, (h c).2⟩
    rw [(hargs c).1, (hargs c).2]
    funext j
    idx_vars j
    unfold tn
    pointwise

theorem frame_reference : Cert.quiescent_DwInReferenceIdeal := fun m g _ =>
  (θ_run Cert.DwInReferenceIdeal.defs _ _).mono (fun r h => ⟨fun c => (h c).2, sem_eq_zero_of_no_sems (by decide) r.2⟩)
    (Cert.DwInReferenceIdeal.Value.run m g)

end Cert.DwInIdeal.Product
end
-- ==== Proof.BrLru.lean ====
module

public import proofs.«01_k».proof.Proof.Products
public import proofs.«01_k».proof.Proof.Gen.BrLruIdeal
public import proofs.«01_k».proof.Proof.Gen.BrLruIdeal.Value
public import proofs.«01_k».proof.Proof.Gen.BrLruReferenceIdeal
public import proofs.«01_k».proof.Proof.Gen.BrLruReferenceIdeal.Run

@[expose] public section
set_option maxRecDepth 16384
/-!
# The output product of the recurrent branch
-/
noncomputable section

namespace Cert.BrLruIdeal.Product

open Idealize.ShloMosaic Idealize.ShloMosaic.TcCoe Idealize.ShloMosaic.Tactic Idealize.SL.Sem
open Cert.BrLruIdeal Cert.BrLruIdeal.Gen Cert.Products

local instance : Cert.BrLruIdeal.Facts := Cert.BrLruIdeal.Gen.facts
local instance : Cert.BrLruReferenceIdeal.Facts := Cert.BrLruReferenceIdeal.Gen.facts

/-- A tile reads the rows of its row of tiles and the columns of its column of tiles. -/
theorem index : ∀ t, win0_0.index t = ![win0_2.index t 0, 0] ∧ win0_1.index t = ![0, win0_2.index t 1] := by
  decide +kernel

/-- What a grid point computes. -/
theorem pay (a : Vec Ideal S1024x1024 .bf16) (b : Vec Ideal S1024x1024 .bf16) (y0 : Fin 1024) (y1 : Fin 1024) :
    k0_pay1 a b (ix2 y0 y1) = ∑ k : Fin 1024, a (ix2 y0 k) * b (ix2 k y1) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nn
  blk_point [iblk, V_main_arg0, V_main_arg1, (index t).1, (index t).2]

theorem algebraic : Cert.algebraic_BrLruIdeal_BrLruReferenceIdeal := by
  intro m g m' g' _ hargs
  refine ⟨fun c => nn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.BrLruReferenceIdeal.Value.run m' g')
    refine ⟨(h c).1.trans ?_, (h c).2⟩
    rw [(hargs c).1, (hargs c).2]
    funext j
    idx_vars j
    unfold nn
    pointwise

theorem frame_reference : Cert.quiescent_BrLruReferenceIdeal := fun m g _ =>
  (θ_run Cert.BrLruReferenceIdeal.defs _ _).mono (fun r h => ⟨fun c => (h c).2, sem_eq_zero_of_no_sems (by decide) r.2⟩)
    (Cert.BrLruReferenceIdeal.Value.run m g)

end Cert.BrLruIdeal.Product
end
-- ==== Proof.DYlru.lean ====
module

public import proofs.«01_k».proof.Proof.Products
public import proofs.«01_k».proof.Proof.Gen.DYlruIdeal
public import proofs.«01_k».proof.Proof.Gen.DYlruIdeal.Value
public import proofs.«01_k».proof.Proof.Gen.DYlruReferenceIdeal
public import proofs.«01_k».proof.Proof.Gen.DYlruReferenceIdeal.Run

@[expose] public section
set_option maxRecDepth 16384
/-!
# The gradient of the recurrent branch's output
-/
noncomputable section

namespace Cert.DYlruIdeal.Product

open Idealize.ShloMosaic Idealize.ShloMosaic.TcCoe Idealize.ShloMosaic.Tactic Idealize.SL.Sem
open Cert.DYlruIdeal Cert.DYlruIdeal.Gen Cert.Products

local instance : Cert.DYlruIdeal.Facts := Cert.DYlruIdeal.Gen.facts
local instance : Cert.DYlruReferenceIdeal.Facts := Cert.DYlruReferenceIdeal.Gen.facts

/-- A tile reads the rows of its row of tiles and the columns of its column of tiles. -/
theorem index : ∀ t, win0_0.index t = ![win0_2.index t 0, 0] ∧ win0_1.index t = ![win0_2.index t 1, 0] := by
  decide +kernel

/-- What a grid point computes. -/
theorem pay (a : Vec Ideal S1024x1024 .bf16) (b : Vec Ideal S1024x1024 .bf16) (y0 : Fin 1024) (y1 : Fin 1024) :
    k0_pay1 a b (ix2 y0 y1) = ∑ k : Fin 1024, a (ix2 y0 k) * b (ix2 y1 k) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nt
  blk_point [iblk, V_main_arg0, V_main_arg1, (index t).1, (index t).2]

theorem algebraic : Cert.algebraic_DYlruIdeal_DYlruReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DYlruReferenceIdeal.Value.run m' g')
    refine ⟨(h c).1.trans ?_, (h c).2⟩
    rw [(hargs c).1, (hargs c).2]
    funext j
    idx_vars j
    unfold nt
    pointwise

theorem frame_reference : Cert.quiescent_DYlruReferenceIdeal := fun m g _ =>
  (θ_run Cert.DYlruReferenceIdeal.defs _ _).mono (fun r h => ⟨fun c => (h c).2, sem_eq_zero_of_no_sems (by decide) r.2⟩)
    (Cert.DYlruReferenceIdeal.Value.run m g)

end Cert.DYlruIdeal.Product
end
-- ==== Proof.BrSsd.lean ====
module

public import proofs.«01_k».proof.Proof.Products
public import proofs.«01_k».proof.Proof.Gen.BrSsdIdeal
public import proofs.«01_k».proof.Proof.Gen.BrSsdIdeal.Value
public import proofs.«01_k».proof.Proof.Gen.BrSsdReferenceIdeal
public import proofs.«01_k».proof.Proof.Gen.BrSsdReferenceIdeal.Run

@[expose] public section
set_option maxRecDepth 16384
/-!
# The output product of the state-space branch
-/
noncomputable section

namespace Cert.BrSsdIdeal.Product

open Idealize.ShloMosaic Idealize.ShloMosaic.TcCoe Idealize.ShloMosaic.Tactic Idealize.SL.Sem
open Cert.BrSsdIdeal Cert.BrSsdIdeal.Gen Cert.Products

local instance : Cert.BrSsdIdeal.Facts := Cert.BrSsdIdeal.Gen.facts
local instance : Cert.BrSsdReferenceIdeal.Facts := Cert.BrSsdReferenceIdeal.Gen.facts

/-- A tile reads the rows of its row of tiles and the columns of its column of tiles. -/
theorem index : ∀ t, win0_0.index t = ![win0_2.index t 0, 0] ∧ win0_1.index t = ![0, win0_2.index t 1] := by
  decide +kernel

/-- What a grid point computes. -/
theorem pay (a : Vec Ideal S1024x2048 .bf16) (b : Vec Ideal S2048x1024 .bf16) (y0 : Fin 1024) (y1 : Fin 1024) :
    k0_pay1 a b (ix2 y0 y1) = ∑ k : Fin 2048, a (ix2 y0 k) * b (ix2 k y1) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nn
  blk_point [iblk, V_main_arg0, V_main_arg1, (index t).1, (index t).2]

theorem algebraic : Cert.algebraic_BrSsdIdeal_BrSsdReferenceIdeal := by
  intro m g m' g' _ hargs
  refine ⟨fun c => nn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.BrSsdReferenceIdeal.Value.run m' g')
    refine ⟨(h c).1.trans ?_, (h c).2⟩
    rw [(hargs c).1, (hargs c).2]
    funext j
    idx_vars j
    unfold nn
    pointwise

theorem frame_reference : Cert.quiescent_BrSsdReferenceIdeal := fun m g _ =>
  (θ_run Cert.BrSsdReferenceIdeal.defs _ _).mono (fun r h => ⟨fun c => (h c).2, sem_eq_zero_of_no_sems (by decide) r.2⟩)
    (Cert.BrSsdReferenceIdeal.Value.run m g)

end Cert.BrSsdIdeal.Product
end
-- ==== Proof.DYssd.lean ====
module

public import proofs.«01_k».proof.Proof.Products
public import proofs.«01_k».proof.Proof.Gen.DYssdIdeal
public import proofs.«01_k».proof.Proof.Gen.DYssdIdeal.Value
public import proofs.«01_k».proof.Proof.Gen.DYssdReferenceIdeal
public import proofs.«01_k».proof.Proof.Gen.DYssdReferenceIdeal.Run

@[expose] public section
set_option maxRecDepth 16384
/-!
# The gradient of the state-space branch's output
-/
noncomputable section

namespace Cert.DYssdIdeal.Product

open Idealize.ShloMosaic Idealize.ShloMosaic.TcCoe Idealize.ShloMosaic.Tactic Idealize.SL.Sem
open Cert.DYssdIdeal Cert.DYssdIdeal.Gen Cert.Products

local instance : Cert.DYssdIdeal.Facts := Cert.DYssdIdeal.Gen.facts
local instance : Cert.DYssdReferenceIdeal.Facts := Cert.DYssdReferenceIdeal.Gen.facts

/-- A tile reads the rows of its row of tiles and the columns of its column of tiles. -/
theorem index : ∀ t, win0_0.index t = ![win0_2.index t 0, 0] ∧ win0_1.index t = ![win0_2.index t 1, 0] := by
  decide +kernel

/-- What a grid point computes. -/
theorem pay (a : Vec Ideal S1024x1024 .bf16) (b : Vec Ideal S1024x1024 .bf16) (y0 : Fin 1024) (y1 : Fin 1024) :
    k0_pay1 a b (ix2 y0 y1) = ∑ k : Fin 1024, a (ix2 y0 k) * b (ix2 y1 k) := by
  pointwise [k0_pay1]

variable (m : (ℓ : Loc nD τ sig) → Buf (Elt Ideal) ℓ)

/-- The array after the run. -/
theorem arrAt (c : Dev nD) : ((dats m 0 c).arrAt 2 cfg0.N : S8192x2048.Idx → EReal)
    = nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nt
  blk_point [iblk, V_main_arg0, V_main_arg1, (index t).1, (index t).2]

theorem algebraic : Cert.algebraic_DYssdIdeal_DYssdReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DYssdReferenceIdeal.Value.run m' g')
    refine ⟨(h c).1.trans ?_, (h c).2⟩
    rw [(hargs c).1, (hargs c).2]
    funext j
    idx_vars j
    unfold nt
    pointwise

theorem frame_reference : Cert.quiescent_DYssdReferenceIdeal := fun m g _ =>
  (θ_run Cert.DYssdReferenceIdeal.defs _ _).mono (fun r h => ⟨fun c => (h c).2, sem_eq_zero_of_no_sems (by decide) r.2⟩)
    (Cert.DYssdReferenceIdeal.Value.run m g)

end Cert.DYssdIdeal.Product
end
-- ==== Proof.FfnIn.lean ====
module

public import proofs.«01_k».proof.Proof.Products
public import proofs.«01_k».proof.Proof.Gen.FfnInIdeal
public import proofs.«01_k».proof.Proof.Gen.FfnInIdeal.Value
public import proofs.«01_k».proof.Proof.Gen.FfnInReferenceIdeal
public import proofs.«01_k».proof.Proof.Gen.FfnInReferenceIdeal.Run

@[expose] public section
set_option maxRecDepth 16384
/-!
# The first product of the feed-forward block
-/
noncomputable section

namespace Cert.FfnInIdeal.Product

open Idealize.ShloMosaic Idealize.ShloMosaic.TcCoe Idealize.ShloMosaic.Tactic Idealize.SL.Sem
open Cert.FfnInIdeal Cert.FfnInIdeal.Gen Cert.Products

local instance : Cert.FfnInIdeal.Facts := Cert.FfnInIdeal.Gen.facts
local instance : Cert.FfnInReferenceIdeal.Facts := Cert.FfnInReferenceIdeal.Gen.facts

/-- A tile reads the rows of its row of tiles and the columns of its column of tiles. -/
theorem index : ∀ t, win0_0.index t = ![win0_2.index t 0, 0] ∧ win0_1.index t = ![0, win0_2.index t 1] := by
  decide +kernel

/-- What a grid point computes. -/
theorem pay (a : Vec Ideal S1024x1024 .bf16) (b : Vec Ideal S1024x1408 .bf16) (y0 : Fin 1024) (y1 : Fin 1408) :
    k0_pay1 a b (ix2 y0 y1) = ∑ k : Fin 1024, a (ix2 y0 k) * b (ix2 k y1) := by
  pointwise [k0_pay1]

variable (m : (ℓ : Loc nD τ sig) → Buf (Elt Ideal) ℓ)

/-- The array after the run. -/
theorem arrAt (c : Dev nD) : ((dats m 0 c).arrAt 2 cfg0.N : S8192x5632.Idx → EReal)
    = nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nn
  blk_point [iblk, V_main_arg0, V_main_arg1, (index t).1, (index t).2]

theorem algebraic : Cert.algebraic_FfnInIdeal_FfnInReferenceIdeal := by
  intro m g m' g' _ hargs
  refine ⟨fun c => nn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.FfnInReferenceIdeal.Value.run m' g')
    refine ⟨(h c).1.trans ?_, (h c).2⟩
    rw [(hargs c).1, (hargs c).2]
    funext j
    idx_vars j
    unfold nn
    pointwise

theorem frame_reference : Cert.quiescent_FfnInReferenceIdeal := fun m g _ =>
  (θ_run Cert.FfnInReferenceIdeal.defs _ _).mono (fun r h => ⟨fun c => (h c).2, sem_eq_zero_of_no_sems (by decide) r.2⟩)
    (Cert.FfnInReferenceIdeal.Value.run m g)

end Cert.FfnInIdeal.Product
end
-- ==== Proof.DX1.lean ====
module

public import proofs.«01_k».proof.Proof.Products
public import proofs.«01_k».proof.Proof.Gen.DX1Ideal
public import proofs.«01_k».proof.Proof.Gen.DX1Ideal.Value
public import proofs.«01_k».proof.Proof.Gen.DX1ReferenceIdeal
public import proofs.«01_k».proof.Proof.Gen.DX1ReferenceIdeal.Run

@[expose] public section
set_option maxRecDepth 16384
/-!
# The gradient of the feed-forward block's input

A tile of the product is added up over four runs of 1408 hidden columns; after the last it holds the sum over all of them.
-/
noncomputable section

namespace Cert.DX1Ideal.Product

open Idealize.ShloMosaic Idealize.ShloMosaic.TcCoe Idealize.ShloMosaic.Tactic Idealize.SL.Sem
open Cert.DX1Ideal Cert.DX1Ideal.Gen Cert.Products

local instance : Cert.DX1Ideal.Facts := Cert.DX1Ideal.Gen.facts
local instance : Cert.DX1ReferenceIdeal.Facts := Cert.DX1ReferenceIdeal.Gen.facts

/-- Where the points of the run of `t` read. -/
theorem index : ∀ (t : Fin cfg0.N) (s : Fin 4) (h : 4 * (t.val / 4) + s.val < cfg0.N),
    win0_0.index ⟨_, h⟩ = ![win0_2.index t 0, s.val] ∧ win0_1.index ⟨_, h⟩ = ![win0_2.index t 1, s.val] := by decide +kernel

/-- One point's part of a tile, term by term. -/
def part (a : Vec Ideal S1024x1408 .bf16) (b : Vec Ideal S1024x1408 .bf16) (y : Fin 1024 × Fin 1024) (k : Fin 1408) : EReal :=
  a (ix2 y.1 k) * b (ix2 y.2 k)

theorem pay_first (a : Vec Ideal S1024x1408 .bf16) (b : Vec Ideal S1024x1408 .bf16) (y : Fin 1024 × Fin 1024) :
    k0_pay2 a b (ix2 y.1 y.2) = ∑ k, part a b y k := by
  unfold part
  pointwise [k0_pay2, k0_pay1]

theorem pay_step (a : Vec Ideal S1024x1408 .bf16) (b : Vec Ideal S1024x1408 .bf16) (x : Vec Ideal S1024x1024 .f32)
    (y : Fin 1024 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 4 = 0) (y : Fin 1024 × Fin 1024) :
    (outsAt0 m c t.val t.isLt).2 (ix2 y.1 y.2) = ∑ k, part (iblk m c 0 t) (iblk m c 1 t) y k := by
  rw [outsAt0_A m c t h0 (by omega) (by omega)]
  frame_out
  rw [pay_first]

theorem outs_step (c : Dev nD) (t : Fin cfg0.N) (h0 : ¬ t.val % 4 = 0) (y : Fin 1024 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  by_cases h3 : t.val % 4 = 3
  · rw [outsAt0_C m c t h0 (by omega) h3]
    frame_out
    rw [pay_step]
    exact congrArg (· + _) (congrFun (Memref.IsWhole.read_unread _ _) _)
  · rw [outsAt0_B m c t h0 (by omega) h3]
    frame_out
    rw [pay_step]
    exact congrArg (· + _) (congrFun (Memref.IsWhole.read_unread _ _) _)

/-- The last point of a run copies the accumulator to the output. -/
theorem outs_last (c : Dev nD) (t : Fin cfg0.N) (h3 : t.val % 4 = 3) :
    (outsAt0 m c t.val t.isLt).1 = (outsAt0 m c t.val t.isLt).2 := by
  rw [outsAt0_C m c t (by omega) (by omega) h3]
  frame_out

/-- The array after the run. -/
theorem arrAt (c : Dev nD) : ((dats m 0 c).arrAt 2 cfg0.N : S8192x1024.Idx → EReal)
    = nt (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, outs_last m c t h3]
  idx_vars y
  refine total (fun n h (y : Fin 1024 × Fin 1024) => (outsAt0 m c n h).2 (ix2 y.1 y.2)) _ (outs_first m c) (outs_step m c)
    t h3 (y0, y1) (by decide) fun s hs k hl => ?_
  have e := index t s hs
  unfold part
  blk_point [iblk, V_main_arg0, V_main_arg1, e.1, e.2]

theorem algebraic : Cert.algebraic_DX1Ideal_DX1ReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DX1ReferenceIdeal.Value.run m' g')
    refine ⟨(h c).1.trans ?_, (h c).2⟩
    rw [(hargs c).1, (hargs c).2]
    funext j
    idx_vars j
    unfold nt
    pointwise

theorem frame_reference : Cert.quiescent_DX1ReferenceIdeal := fun m g _ =>
  (θ_run Cert.DX1ReferenceIdeal.defs _ _).mono (fun r h => ⟨fun c => (h c).2, sem_eq_zero_of_no_sems (by decide) r.2⟩)
    (Cert.DX1ReferenceIdeal.Value.run m g)

end Cert.DX1Ideal.Product
end
-- ==== Proof.DwFfnIn.lean ====
module

public import proofs.«01_k».proof.Proof.Products
public import proofs.«01_k».proof.Proof.Gen.DwFfnInIdeal
public import proofs.«01_k».proof.Proof.Gen.DwFfnInIdeal.Value
public import proofs.«01_k».proof.Proof.Gen.DwFfnInReferenceIdeal
public import proofs.«01_k».proof.Proof.Gen.DwFfnInReferenceIdeal.Run

@[expose] public section
set_option maxRecDepth 16384
/-!
# The gradient of the feed-forward block's first weights

A tile of the product is added up over eight runs of 1024 tokens; after the last it holds the sum over all tokens.
-/
noncomputable section

namespace Cert.DwFfnInIdeal.Product

open Idealize.ShloMosaic Idealize.ShloMosaic.TcCoe Idealize.ShloMosaic.Tactic Idealize.SL.Sem
open Cert.DwFfnInIdeal Cert.DwFfnInIdeal.Gen Cert.Products

local instance : Cert.DwFfnInIdeal.Facts := Cert.DwFfnInIdeal.Gen.facts
local instance : Cert.DwFfnInReferenceIdeal.Facts := Cert.DwFfnInReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1024 .bf16) (b : Vec Ideal S1024x1408 .bf16) (y : Fin 1024 × Fin 1408) (k : Fin 1024) : EReal :=
  a (ix2 k y.1) * b (ix2 k y.2)

theorem pay_first (a : Vec Ideal S1024x1024 .bf16) (b : Vec Ideal S1024x1408 .bf16) (y : Fin 1024 × Fin 1408) :
    k0_pay2 a b (ix2 y.1 y.2) = ∑ k, part a b y k := by
  unfold part
  pointwise [k0_pay2, k0_pay1]

theorem pay_step (a : Vec Ideal S1024x1024 .bf16) (b : Vec Ideal S1024x1408 .bf16) (x : Vec Ideal S1024x1408 .f32)
    (y : Fin 1024 × Fin 1408) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1024 × Fin 1408) :
    (outsAt0 m c t.val t.isLt).2 (ix2 y.1 y.2) = ∑ k, part (iblk m c 0 t) (iblk m c 1 t) y k := by
  rw [outsAt0_A m c t h0 (by omega) (by omega)]
  frame_out
  rw [pay_first]

theorem outs_step (c : Dev nD) (t : Fin cfg0.N) (h0 : ¬ t.val % 8 = 0) (y : Fin 1024 × Fin 1408) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  rw [outsAt0_C m c t (by omega) (by omega) h7]
  frame_out

/-- The array after the run. -/
theorem arrAt (c : Dev nD) : ((dats m 0 c).arrAt 2 cfg0.N : S1024x5632.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1024 × Fin 1408) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwFfnInIdeal_DwFfnInReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwFfnInReferenceIdeal.Value.run m' g')
    refine ⟨(h c).1.trans ?_, (h c).2⟩
    rw [(hargs c).1, (hargs c).2]
    funext j
    idx_vars j
    rw [tn_swap]
    pointwise

theorem frame_reference : Cert.quiescent_DwFfnInReferenceIdeal := fun m g _ =>
  (θ_run Cert.DwFfnInReferenceIdeal.defs _ _).mono (fun r h => ⟨fun c => (h c).2, sem_eq_zero_of_no_sems (by decide) r.2⟩)
    (Cert.DwFfnInReferenceIdeal.Value.run m g)

end Cert.DwFfnInIdeal.Product
end
-- ==== Proof.FfnDown.lean ====
module

public import proofs.«01_k».proof.Proof.Products
public import proofs.«01_k».proof.Proof.Gen.FfnDownIdeal
public import proofs.«01_k».proof.Proof.Gen.FfnDownIdeal.Value
public import proofs.«01_k».proof.Proof.Gen.FfnDownReferenceIdeal
public import proofs.«01_k».proof.Proof.Gen.FfnDownReferenceIdeal.Run

@[expose] public section
set_option maxRecDepth 16384
/-!
# The second product of the feed-forward block
-/
noncomputable section

namespace Cert.FfnDownIdeal.Product

open Idealize.ShloMosaic Idealize.ShloMosaic.TcCoe Idealize.ShloMosaic.Tactic Idealize.SL.Sem
open Cert.FfnDownIdeal Cert.FfnDownIdeal.Gen Cert.Products

local instance : Cert.FfnDownIdeal.Facts := Cert.FfnDownIdeal.Gen.facts
local instance : Cert.FfnDownReferenceIdeal.Facts := Cert.FfnDownReferenceIdeal.Gen.facts

/-- A tile reads the rows of its row of tiles and the columns of its column of tiles. -/
theorem index : ∀ t, win0_0.index t = ![win0_2.index t 0, 0] ∧ win0_1.index t = ![0, win0_2.index t 1] := by
  decide +kernel

/-- What a grid point computes. -/
theorem pay (a : Vec Ideal S1024x2816 .bf16) (b : Vec Ideal S2816x1024 .bf16) (y0 : Fin 1024) (y1 : Fin 1024) :
    k0_pay1 a b (ix2 y0 y1) = ∑ k : Fin 2816, a (ix2 y0 k) * b (ix2 k y1) := by
  pointwise [k0_pay1]

variable (m : (ℓ : Loc nD τ sig) → Buf (Elt Ideal) ℓ)

/-- The array after the run. -/
theorem arrAt (c : Dev nD) : ((dats m 0 c).arrAt 2 cfg0.N : S8192x1024.Idx → EReal)
    = nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nn
  blk_point [iblk, V_main_arg0, V_main_arg1, (index t).1, (index t).2]

theorem algebraic : Cert.algebraic_FfnDownIdeal_FfnDownReferenceIdeal := by
  intro m g m' g' _ hargs
  refine ⟨fun c => nn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.FfnDownReferenceIdeal.Value.run m' g')
    refine ⟨(h c).1.trans ?_, (h c).2⟩
    rw [(hargs c).1, (hargs c).2]
    funext j
    idx_vars j
    unfold nn
    pointwise

theorem frame_reference : Cert.quiescent_FfnDownReferenceIdeal := fun m g _ =>
  (θ_run Cert.FfnDownReferenceIdeal.defs _ _).mono (fun r h => ⟨fun c => (h c).2, sem_eq_zero_of_no_sems (by decide) r.2⟩)
    (Cert.FfnDownReferenceIdeal.Value.run m g)

end Cert.FfnDownIdeal.Product
end
-- ==== Proof.DHmid.lean ====
module

public import proofs.«01_k».proof.Proof.Products
public import proofs.«01_k».proof.Proof.Gen.DHmidIdeal
public import proofs.«01_k».proof.Proof.Gen.DHmidIdeal.Value
public import proofs.«01_k».proof.Proof.Gen.DHmidReferenceIdeal
public import proofs.«01_k».proof.Proof.Gen.DHmidReferenceIdeal.Run

@[expose] public section
set_option maxRecDepth 16384
/-!
# The gradient of the feed-forward block's hidden activations
-/
noncomputable section

namespace Cert.DHmidIdeal.Product

open Idealize.ShloMosaic Idealize.ShloMosaic.TcCoe Idealize.ShloMosaic.Tactic Idealize.SL.Sem
open Cert.DHmidIdeal Cert.DHmidIdeal.Gen Cert.Products

local instance : Cert.DHmidIdeal.Facts := Cert.DHmidIdeal.Gen.facts
local instance : Cert.DHmidReferenceIdeal.Facts := Cert.DHmidReferenceIdeal.Gen.facts

/-- A tile reads the rows of its row of tiles and the columns of its column of tiles. -/
theorem index : ∀ t, win0_0.index t = ![win0_2.index t 0, 0] ∧ win0_1.index t = ![win0_2.index t 1, 0] := by
  decide +kernel

/-- What a grid point computes. -/
theorem pay (a : Vec Ideal S1024x1024 .f32) (b : Vec Ideal S1408x1024 .bf16) (y0 : Fin 1024) (y1 : Fin 1408) :
    k0_pay1 a b (ix2 y0 y1) = ∑ k : Fin 1024, a (ix2 y0 k) * b (ix2 y1 k) := by
  pointwise [k0_pay1]

variable (m : (ℓ : Loc nD τ sig) → Buf (Elt Ideal) ℓ)

/-- The array after the run. -/
theorem arrAt (c : Dev nD) : ((dats m 0 c).arrAt 2 cfg0.N : S8192x2816.Idx → EReal)
    = nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  unfold outsAt0
  frame_out
  rw [pay]
  unfold nt
  blk_point [iblk, V_main_arg0, V_main_arg1, (index t).1, (index t).2]

theorem algebraic : Cert.algebraic_DHmidIdeal_DHmidReferenceIdeal := by
  intro m g m' g' _ hargs
  refine ⟨fun c => nt (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DHmidReferenceIdeal.Value.run m' g')
    refine ⟨(h c).1.trans ?_, (h c).2⟩
    rw [(hargs c).1, (hargs c).2]
    funext j
    idx_vars j
    unfold nt
    pointwise

theorem frame_reference : Cert.quiescent_DHmidReferenceIdeal := fun m g _ =>
  (θ_run Cert.DHmidReferenceIdeal.defs _ _).mono (fun r h => ⟨fun c => (h c).2, sem_eq_zero_of_no_sems (by decide) r.2⟩)
    (Cert.DHmidReferenceIdeal.Value.run m g)

end Cert.DHmidIdeal.Product
end
-- ==== Proof.DwFfnDown.lean ====
module

public import proofs.«01_k».proof.Proof.Products
public import proofs.«01_k».proof.Proof.Gen.DwFfnDownIdeal
public import proofs.«01_k».proof.Proof.Gen.DwFfnDownIdeal.Value
public import proofs.«01_k».proof.Proof.Gen.DwFfnDownReferenceIdeal
public import proofs.«01_k».proof.Proof.Gen.DwFfnDownReferenceIdeal.Run

@[expose] public section
set_option maxRecDepth 16384
/-!
# The gradient of the feed-forward block's second weights

A tile of the product is added up over eight runs of 1024 tokens; after the last it holds the sum over all tokens.
-/
noncomputable section

namespace Cert.DwFfnDownIdeal.Product

open Idealize.ShloMosaic Idealize.ShloMosaic.TcCoe Idealize.ShloMosaic.Tactic Idealize.SL.Sem
open Cert.DwFfnDownIdeal Cert.DwFfnDownIdeal.Gen Cert.Products

local instance : Cert.DwFfnDownIdeal.Facts := Cert.DwFfnDownIdeal.Gen.facts
local instance : Cert.DwFfnDownReferenceIdeal.Facts := Cert.DwFfnDownReferenceIdeal.Gen.facts

/-- Where the points of the run of `t` read. -/
theorem index : ∀ (t : Fin cfg0.N) (s : Fin 8) (h : 8 * (t.val / 8) + s.val < cfg0.N),
    win0_0.index ⟨_, h⟩ = ![s.val, win0_2.index t 0] ∧ win0_1.index ⟨_, h⟩ = ![s.val, win0_2.index t 1] := by decide +kernel

/-- One point's part of a tile, term by term. -/
def part (a : Vec Ideal S1024x1408 .bf16) (b : Vec Ideal S1024x1024 .f32) (y : Fin 1408 × Fin 1024) (k : Fin 1024) : EReal :=
  a (ix2 k y.1) * b (ix2 k y.2)

theorem pay_first (a : Vec Ideal S1024x1408 .bf16) (b : Vec Ideal S1024x1024 .f32) (y : Fin 1408 × Fin 1024) :
    k0_pay2 a b (ix2 y.1 y.2) = ∑ k, part a b y k := by
  unfold part
  pointwise [k0_pay2, k0_pay1]

theorem pay_step (a : Vec Ideal S1024x1408 .bf16) (b : Vec Ideal S1024x1024 .f32) (x : Vec Ideal S1408x1024 .f32)
    (y : Fin 1408 × Fin 1024) : k0_pay3 a b x (ix2 y.1 y.2) = x (ix2 y.1 y.2) + ∑ k, part a b y k := by
  unfold part
  pointwise [k0_pay3, k0_pay1]

variable (m : (ℓ : Loc nD τ sig) → Buf (Elt Ideal) ℓ)

/-- What the accumulator holds: after the first point of a run, and after a later one. -/
theorem outs_first (c : Dev nD) (t : Fin cfg0.N) (h0 : t.val % 8 = 0) (y : Fin 1408 × Fin 1024) :
    (outsAt0 m c t.val t.isLt).2 (ix2 y.1 y.2) = ∑ k, part (iblk m c 0 t) (iblk m c 1 t) y k := by
  rw [outsAt0_A m c t h0 (by omega) (by omega)]
  frame_out
  rw [pay_first]

theorem outs_step (c : Dev nD) (t : Fin cfg0.N) (h0 : ¬ t.val % 8 = 0) (y : Fin 1408 × Fin 1024) :
    (outsAt0 m c t.val t.isLt).2 (ix2 y.1 y.2)
      = (outsAt0 m c (t.val - 1) (Nat.lt_of_le_of_lt (Nat.sub_le _ _) t.isLt)).2 (ix2 y.1 y.2)
        + ∑ k, part (iblk m c 0 t) (iblk m c 1 t) y k := by
  by_cases h7 : t.val % 8 = 7
  · rw [outsAt0_C m c t h0 (by omega) h7]
    frame_out
    rw [pay_step]
    exact congrArg (· + _) (congrFun (Memref.IsWhole.read_unread _ _) _)
  · rw [outsAt0_B m c t h0 (by omega) h7]
    frame_out
    rw [pay_step]
    exact congrArg (· + _) (congrFun (Memref.IsWhole.read_unread _ _) _)

/-- The last point of a run copies the accumulator to the output. -/
theorem outs_last (c : Dev nD) (t : Fin cfg0.N) (h7 : t.val % 8 = 7) :
    (outsAt0 m c t.val t.isLt).1 = (outsAt0 m c t.val t.isLt).2 := by
  rw [outsAt0_C m c t (by omega) (by omega) h7]
  frame_out

/-- The array after the run. -/
theorem arrAt (c : Dev nD) : ((dats m 0 c).arrAt 2 cfg0.N : S2816x1024.Idx → EReal)
    = tn (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, outs_last m c t h7]
  idx_vars y
  refine total (fun n h (y : Fin 1408 × Fin 1024) => (outsAt0 m c n h).2 (ix2 y.1 y.2)) _ (outs_first m c) (outs_step m c)
    t h7 (y0, y1) (by decide) fun s hs k hl => ?_
  have e := index t s hs
  unfold part
  blk_point [iblk, V_main_arg0, V_main_arg1, e.1, e.2]

theorem algebraic : Cert.algebraic_DwFfnDownIdeal_DwFfnDownReferenceIdeal := by
  intro m g m' g' _ hargs
  refine ⟨fun c => tn (m ((c : Thread nD τ).loc main_arg0)) (m ((c : Thread nD τ).loc main_arg1)), ?_, ?_⟩
  · refine (θ_run _ _ _).mono (fun r h c => ?_) (Value.run_blocks m g)
    exact ⟨(h c).1.trans (arrAt m c), (h c).2⟩
  · refine (θ_run _ _ _).mono (fun r h c => ?_) (Cert.DwFfnDownReferenceIdeal.Value.run m' g')
    refine ⟨(h c).1.trans ?_, (h c).2⟩
    rw [(hargs c).1, (hargs c).2]
    funext j
    idx_vars j
    rw [tn_swap]
    pointwise

theorem frame_reference : Cert.quiescent_DwFfnDownReferenceIdeal := fun m g _ =>
  (θ_run Cert.DwFfnDownReferenceIdeal.defs _ _).mono (fun r h => ⟨fun c => (h c).2, sem_eq_zero_of_no_sems (by decide) r.2⟩)
    (Cert.DwFfnDownReferenceIdeal.Value.run m g)

end Cert.DwFfnDownIdeal.Product
end
-- ==== Proof.Heads.lean ====
module

public import proofs.«01_k».proof.Proof.Softmax

@[expose] public section

/-!
# The four heads' gradients

Queries `q`, keys and values `kv` (the keys in columns 0 to 1023, the values in columns 1024 to 2047) and the gradient
`o` of the attention's output, `N` rows of four heads of 256 columns each. `g` is the gradient of one softmax row.
-/

noncomputable section

namespace Cert.Softmax

open Idealize.ShloMosaic

/-- The head of a column, and a head's column `d` among the queries, the keys and the values. -/
def head (l : Fin 1024) : Fin 4 := ⟨l.val / 256, by omega⟩
def qcol (h : Fin 4) (d : Fin 256) : Fin 1024 := ⟨h.val * 256 + d.val, by omega⟩
def kcol (h : Fin 4) (d : Fin 256) : Fin 2048 := ⟨h.val * 256 + d.val, by omega⟩
def vcol (h : Fin 4) (d : Fin 256) : Fin 2048 := ⟨1024 + (h.val * 256 + d.val), by omega⟩

variable {N : ℕ} (q o : Fin N → Fin 1024 → EReal) (kv : Fin 256 → Fin 2048 → EReal)

/-- Row `r`'s scores in head `h`, and the gradient of its weights. -/
def sc (h : Fin 4) (r : Fin N) : Fin 256 → EReal := score (fun d => q r (qcol h d)) (fun m d => kv m (kcol h d))
def dpr (h : Fin 4) (r : Fin N) (m : Fin 256) : EReal := ∑ d, o r (qcol h d) * kv m (vcol h d)

variable (g : (Fin 256 → EReal) → (Fin 256 → EReal) → Fin 256 → EReal)

/-- The gradient of the queries. -/
def dq (r : Fin N) (l : Fin 1024) : EReal :=
  ∑ m, g (sc q kv (head l) r) (dpr o kv (head l) r) m * kv m ⟨l.val, by omega⟩

/-- Row `r`'s part of the gradient of the keys (columns 0 to 1023) and of the values (from column 1024 on). -/
def dkvRow (r : Fin N) (m : Fin 256) (l : Fin 2048) : EReal :=
  if h : l.val < 1024 then
    g (sc q kv (head ⟨l.val, h⟩) r) (dpr o kv (head ⟨l.val, h⟩) r) m * q r ⟨l.val, h⟩
  else
    prob (sc q kv (head ⟨l.val - 1024, by omega⟩) r) m * o r ⟨l.val - 1024, by omega⟩

/-- The gradient of the keys and values: the sum over the rows. -/
def dkv (m : Fin 256) (l : Fin 2048) : EReal := ∑ r, dkvRow q o kv g r m l

/-- Finite queries and keys have finite scores. -/
theorem sc_real (hq : ∀ r l, ∃ a : ℝ, q r l = (a : EReal)) (hk : ∀ m (l : Fin 2048), l.val < 1024 → ∃ a : ℝ, kv m l = (a : EReal))
    (h : Fin 4) (r : Fin N) (m : Fin 256) : ∃ a : ℝ, sc q kv h r m = (a : EReal) := by
  obtain ⟨c, hc⟩ := scale_real
  choose a ha using hq
  have hk' : ∀ d : Fin 256, ∃ b : ℝ, kv m (kcol h d) = (b : EReal) := fun d => hk m _ (by unfold kcol; dsimp only; omega)
  choose b hb using hk'
  refine ⟨(∑ d, a r (qcol h d) * b d) * c, ?_⟩
  unfold sc score
  rw [hc, EReal.coe_mul, ← sum_coe]
  congr 1
  exact Finset.sum_congr rfl fun d _ => by dsimp only; rw [ha, hb, EReal.coe_mul]

/-- So both arrangements of the softmax's gradient give the same gradients. -/
theorem dq_eq (hs : ∀ h r m, ∃ a : ℝ, sc q kv h r m = (a : EReal)) (r : Fin N) (l : Fin 1024) :
    dq q o kv gradK r l = dq q o kv gradR r l := by
  unfold dq
  exact Finset.sum_congr rfl fun m _ => by rw [grad_eq _ _ (hs _ r)]

theorem dkv_eq (hs : ∀ h r m, ∃ a : ℝ, sc q kv h r m = (a : EReal)) (m : Fin 256) (l : Fin 2048) :
    dkv q o kv gradK m l = dkv q o kv gradR m l := by
  unfold dkv dkvRow
  exact Finset.sum_congr rfl fun r _ => by split <;> [rw [grad_eq _ _ (hs _ r)]; rfl]

end Cert.Softmax

end
-- ==== Proof.Blocks.lean ====
module

public import proofs.«01_k».proof.Proof.Gen.KernelIdeal.Value
public import proofs.«01_k».proof.Proof.Heads
public import Idealize.ShloMosaic.Lib.Pipeline.ValueKit
public import Idealize.ShloMosaic.Lib.Pointwise

@[expose] public section

/-!
# What one row tile of the kernel computes

The payloads of one head, read at an index, and the two output blocks after one grid point: the gradient of the tile's
queries, and the tile's part of the gradient of the keys and values added to what the points before left.
-/

set_option maxRecDepth 16384

noncomputable section

namespace Cert.KernelIdeal.XA

open Idealize.ShloMosaic Idealize.ShloMosaic.TcCoe Idealize.ShloMosaic.Tactic
open Cert.KernelIdeal Cert.KernelIdeal.Gen Cert.Softmax

section Head

variable (a : Vec Ideal S512x256 .bf16) (k v : Vec Ideal S256x256 .bf16) (o : Vec Ideal S512x256 .bf16)

/-- One head's scores and the gradient of its weights, from the head's own columns. -/
abbrev hs (r : Fin 512) : Fin 256 → EReal := score (fun d => a (ix2 r d)) (fun m d => k (ix2 m d))
abbrev hdp (r : Fin 512) (m : Fin 256) : EReal := ∑ d, o (ix2 r d) * v (ix2 m d)

theorem weights (r : Fin 512) (m : Fin 256) : k0_pay5 a k (ix2 r m) = prob (hs a k r) m := by
  pointwise [k0_pay5]
  rfl

theorem grads (r : Fin 512) (m : Fin 256) : k0_pay7 a k v o (ix2 r m) = gradK (hs a k r) (hdp v o r) m := by
  pointwise [k0_pay7]
  simp only [weights]
  rfl

theorem head_dq (r : Fin 512) (j : Fin 256) :
    k0_pay8 a k v o (ix2 r j) = ∑ m, gradK (hs a k r) (hdp v o r) m * k (ix2 m j) := by
  pointwise [k0_pay8]
  simp only [grads]

theorem head_dk (m j : Fin 256) :
    k0_pay9 a k v o (ix2 m j) = ∑ r, gradK (hs a k r) (hdp v o r) m * a (ix2 r j) := by
  pointwise [k0_pay9]
  simp only [grads]

theorem head_dv (m j : Fin 256) : k0_pay6 a k o (ix2 m j) = ∑ r, prob (hs a k r) m * o (ix2 r j) := by
  pointwise [k0_pay6]
  simp only [weights]

theorem head_dk_acc (acc : Vec Ideal S256x256 .f32) (m j : Fin 256) :
    k0_pay10 (k0_pay9 a k v o) acc (ix2 m j) = acc (ix2 m j) + ∑ r, gradK (hs a k r) (hdp v o r) m * a (ix2 r j) := by
  pointwise [k0_pay10]
  rw [head_dk]

theorem head_dv_acc (acc : Vec Ideal S256x256 .f32) (m j : Fin 256) :
    k0_pay11 (k0_pay6 a k o) acc (ix2 m j) = acc (ix2 m j) + ∑ r, prob (hs a k r) m * o (ix2 r j) := by
  pointwise [k0_pay11]
  rw [head_dv]

end Head

/-- The other three heads' payloads are the first head's. -/
theorem dq1 : @k0_pay15 = @k0_pay8 := rfl
theorem dq2 : @k0_pay22 = @k0_pay8 := rfl
theorem dq3 {F : FTy → Type} [FloatOps F] (a : Vec F S512x256 .bf16) (k v : Vec F S256x256 .bf16) (o : Vec F S512x256 .bf16) :
    k0_pay1 k (k0_pay28 a k v o) = k0_pay8 a k v o := rfl
theorem dk1 : @k0_pay16 = @k0_pay9 := rfl
theorem dk2 {F : FTy → Type} [FloatOps F] (a : Vec F S512x256 .bf16) (k v : Vec F S256x256 .bf16) (o : Vec F S512x256 .bf16) :
    k0_pay23 a (k0_pay21 a k v o) = k0_pay9 a k v o := rfl
theorem dk3 {F : FTy → Type} [FloatOps F] (a : Vec F S512x256 .bf16) (k v : Vec F S256x256 .bf16) (o : Vec F S512x256 .bf16) :
    k0_pay2 a (k0_pay28 a k v o) = k0_pay9 a k v o := rfl
theorem ak1 : @k0_pay17 = @k0_pay10 := rfl
theorem ak2 {F : FTy → Type} [FloatOps F] (a : Vec F S512x256 .bf16) (k v : Vec F S256x256 .bf16) (o : Vec F S512x256 .bf16) (acc) :
    k0_pay24 a (k0_pay21 a k v o) acc = k0_pay10 (k0_pay9 a k v o) acc := rfl
theorem ak3 {F : FTy → Type} [FloatOps F] (a : Vec F S512x256 .bf16) (k v : Vec F S256x256 .bf16) (o : Vec F S512x256 .bf16) (acc) :
    k0_pay3 a (k0_pay28 a k v o) acc = k0_pay10 (k0_pay9 a k v o) acc := rfl
theorem dv1 : @k0_pay13 = @k0_pay6 := rfl
theorem dv2 : @k0_pay20 = @k0_pay6 := rfl
theorem dv3 : @k0_pay27 = @k0_pay6 := rfl
theorem av1 : @k0_pay18 = @k0_pay11 := rfl
theorem av2 : @k0_pay25 = @k0_pay11 := rfl
theorem av3 : @k0_pay4 = @k0_pay11 := rfl

variable (m : (ℓ : Loc nD τ sig) → Buf (Elt Ideal) ℓ)

/-- A block's contents as a table of rows and columns. -/
abbrev tab {R C : ℕ} (x : Vec Ideal ⟨2, ![R, C]⟩ .bf16) (r : Fin R) (l : Fin C) : EReal := x (ix2 r l)

theorem dq_tile (x0 : Vec Ideal S512x1024 .bf16) (x1 : Vec Ideal S256x2048 .bf16) (x2 : Vec Ideal S512x1024 .bf16)
    (r : Fin 512) (l : Fin 1024) (h : Fin 4) (j : Fin 256) (hl : l.val = h.val * 256 + j.val)
    (a : Vec Ideal S512x256 .bf16) (k v : Vec Ideal S256x256 .bf16) (o : Vec Ideal S512x256 .bf16)
    (ha : ∀ r d, a (ix2 r d) = x0 (ix2 r (qcol h d))) (hk : ∀ m d, k (ix2 m d) = x1 (ix2 m (kcol h d)))
    (hv : ∀ m d, v (ix2 m d) = x1 (ix2 m (vcol h d))) (ho : ∀ r d, o (ix2 r d) = x2 (ix2 r (qcol h d))) :
    k0_pay8 a k v o (ix2 r j) = dq (tab x0) (tab x2) (tab x1) gradK r l := by
  have hh : head l = h := Fin.ext (by unfold head; dsimp only; omega)
  have e : ∀ r, hdp v o r = fun m => ∑ d, x2 (ix2 r (qcol h d)) * x1 (ix2 m (vcol h d)) :=
    fun r => by funext m; simp only [hdp, hv, ho]
  rw [head_dq]
  unfold dq sc dpr
  rw [hh]
  simp only [hs, e, ha, hk]
  rw [show kcol h j = ⟨l.val, by omega⟩ from Fin.ext hl.symm]

theorem dk_tile (x0 : Vec Ideal S512x1024 .bf16) (x1 : Vec Ideal S256x2048 .bf16) (x2 : Vec Ideal S512x1024 .bf16)
    (m : Fin 256) (l : Fin 2048) (h : Fin 4) (j : Fin 256) (hl : l.val = h.val * 256 + j.val)
    (a : Vec Ideal S512x256 .bf16) (k v : Vec Ideal S256x256 .bf16) (o : Vec Ideal S512x256 .bf16)
    (ha : ∀ r d, a (ix2 r d) = x0 (ix2 r (qcol h d))) (hk : ∀ m d, k (ix2 m d) = x1 (ix2 m (kcol h d)))
    (hv : ∀ m d, v (ix2 m d) = x1 (ix2 m (vcol h d))) (ho : ∀ r d, o (ix2 r d) = x2 (ix2 r (qcol h d))) :
    (∑ r, gradK (hs a k r) (hdp v o r) m * a (ix2 r j)) = dkv (tab x0) (tab x2) (tab x1) gradK m l := by
  have e : ∀ r, hdp v o r = fun m => ∑ d, x2 (ix2 r (qcol h d)) * x1 (ix2 m (vcol h d)) :=
    fun r => by funext m; simp only [hdp, hv, ho]
  have hl' : l.val < 1024 := by omega
  have hh : head ⟨l.val, hl'⟩ = h := Fin.ext (by unfold head; dsimp only; omega)
  unfold dkv dkvRow sc dpr
  simp only [dif_pos hl', hh, hs, e, ha, hk]
  rw [show qcol h j = ⟨l.val, hl'⟩ from Fin.ext hl.symm]

theorem dv_tile (x0 : Vec Ideal S512x1024 .bf16) (x1 : Vec Ideal S256x2048 .bf16) (x2 : Vec Ideal S512x1024 .bf16)
    (m : Fin 256) (l : Fin 2048) (h : Fin 4) (j : Fin 256) (hl : l.val = 1024 + (h.val * 256 + j.val))
    (a : Vec Ideal S512x256 .bf16) (k : Vec Ideal S256x256 .bf16) (o : Vec Ideal S512x256 .bf16)
    (ha : ∀ r d, a (ix2 r d) = x0 (ix2 r (qcol h d))) (hk : ∀ m d, k (ix2 m d) = x1 (ix2 m (kcol h d)))
    (ho : ∀ r d, o (ix2 r d) = x2 (ix2 r (qcol h d))) :
    (∑ r, prob (hs a k r) m * o (ix2 r j)) = dkv (tab x0) (tab x2) (tab x1) gradK m l := by
  have hl' : ¬ l.val < 1024 := by omega
  have hh : head ⟨l.val - 1024, by omega⟩ = h := Fin.ext (by unfold head; dsimp only; omega)
  unfold dkv dkvRow sc
  simp only [dif_neg hl', hh, hs, ha, hk, ho]
  rw [show qcol h j = ⟨l.val - 1024, by omega⟩ from Fin.ext (by unfold qcol; dsimp only; omega)]

end Cert.KernelIdeal.XA

end
-- ==== Proof.Tiles.lean ====
module

public import proofs.«01_k».proof.Proof.Blocks
public import Idealize.ShloMosaic.Lib.Pipeline.ReadBack

@[expose] public section

/-!
# The two output blocks after a grid point

The stores of one grid point, read at an index: the queries' gradient, and the keys' and values' gradient of the tile,
alone (at the first point) or added to what the block held (at the others).
-/

set_option maxRecDepth 16384

noncomputable section

namespace Cert.KernelIdeal.XA

open Idealize.ShloMosaic Idealize.ShloMosaic.TcCoe Idealize.ShloMosaic.Tactic
open Cert.KernelIdeal Cert.KernelIdeal.Gen Cert.Softmax

/-- A load of 256 columns of a block from column `b` on, at an index. -/
theorem ld_cols {R C : ℕ} {φ : EltTy} (x : Vec Ideal ⟨2, ![R, C]⟩ φ) (b : ℕ) (inb) (r : Fin R) (d : Fin 256) (i : Fin C)
    (hi : i.val = b + d.val) : View.ld x (Rect.unit ![0, b] ![R, 256] inb) (ix2 r d) = x (ix2 r i) := by
  rw [View.ld_apply]
  congr 1
  funext a
  apply Fin.ext
  rw [Rect.idx_unit_val]
  match a with
  | ⟨0, _⟩ => exact Nat.zero_add _
  | ⟨1, _⟩ => exact hi.symm

/-- A head's columns of the queries (or of the output's gradient), of the keys and of the values. -/
theorem ld_q (x : Vec Ideal S512x1024 .bf16) (h : Fin 4) (b : ℕ) (hb : b = h.val * 256) (inb) (r : Fin 512) (d : Fin 256) :
    View.ld x (Rect.unit ![0, b] ![512, 256] inb) (ix2 r d) = x (ix2 r (qcol h d)) :=
  ld_cols x b inb r d _ (by subst hb; rfl)
theorem ld_k (x : Vec Ideal S256x2048 .bf16) (h : Fin 4) (b : ℕ) (hb : b = h.val * 256) (inb) (r : Fin 256) (d : Fin 256) :
    View.ld x (Rect.unit ![0, b] ![256, 256] inb) (ix2 r d) = x (ix2 r (kcol h d)) :=
  ld_cols x b inb r d _ (by subst hb; rfl)
theorem ld_v (x : Vec Ideal S256x2048 .bf16) (h : Fin 4) (b : ℕ) (hb : b = 1024 + h.val * 256) (inb) (r : Fin 256) (d : Fin 256) :
    View.ld x (Rect.unit ![0, b] ![256, 256] inb) (ix2 r d) = x (ix2 r (vcol h d)) :=
  ld_cols x b inb r d _ (by subst hb; exact (Nat.add_assoc _ _ _).symm)

variable (x0 : Vec Ideal S512x1024 .bf16) (x1 : Vec Ideal S256x2048 .bf16) (x2 : Vec Ideal S512x1024 .bf16)

/-- The four stores of the queries' gradient. -/
theorem stores_dq (r : Fin 512) (l : Fin 1024) :
    View.canon (Val := Elt Ideal) (s := S512x1024) (e := .bf16) [⟨Rect.unit ![0, 768] ![512, 256] inb_S512x1024_S512x256_0_768,
        k0_pay1 (View.ld x1 (Rect.unit ![0, 768] ![256, 256] inb_S256x2048_S256x256_0_768)) (k0_pay28 (View.ld x0 (Rect.unit ![0, 768] ![512, 256] inb_S512x1024_S512x256_0_768)) (View.ld x1 (Rect.unit ![0, 768] ![256, 256] inb_S256x2048_S256x256_0_768)) (View.ld x1 (Rect.unit ![0, 1792] ![256, 256] inb_S256x2048_S256x256_0_1792)) (View.ld x2 (Rect.unit ![0, 768] ![512, 256] inb_S512x1024_S512x256_0_768)))⟩,
      ⟨Rect.unit ![0, 512] ![512, 256] inb_S512x1024_S512x256_0_512,
        k0_pay22 (View.ld x0 (Rect.unit ![0, 512] ![512, 256] inb_S512x1024_S512x256_0_512)) (View.ld x1 (Rect.unit ![0, 512] ![256, 256] inb_S256x2048_S256x256_0_512)) (View.ld x1 (Rect.unit ![0, 1536] ![256, 256] inb_S256x2048_S256x256_0_1536)) (View.ld x2 (Rect.unit ![0, 512] ![512, 256] inb_S512x1024_S512x256_0_512))⟩,
      ⟨Rect.unit ![0, 256] ![512, 256] inb_S512x1024_S512x256_0_256,
        k0_pay15 (View.ld x0 (Rect.unit ![0, 256] ![512, 256] inb_S512x1024_S512x256_0_256)) (View.ld x1 (Rect.unit ![0, 256] ![256, 256] inb_S256x2048_S256x256_0_256)) (View.ld x1 (Rect.unit ![0, 1280] ![256, 256] inb_S256x2048_S256x256_0_1280)) (View.ld x2 (Rect.unit ![0, 256] ![512, 256] inb_S512x1024_S512x256_0_256))⟩,
      ⟨Rect.unit ![0, 0] ![512, 256] inb_S512x1024_S512x256_0_0,
        k0_pay8 (View.ld x0 (Rect.unit ![0, 0] ![512, 256] inb_S512x1024_S512x256_0_0)) (View.ld x1 (Rect.unit ![0, 0] ![256, 256] inb_S256x2048_S256x256_0_0)) (View.ld x1 (Rect.unit ![0, 1024] ![256, 256] inb_S256x2048_S256x256_0_1024)) (View.ld x2 (Rect.unit ![0, 0] ![512, 256] inb_S512x1024_S512x256_0_0))⟩] (ix2 r l)
      = dq (tab x0) (tab x2) (tab x1) gradK r l := by
  canon_tiles y h
  · idx_vars y
    obtain rfl : r = y0 := Fin.ext h0
    rw [dq3]; exact dq_tile x0 x1 x2 r l 3 y1 h1 _ _ _ _ (ld_q _ 3 _ rfl _) (ld_k _ 3 _ rfl _) (ld_v _ 3 _ rfl _) (ld_q _ 3 _ rfl _)
  · idx_vars y
    obtain rfl : r = y0 := Fin.ext h0
    rw [dq2]; exact dq_tile x0 x1 x2 r l 2 y1 h1 _ _ _ _ (ld_q _ 2 _ rfl _) (ld_k _ 2 _ rfl _) (ld_v _ 2 _ rfl _) (ld_q _ 2 _ rfl _)
  · idx_vars y
    obtain rfl : r = y0 := Fin.ext h0
    rw [dq1]; exact dq_tile x0 x1 x2 r l 1 y1 h1 _ _ _ _ (ld_q _ 1 _ rfl _) (ld_k _ 1 _ rfl _) (ld_v _ 1 _ rfl _) (ld_q _ 1 _ rfl _)
  · idx_vars y
    obtain rfl : r = y0 := Fin.ext h0
    exact dq_tile x0 x1 x2 r l 0 y1 (h1.trans (Nat.zero_add _).symm) _ _ _ _ (ld_q _ 0 _ rfl _) (ld_k _ 0 _ rfl _) (ld_v _ 0 _ rfl _) (ld_q _ 0 _ rfl _)

/-- The eight stores of the first point. -/
theorem stores_dkv (m : Fin 256) (l : Fin 2048) :
    View.canon (Val := Elt Ideal) (s := S256x2048) (e := .f32) [⟨Rect.unit ![0, 1792] ![256, 256] inb_S256x2048_S256x256_0_1792,
        k0_pay27 (View.ld x0 (Rect.unit ![0, 768] ![512, 256] inb_S512x1024_S512x256_0_768)) (View.ld x1 (Rect.unit ![0, 768] ![256, 256] inb_S256x2048_S256x256_0_768)) (View.ld x2 (Rect.unit ![0, 768] ![512, 256] inb_S512x1024_S512x256_0_768))⟩,
      ⟨Rect.unit ![0, 768] ![256, 256] inb_S256x2048_S256x256_0_768,
        k0_pay2 (View.ld x0 (Rect.unit ![0, 768] ![512, 256] inb_S512x1024_S512x256_0_768)) (k0_pay28 (View.ld x0 (Rect.unit ![0, 768] ![512, 256] inb_S512x1024_S512x256_0_768)) (View.ld x1 (Rect.unit ![0, 768] ![256, 256] inb_S256x2048_S256x256_0_768)) (View.ld x1 (Rect.unit ![0, 1792] ![256, 256] inb_S256x2048_S256x256_0_1792)) (View.ld x2 (Rect.unit ![0, 768] ![512, 256] inb_S512x1024_S512x256_0_768)))⟩,
      ⟨Rect.unit ![0, 1536] ![256, 256] inb_S256x2048_S256x256_0_1536,
        k0_pay20 (View.ld x0 (Rect.unit ![0, 512] ![512, 256] inb_S512x1024_S512x256_0_512)) (View.ld x1 (Rect.unit ![0, 512] ![256, 256] inb_S256x2048_S256x256_0_512)) (View.ld x2 (Rect.unit ![0, 512] ![512, 256] inb_S512x1024_S512x256_0_512))⟩,
      ⟨Rect.unit ![0, 512] ![256, 256] inb_S256x2048_S256x256_0_512,
        k0_pay23 (View.ld x0 (Rect.unit ![0, 512] ![512, 256] inb_S512x1024_S512x256_0_512)) (k0_pay21 (View.ld x0 (Rect.unit ![0, 512] ![512, 256] inb_S512x1024_S512x256_0_512)) (View.ld x1 (Rect.unit ![0, 512] ![256, 256] inb_S256x2048_S256x256_0_512)) (View.ld x1 (Rect.unit ![0, 1536] ![256, 256] inb_S256x2048_S256x256_0_1536)) (View.ld x2 (Rect.unit ![0, 512] ![512, 256] inb_S512x1024_S512x256_0_512)))⟩,
      ⟨Rect.unit ![0, 1280] ![256, 256] inb_S256x2048_S256x256_0_1280,
        k0_pay13 (View.ld x0 (Rect.unit ![0, 256] ![512, 256] inb_S512x1024_S512x256_0_256)) (View.ld x1 (Rect.unit ![0, 256] ![256, 256] inb_S256x2048_S256x256_0_256)) (View.ld x2 (Rect.unit ![0, 256] ![512, 256] inb_S512x1024_S512x256_0_256))⟩,
      ⟨Rect.unit ![0, 256] ![256, 256] inb_S256x2048_S256x256_0_256,
        k0_pay16 (View.ld x0 (Rect.unit ![0, 256] ![512, 256] inb_S512x1024_S512x256_0_256)) (View.ld x1 (Rect.unit ![0, 256] ![256, 256] inb_S256x2048_S256x256_0_256)) (View.ld x1 (Rect.unit ![0, 1280] ![256, 256] inb_S256x2048_S256x256_0_1280)) (View.ld x2 (Rect.unit ![0, 256] ![512, 256] inb_S512x1024_S512x256_0_256))⟩,
      ⟨Rect.unit ![0, 1024] ![256, 256] inb_S256x2048_S256x256_0_1024,
        k0_pay6 (View.ld x0 (Rect.unit ![0, 0] ![512, 256] inb_S512x1024_S512x256_0_0)) (View.ld x1 (Rect.unit ![0, 0] ![256, 256] inb_S256x2048_S256x256_0_0)) (View.ld x2 (Rect.unit ![0, 0] ![512, 256] inb_S512x1024_S512x256_0_0))⟩,
      ⟨Rect.unit ![0, 0] ![256, 256] inb_S256x2048_S256x256_0_0,
        k0_pay9 (View.ld x0 (Rect.unit ![0, 0] ![512, 256] inb_S512x1024_S512x256_0_0)) (View.ld x1 (Rect.unit ![0, 0] ![256, 256] inb_S256x2048_S256x256_0_0)) (View.ld x1 (Rect.unit ![0, 1024] ![256, 256] inb_S256x2048_S256x256_0_1024)) (View.ld x2 (Rect.unit ![0, 0] ![512, 256] inb_S512x1024_S512x256_0_0))⟩] (ix2 m l)
      = dkv (tab x0) (tab x2) (tab x1) gradK m l := by
  canon_tiles y h
  · idx_vars y
    obtain rfl : m = y0 := Fin.ext h0
    have h1 : l.val = 1792 + y1.val := h1
    rw [dv3]; rw [head_dv]; exact dv_tile x0 x1 x2 m l 3 y1 (show l.val = 1024 + (3 * 256 + y1.val) by omega) _ _ _ (ld_q _ 3 _ rfl _) (ld_k _ 3 _ rfl _) (ld_q _ 3 _ rfl _)
  · idx_vars y
    obtain rfl : m = y0 := Fin.ext h0
    have h1 : l.val = 768 + y1.val := h1
    rw [dk3]; rw [head_dk]; exact dk_tile x0 x1 x2 m l 3 y1 (show l.val = 3 * 256 + y1.val by omega) _ _ _ _ (ld_q _ 3 _ rfl _) (ld_k _ 3 _ rfl _) (ld_v _ 3 _ rfl _) (ld_q _ 3 _ rfl _)
  · idx_vars y
    obtain rfl : m = y0 := Fin.ext h0
    have h1 : l.val = 1536 + y1.val := h1
    rw [dv2]; rw [head_dv]; exact dv_tile x0 x1 x2 m l 2 y1 (show l.val = 1024 + (2 * 256 + y1.val) by omega) _ _ _ (ld_q _ 2 _ rfl _) (ld_k _ 2 _ rfl _) (ld_q _ 2 _ rfl _)
  · idx_vars y
    obtain rfl : m = y0 := Fin.ext h0
    have h1 : l.val = 512 + y1.val := h1
    rw [dk2]; rw [head_dk]; exact dk_tile x0 x1 x2 m l 2 y1 (show l.val = 2 * 256 + y1.val by omega) _ _ _ _ (ld_q _ 2 _ rfl _) (ld_k _ 2 _ rfl _) (ld_v _ 2 _ rfl _) (ld_q _ 2 _ rfl _)
  · idx_vars y
    obtain rfl : m = y0 := Fin.ext h0
    have h1 : l.val = 1280 + y1.val := h1
    rw [dv1]; rw [head_dv]; exact dv_tile x0 x1 x2 m l 1 y1 (show l.val = 1024 + (1 * 256 + y1.val) by omega) _ _ _ (ld_q _ 1 _ rfl _) (ld_k _ 1 _ rfl _) (ld_q _ 1 _ rfl _)
  · idx_vars y
    obtain rfl : m = y0 := Fin.ext h0
    have h1 : l.val = 256 + y1.val := h1
    rw [dk1]; rw [head_dk]; exact dk_tile x0 x1 x2 m l 1 y1 (show l.val = 1 * 256 + y1.val by omega) _ _ _ _ (ld_q _ 1 _ rfl _) (ld_k _ 1 _ rfl _) (ld_v _ 1 _ rfl _) (ld_q _ 1 _ rfl _)
  · idx_vars y
    obtain rfl : m = y0 := Fin.ext h0
    have h1 : l.val = 1024 + y1.val := h1
    rw [head_dv]; exact dv_tile x0 x1 x2 m l 0 y1 (show l.val = 1024 + (0 * 256 + y1.val) by omega) _ _ _ (ld_q _ 0 _ rfl _) (ld_k _ 0 _ rfl _) (ld_q _ 0 _ rfl _)
  · idx_vars y
    obtain rfl : m = y0 := Fin.ext h0
    have h1 : l.val = y1.val := h1
    rw [head_dk]; exact dk_tile x0 x1 x2 m l 0 y1 (show l.val = 0 * 256 + y1.val by omega) _ _ _ _ (ld_q _ 0 _ rfl _) (ld_k _ 0 _ rfl _) (ld_v _ 0 _ rfl _) (ld_q _ 0 _ rfl _)

/-- The eight stores of a later point, over the block's contents `acc`. -/
theorem stores_dkv_acc (acc : Vec Ideal S256x2048 .f32) (m : Fin 256) (l : Fin 2048) :
    View.canon (Val := Elt Ideal) (s := S256x2048) (e := .f32) [⟨Rect.unit ![0, 1792] ![256, 256] inb_S256x2048_S256x256_0_1792,
        k0_pay4 (k0_pay27 (View.ld x0 (Rect.unit ![0, 768] ![512, 256] inb_S512x1024_S512x256_0_768)) (View.ld x1 (Rect.unit ![0, 768] ![256, 256] inb_S256x2048_S256x256_0_768)) (View.ld x2 (Rect.unit ![0, 768] ![512, 256] inb_S512x1024_S512x256_0_768))) (View.ld acc (Rect.unit ![0, 1792] ![256, 256] inb_S256x2048_S256x256_0_1792))⟩,
      ⟨Rect.unit ![0, 768] ![256, 256] inb_S256x2048_S256x256_0_768,
        k0_pay3 (View.ld x0 (Rect.unit ![0, 768] ![512, 256] inb_S512x1024_S512x256_0_768)) (k0_pay28 (View.ld x0 (Rect.unit ![0, 768] ![512, 256] inb_S512x1024_S512x256_0_768)) (View.ld x1 (Rect.unit ![0, 768] ![256, 256] inb_S256x2048_S256x256_0_768)) (View.ld x1 (Rect.unit ![0, 1792] ![256, 256] inb_S256x2048_S256x256_0_1792)) (View.ld x2 (Rect.unit ![0, 768] ![512, 256] inb_S512x1024_S512x256_0_768))) (View.ld acc (Rect.unit ![0, 768] ![256, 256] inb_S256x2048_S256x256_0_768))⟩,
      ⟨Rect.unit ![0, 1536] ![256, 256] inb_S256x2048_S256x256_0_1536,
        k0_pay25 (k0_pay20 (View.ld x0 (Rect.unit ![0, 512] ![512, 256] inb_S512x1024_S512x256_0_512)) (View.ld x1 (Rect.unit ![0, 512] ![256, 256] inb_S256x2048_S256x256_0_512)) (View.ld x2 (Rect.unit ![0, 512] ![512, 256] inb_S512x1024_S512x256_0_512))) (View.ld acc (Rect.unit ![0, 1536] ![256, 256] inb_S256x2048_S256x256_0_1536))⟩,
      ⟨Rect.unit ![0, 512] ![256, 256] inb_S256x2048_S256x256_0_512,
        k0_pay24 (View.ld x0 (Rect.unit ![0, 512] ![512, 256] inb_S512x1024_S512x256_0_512)) (k0_pay21 (View.ld x0 (Rect.unit ![0, 512] ![512, 256] inb_S512x1024_S512x256_0_512)) (View.ld x1 (Rect.unit ![0, 512] ![256, 256] inb_S256x2048_S256x256_0_512)) (View.ld x1 (Rect.unit ![0, 1536] ![256, 256] inb_S256x2048_S256x256_0_1536)) (View.ld x2 (Rect.unit ![0, 512] ![512, 256] inb_S512x1024_S512x256_0_512))) (View.ld acc (Rect.unit ![0, 512] ![256, 256] inb_S256x2048_S256x256_0_512))⟩,
      ⟨Rect.unit ![0, 1280] ![256, 256] inb_S256x2048_S256x256_0_1280,
        k0_pay18 (k0_pay13 (View.ld x0 (Rect.unit ![0, 256] ![512, 256] inb_S512x1024_S512x256_0_256)) (View.ld x1 (Rect.unit ![0, 256] ![256, 256] inb_S256x2048_S256x256_0_256)) (View.ld x2 (Rect.unit ![0, 256] ![512, 256] inb_S512x1024_S512x256_0_256))) (View.ld acc (Rect.unit ![0, 1280] ![256, 256] inb_S256x2048_S256x256_0_1280))⟩,
      ⟨Rect.unit ![0, 256] ![256, 256] inb_S256x2048_S256x256_0_256,
        k0_pay17 (k0_pay16 (View.ld x0 (Rect.unit ![0, 256] ![512, 256] inb_S512x1024_S512x256_0_256)) (View.ld x1 (Rect.unit ![0, 256] ![256, 256] inb_S256x2048_S256x256_0_256)) (View.ld x1 (Rect.unit ![0, 1280] ![256, 256] inb_S256x2048_S256x256_0_1280)) (View.ld x2 (Rect.unit ![0, 256] ![512, 256] inb_S512x1024_S512x256_0_256))) (View.ld acc (Rect.unit ![0, 256] ![256, 256] inb_S256x2048_S256x256_0_256))⟩,
      ⟨Rect.unit ![0, 1024] ![256, 256] inb_S256x2048_S256x256_0_1024,
        k0_pay11 (k0_pay6 (View.ld x0 (Rect.unit ![0, 0] ![512, 256] inb_S512x1024_S512x256_0_0)) (View.ld x1 (Rect.unit ![0, 0] ![256, 256] inb_S256x2048_S256x256_0_0)) (View.ld x2 (Rect.unit ![0, 0] ![512, 256] inb_S512x1024_S512x256_0_0))) (View.ld acc (Rect.unit ![0, 1024] ![256, 256] inb_S256x2048_S256x256_0_1024))⟩,
      ⟨Rect.unit ![0, 0] ![256, 256] inb_S256x2048_S256x256_0_0,
        k0_pay10 (k0_pay9 (View.ld x0 (Rect.unit ![0, 0] ![512, 256] inb_S512x1024_S512x256_0_0)) (View.ld x1 (Rect.unit ![0, 0] ![256, 256] inb_S256x2048_S256x256_0_0)) (View.ld x1 (Rect.unit ![0, 1024] ![256, 256] inb_S256x2048_S256x256_0_1024)) (View.ld x2 (Rect.unit ![0, 0] ![512, 256] inb_S512x1024_S512x256_0_0))) (View.ld acc (Rect.unit ![0, 0] ![256, 256] inb_S256x2048_S256x256_0_0))⟩] (ix2 m l)
      = acc (ix2 m l) + dkv (tab x0) (tab x2) (tab x1) gradK m l := by
  canon_tiles y h
  · idx_vars y
    obtain rfl : m = y0 := Fin.ext h0
    have h1 : l.val = 1792 + y1.val := h1
    rw [av3, dv3]; rw [head_dv_acc, ld_cols acc 1792 _ m y1 l (h1)]
    exact congrArg (acc (ix2 m l) + ·) (dv_tile x0 x1 x2 m l 3 y1 (show l.val = 1024 + (3 * 256 + y1.val) by omega) _ _ _ (ld_q _ 3 _ rfl _) (ld_k _ 3 _ rfl _) (ld_q _ 3 _ rfl _))
  · idx_vars y
    obtain rfl : m = y0 := Fin.ext h0
    have h1 : l.val = 768 + y1.val := h1
    rw [ak3]; rw [head_dk_acc, ld_cols acc 768 _ m y1 l (h1)]
    exact congrArg (acc (ix2 m l) + ·) (dk_tile x0 x1 x2 m l 3 y1 (show l.val = 3 * 256 + y1.val by omega) _ _ _ _ (ld_q _ 3 _ rfl _) (ld_k _ 3 _ rfl _) (ld_v _ 3 _ rfl _) (ld_q _ 3 _ rfl _))
  · idx_vars y
    obtain rfl : m = y0 := Fin.ext h0
    have h1 : l.val = 1536 + y1.val := h1
    rw [av2, dv2]; rw [head_dv_acc, ld_cols acc 1536 _ m y1 l (h1)]
    exact congrArg (acc (ix2 m l) + ·) (dv_tile x0 x1 x2 m l 2 y1 (show l.val = 1024 + (2 * 256 + y1.val) by omega) _ _ _ (ld_q _ 2 _ rfl _) (ld_k _ 2 _ rfl _) (ld_q _ 2 _ rfl _))
  · idx_vars y
    obtain rfl : m = y0 := Fin.ext h0
    have h1 : l.val = 512 + y1.val := h1
    rw [ak2]; rw [head_dk_acc, ld_cols acc 512 _ m y1 l (h1)]
    exact congrArg (acc (ix2 m l) + ·) (dk_tile x0 x1 x2 m l 2 y1 (show l.val = 2 * 256 + y1.val by omega) _ _ _ _ (ld_q _ 2 _ rfl _) (ld_k _ 2 _ rfl _) (ld_v _ 2 _ rfl _) (ld_q _ 2 _ rfl _))
  · idx_vars y
    obtain rfl : m = y0 := Fin.ext h0
    have h1 : l.val = 1280 + y1.val := h1
    rw [av1, dv1]; rw [head_dv_acc, ld_cols acc 1280 _ m y1 l (h1)]
    exact congrArg (acc (ix2 m l) + ·) (dv_tile x0 x1 x2 m l 1 y1 (show l.val = 1024 + (1 * 256 + y1.val) by omega) _ _ _ (ld_q _ 1 _ rfl _) (ld_k _ 1 _ rfl _) (ld_q _ 1 _ rfl _))
  · idx_vars y
    obtain rfl : m = y0 := Fin.ext h0
    have h1 : l.val = 256 + y1.val := h1
    rw [ak1, dk1]; rw [head_dk_acc, ld_cols acc 256 _ m y1 l (h1)]
    exact congrArg (acc (ix2 m l) + ·) (dk_tile x0 x1 x2 m l 1 y1 (show l.val = 1 * 256 + y1.val by omega) _ _ _ _ (ld_q _ 1 _ rfl _) (ld_k _ 1 _ rfl _) (ld_v _ 1 _ rfl _) (ld_q _ 1 _ rfl _))
  · idx_vars y
    obtain rfl : m = y0 := Fin.ext h0
    have h1 : l.val = 1024 + y1.val := h1
    rw [head_dv_acc, ld_cols acc 1024 _ m y1 l (h1)]
    exact congrArg (acc (ix2 m l) + ·) (dv_tile x0 x1 x2 m l 0 y1 (show l.val = 1024 + (0 * 256 + y1.val) by omega) _ _ _ (ld_q _ 0 _ rfl _) (ld_k _ 0 _ rfl _) (ld_q _ 0 _ rfl _))
  · idx_vars y
    obtain rfl : m = y0 := Fin.ext h0
    have h1 : l.val = y1.val := h1
    rw [head_dk_acc, ld_cols acc 0 _ m y1 l (h1.trans (Nat.zero_add _).symm)]
    exact congrArg (acc (ix2 m l) + ·) (dk_tile x0 x1 x2 m l 0 y1 (show l.val = 0 * 256 + y1.val by omega) _ _ _ _ (ld_q _ 0 _ rfl _) (ld_k _ 0 _ rfl _) (ld_v _ 0 _ rfl _) (ld_q _ 0 _ rfl _))

end Cert.KernelIdeal.XA

end
-- ==== Proof.Arrays.lean ====
module

public import proofs.«01_k».proof.Proof.Tiles
public import proofs.«01_k».proof.Proof.Gen.KernelIdeal.Value
public import Idealize.ShloMosaic.Lib.Pipeline.ValueKit

@[expose] public section
set_option maxRecDepth 16384
/-!
# What the two arrays hold after the run

The run's results as functions of the arguments: the queries' gradient in the last 1024 columns of the gradient array
(the other columns keep what the argument held), and the gradient of the keys and values, the sum over all rows.
-/
noncomputable section

namespace Cert.KernelIdeal.XA

open Idealize.ShloMosaic Idealize.ShloMosaic.TcCoe Idealize.ShloMosaic.Tactic
open Cert.KernelIdeal Cert.KernelIdeal.Gen Cert.Softmax

variable (m : (ℓ : Loc nD τ sig) → Buf (Elt Ideal) ℓ)

/-- The queries' gradient in the block after point `t`. -/
theorem outs_dq (c : Dev nD) (t : Fin cfg0.N) (r : Fin 512) (l : Fin 1024) :
    (outsAt0 m c t.val t.isLt).1 (ix2 r l)
      = dq (tab (iblk m c 0 t)) (tab (iblk m c 2 t)) (tab (iblk m c 1 t)) gradK r l := by
  have hN : t.val < 16 := lt_of_lt_of_eq t.isLt N_0
  by_cases h0 : t.val % 16 = 0
  · rw [outsAt0_A m c t h0 (by omega) h0 (by omega) h0 (by omega) h0 (by omega)]
    frame_out
    exact stores_dq _ _ _ r l
  · rw [outsAt0_B m c t h0 (by omega) h0 (by omega) h0 (by omega) h0 (by omega)]
    frame_out
    exact stores_dq _ _ _ r l

/-- The gradient of the keys and values after the first point: that of the tile. -/
theorem outs_dkv_first (c : Dev nD) (t : Fin cfg0.N) (h0 : t.val % 16 = 0) (k : Fin 256) (l : Fin 2048) :
    (outsAt0 m c t.val t.isLt).2 (ix2 k l)
      = dkv (tab (iblk m c 0 t)) (tab (iblk m c 2 t)) (tab (iblk m c 1 t)) gradK k l := by
  have hN : t.val < 16 := lt_of_lt_of_eq t.isLt N_0
  rw [outsAt0_A m c t h0 (by omega) h0 (by omega) h0 (by omega) h0 (by omega)]
  frame_out
  exact stores_dkv _ _ _ k l

/-- A later point adds its tile's part to what the point before left. -/
theorem outs_dkv_step (c : Dev nD) (t : Fin cfg0.N) (h0 : ¬ t.val % 16 = 0) (k : Fin 256) (l : Fin 2048) :
    (outsAt0 m c t.val t.isLt).2 (ix2 k l)
      = (outsAt0 m c (t.val - 1) (Nat.lt_of_le_of_lt (Nat.sub_le _ _) t.isLt)).2 (ix2 k l)
        + dkv (tab (iblk m c 0 t)) (tab (iblk m c 2 t)) (tab (iblk m c 1 t)) gradK k l := by
  have hN : t.val < 16 := lt_of_lt_of_eq t.isLt N_0
  rw [outsAt0_B m c t h0 (by omega) h0 (by omega) h0 (by omega) h0 (by omega)]
  frame_out
  exact stores_dkv_acc _ _ _ _ k l

/-- The block indices of the windows. -/
theorem index3 : ∀ t, win0_0.index t = ![t.val, 10] ∧ win0_2.index t = ![t.val, 0] ∧ win0_1.index t = ![0, 0]  ∧ win0_3.index t = ![t.val, 10]  := by
  decide +kernel

/-- The queries, the keys and values, and the output's gradient, of the arguments. -/
abbrev Q (c : Dev nD) (n : Fin 8192) (l : Fin 1024) : EReal :=
  (m ((c : Thread nD τ).loc main_arg0)) (ix2 n (⟨10240 + l.val, by omega⟩ : Fin 11264))
abbrev KV (c : Dev nD) (n : Fin 256) (l : Fin 2048) : EReal :=
  (m ((c : Thread nD τ).loc main_arg1)) (ix2 n l)
abbrev O (c : Dev nD) (n : Fin 8192) (l : Fin 1024) : EReal :=
  (m ((c : Thread nD τ).loc main_arg2)) (ix2 n l)

/-- The blocks of point `t` are the rows `512 t …` of the arguments; the keys and values are whole. -/
theorem blk_q (c : Dev nD) (t : Fin cfg0.N) (y : Fin 512) (l : Fin 1024) (n : Fin 8192) (hn : n.val = t.val * 512 + y.val) :
    tab (iblk m c 0 t) y l = Q m c n l := by
  unfold tab Q
  blk_ext [iblk, V_main_arg0, (index3 t).1]
theorem blk_o (c : Dev nD) (t : Fin cfg0.N) (y : Fin 512) (l : Fin 1024) (n : Fin 8192) (hn : n.val = t.val * 512 + y.val) :
    tab (iblk m c 2 t) y l = O m c n l := by
  unfold tab O
  blk_ext [iblk, V_main_arg2, (index3 t).2.1]
theorem blk_kv (c : Dev nD) (t : Fin cfg0.N)  :
    tab (iblk m c 1 t) = KV m c := by
  funext y l
  unfold tab KV
  blk_ext [iblk, V_main_arg1, (index3 t).2.2.1]

/-! A row of the gradient depends on that row of the queries and of the output's gradient only. -/

theorem sc_rows {N M : ℕ} (q : Fin N → Fin 1024 → EReal) (q' : Fin M → Fin 1024 → EReal) (kv h) (r : Fin N) (n : Fin M)
    (hq : ∀ l, q r l = q' n l) : sc q kv h r = sc q' kv h n := by
  funext m; simp only [sc, hq]
theorem dpr_rows {N M : ℕ} (o : Fin N → Fin 1024 → EReal) (o' : Fin M → Fin 1024 → EReal) (kv h) (r : Fin N) (n : Fin M)
    (ho : ∀ l, o r l = o' n l) : dpr o kv h r = dpr o' kv h n := by
  funext m; simp only [dpr, ho]
theorem dq_rows {N M : ℕ} (q o : Fin N → Fin 1024 → EReal) (q' o' : Fin M → Fin 1024 → EReal) (kv g) (r : Fin N) (n : Fin M) (l)
    (hq : ∀ l, q r l = q' n l) (ho : ∀ l, o r l = o' n l) : dq q o kv g r l = dq q' o' kv g n l := by
  simp only [dq, sc_rows q q' kv _ r n hq, dpr_rows o o' kv _ r n ho]
theorem dkvRow_rows {N M : ℕ} (q o : Fin N → Fin 1024 → EReal) (q' o' : Fin M → Fin 1024 → EReal) (kv g) (r : Fin N) (n : Fin M) (k l)
    (hq : ∀ l, q r l = q' n l) (ho : ∀ l, o r l = o' n l) : dkvRow q o kv g r k l = dkvRow q' o' kv g n k l := by
  simp only [dkvRow, sc_rows q q' kv _ r n hq, dpr_rows o o' kv _ r n ho, hq, ho]

/-- The gradient array after the run. -/
def arr3 (c : Dev nD) : S8192x11264.Idx → EReal := fun j =>
  if h : 10240 ≤ (j 1).val then
    dq (Q m c) (O m c) (KV m c) gradK (j 0) (⟨(j 1).val - 10240, by have : (j 1).val < 11264 := (j 1).isLt;  omega⟩ : Fin 1024)
  else m ((c : Thread nD τ).loc main_arg3) j

/-- `arr3` at an index of the written columns. -/
theorem arr3_at (c : Dev nD) (j : S8192x11264.Idx) (l : Fin 1024) (h1 : (j 1).val = 10240 + l.val) :
    arr3 m c j = dq (Q m c) (O m c) (KV m c) gradK (j 0) l := by
  have e : l = ⟨(j 1).val - 10240, by have := l.isLt; omega⟩ := Fin.ext (by dsimp only; omega)
  unfold arr3
  rw [dif_pos (by omega), ← e]

theorem arrAt3 (c : Dev nD) : ((dats m 0 c).arrAt 3 cfg0.N : S8192x11264.Idx → EReal) = arr3 m c := by
  refine ((dats m 0 c).arrAt_eq_of_coversWhere 3 (P := fun j : S8192x11264.Idx => 10240 ≤ (j 1).val) (arr3 m c) (fun β => 10 ≤ β 1) (by decide +kernel) (fun t hf y => ?_) (fun j => by blk_simp [Pipeline.Window.cell_apply]; omega)).trans ?_
  · blk_simp
    rw [after0_3]
    idx_vars y
    rw [outs_dq]
    have e0 : (((win0_3.blk t).view.emb (ix2 y0 y1)) 0).val = t.val * 512 + y0.val := by blk_simp [(index3 t).2.2.2]
    have e1 : (((win0_3.blk t).view.emb (ix2 y0 y1)) 1).val = 10240 + y1.val := by blk_simp [(index3 t).2.2.2]
    refine Eq.trans ?_ (arr3_at m c _ y1 e1).symm
    rw [blk_kv]
    exact dq_rows _ _ _ _ _ _ _ _ _ (fun l => blk_q m c t _ l _ e0) (fun l => blk_o m c t _ l _ e0)
  · funext j
    by_cases h : 10240 ≤ (j 1).val
    · rw [if_pos h]
    · rw [if_neg h]
      unfold arr3
      rw [dif_neg h, A_eq]
      entry_read
      rfl

/-- The gradient of the keys and values after the run. -/
def arr4 (c : Dev nD) : S256x2048.Idx → EReal := fun j =>
    dkv (Q m c) (O m c) (KV m c) gradK (j 0) (j 1)

theorem arrAt4 (c : Dev nD) : ((dats m 0 c).arrAt 4 cfg0.N : S256x2048.Idx → EReal) = arr4 m c := by
  refine (dats m 0 c).arrAt_eq_of_after_last 4 t0_15 (by decide +kernel) _ fun j => ?_
  blk_simp
  rw [after0_4]
  idx_vars j
  refine (Pipeline.eq_sum_fin_of_reset_step_apply_last (fun n h (i : Fin 256 × Fin 2048) => (outsAt0 m c n h).2 (ix2 i.1 i.2)) 16 (fun _ => (0 : EReal))
    (fun t i => dkv (tab (iblk m c 0 t)) (tab (iblk m c 2 t)) (tab (iblk m c 1 t)) gradK i.1 i.2) (fun t h i => ?_) (fun t h i => outs_dkv_step m c t h i.1 i.2)
    (le_of_eq N_0) t0_15 rfl (j0, j1)).trans ?_
  · rw [zero_add]
    exact outs_dkv_first m c t h i.1 i.2
  · rw [zero_add]
    unfold arr4 dkv
    refine Eq.trans (b := ∑ a : Fin 1, ∑ n : Fin 8192, dkvRow (Q m c) (O m c) (KV m c) gradK n j0 j1) ?_ (Fin.sum_univ_one _)
    refine Fin.sum_points_lanes_congr 16 (fun t k ha hl => ?_) N_0 rfl
    rw [blk_kv]
    have ht : t.val < 16 := lt_of_lt_of_eq t.isLt N_0
    exact dkvRow_rows _ _ _ _ _ _ _ _ _ _ (fun l => blk_q m c t _ l _ (by dsimp only; omega)) (fun l => blk_o m c t _ l _ (by dsimp only; omega))
end Cert.KernelIdeal.XA
end
-- ==== Proof.Ref.lean ====
module

public import proofs.«01_k».proof.Proof.Heads
public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section
set_option maxRecDepth 16384
/-!
# What the reference computes

The reference's results at an index: its operations named in order, each read at an index, up to the gradients of the
queries, the keys and the values in the form the derivative of the quotient gives them (`gradR`).
-/
noncomputable section

namespace Cert.ReferenceIdeal.XA

open Idealize.ShloMosaic Idealize.ShloMosaic.TcCoe Idealize.ShloMosaic.Tactic
open Cert.ReferenceIdeal Cert.ReferenceIdeal.Gen Cert.ReferenceIdeal.Value Cert.Softmax

variable (a0 : FVec Ideal S8192x11264 .bf16) (a1 : FVec Ideal S256x2048 .bf16) (a2 : FVec Ideal S8192x1024 .bf16) (a3 : FVec Ideal S8192x11264 .bf16)

/-! ## The operations: queries, keys, values, output's gradient; scores, exponentials, weights; gradients -/

def q5 : FVec Ideal S8192x4x256 .f32 := shapeCast _ (extf .f32 (extractStridedSlice S8192x1024 ![0, 10240] a0 slices_S8192x11264_S8192x1024_0_10240) bitsLt_bf16_f32) shapeCasts_S8192x1024_S8192x4x256
def k6 : FVec Ideal S256x4x256 .f32 := shapeCast _ (extractStridedSlice S256x1024 ![0, 0] (extf .f32 a1 bitsLt_bf16_f32) slices_S256x2048_S256x1024_0_0) shapeCasts_S256x1024_S256x4x256
def v7 : FVec Ideal S256x4x256 .f32 := shapeCast _ (extractStridedSlice S256x1024 ![0, 1024] (extf .f32 a1 bitsLt_bf16_f32) slices_S256x2048_S256x1024_0_1024) shapeCasts_S256x1024_S256x4x256
def o44 : FVec Ideal S4x256x8192 .f32 := transpose S4x256x8192 [1, 2, 0] (shapeCast _ (extf .f32 a2 bitsLt_bf16_f32) shapeCasts_S8192x1024_S8192x4x256) transposes_S8192x4x256_S4x256x8192_1_2_0
def s10 : FVec Ideal S4x8192x256 .f32 := mulf (Host.dotGeneral dot_S8192x4x256_S256x4x256_S4x8192x256_2_2_0_0_1_1 none (q5 a0) (k6 a1)) (broadcastInDim S4x8192x256 ![] bcast_S_S4x8192x256 (constant S_ .f32 0x3D800000#32))
def m11 : FVec Ideal S4x8192 .f32 := Host.reduce FloatOps.maximumf (s10 a0 a1) (constant S_ .f32 0xFF800000#32) reducesTo_S4x8192x256_S4x8192_d2 h_S_
def t28 : FVec Ideal S4x8192x256 .f32 := broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (m11 a0 a1)))
def e31 : FVec Ideal S4x8192x256 .f32 := Host.exp (subf (s10 a0 a1) (t28 a0 a1))
def d33 : FVec Ideal S4x8192x1 .f32 := broadcastInDim S4x8192x1 ![0, 1] bcast_S4x8192_S4x8192x1_0_1 (Host.reduceAdd (e31 a0 a1) (constant S_ .f32 0x00000000#32) reducesTo_S4x8192x256_S4x8192_d2 h_S_)
def p35 : FVec Ideal S4x8192x256 .f32 := Host.divf (e31 a0 a1) (broadcastInDim S4x8192x256 ![0, 1, 2] bcast_S4x8192x1_S4x8192x256_0_1_2 (d33 a0 a1))
def r38 : FVec Ideal S4x8192x1 .f32 := Host.divf (broadcastInDim S4x8192x1 ![] bcast_S_S4x8192x1 (constant S_ .f32 0x3F800000#32)) (mulf (d33 a0 a1) (d33 a0 a1))
def dp45 : FVec Ideal S4x8192x256 .f32 := Host.dotGeneral dot_S4x256x8192_S256x4x256_S4x8192x256_1_2_2_0_0_1 none (o44 a2) (v7 a1)
def c51 : FVec Ideal S4x8192 .f32 := Host.reduceAdd (mulf (mulf (dp45 a1 a2) (broadcastInDim S4x8192x256 ![0, 1, 2] bcast_S4x8192x1_S4x8192x256_0_1_2 (r38 a0 a1))) (e31 a0 a1)) (constant S_ .f32 0x00000000#32) reducesTo_S4x8192x256_S4x8192_d2 h_S_
def c57 : FVec Ideal S4x8192x256 .f32 := broadcastInDim S4x8192x256 ![0, 1] bcast_S4x8192_S4x8192x256_0_1 (Host.reduceAdd (Host.negf (shapeCast _ (c51 a0 a1 a2) shapeCasts_S4x8192_S4x8192x1)) (constant S_ .f32 0x00000000#32) reducesTo_S4x8192x1_S4x8192_d2 h_S_)
def ds61 : FVec Ideal S4x8192x256 .f32 := mulf (mulf (addf (Host.divf (dp45 a1 a2) (broadcastInDim S4x8192x256 ![0, 1, 2] bcast_S4x8192x1_S4x8192x256_0_1_2 (d33 a0 a1))) (c57 a0 a1 a2)) (e31 a0 a1)) (broadcastInDim S4x8192x256 ![] bcast_S_S4x8192x256 (constant S_ .f32 0x3D800000#32))
def dq68 : FVec Ideal S8192x1024 .f32 := shapeCast _ (transpose S8192x4x256 [1, 0, 2] (Host.dotGeneral dot_S4x8192x256_S256x4x256_S4x8192x256_2_0_1_2_0_1 none (ds61 a0 a1 a2) (k6 a1)) transposes_S4x8192x256_S8192x4x256_1_0_2) shapeCasts_S8192x4x256_S8192x1024
def dk67 : FVec Ideal S256x1024 .f32 := shapeCast _ (transpose S256x4x256 [1, 0, 2] (Host.dotGeneral dot_S4x8192x256_S8192x4x256_S4x256x256_1_0_2_2_0_1 none (ds61 a0 a1 a2) (q5 a0)) transposes_S4x256x256_S256x4x256_1_0_2) shapeCasts_S256x4x256_S256x1024
def dv66 : FVec Ideal S256x1024 .f32 := shapeCast _ (transpose S256x4x256 [2, 0, 1] (Host.dotGeneral dot_S4x256x8192_S4x8192x256_S4x256x256_2_1_1_2_0_0 none (o44 a2) (p35 a0 a1)) transposes_S4x256x256_S256x4x256_2_0_1) shapeCasts_S256x4x256_S256x1024

variable (m : (ℓ : Loc nD τ sig) → Buf (Elt Ideal) ℓ)

/-! ## The results in these terms -/

theorem res1 (c : Dev nD) : res_main_v69 m c = concatenate S256x2048 1 [⟨S256x1024, dk67 (m ((c.tc : Thread nD τ).loc main_arg0)) (m ((c.tc : Thread nD τ).loc main_arg1)) (m ((c.tc : Thread nD τ).loc main_arg2))⟩, ⟨S256x1024, dv66 (m ((c.tc : Thread nD τ).loc main_arg0)) (m ((c.tc : Thread nD τ).loc main_arg1)) (m ((c.tc : Thread nD τ).loc main_arg2))⟩] concatenates_S256x1024_S256x1024_S256x2048_d1 := by
  unfold res_main_v69 dk67 dv66 ds61 c57 c51 dp45 r38 p35 d33 e31 t28 m11 s10 o44 v7 k6 q5
  rfl
theorem res0 (c : Dev nD) : res_main_v72 m c = concatenate S8192x11264 1 [⟨S8192x10240, (extractStridedSlice S8192x10240 ![0, 0] (m ((c.tc : Thread nD τ).loc main_arg3)) slices_S8192x11264_S8192x10240_0_0)⟩, ⟨S8192x1024, truncf .bf16 (dq68 (m ((c.tc : Thread nD τ).loc main_arg0)) (m ((c.tc : Thread nD τ).loc main_arg1)) (m ((c.tc : Thread nD τ).loc main_arg2))) bitsLt_bf16_f32⟩] concatenates_S8192x10240_S8192x1024_S8192x11264_d1 := by
  unfold res_main_v72 dq68 ds61 c57 c51 dp45 r38 d33 e31 t28 m11 s10 o44 v7 k6 q5
  rfl

/-! ## Each at an index -/

abbrev Q (n : Fin 8192) (l : Fin 1024) : EReal := a0 (ix2 n (⟨10240 + l.val, by omega⟩ : Fin 11264))
abbrev KV (n : Fin 256) (l : Fin 2048) : EReal := a1 (ix2 n l)
abbrev O (n : Fin 8192) (l : Fin 1024) : EReal := a2 (ix2 n l)

theorem q5_at (r : Fin 8192) (h : Fin 4) (d : Fin 256) : q5 a0 (ix3 r h d) = Q a0 r (qcol h d) := by
  unfold q5 Q qcol
  pointwise
theorem k6_at (r : Fin 256) (h : Fin 4) (d : Fin 256) : k6 a1 (ix3 r h d) = KV a1 r (kcol h d) := by
  unfold k6 KV kcol
  pointwise
theorem v7_at (r : Fin 256) (h : Fin 4) (d : Fin 256) : v7 a1 (ix3 r h d) = KV a1 r (vcol h d) := by
  unfold v7 KV vcol
  pointwise
theorem o44_at (r : Fin 8192) (h : Fin 4) (d : Fin 256) : o44 a2 (ix3 h d r) = O a2 r (qcol h d) := by
  unfold o44 O qcol
  pointwise

/-- A row's largest entry. -/
theorem reduce_max (x : FVec Ideal S4x8192x256 .f32) (h : Fin 4) (r : Fin 8192) :
    Host.reduce FloatOps.maximumf x (constant S_ .f32 0xFF800000#32) reducesTo_S4x8192x256_S4x8192_d2 h_S_ (ix2 h r)
      = top fun k => x (ix3 h r k) := by
  unfold top
  pointwise

theorem s10_at (h : Fin 4) (r : Fin 8192) (d : Fin 256) : s10 a0 a1 (ix3 h r d) = sc (Q a0) (KV a1) h r d := by
  unfold s10 sc score
  pointwise
  simp only [q5_at, k6_at]

theorem m11_at (h : Fin 4) (r : Fin 8192) : m11 a0 a1 (ix2 h r) = top (sc (Q a0) (KV a1) h r) := by
  unfold m11
  rw [reduce_max]
  exact congrArg top (funext fun k => s10_at a0 a1 h r k)

/-- The larger of −∞ and a row's value, repeated along the row. -/
theorem bcast_max (x : FVec Ideal S4x8192 .f32) (h : Fin 4) (r : Fin 8192) (d : Fin 256) :
    (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) x)) : FVec Ideal S4x8192x256 .f32) (ix3 h r d)
      = x (ix2 h r) := by
  pointwise
  exact max_eq_right (by rw [show Ideal.ofBits FTy.f32 4286578688#32 = ⊥ from ninf_eq]; exact bot_le)

theorem t28_at (h : Fin 4) (r : Fin 8192) (d : Fin 256) : t28 a0 a1 (ix3 h r d) = top (sc (Q a0) (KV a1) h r) := by
  unfold t28
  rw [bcast_max, m11_at]

theorem e31_at (h : Fin 4) (r : Fin 8192) (d : Fin 256) : e31 a0 a1 (ix3 h r d) = ex (sc (Q a0) (KV a1) h r) d := by
  unfold e31 ex
  pointwise
  rw [s10_at, t28_at]

theorem d33_at (h : Fin 4) (r : Fin 8192) (z : Fin 1) : d33 a0 a1 (ix3 h r z) = den (sc (Q a0) (KV a1) h r) := by
  unfold d33 den
  pointwise
  simp only [e31_at]

theorem p35_at (h : Fin 4) (r : Fin 8192) (d : Fin 256) : p35 a0 a1 (ix3 h r d) = prob (sc (Q a0) (KV a1) h r) d := by
  unfold p35 prob
  pointwise
  simp only [e31_at, d33_at]

theorem r38_at (h : Fin 4) (r : Fin 8192) (z : Fin 1) :
    r38 a0 a1 (ix3 h r z) = Ideal.div 1 (den (sc (Q a0) (KV a1) h r) * den (sc (Q a0) (KV a1) h r)) := by
  unfold r38
  pointwise
  simp only [d33_at]

theorem dp45_at (h : Fin 4) (r : Fin 8192) (d : Fin 256) : dp45 a1 a2 (ix3 h r d) = dpr (O a2) (KV a1) h r d := by
  unfold dp45 dpr
  pointwise
  simp only [o44_at, v7_at]

theorem c51_at (h : Fin 4) (r : Fin 8192) : c51 a0 a1 a2 (ix2 h r)
    = ∑ j, dpr (O a2) (KV a1) h r j * Ideal.div 1 (den (sc (Q a0) (KV a1) h r) * den (sc (Q a0) (KV a1) h r)) * ex (sc (Q a0) (KV a1) h r) j := by
  unfold c51
  pointwise
  simp only [dp45_at, e31_at, r38_at]

theorem c57_at (h : Fin 4) (r : Fin 8192) (d : Fin 256) : c57 a0 a1 a2 (ix3 h r d) = - c51 a0 a1 a2 (ix2 h r) := by
  unfold c57
  pointwise
  exact Fin.sum_univ_one _

theorem ds61_at (h : Fin 4) (r : Fin 8192) (d : Fin 256) : ds61 a0 a1 a2 (ix3 h r d) = gradR (sc (Q a0) (KV a1) h r) (dpr (O a2) (KV a1) h r) d := by
  unfold ds61 gradR
  pointwise
  simp only [dp45_at, e31_at, d33_at, c57_at, c51_at]

theorem kcol_split (l : Fin 1024) (h1 h2) : kcol ⟨l.val / 256, h1⟩ ⟨l.val % 256, h2⟩ = ⟨l.val, by omega⟩ :=
  Fin.ext (by unfold kcol; dsimp only; omega)
theorem qcol_split (l : Fin 1024) (h1 h2) : qcol ⟨l.val / 256, h1⟩ ⟨l.val % 256, h2⟩ = l :=
  Fin.ext (by unfold qcol; dsimp only; omega)

theorem dq68_at (r : Fin 8192) (l : Fin 1024) : dq68 a0 a1 a2 (ix2 r l) = dq (Q a0) (O a2) (KV a1) gradR r l := by
  unfold dq68 dq
  pointwise
  simp only [ds61_at, k6_at, kcol_split]
  rfl

theorem dk67_at (k : Fin 256) (l : Fin 1024) : dk67 a0 a1 a2 (ix2 k l) = dkv (Q a0) (O a2) (KV a1) gradR k ⟨l.val, by omega⟩ := by
  unfold dk67 dkv dkvRow
  pointwise
  simp only [ds61_at, q5_at, qcol_split]
  rfl

theorem dv66_at (k : Fin 256) (l : Fin 1024) : dv66 a0 a1 a2 (ix2 k l) = dkv (Q a0) (O a2) (KV a1) gradR k ⟨1024 + l.val, by omega⟩ := by
  unfold dv66 dkv dkvRow
  pointwise
  simp only [p35_at, o44_at, qcol_split]
  exact Finset.sum_congr rfl fun x _ => mul_comm _ _

/-- The second result: the gradient of the keys and values. -/
theorem res1_at (c : Dev nD) (k : Fin 256) (l : Fin 2048) : res_main_v69 m c (ix2 k l)
    = dkv (Q (m ((c.tc : Thread nD τ).loc main_arg0))) (O (m ((c.tc : Thread nD τ).loc main_arg2))) (KV (m ((c.tc : Thread nD τ).loc main_arg1))) gradR k l := by
  rw [res1]
  pointwise
  by_cases h : l.val < 1024
  · rw [dif_pos h, dk67_at]
  · rw [dif_neg h, dv66_at]
    exact congrArg _ (Fin.ext (by dsimp only; omega))

/-- The first result in the columns of the queries. -/
theorem res0_in (c : Dev nD) (r : Fin 8192) (l : Fin 11264) (h : 10240 ≤ l.val) : res_main_v72 m c (ix2 r l)
    = dq (Q (m ((c.tc : Thread nD τ).loc main_arg0))) (O (m ((c.tc : Thread nD τ).loc main_arg2))) (KV (m ((c.tc : Thread nD τ).loc main_arg1))) gradR r ⟨l.val - 10240, by omega⟩ := by
  rw [res0]
  pointwise
  rw [dif_neg (by omega), dq68_at]

/-- The first result elsewhere. -/
theorem res0_out (c : Dev nD) (r : Fin 8192) (l : Fin 11264) (h : ¬ 10240 ≤ l.val) : res_main_v72 m c (ix2 r l)
    = m ((c.tc : Thread nD τ).loc main_arg3) (ix2 r l) := by
  rw [res0]
  pointwise
  rw [dif_pos (by omega)]

end Cert.ReferenceIdeal.XA
end
-- ==== Proof.Attn.lean ====
module

public import proofs.«01_k».proof.Defs
public import proofs.«01_k».proof.Proof.Arrays
public import proofs.«01_k».proof.Proof.Ref
public import proofs.«01_k».proof.Proof.Pre
public import proofs.«01_k».proof.Proof.Gen.KernelIdeal
public import proofs.«01_k».proof.Proof.Gen.ReferenceIdeal

@[expose] public section
/-!
# The attention's gradient: kernel and reference agree

With finite scores the two forms of the softmax's gradient are equal, so the two arrays the kernel leaves are the
reference's results.
-/
noncomputable section

namespace Cert.Attn

open Idealize.ShloMosaic Idealize.ShloMosaic.Tactic Idealize.SL.Sem Cert.Softmax

local instance : Cert.KernelIdeal.Facts := Cert.KernelIdeal.Gen.facts
local instance : Cert.ReferenceIdeal.Facts := Cert.ReferenceIdeal.Gen.facts
local instance : Cert.Pre_finite_scores.Facts := Cert.Pre_finite_scores.facts

/-- The reference's frame: its run keeps the arguments, and it declares no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The value claim. -/
theorem algebraic : Cert.algebraic_KernelIdeal_ReferenceIdeal_pre_finite_scores := by
  intro m g m' g' hpre hargs
  have hfin := fun c => Cert.Pre_finite_scores.decode _ _ _ _ (fun a => a.elim0) (congrFun (hpre c) _)
  have hs : ∀ (c : Dev Cert.KernelIdeal.nD) h r, ∀ k, ∃ x : ℝ, sc (Cert.KernelIdeal.XA.Q m c) (Cert.KernelIdeal.XA.KV m c) h r k = (x : EReal) :=
    fun c h r k => sc_real _ _ (hfin c).1 (fun k l hl => (hfin c).2 k ⟨l.val, hl⟩) h r k
  refine ⟨fun c => Cert.KernelIdeal.XA.arr3 m c, fun c => Cert.KernelIdeal.XA.arr4 m c, ?_, ?_⟩
  · refine (θ_run _ _ _).mono (fun r h c => ?_) (Cert.KernelIdeal.Value.run_blocks m g)
    obtain ⟨h0, h1, h2⟩ := h c
    exact ⟨h0.trans (Cert.KernelIdeal.XA.arrAt3 m c), h1.trans (Cert.KernelIdeal.XA.arrAt4 m c), h2⟩
  · refine (θ_run _ _ _).mono (fun r h c => ?_) (Cert.ReferenceIdeal.Value.run m' g')
    obtain ⟨h0, h1, h2⟩ := h c
    obtain ⟨e0, e1, e2, e3⟩ := hargs c
    refine ⟨h0.trans ?_, h1.trans ?_, h2⟩
    · funext j
      idx_vars j
      by_cases hj : 10240 ≤ j1.val
      · rw [Cert.ReferenceIdeal.XA.res0_in m' c j0 j1 hj, e0, e1, e2]
        refine Eq.trans ?_ (Cert.KernelIdeal.XA.arr3_at m c (ix2 j0 j1) ⟨j1.val - 10240, by omega⟩ (by show j1.val = 10240 + (j1.val - 10240); omega)).symm
        exact (dq_eq _ _ _ (hs c) _ _).symm
      · rw [Cert.ReferenceIdeal.XA.res0_out m' c j0 j1 hj, e3]
        unfold Cert.KernelIdeal.XA.arr3
        rw [dif_neg (show ¬ 10240 ≤ ((ix2 j0 j1) 1).val from hj)]
    · funext j
      idx_vars j
      rw [Cert.ReferenceIdeal.XA.res1_at m' c j0 j1, e0, e1, e2]
      exact (dkv_eq _ _ _ (hs c) _ _).symm

end Cert.Attn
end
-- ==== Proof.lean ====
/-
  The certificate's claims, put together from the modules of `Proof/`: the frames are the generated runs, the value claim
  of each pair of programs is proved in its own module.
-/
module

public import proofs.«01_k».proof.Proof.Gen.SwigluBwd
public import proofs.«01_k».proof.Proof.Gen.SwigluBwd.Frame
public import proofs.«01_k».proof.Proof.Gen.SwigluBwdIdeal
public import proofs.«01_k».proof.Proof.Gen.SwigluBwdIdeal.Frame
public import proofs.«01_k».proof.Proof.Gen.SwigluBwdIdeal.Value
public import proofs.«01_k».proof.Proof.Gen.SwigluBwdReferenceIdeal
public import proofs.«01_k».proof.Proof.Gen.SwigluBwdReferenceIdeal.Run
public import proofs.«01_k».proof.Proof.Gen.DwBrLru
public import proofs.«01_k».proof.Proof.Gen.DwBrLru.Frame
public import proofs.«01_k».proof.Proof.Gen.DwBrLruIdeal
public import proofs.«01_k».proof.Proof.Gen.DwBrLruIdeal.Frame
public import proofs.«01_k».proof.Proof.Gen.DwBrLruIdeal.Value
public import proofs.«01_k».proof.Proof.Gen.DwBrLruReferenceIdeal
public import proofs.«01_k».proof.Proof.Gen.DwBrLruReferenceIdeal.Run
public import proofs.«01_k».proof.Proof.Gen.DwBrSsd
public import proofs.«01_k».proof.Proof.Gen.DwBrSsd.Frame
public import proofs.«01_k».proof.Proof.Gen.DwBrSsdIdeal
public import proofs.«01_k».proof.Proof.Gen.DwBrSsdIdeal.Frame
public import proofs.«01_k».proof.Proof.Gen.DwBrSsdIdeal.Value
public import proofs.«01_k».proof.Proof.Gen.DwBrSsdReferenceIdeal
public import proofs.«01_k».proof.Proof.Gen.DwBrSsdReferenceIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedIdeal.Value
public import proofs.«01_k».proof.Proof.Gen.DMergedReferenceIdeal
public import proofs.«01_k».proof.Proof.Gen.DMergedReferenceIdeal.Run
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.AdamWInReferenceIdeal
public import proofs.«01_k».proof.Proof.Gen.AdamWInReferenceIdeal.Run
public import proofs.«01_k».proof.Proof.Gen.AdamFfnWIn
public import proofs.«01_k».proof.Proof.Gen.AdamFfnWIn.Frame
public import proofs.«01_k».proof.Proof.Gen.AdamFfnWInIdeal
public import proofs.«01_k».proof.Proof.Gen.AdamFfnWInIdeal.Frame
public import proofs.«01_k».proof.Proof.Gen.AdamFfnWInIdeal.Value
public import proofs.«01_k».proof.Proof.Gen.AdamFfnWInReferenceIdeal
public import proofs.«01_k».proof.Proof.Gen.AdamFfnWInReferenceIdeal.Run
public import proofs.«01_k».proof.Proof.Gen.AdamMemWKv
public import proofs.«01_k».proof.Proof.Gen.AdamMemWKv.Frame
public import proofs.«01_k».proof.Proof.Gen.AdamMemWKvIdeal
public import proofs.«01_k».proof.Proof.Gen.AdamMemWKvIdeal.Frame
public import proofs.«01_k».proof.Proof.Gen.AdamMemWKvIdeal.Value
public import proofs.«01_k».proof.Proof.Gen.AdamMemWKvReferenceIdeal
public import proofs.«01_k».proof.Proof.Gen.AdamMemWKvReferenceIdeal.Run
public import proofs.«01_k».proof.Proof.Gen.AdamWBr
public import proofs.«01_k».proof.Proof.Gen.AdamWBr.Frame
public import proofs.«01_k».proof.Proof.Gen.AdamWBrIdeal
public import proofs.«01_k».proof.Proof.Gen.AdamWBrIdeal.Frame
public import proofs.«01_k».proof.Proof.Gen.AdamWBrIdeal.Value
public import proofs.«01_k».proof.Proof.Gen.AdamWBrReferenceIdeal
public import proofs.«01_k».proof.Proof.Gen.AdamWBrReferenceIdeal.Run
public import proofs.«01_k».proof.Proof.Gen.AdamWBrSsd
public import proofs.«01_k».proof.Proof.Gen.AdamWBrSsd.Frame
public import proofs.«01_k».proof.Proof.Gen.AdamWBrSsdIdeal
public import proofs.«01_k».proof.Proof.Gen.AdamWBrSsdIdeal.Frame
public import proofs.«01_k».proof.Proof.Gen.AdamWBrSsdIdeal.Value
public import proofs.«01_k».proof.Proof.Gen.AdamWBrSsdReferenceIdeal
public import proofs.«01_k».proof.Proof.Gen.AdamWBrSsdReferenceIdeal.Run
public import proofs.«01_k».proof.Proof.Gen.AdamFfnWDown
public import proofs.«01_k».proof.Proof.Gen.AdamFfnWDown.Frame
public import proofs.«01_k».proof.Proof.Gen.AdamFfnWDownIdeal
public import proofs.«01_k».proof.Proof.Gen.AdamFfnWDownIdeal.Frame
public import proofs.«01_k».proof.Proof.Gen.AdamFfnWDownIdeal.Value
public import proofs.«01_k».proof.Proof.Gen.AdamFfnWDownReferenceIdeal
public import proofs.«01_k».proof.Proof.Gen.AdamFfnWDownReferenceIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.GradXReferenceIdeal
public import proofs.«01_k».proof.Proof.Gen.GradXReferenceIdeal.Run
public import proofs.«01_k».proof.Proof.Gen.LossGrad
public import proofs.«01_k».proof.Proof.Gen.LossGrad.Frame
public import proofs.«01_k».proof.Proof.Gen.LossGradIdeal
public import proofs.«01_k».proof.Proof.Gen.LossGradIdeal.Frame
public import proofs.«01_k».proof.Proof.Gen.LossGradIdeal.Value
public import proofs.«01_k».proof.Proof.Gen.LossGradReferenceIdeal
public import proofs.«01_k».proof.Proof.Gen.LossGradReferenceIdeal.Run
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdReferenceIdeal
public import proofs.«01_k».proof.Proof.Gen.NormBwdReferenceIdeal.Run
public import proofs.«01_k».proof.Proof.Gen.SwigluFwd
public import proofs.«01_k».proof.Proof.Gen.SwigluFwd.Frame
public import proofs.«01_k».proof.Proof.Gen.SwigluFwdIdeal
public import proofs.«01_k».proof.Proof.Gen.SwigluFwdIdeal.Frame
public import proofs.«01_k».proof.Proof.Gen.SwigluFwdIdeal.Value
public import proofs.«01_k».proof.Proof.Gen.SwigluFwdReferenceIdeal
public import proofs.«01_k».proof.Proof.Gen.SwigluFwdReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.LnFwd
public import proofs.«01_k».proof.Proof.Gen.LnFwd.Frame
public import proofs.«01_k».proof.Proof.Gen.LnFwdIdeal
public import proofs.«01_k».proof.Proof.Gen.LnFwdIdeal.Frame
public import proofs.«01_k».proof.Proof.Gen.LnFwdIdeal.Value
public import proofs.«01_k».proof.Proof.Gen.LnFwdReferenceIdeal
public import proofs.«01_k».proof.Proof.Gen.LnFwdReferenceIdeal.Run
public import proofs.«01_k».proof.Proof.SwigluBwd
public import proofs.«01_k».proof.Proof.DwBrLru
public import proofs.«01_k».proof.Proof.DwBrSsd
public import proofs.«01_k».proof.Proof.MixOut
public import proofs.«01_k».proof.Proof.DMerged
public import proofs.«01_k».proof.Proof.DwOut
public import proofs.«01_k».proof.Proof.AdamWIn
public import proofs.«01_k».proof.Proof.AdamFfnWIn
public import proofs.«01_k».proof.Proof.AdamMemWKv
public import proofs.«01_k».proof.Proof.AdamWBr
public import proofs.«01_k».proof.Proof.AdamWBrSsd
public import proofs.«01_k».proof.Proof.AdamFfnWDown
public import proofs.«01_k».proof.Proof.AdamSmall
public import proofs.«01_k».proof.Proof.GradX
public import proofs.«01_k».proof.Proof.Loss
public import proofs.«01_k».proof.Proof.NormBwd
public import proofs.«01_k».proof.Proof.SwigluFwd
public import proofs.«01_k».proof.Proof.Merge
public import proofs.«01_k».proof.Proof.NormFwd
public import proofs.«01_k».proof.Proof.LnFwd
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.Gen.BrLru
public import proofs.«01_k».proof.Proof.Gen.BrLru.Frame
public import proofs.«01_k».proof.Proof.Gen.BrLruIdeal
public import proofs.«01_k».proof.Proof.Gen.BrLruIdeal.Frame
public import proofs.«01_k».proof.Proof.Gen.BrLruIdeal.Value
public import proofs.«01_k».proof.Proof.Gen.BrLruReferenceIdeal
public import proofs.«01_k».proof.Proof.Gen.BrLruReferenceIdeal.Run
public import proofs.«01_k».proof.Proof.Gen.DYlru
public import proofs.«01_k».proof.Proof.Gen.DYlru.Frame
public import proofs.«01_k».proof.Proof.Gen.DYlruIdeal
public import proofs.«01_k».proof.Proof.Gen.DYlruIdeal.Frame
public import proofs.«01_k».proof.Proof.Gen.DYlruIdeal.Value
public import proofs.«01_k».proof.Proof.Gen.DYlruReferenceIdeal
public import proofs.«01_k».proof.Proof.Gen.DYlruReferenceIdeal.Run
public import proofs.«01_k».proof.Proof.Gen.BrSsd
public import proofs.«01_k».proof.Proof.Gen.BrSsd.Frame
public import proofs.«01_k».proof.Proof.Gen.BrSsdIdeal
public import proofs.«01_k».proof.Proof.Gen.BrSsdIdeal.Frame
public import proofs.«01_k».proof.Proof.Gen.BrSsdIdeal.Value
public import proofs.«01_k».proof.Proof.Gen.BrSsdReferenceIdeal
public import proofs.«01_k».proof.Proof.Gen.BrSsdReferenceIdeal.Run
public import proofs.«01_k».proof.Proof.Gen.DYssd
public import proofs.«01_k».proof.Proof.Gen.DYssd.Frame
public import proofs.«01_k».proof.Proof.Gen.DYssdIdeal
public import proofs.«01_k».proof.Proof.Gen.DYssdIdeal.Frame
public import proofs.«01_k».proof.Proof.Gen.DYssdIdeal.Value
public import proofs.«01_k».proof.Proof.Gen.DYssdReferenceIdeal
public import proofs.«01_k».proof.Proof.Gen.DYssdReferenceIdeal.Run
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInReferenceIdeal
public import proofs.«01_k».proof.Proof.Gen.FfnInReferenceIdeal.Run
public import proofs.«01_k».proof.Proof.Gen.DX1
public import proofs.«01_k».proof.Proof.Gen.DX1.Frame
public import proofs.«01_k».proof.Proof.Gen.DX1Ideal
public import proofs.«01_k».proof.Proof.Gen.DX1Ideal.Frame
public import proofs.«01_k».proof.Proof.Gen.DX1Ideal.Value
public import proofs.«01_k».proof.Proof.Gen.DX1ReferenceIdeal
public import proofs.«01_k».proof.Proof.Gen.DX1ReferenceIdeal.Run
public import proofs.«01_k».proof.Proof.Gen.DwFfnIn
public import proofs.«01_k».proof.Proof.Gen.DwFfnIn.Frame
public import proofs.«01_k».proof.Proof.Gen.DwFfnInIdeal
public import proofs.«01_k».proof.Proof.Gen.DwFfnInIdeal.Frame
public import proofs.«01_k».proof.Proof.Gen.DwFfnInIdeal.Value
public import proofs.«01_k».proof.Proof.Gen.DwFfnInReferenceIdeal
public import proofs.«01_k».proof.Proof.Gen.DwFfnInReferenceIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.DHmid
public import proofs.«01_k».proof.Proof.Gen.DHmid.Frame
public import proofs.«01_k».proof.Proof.Gen.DHmidIdeal
public import proofs.«01_k».proof.Proof.Gen.DHmidIdeal.Frame
public import proofs.«01_k».proof.Proof.Gen.DHmidIdeal.Value
public import proofs.«01_k».proof.Proof.Gen.DHmidReferenceIdeal
public import proofs.«01_k».proof.Proof.Gen.DHmidReferenceIdeal.Run
public import proofs.«01_k».proof.Proof.Gen.DwFfnDown
public import proofs.«01_k».proof.Proof.Gen.DwFfnDown.Frame
public import proofs.«01_k».proof.Proof.Gen.DwFfnDownIdeal
public import proofs.«01_k».proof.Proof.Gen.DwFfnDownIdeal.Frame
public import proofs.«01_k».proof.Proof.Gen.DwFfnDownIdeal.Value
public import proofs.«01_k».proof.Proof.Gen.DwFfnDownReferenceIdeal
public import proofs.«01_k».proof.Proof.Gen.DwFfnDownReferenceIdeal.Run
public import proofs.«01_k».proof.Proof.Proj
public import proofs.«01_k».proof.Proof.DwIn
public import proofs.«01_k».proof.Proof.BrLru
public import proofs.«01_k».proof.Proof.DYlru
public import proofs.«01_k».proof.Proof.BrSsd
public import proofs.«01_k».proof.Proof.DYssd
public import proofs.«01_k».proof.Proof.FfnIn
public import proofs.«01_k».proof.Proof.DX1
public import proofs.«01_k».proof.Proof.DwFfnIn
public import proofs.«01_k».proof.Proof.FfnDown
public import proofs.«01_k».proof.Proof.DHmid
public import proofs.«01_k».proof.Proof.DwFfnDown
public import proofs.«01_k».proof.Proof.Attn
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Proj.Gen.facts, Cert.ProjIdeal.Gen.facts, Cert.ProjReferenceIdeal.Gen.facts,
    Cert.DwIn.Gen.facts, Cert.DwInIdeal.Gen.facts, Cert.DwInReferenceIdeal.Gen.facts,
    Cert.BrLru.Gen.facts, Cert.BrLruIdeal.Gen.facts, Cert.BrLruReferenceIdeal.Gen.facts,
    Cert.DYlru.Gen.facts, Cert.DYlruIdeal.Gen.facts, Cert.DYlruReferenceIdeal.Gen.facts,
    Cert.BrSsd.Gen.facts, Cert.BrSsdIdeal.Gen.facts, Cert.BrSsdReferenceIdeal.Gen.facts,
    Cert.DYssd.Gen.facts, Cert.DYssdIdeal.Gen.facts, Cert.DYssdReferenceIdeal.Gen.facts,
    Cert.FfnIn.Gen.facts, Cert.FfnInIdeal.Gen.facts, Cert.FfnInReferenceIdeal.Gen.facts,
    Cert.DX1.Gen.facts, Cert.DX1Ideal.Gen.facts, Cert.DX1ReferenceIdeal.Gen.facts,
    Cert.DwFfnIn.Gen.facts, Cert.DwFfnInIdeal.Gen.facts, Cert.DwFfnInReferenceIdeal.Gen.facts,
    Cert.FfnDown.Gen.facts, Cert.FfnDownIdeal.Gen.facts, Cert.FfnDownReferenceIdeal.Gen.facts,
    Cert.DHmid.Gen.facts, Cert.DHmidIdeal.Gen.facts, Cert.DHmidReferenceIdeal.Gen.facts,
    Cert.DwFfnDown.Gen.facts, Cert.DwFfnDownIdeal.Gen.facts, Cert.DwFfnDownReferenceIdeal.Gen.facts,
    Cert.SwigluBwd.Gen.facts, Cert.SwigluBwdIdeal.Gen.facts, Cert.SwigluBwdReferenceIdeal.Gen.facts,
    Cert.DwBrLru.Gen.facts, Cert.DwBrLruIdeal.Gen.facts, Cert.DwBrLruReferenceIdeal.Gen.facts,
    Cert.DwBrSsd.Gen.facts, Cert.DwBrSsdIdeal.Gen.facts, Cert.DwBrSsdReferenceIdeal.Gen.facts,
    Cert.MixOut.Gen.facts, Cert.MixOutIdeal.Gen.facts, Cert.MixOutReferenceIdeal.Gen.facts,
    Cert.DMerged.Gen.facts, Cert.DMergedIdeal.Gen.facts, Cert.DMergedReferenceIdeal.Gen.facts,
    Cert.DwOut.Gen.facts, Cert.DwOutIdeal.Gen.facts, Cert.DwOutReferenceIdeal.Gen.facts,
    Cert.AdamWIn.Gen.facts, Cert.AdamWInIdeal.Gen.facts, Cert.AdamWInReferenceIdeal.Gen.facts,
    Cert.AdamFfnWIn.Gen.facts, Cert.AdamFfnWInIdeal.Gen.facts, Cert.AdamFfnWInReferenceIdeal.Gen.facts,
    Cert.AdamMemWKv.Gen.facts, Cert.AdamMemWKvIdeal.Gen.facts, Cert.AdamMemWKvReferenceIdeal.Gen.facts,
    Cert.AdamWBr.Gen.facts, Cert.AdamWBrIdeal.Gen.facts, Cert.AdamWBrReferenceIdeal.Gen.facts,
    Cert.AdamWBrSsd.Gen.facts, Cert.AdamWBrSsdIdeal.Gen.facts, Cert.AdamWBrSsdReferenceIdeal.Gen.facts,
    Cert.AdamFfnWDown.Gen.facts, Cert.AdamFfnWDownIdeal.Gen.facts, Cert.AdamFfnWDownReferenceIdeal.Gen.facts,
    Cert.AdamSmall.Gen.facts, Cert.AdamSmallIdeal.Gen.facts, Cert.AdamSmallReferenceIdeal.Gen.facts,
    Cert.GradX.Gen.facts, Cert.GradXIdeal.Gen.facts, Cert.GradXReferenceIdeal.Gen.facts,
    Cert.LossGrad.Gen.facts, Cert.LossGradIdeal.Gen.facts, Cert.LossGradReferenceIdeal.Gen.facts,
    Cert.NormBwd.Gen.facts, Cert.NormBwdIdeal.Gen.facts, Cert.NormBwdReferenceIdeal.Gen.facts,
    Cert.SwigluFwd.Gen.facts, Cert.SwigluFwdIdeal.Gen.facts, Cert.SwigluFwdReferenceIdeal.Gen.facts,
    Cert.Merge.Gen.facts, Cert.MergeIdeal.Gen.facts, Cert.MergeReferenceIdeal.Gen.facts,
    Cert.NormFwd.Gen.facts, Cert.NormFwdIdeal.Gen.facts, Cert.NormFwdReferenceIdeal.Gen.facts,
    Cert.LnFwd.Gen.facts, Cert.LnFwdIdeal.Gen.facts, Cert.LnFwdReferenceIdeal.Gen.facts,
    Cert.Pre_finite_scores.facts,
    Cert.Pre_finite_up.facts,
    Cert.Pre_finite_norm.facts,
    fun m ρ _ => Cert.Kernel.Gen.frame m ρ,
    fun m ρ _ => Cert.KernelIdeal.Gen.frame m ρ,
    fun m ρ _ => Cert.KernelIdeal.Gen.frame m ρ,
    Cert.Attn.frame_reference,
    fun m ρ _ => Cert.Attn.frame_reference m ρ trivial,
    fun m ρ _ => Cert.Proj.Gen.frame m ρ, fun m ρ _ => Cert.ProjIdeal.Gen.frame m ρ, Cert.ProjIdeal.Product.frame_reference,
    fun m ρ _ => Cert.DwIn.Gen.frame m ρ, fun m ρ _ => Cert.DwInIdeal.Gen.frame m ρ, Cert.DwInIdeal.Product.frame_reference,
    fun m ρ _ => Cert.BrLru.Gen.frame m ρ, fun m ρ _ => Cert.BrLruIdeal.Gen.frame m ρ, Cert.BrLruIdeal.Product.frame_reference,
    fun m ρ _ => Cert.DYlru.Gen.frame m ρ, fun m ρ _ => Cert.DYlruIdeal.Gen.frame m ρ, Cert.DYlruIdeal.Product.frame_reference,
    fun m ρ _ => Cert.BrSsd.Gen.frame m ρ, fun m ρ _ => Cert.BrSsdIdeal.Gen.frame m ρ, Cert.BrSsdIdeal.Product.frame_reference,
    fun m ρ _ => Cert.DYssd.Gen.frame m ρ, fun m ρ _ => Cert.DYssdIdeal.Gen.frame m ρ, Cert.DYssdIdeal.Product.frame_reference,
    fun m ρ _ => Cert.FfnIn.Gen.frame m ρ, fun m ρ _ => Cert.FfnInIdeal.Gen.frame m ρ, Cert.FfnInIdeal.Product.frame_reference,
    fun m ρ _ => Cert.DX1.Gen.frame m ρ, fun m ρ _ => Cert.DX1Ideal.Gen.frame m ρ, Cert.DX1Ideal.Product.frame_reference,
    fun m ρ _ => Cert.DwFfnIn.Gen.frame m ρ, fun m ρ _ => Cert.DwFfnInIdeal.Gen.frame m ρ, Cert.DwFfnInIdeal.Product.frame_reference,
    fun m ρ _ => Cert.FfnDown.Gen.frame m ρ, fun m ρ _ => Cert.FfnDownIdeal.Gen.frame m ρ, Cert.FfnDownIdeal.Product.frame_reference,
    fun m ρ _ => Cert.DHmid.Gen.frame m ρ, fun m ρ _ => Cert.DHmidIdeal.Gen.frame m ρ, Cert.DHmidIdeal.Product.frame_reference,
    fun m ρ _ => Cert.DwFfnDown.Gen.frame m ρ, fun m ρ _ => Cert.DwFfnDownIdeal.Gen.frame m ρ, Cert.DwFfnDownIdeal.Product.frame_reference,
    fun m ρ _ => Cert.SwigluBwd.Gen.frame m ρ, fun m ρ _ => Cert.SwigluBwdIdeal.Gen.frame m ρ, fun m ρ _ => Cert.SwigluBwdIdeal.Gen.frame m ρ,
    Cert.SwigluBwdIdeal.Grad.frame_reference, fun m ρ _ => Cert.SwigluBwdIdeal.Grad.frame_reference m ρ trivial,
    fun m ρ _ => Cert.DwBrLru.Gen.frame m ρ, fun m ρ _ => Cert.DwBrLruIdeal.Gen.frame m ρ, Cert.DwBrLruIdeal.Product.frame_reference,
    fun m ρ _ => Cert.DwBrSsd.Gen.frame m ρ, fun m ρ _ => Cert.DwBrSsdIdeal.Gen.frame m ρ, Cert.DwBrSsdIdeal.Product.frame_reference,
    fun m ρ _ => Cert.MixOut.Gen.frame m ρ, fun m ρ _ => Cert.MixOutIdeal.Gen.frame m ρ, Cert.MixOutIdeal.Product.frame_reference,
    fun m ρ _ => Cert.DMerged.Gen.frame m ρ, fun m ρ _ => Cert.DMergedIdeal.Gen.frame m ρ, Cert.DMergedIdeal.Product.frame_reference,
    fun m ρ _ => Cert.DwOut.Gen.frame m ρ, fun m ρ _ => Cert.DwOutIdeal.Gen.frame m ρ, Cert.DwOutIdeal.Product.frame_reference,
    fun m ρ _ => Cert.AdamWIn.Gen.frame m ρ, fun m ρ _ => Cert.AdamWInIdeal.Gen.frame m ρ, Cert.AdamWInIdeal.Step.frame_reference,
    fun m ρ _ => Cert.AdamFfnWIn.Gen.frame m ρ, fun m ρ _ => Cert.AdamFfnWInIdeal.Gen.frame m ρ, Cert.AdamFfnWInIdeal.Step.frame_reference,
    fun m ρ _ => Cert.AdamMemWKv.Gen.frame m ρ, fun m ρ _ => Cert.AdamMemWKvIdeal.Gen.frame m ρ, Cert.AdamMemWKvIdeal.Step.frame_reference,
    fun m ρ _ => Cert.AdamWBr.Gen.frame m ρ, fun m ρ _ => Cert.AdamWBrIdeal.Gen.frame m ρ, Cert.AdamWBrIdeal.Step.frame_reference,
    fun m ρ _ => Cert.AdamWBrSsd.Gen.frame m ρ, fun m ρ _ => Cert.AdamWBrSsdIdeal.Gen.frame m ρ, Cert.AdamWBrSsdIdeal.Step.frame_reference,
    fun m ρ _ => Cert.AdamFfnWDown.Gen.frame m ρ, fun m ρ _ => Cert.AdamFfnWDownIdeal.Gen.frame m ρ, Cert.AdamFfnWDownIdeal.Step.frame_reference,
    fun m ρ _ => Cert.AdamSmall.Gen.frame m ρ, fun m ρ _ => Cert.AdamSmallIdeal.Gen.frame m ρ, Cert.AdamSmallIdeal.Step.frame_reference,
    fun m ρ _ => Cert.GradX.Gen.frame m ρ, fun m ρ _ => Cert.GradXIdeal.Gen.frame m ρ, Cert.GradXIdeal.Residual.frame_reference,
    fun m ρ _ => Cert.LossGrad.Gen.frame m ρ, fun m ρ _ => Cert.LossGradIdeal.Gen.frame m ρ, Cert.LossGradIdeal.Loss.frame_reference,
    fun m ρ _ => Cert.NormBwd.Gen.frame m ρ, fun m ρ _ => Cert.NormBwdIdeal.Gen.frame m ρ, fun m ρ _ => Cert.NormBwdIdeal.Gen.frame m ρ,
    Cert.NormBwdIdeal.Norm.frame_reference, fun m ρ _ => Cert.NormBwdIdeal.Norm.frame_reference m ρ trivial,
    fun m ρ _ => Cert.SwigluFwd.Gen.frame m ρ, fun m ρ _ => Cert.SwigluFwdIdeal.Gen.frame m ρ, Cert.SwigluFwdIdeal.Fwd.frame_reference,
    fun m ρ _ => Cert.Merge.Gen.frame m ρ, fun m ρ _ => Cert.MergeIdeal.Gen.frame m ρ, Cert.MergeIdeal.Fwd.frame_reference,
    fun m ρ _ => Cert.NormFwd.Gen.frame m ρ, fun m ρ _ => Cert.NormFwdIdeal.Gen.frame m ρ, Cert.NormFwdIdeal.Fwd.frame_reference,
    fun m ρ _ => Cert.LnFwd.Gen.frame m ρ, fun m ρ _ => Cert.LnFwdIdeal.Gen.frame m ρ, Cert.LnFwdIdeal.Fwd.frame_reference,
    trivial, Cert.Attn.algebraic,
    trivial, Cert.ProjIdeal.Product.algebraic,
    trivial, Cert.DwInIdeal.Product.algebraic,
    trivial, Cert.BrLruIdeal.Product.algebraic,
    trivial, Cert.DYlruIdeal.Product.algebraic,
    trivial, Cert.BrSsdIdeal.Product.algebraic,
    trivial, Cert.DYssdIdeal.Product.algebraic,
    trivial, Cert.FfnInIdeal.Product.algebraic,
    trivial, Cert.DX1Ideal.Product.algebraic,
    trivial, Cert.DwFfnInIdeal.Product.algebraic,
    trivial, Cert.FfnDownIdeal.Product.algebraic,
    trivial, Cert.DHmidIdeal.Product.algebraic,
    trivial, Cert.DwFfnDownIdeal.Product.algebraic,
    trivial, Cert.SwigluBwdIdeal.Grad.algebraic,
    trivial, Cert.DwBrLruIdeal.Product.algebraic,
    trivial, Cert.DwBrSsdIdeal.Product.algebraic,
    trivial, Cert.MixOutIdeal.Product.algebraic,
    trivial, Cert.DMergedIdeal.Product.algebraic,
    trivial, Cert.DwOutIdeal.Product.algebraic,
    trivial, Cert.AdamWInIdeal.Step.algebraic,
    trivial, Cert.AdamFfnWInIdeal.Step.algebraic,
    trivial, Cert.AdamMemWKvIdeal.Step.algebraic,
    trivial, Cert.AdamWBrIdeal.Step.algebraic,
    trivial, Cert.AdamWBrSsdIdeal.Step.algebraic,
    trivial, Cert.AdamFfnWDownIdeal.Step.algebraic,
    trivial, Cert.AdamSmallIdeal.Step.algebraic,
    trivial, Cert.GradXIdeal.Residual.algebraic,
    trivial, Cert.LossGradIdeal.Loss.algebraic,
    trivial, Cert.NormBwdIdeal.Norm.algebraic,
    trivial, Cert.SwigluFwdIdeal.Fwd.algebraic,
    trivial, Cert.MergeIdeal.Fwd.algebraic,
    trivial, Cert.NormFwdIdeal.Fwd.algebraic,
    trivial, Cert.LnFwdIdeal.Fwd.algebraic⟩

end Cert.Proof

end
